-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v35_7) = v1 c
          ∧ r.2.mem ((c.tc : Thread Cert.ReferenceIdeal.nD Cert.ReferenceIdeal.τ).loc Cert.ReferenceIdeal.main_v35_8) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v17_0)) (v1 : (c : Dev Cert.Kernel9Ideal.nD) → Buf (Elt Ideal) ((c.tc : Thread Cert.Kernel9Ideal.nD Cert.Kernel9Ideal.τ).loc Cert.Kernel9Ideal.main_v17_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v17_0) = v0 c
          ∧ r.2.mem ((c.tc : Thread Cert.Kernel9Ideal.nD Cert.Kernel9Ideal.τ).loc Cert.Kernel9Ideal.main_v17_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v75) = v0 c
          ∧ r.2.mem ((c.tc : Thread Cert.Reference9Ideal.nD Cert.Reference9Ideal.τ).loc Cert.Reference9Ideal.main_v76) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v15_0)) (v1 : (c : Dev Cert.Kernel10Ideal.nD) → Buf (Elt Ideal) ((c.tc : Thread Cert.Kernel10Ideal.nD Cert.Kernel10Ideal.τ).loc Cert.Kernel10Ideal.main_v15_1)) (v2 : (c : Dev Cert.Kernel10Ideal.nD) → Buf (Elt Ideal) ((c.tc : Thread Cert.Kernel10Ideal.nD Cert.Kernel10Ideal.τ).loc Cert.Kernel10Ideal.main_v15_2)) (v3 : (c : Dev Cert.Kernel10Ideal.nD) → Buf (Elt Ideal) ((c.tc : Thread Cert.Kernel10Ideal.nD Cert.Kernel10Ideal.τ).loc Cert.Kernel10Ideal.main_v15_3)) (v4 : (c : Dev Cert.Kernel10Ideal.nD) → Buf (Elt Ideal) ((c.tc : Thread Cert.Kernel10Ideal.nD Cert.Kernel10Ideal.τ).loc Cert.Kernel10Ideal.main_v15_4)) (v5 : (c : Dev Cert.Kernel10Ideal.nD) → Buf (Elt Ideal) ((c.tc : Thread Cert.Kernel10Ideal.nD Cert.Kernel10Ideal.τ).loc Cert.Kernel10Ideal.main_v15_5)) (v6 : (c : Dev Cert.Kernel10Ideal.nD) → Buf (Elt Ideal) ((c.tc : Thread Cert.Kernel10Ideal.nD Cert.Kernel10Ideal.τ).loc Cert.Kernel10Ideal.main_v15_6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15_0) = v0 c
          ∧ r.2.mem ((c.tc : Thread Cert.Kernel10Ideal.nD Cert.Kernel10Ideal.τ).loc Cert.Kernel10Ideal.main_v15_1) = v1 c
          ∧ r.2.mem ((c.tc : Thread Cert.Kernel10Ideal.nD Cert.Kernel10Ideal.τ).loc Cert.Kernel10Ideal.main_v15_2) = v2 c
          ∧ r.2.mem ((c.tc : Thread Cert.Kernel10Ideal.nD Cert.Kernel10Ideal.τ).loc Cert.Kernel10Ideal.main_v15_3) = v3 c
          ∧ r.2.mem ((c.tc : Thread Cert.Kernel10Ideal.nD Cert.Kernel10Ideal.τ).loc Cert.Kernel10Ideal.main_v15_4) = v4 c
          ∧ r.2.mem ((c.tc : Thread Cert.Kernel10Ideal.nD Cert.Kernel10Ideal.τ).loc Cert.Kernel10Ideal.main_v15_5) = v5 c
          ∧ r.2.mem ((c.tc : Thread Cert.Kernel10Ideal.nD Cert.Kernel10Ideal.τ).loc Cert.Kernel10Ideal.main_v15_6) = v6 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_v64) = v1 c
          ∧ r.2.mem ((c.tc : Thread Cert.Reference10Ideal.nD Cert.Reference10Ideal.τ).loc Cert.Reference10Ideal.main_v65) = v2 c
          ∧ r.2.mem ((c.tc : Thread Cert.Reference10Ideal.nD Cert.Reference10Ideal.τ).loc Cert.Reference10Ideal.main_v66) = v3 c
          ∧ r.2.mem ((c.tc : Thread Cert.Reference10Ideal.nD Cert.Reference10Ideal.τ).loc Cert.Reference10Ideal.main_v67) = v4 c
          ∧ r.2.mem ((c.tc : Thread Cert.Reference10Ideal.nD Cert.Reference10Ideal.τ).loc Cert.Reference10Ideal.main_v68) = v5 c
          ∧ r.2.mem ((c.tc : Thread Cert.Reference10Ideal.nD Cert.Reference10Ideal.τ).loc Cert.Reference10Ideal.main_v69) = v6 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)) →
    ∃ (v0 : (c : Dev Cert.Kernel13Ideal.nD) → Buf (Elt Ideal) ((c.tc : Thread Cert.Kernel13Ideal.nD Cert.Kernel13Ideal.τ).loc Cert.Kernel13Ideal.main_v11_0)) (v1 : (c : Dev Cert.Kernel13Ideal.nD) → Buf (Elt Ideal) ((c.tc : Thread Cert.Kernel13Ideal.nD Cert.Kernel13Ideal.τ).loc Cert.Kernel13Ideal.main_v11_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11_0) = v0 c
          ∧ r.2.mem ((c.tc : Thread Cert.Kernel13Ideal.nD Cert.Kernel13Ideal.τ).loc Cert.Kernel13Ideal.main_v11_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v80) = v0 c
          ∧ r.2.mem ((c.tc : Thread Cert.Reference13Ideal.nD Cert.Reference13Ideal.τ).loc Cert.Reference13Ideal.main_v82) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)) →
    ∃ (v0 : (c : Dev Cert.Kernel14Ideal.nD) → Buf (Elt Ideal) ((c.tc : Thread Cert.Kernel14Ideal.nD Cert.Kernel14Ideal.τ).loc Cert.Kernel14Ideal.main_v11_0)) (v1 : (c : Dev Cert.Kernel14Ideal.nD) → Buf (Elt Ideal) ((c.tc : Thread Cert.Kernel14Ideal.nD Cert.Kernel14Ideal.τ).loc Cert.Kernel14Ideal.main_v11_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v11_0) = v0 c
          ∧ r.2.mem ((c.tc : Thread Cert.Kernel14Ideal.nD Cert.Kernel14Ideal.τ).loc Cert.Kernel14Ideal.main_v11_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v67) = v0 c
          ∧ r.2.mem ((c.tc : Thread Cert.Reference14Ideal.nD Cert.Reference14Ideal.τ).loc Cert.Reference14Ideal.main_v69) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S8x2048x4x512 : Shape := ⟨4, ![8, 2048, 4, 512]⟩
abbrev S8x2048x2048 : Shape := ⟨3, ![8, 2048, 2048]⟩
abbrev S8x2048x8 : Shape := ⟨3, ![8, 2048, 8]⟩
abbrev S2048 : Shape := ⟨1, ![2048]⟩
abbrev S8x4x512x512 : Shape := ⟨4, ![8, 4, 512, 512]⟩
abbrev S8x4x512 : Shape := ⟨3, ![8, 4, 512]⟩
abbrev S8x4 : Shape := ⟨2, ![8, 4]⟩
abbrev S16384x8 : Shape := ⟨2, ![16384, 8]⟩
abbrev S16384x2048 : Shape := ⟨2, ![16384, 2048]⟩
abbrev S_ : Shape := ⟨0, ![]⟩
abbrev S16384x128 : Shape := ⟨2, ![16384, 128]⟩
abbrev S8x16384 : Shape := ⟨2, ![8, 16384]⟩
abbrev S8x128 : Shape := ⟨2, ![8, 128]⟩
abbrev S8x1x128 : Shape := ⟨3, ![8, 1, 128]⟩
abbrev S1x2048 : Shape := ⟨2, ![1, 2048]⟩
abbrev S128x2048 : Shape := ⟨2, ![128, 2048]⟩
abbrev S128x128 : Shape := ⟨2, ![128, 128]⟩
abbrev S1x4x512x512 : Shape := ⟨4, ![1, 4, 512, 512]⟩
abbrev S1x4x512 : Shape := ⟨3, ![1, 4, 512]⟩
abbrev S1x1x128 : Shape := ⟨3, ![1, 1, 128]⟩
abbrev S4x512x512 : Shape := ⟨3, ![4, 512, 512]⟩
abbrev S4x512 : Shape := ⟨2, ![4, 512]⟩
abbrev S1x128 : Shape := ⟨2, ![1, 128]⟩
abbrev S128x1 : Shape := ⟨2, ![128, 1]⟩
abbrev S1x1 : Shape := ⟨2, ![1, 1]⟩
abbrev S128 : Shape := ⟨1, ![128]⟩
abbrev S128x512 : Shape := ⟨2, ![128, 512]⟩
abbrev S1x512x512 : Shape := ⟨3, ![1, 512, 512]⟩
abbrev S512x512 : Shape := ⟨2, ![512, 512]⟩
abbrev S1x512 : Shape := ⟨2, ![1, 512]⟩
abbrev S8x512 : Shape := ⟨2, ![8, 512]⟩

abbrev nBuf : Space → Nat
  | .hbm => 27
  | .vmem => 30
  | .smem => 0
  | _ => 0

abbrev bufTy : (tb : Table) → Fin (tcTables nBuf tb) → BufTy
  | .hbm, ⟨0, _⟩ => ⟨S8x2048x4x512, .f32⟩
  | .hbm, ⟨1, _⟩ => ⟨S8x2048x4x512, .f32⟩
  | .hbm, ⟨2, _⟩ => ⟨S8x2048x4x512, .f32⟩
  | .hbm, ⟨3, _⟩ => ⟨S8x2048x2048, .f32⟩
  | .hbm, ⟨4, _⟩ => ⟨S8x2048x8, .f32⟩
  | .hbm, ⟨5, _⟩ => ⟨S2048, .f32⟩
  | .hbm, ⟨6, _⟩ => ⟨S8x4x512x512, .f32⟩
  | .hbm, ⟨7, _⟩ => ⟨S8x4x512, .f32⟩
  | .hbm, ⟨8, _⟩ => ⟨S8x4, .f32⟩
  | .hbm, ⟨9, _⟩ => ⟨S16384x8, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .i32⟩
  | .hbm, ⟨15, _⟩ => ⟨S_, .f32⟩
  | .hbm, ⟨16, _⟩ => ⟨S16384x128, .f32⟩
  | .hbm, ⟨17, _⟩ => ⟨S8x16384, .f32⟩
  | .hbm, ⟨18, _⟩ => ⟨S_, .i32⟩
  | .hbm, ⟨19, _⟩ => ⟨S_, .f32⟩
  | .hbm, ⟨20, _⟩ => ⟨S8x128, .f32⟩
  | .hbm, ⟨21, _⟩ => ⟨S8x1x128, .f32⟩
  | .hbm, ⟨22, _⟩ => ⟨S1x2048, .f32⟩
  | .hbm, ⟨23, _⟩ => ⟨S16384x2048, .bf16⟩
  | .hbm, ⟨24, _⟩ => ⟨S8x4x512x512, .f32⟩
  | .hbm, ⟨25, _⟩ => ⟨S8x4x512, .f32⟩
  | .hbm, ⟨26, _⟩ => ⟨S8x1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S8x128, .f32⟩
  | .local _ .vmem, ⟨11, _⟩ => ⟨S8x128, .f32⟩
  | .local _ .vmem, ⟨12, _⟩ => ⟨S1x2048, .f32⟩
  | .local _ .vmem, ⟨13, _⟩ => ⟨S1x4x512x512, .f32⟩
  | .local _ .vmem, ⟨14, _⟩ => ⟨S1x4x512x512, .f32⟩
  | .local _ .vmem, ⟨15, _⟩ => ⟨S1x4x512, .f32⟩
  | .local _ .vmem, ⟨16, _⟩ => ⟨S1x4x512, .f32⟩
  | .local _ .vmem, ⟨17, _⟩ => ⟨S1x1x128, .f32⟩
  | .local _ .vmem, ⟨18, _⟩ => ⟨S1x1x128, .f32⟩
  | .local _ .vmem, ⟨19, _⟩ => ⟨S128x2048, .bf16⟩
  | .local _ .vmem, ⟨20, _⟩ => ⟨S128x2048, .bf16⟩
  | .local _ .vmem, ⟨21, _⟩ => ⟨S1x4x512x512, .f32⟩
  | .local _ .vmem, ⟨22, _⟩ => ⟨S1x4x512x512, .f32⟩
  | .local _ .vmem, ⟨23, _⟩ => ⟨S1x4x512, .f32⟩
  | .local _ .vmem, ⟨24, _⟩ => ⟨S1x4x512, .f32⟩
  | .local _ .vmem, ⟨25, _⟩ => ⟨S1x1x128, .f32⟩
  | .local _ .vmem, ⟨26, _⟩ => ⟨S1x1x128, .f32⟩
  | .local _ .vmem, ⟨27, _⟩ => ⟨S4x512x512, .f32⟩
  | .local _ .vmem, ⟨28, _⟩ => ⟨S4x512, .f32⟩
  | .local _ .vmem, ⟨29, _⟩ => ⟨S1x128, .f32⟩
  | _, _ => ⟨S8x2048x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v569 : BitVec 1 := Scalar.cmpi .eq arg1 c15_i32
  let v570 : BitVec 32 := Scalar.extui v569
  let c0_i32_185 : BitVec 32 := 0#32
  let v571 : BitVec 1 := Scalar.cmpi .ne v570 c0_i32_185
  v571

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8x2048x4x512 : Shape := ⟨4, ![8, 2048, 4, 512]⟩
abbrev S8x2048x2048 : Shape := ⟨3, ![8, 2048, 2048]⟩
abbrev S8x2048x8 : Shape := ⟨3, ![8, 2048, 8]⟩
abbrev S2048 : Shape := ⟨1, ![2048]⟩
abbrev S8x4x512x512 : Shape := ⟨4, ![8, 4, 512, 512]⟩
abbrev S8x4x512 : Shape := ⟨3, ![8, 4, 512]⟩
abbrev S8x4 : Shape := ⟨2, ![8, 4]⟩
abbrev S8x2048x4 : Shape := ⟨3, ![8, 2048, 4]⟩
abbrev S_ : Shape := ⟨0, ![]⟩
abbrev S128x128 : Shape := ⟨2, ![128, 128]⟩
abbrev S8x16x128x4x512 : Shape := ⟨5, ![8, 16, 128, 4, 512]⟩
abbrev S16x8x128x4x512 : Shape := ⟨5, ![16, 8, 128, 4, 512]⟩
abbrev S16x8x4x128x512 : Shape := ⟨5, ![16, 8, 4, 128, 512]⟩
abbrev S8x16x128x4 : Shape := ⟨4, ![8, 16, 128, 4]⟩
abbrev S16x8x128x4 : Shape := ⟨4, ![16, 8, 128, 4]⟩
abbrev S16x8x4x128 : Shape := ⟨4, ![16, 8, 4, 128]⟩
abbrev S1x8x4x128x512 : Shape := ⟨5, ![1, 8, 4, 128, 512]⟩
abbrev S8x4x128x512 : Shape := ⟨4, ![8, 4, 128, 512]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1 : Shape := ⟨3, ![8, 4, 1]⟩
abbrev S8x4x1x1 : Shape := ⟨4, ![8, 4, 1, 1]⟩
abbrev S8x2048x4x1 : Shape := ⟨4, ![8, 2048, 4, 1]⟩
abbrev S1x1x2048 : Shape := ⟨3, ![1, 1, 2048]⟩
abbrev S8x128 : Shape := ⟨2, ![8, 128]⟩
abbrev S8x1x128 : Shape := ⟨3, ![8, 1, 128]⟩
abbrev S16384x2048 : Shape := ⟨2, ![16384, 2048]⟩

abbrev nBuf : Space → Nat
  | .hbm => 226
  | .vmem => 0
  | .smem => 0
  | _ => 0

abbrev hbmTy0_0 (i : Nat) : BufTy := match i % 128 with
  | 0 => ⟨S8x2048x4x512, .f32⟩
  | 1 => ⟨S8x2048x4x512, .f32⟩
  | 2 => ⟨S8x2048x4x512, .f32⟩
  | 3 => ⟨S8x2048x2048, .f32⟩
  | 4 => ⟨S8x2048x8, .f32⟩
  | 5 => ⟨S2048, .f32⟩
  | 6 => ⟨S8x4x512x512, .f32⟩
  | 7 => ⟨S8x4x512, .f32⟩
  | 8 => ⟨S8x4, .f32⟩
  | 9 => ⟨S8x2048x4, .f32⟩
  | 10 => ⟨S8x2048x4, .f32⟩
  | 11 => ⟨S8x2048x4, .f32⟩
  | 12 => ⟨S_, .f32⟩
  | 13 => ⟨S8x2048x4, .f32⟩
  | 14 => ⟨S8x2048x4, .f32⟩
  | 15 => ⟨S8x2048x4, .f32⟩
  | 16 => ⟨S8x2048x4, .f32⟩
  | 17 => ⟨S8x2048x4, .i1⟩
  | 18 => ⟨S8x2048x4, .f32⟩
  | 19 => ⟨S8x2048x4, .f32⟩
  | 20 => ⟨S8x2048x4, .f32⟩
  | 21 => ⟨S8x2048x4, .f32⟩
  | 22 => ⟨S8x2048x4, .f32⟩
  | 23 => ⟨S8x2048x4, .f32⟩
  | 24 => ⟨S8x2048x4, .f32⟩
  | 25 => ⟨S8x2048x4, .f32⟩
  | 26 => ⟨S8x2048x4, .f32⟩
  | 27 => ⟨S_, .i1⟩
  | 28 => ⟨S128x128, .i1⟩
  | 29 => ⟨S128x128, .i32⟩
  | 30 => ⟨S_, .i32⟩
  | 31 => ⟨S128x128, .i32⟩
  | 32 => ⟨S128x128, .i32⟩
  | 33 => ⟨S128x128, .i32⟩
  | 34 => ⟨S128x128, .i1⟩
  | 35 => ⟨S_, .i1⟩
  | 36 => ⟨S128x128, .i1⟩
  | 37 => ⟨S128x128, .i1⟩
  | 38 => ⟨S8x16x128x4x512, .f32⟩
  | 39 => ⟨S16x8x128x4x512, .f32⟩
  | 40 => ⟨S16x8x4x128x512, .f32⟩
  | 41 => ⟨S8x16x128x4x512, .f32⟩
  | 42 => ⟨S16x8x128x4x512, .f32⟩
  | 43 => ⟨S16x8x4x128x512, .f32⟩
  | 44 => ⟨S8x16x128x4x512, .f32⟩
  | 45 => ⟨S16x8x128x4x512, .f32⟩
  | 46 => ⟨S16x8x4x128x512, .f32⟩
  | 47 => ⟨S8x16x128x4, .f32⟩
  | 48 => ⟨S16x8x128x4, .f32⟩
  | 49 => ⟨S16x8x4x128, .f32⟩
  | 50 => ⟨S8x16x128x4, .f32⟩
  | 51 => ⟨S16x8x128x4, .f32⟩
  | 52 => ⟨S16x8x4x128, .f32⟩
  | 53 => ⟨S_, .f32⟩
  | 54 => ⟨S16x8x4x128x512, .f32⟩
  | 55 => ⟨S_, .i32⟩
  | 56 => ⟨S16x8x4x128x512, .f32⟩
  | 57 => ⟨S16x8x4x128x512, .f32⟩
  | 58 => ⟨S16x8x4x128x512, .f32⟩
  | 59 => ⟨S16x8x4x128, .f32⟩
  | 60 => ⟨S16x8x4x128, .f32⟩
  | 61 => ⟨S128x128, .i1⟩
  | 62 => ⟨S_, .i32⟩
  | 63 => ⟨S8x4x512x512, .f32⟩
  | 64 => ⟨S8x4x512, .f32⟩
  | 65 => ⟨S8x4, .f32⟩
  | 66 => ⟨S16x8x4x128x512, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1x8x4x128x512, .f32⟩
  | 74 => ⟨S8x4x128x512, .f32⟩
  | 75 => ⟨S_, .i32⟩
  | 76 => ⟨S_, .i32⟩
  | 77 => ⟨S_, .i32⟩
  | 78 => ⟨S_, .i32⟩
  | 79 => ⟨S1x8x4x128x512, .f32⟩
  | 80 => ⟨S8x4x128x512, .f32⟩
  | 81 => ⟨S_, .i32⟩
  | 82 => ⟨S_, .i32⟩
  | 83 => ⟨S_, .i32⟩
  | 84 => ⟨S_, .i32⟩
  | 85 => ⟨S1x8x4x128x512, .f32⟩
  | 86 => ⟨S8x4x128x512, .f32⟩
  | 87 => ⟨S_, .i32⟩
  | 88 => ⟨S_, .i32⟩
  | 89 => ⟨S_, .i32⟩
  | 90 => ⟨S1x8x4x128, .f32⟩
  | 91 => ⟨S8x4x128, .f32⟩
  | 92 => ⟨S_, .i32⟩
  | 93 => ⟨S_, .i32⟩
  | 94 => ⟨S_, .i32⟩
  | 95 => ⟨S1x8x4x128, .f32⟩
  | 96 => ⟨S8x4x128, .f32⟩
  | 97 => ⟨S_, .f32⟩
  | 98 => ⟨S_, .f32⟩
  | 99 => ⟨S8x4x128, .f32⟩
  | 100 => ⟨S8x4x128x1, .f32⟩
  | 101 => ⟨S8x4x1x128, .f32⟩
  | 102 => ⟨S8x4x128x128, .f32⟩
  | 103 => ⟨S8x4x128x128, .f32⟩
  | 104 => ⟨S8x4x128x128, .f32⟩
  | 105 => ⟨S8x4x1x128, .f32⟩
  | 106 => ⟨S8x4x128x128, .f32⟩
  | 107 => ⟨S8x4x128x128, .f32⟩
  | 108 => ⟨S_, .f32⟩
  | 109 => ⟨S_, .f32⟩
  | 110 => ⟨S8x4x128x128, .i1⟩
  | 111 => ⟨S8x4x128x128, .f32⟩
  | 112 => ⟨S8x4x128x128, .f32⟩
  | 113 => ⟨S8x4x1, .f32⟩
  | 114 => ⟨S8x4x128, .f32⟩
  | 115 => ⟨S8x4x128, .f32⟩
  | 116 => ⟨S_, .f32⟩
  | 117 => ⟨S8x4x128, .f32⟩
  | 118 => ⟨S8x4x128, .f32⟩
  | 119 => ⟨S8x4x128x1, .f32⟩
  | 120 => ⟨S8x4x128x128, .f32⟩
  | 121 => ⟨S8x4x128x128, .f32⟩
  | 122 => ⟨S8x4x128x128, .f32⟩
  | 123 => ⟨S8x4x128, .f32⟩
  | 124 => ⟨S8x4x128, .f32⟩
  | 125 => ⟨S8x4x128x128, .f32⟩
  | 126 => ⟨S8x4x128x128, .f32⟩
  | 127 => ⟨S8x4x128x1, .f32⟩
  | _ => ⟨S8x2048x4x512, .f32⟩

abbrev hbmTy0_1 (i : Nat) : BufTy := match i % 128 with
  | 0 => ⟨S8x4x128x512, .f32⟩
  | 1 => ⟨S8x4x128x512, .f32⟩
  | 2 => ⟨S8x4x128x512, .f32⟩
  | 3 => ⟨S8x4x128x512, .f32⟩
  | 4 => ⟨S8x4x128x512, .f32⟩
  | 5 => ⟨S8x4x128, .f32⟩
  | 6 => ⟨S8x4x128, .f32⟩
  | 7 => ⟨S_, .f32⟩
  | 8 => ⟨S8x4x128, .f32⟩
  | 9 => ⟨S8x4x128, .f32⟩
  | 10 => ⟨S8x4x128, .f32⟩
  | 11 => ⟨S8x4x128, .f32⟩
  | 12 => ⟨S8x4x128, .f32⟩
  | 13 => ⟨S8x4x128, .f32⟩
  | 14 => ⟨S8x4x128x1, .f32⟩
  | 15 => ⟨S8x4x128x512, .f32⟩
  | 16 => ⟨S8x4x128x512, .f32⟩
  | 17 => ⟨S8x4x1, .f32⟩
  | 18 => ⟨S8x4, .f32⟩
  | 19 => ⟨S8x4x1, .f32⟩
  | 20 => ⟨S8x4, .f32⟩
  | 21 => ⟨S8x4, .f32⟩
  | 22 => ⟨S8x4, .f32⟩
  | 23 => ⟨S8x4, .f32⟩
  | 24 => ⟨S8x4x1, .f32⟩
  | 25 => ⟨S8x4x128, .f32⟩
  | 26 => ⟨S8x4x128, .f32⟩
  | 27 => ⟨S8x4x128, .f32⟩
  | 28 => ⟨S8x4x1, .f32⟩
  | 29 => ⟨S8x4x128, .f32⟩
  | 30 => ⟨S8x4x128, .f32⟩
  | 31 => ⟨S8x4x128, .f32⟩
  | 32 => ⟨S8x4x1x1, .f32⟩
  | 33 => ⟨S8x4x512x512, .f32⟩
  | 34 => ⟨S8x4x512x512, .f32⟩
  | 35 => ⟨S8x4x128x1, .f32⟩
  | 36 => ⟨S8x4x128x512, .f32⟩
  | 37 => ⟨S8x4x128x512, .f32⟩
  | 38 => ⟨S8x4x512x512, .f32⟩
  | 39 => ⟨S8x4x512x512, .f32⟩
  | 40 => ⟨S8x4x1, .f32⟩
  | 41 => ⟨S8x4x512, .f32⟩
  | 42 => ⟨S8x4x512, .f32⟩
  | 43 => ⟨S8x4x512, .f32⟩
  | 44 => ⟨S8x4x512, .f32⟩
  | 45 => ⟨S1x8x4x128x512, .f32⟩
  | 46 => ⟨S_, .i32⟩
  | 47 => ⟨S_, .i32⟩
  | 48 => ⟨S_, .i32⟩
  | 49 => ⟨S_, .i32⟩
  | 50 => ⟨S16x8x4x128x512, .f32⟩
  | 51 => ⟨S_, .i32⟩
  | 52 => ⟨S_, .i32⟩
  | 53 => ⟨S16x8x128x4x512, .f32⟩
  | 54 => ⟨S8x16x128x4x512, .f32⟩
  | 55 => ⟨S8x2048x4x512, .f32⟩
  | 56 => ⟨S_, .f32⟩
  | 57 => ⟨S8x2048x4, .f32⟩
  | 58 => ⟨S8x2048x4x1, .f32⟩
  | 59 => ⟨S_, .f32⟩
  | 60 => ⟨S8x2048x4x1, .f32⟩
  | 61 => ⟨S8x2048x4x1, .f32⟩
  | 62 => ⟨S8x2048x4x512, .f32⟩
  | 63 => ⟨S8x2048x4x512, .f32⟩
  | 64 => ⟨S8x2048x4x512, .f32⟩
  | 65 => ⟨S_, .f32⟩
  | 66 => ⟨S8x2048x4, .f32⟩
  | 67 => ⟨S8x2048x4x1, .f32⟩
  | 68 => ⟨S_, .f32⟩
  | 69 => ⟨S8x2048x4x1, .f32⟩
  | 70 => ⟨S8x2048x4x1, .f32⟩
  | 71 => ⟨S8x2048x4x512, .f32⟩
  | 72 => ⟨S8x2048x4x512, .f32⟩
  | 73 => ⟨S_, .f32⟩
  | 74 => ⟨S8x2048x4x1, .f32⟩
  | 75 => ⟨S8x2048x4x1, .f32⟩
  | 76 => ⟨S8x2048x4x1, .f32⟩
  | 77 => ⟨S8x2048x4x512, .f32⟩
  | 78 => ⟨S8x2048x4x512, .f32⟩
  | 79 => ⟨S8x2048x2048, .f32⟩
  | 80 => ⟨S1x1x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S_, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .f32⟩
  | 91 => ⟨S8x2048x2048, .f32⟩
  | 92 => ⟨S_, .i32⟩
  | 93 => ⟨S_, .f32⟩
  | 94 => ⟨S8x128, .f32⟩
  | 95 => ⟨S8x1x128, .f32⟩
  | 96 => ⟨S16384x2048, .f32⟩
  | 97 => ⟨S16384x2048, .bf16⟩
  | _ => ⟨S8x2048x4x512, .f32⟩

abbrev hbmTy (i : Nat) : BufTy := match i / 128 with
  | 0 => hbmTy0_0 i
  | 1 => hbmTy0_1 i
  | _ => ⟨S8x2048x4x512, .f32⟩

abbrev bufTy : (tb : Table) → Fin (tcTables nBuf tb) → BufTy
  | .hbm, ⟨i, _⟩ => hbmTy i
  | _, _ => ⟨S8x2048x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_c_1 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev main_v35_5 : Ref sig .tc := ⟨.hbm, 61, rfl⟩
abbrev main_v35_6 : Ref sig .tc := ⟨.hbm, 62, rfl⟩
abbrev main_v35_7 : Ref sig .tc := ⟨.hbm, 63, rfl⟩
abbrev main_v35_8 : Ref sig .tc := ⟨.hbm, 64, rfl⟩
abbrev main_v35_9 : Ref sig .tc := ⟨.hbm, 65, rfl⟩
abbrev main_v35_10 : Ref sig .tc := ⟨.hbm, 66, rfl⟩
abbrev main_while0c_c_20 : Ref sig .tc := ⟨.hbm, 67, rfl⟩
abbrev main_while0c_v72 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_c_2 : Ref sig .tc := ⟨.hbm, 72, rfl⟩
abbrev main_while0b_call1_v0 : Ref sig .tc := ⟨.hbm, 73, rfl⟩
abbrev main_while0b_v72 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_c_1 : Ref sig .tc := ⟨.hbm, 77, rfl⟩
abbrev main_while0b_call2_c_2 : Ref sig .tc := ⟨.hbm, 78, rfl⟩
abbrev main_while0b_call2_v0 : Ref sig .tc := ⟨.hbm, 79, rfl⟩
abbrev main_while0b_v73 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_c_2 : Ref sig .tc := ⟨.hbm, 84, rfl⟩
abbrev main_while0b_call3_v0 : Ref sig .tc := ⟨.hbm, 85, rfl⟩
abbrev main_while0b_v74 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_v0 : Ref sig .tc := ⟨.hbm, 90, rfl⟩
abbrev main_while0b_v75 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_v0 : Ref sig .tc := ⟨.hbm, 95, rfl⟩
abbrev main_while0b_v76 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_cst_20 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_call7_v2 : Ref sig .tc := ⟨.hbm, 111, rfl⟩
abbrev main_while0b_v86 : Ref sig .tc := ⟨.hbm, 112, rfl⟩
abbrev main_while0b_v87 : Ref sig .tc := ⟨.hbm, 113, rfl⟩
abbrev main_while0b_v88 : Ref sig .tc := ⟨.hbm, 114, rfl⟩
abbrev main_while0b_v89 : Ref sig .tc := ⟨.hbm, 115, rfl⟩
abbrev main_while0b_cst_21 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_cst_22 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_v127 : Ref sig .tc := ⟨.hbm, 155, rfl⟩
abbrev main_while0b_v128 : Ref sig .tc := ⟨.hbm, 156, rfl⟩
abbrev main_while0b_v129 : Ref sig .tc := ⟨.hbm, 157, rfl⟩
abbrev main_while0b_v130 : Ref sig .tc := ⟨.hbm, 158, rfl⟩
abbrev main_while0b_v131 : Ref sig .tc := ⟨.hbm, 159, rfl⟩
abbrev main_while0b_v132 : Ref sig .tc := ⟨.hbm, 160, rfl⟩
abbrev main_while0b_v133 : Ref sig .tc := ⟨.hbm, 161, rfl⟩
abbrev main_while0b_v134 : Ref sig .tc := ⟨.hbm, 162, rfl⟩
abbrev main_while0b_v135 : Ref sig .tc := ⟨.hbm, 163, rfl⟩
abbrev main_while0b_v136 : Ref sig .tc := ⟨.hbm, 164, rfl⟩
abbrev main_while0b_v137 : Ref sig .tc := ⟨.hbm, 165, rfl⟩
abbrev main_while0b_v138 : Ref sig .tc := ⟨.hbm, 166, rfl⟩
abbrev main_while0b_v139 : Ref sig .tc := ⟨.hbm, 167, rfl⟩
abbrev main_while0b_v140 : Ref sig .tc := ⟨.hbm, 168, rfl⟩
abbrev main_while0b_v141 : Ref sig .tc := ⟨.hbm, 169, rfl⟩
abbrev main_while0b_v142 : Ref sig .tc := ⟨.hbm, 170, rfl⟩
abbrev main_while0b_v143 : Ref sig .tc := ⟨.hbm, 171, rfl⟩
abbrev main_while0b_v144 : Ref sig .tc := ⟨.hbm, 172, rfl⟩
abbrev main_while0b_call8_v0 : Ref sig .tc := ⟨.hbm, 173, rfl⟩
abbrev main_while0b_call8_c : Ref sig .tc := ⟨.hbm, 174, rfl⟩
abbrev main_while0b_call8_c_0 : Ref sig .tc := ⟨.hbm, 175, rfl⟩
abbrev main_while0b_call8_c_1 : Ref sig .tc := ⟨.hbm, 176, rfl⟩
abbrev main_while0b_call8_c_2 : Ref sig .tc := ⟨.hbm, 177, rfl⟩
abbrev main_while0b_v145 : Ref sig .tc := ⟨.hbm, 178, rfl⟩
abbrev main_while0b_c_23 : Ref sig .tc := ⟨.hbm, 179, rfl⟩
abbrev main_while0b_v146 : Ref sig .tc := ⟨.hbm, 180, rfl⟩
abbrev main_v36 : Ref sig .tc := ⟨.hbm, 181, rfl⟩
abbrev main_v37 : Ref sig .tc := ⟨.hbm, 182, rfl⟩
abbrev main_v38 : Ref sig .tc := ⟨.hbm, 183, rfl⟩
abbrev main_cst_2 : Ref sig .tc := ⟨.hbm, 184, rfl⟩
abbrev main_v39 : Ref sig .tc := ⟨.hbm, 185, rfl⟩
abbrev main_v40 : Ref sig .tc := ⟨.hbm, 186, rfl⟩
abbrev main_cst_3 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_cst_4 : Ref sig .tc := ⟨.hbm, 193, rfl⟩
abbrev main_v46 : Ref sig .tc := ⟨.hbm, 194, rfl⟩
abbrev main_v47 : Ref sig .tc := ⟨.hbm, 195, rfl⟩
abbrev main_cst_5 : Ref sig .tc := ⟨.hbm, 196, rfl⟩
abbrev main_v48 : Ref sig .tc := ⟨.hbm, 197, rfl⟩
abbrev main_v49 : Ref sig .tc := ⟨.hbm, 198, rfl⟩
abbrev main_v50 : Ref sig .tc := ⟨.hbm, 199, rfl⟩
abbrev main_v51 : Ref sig .tc := ⟨.hbm, 200, rfl⟩
abbrev main_cst_6 : Ref sig .tc := ⟨.hbm, 201, rfl⟩
abbrev main_v52 : Ref sig .tc := ⟨.hbm, 202, rfl⟩
abbrev main_v53 : Ref sig .tc := ⟨.hbm, 203, rfl⟩
abbrev main_v54 : Ref sig .tc := ⟨.hbm, 204, rfl⟩
abbrev main_v55 : Ref sig .tc := ⟨.hbm, 205, rfl⟩
abbrev main_v56 : Ref sig .tc := ⟨.hbm, 206, rfl⟩
abbrev main_v57 : Ref sig .tc := ⟨.hbm, 207, rfl⟩
abbrev main_v58 : Ref sig .tc := ⟨.hbm, 208, rfl⟩
abbrev main_v59 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_cst_7 : Ref sig .tc := ⟨.hbm, 213, rfl⟩
abbrev main_v63 : Ref sig .tc := ⟨.hbm, 214, rfl⟩
abbrev main_v64 : Ref sig .tc := ⟨.hbm, 215, rfl⟩
abbrev main_cst_8 : Ref sig .tc := ⟨.hbm, 216, rfl⟩
abbrev main_v65 : Ref sig .tc := ⟨.hbm, 217, rfl⟩
abbrev main_v66 : Ref sig .tc := ⟨.hbm, 218, rfl⟩
abbrev main_v67 : Ref sig .tc := ⟨.hbm, 219, rfl⟩
abbrev main_c_9 : Ref sig .tc := ⟨.hbm, 220, rfl⟩
abbrev main_call9_v0 : Ref sig .tc := ⟨.hbm, 221, rfl⟩
abbrev main_v68 : Ref sig .tc := ⟨.hbm, 222, rfl⟩
abbrev main_v69 : Ref sig .tc := ⟨.hbm, 223, rfl⟩
abbrev main_v70 : Ref sig .tc := ⟨.hbm, 224, rfl⟩
abbrev main_v71 : Ref sig .tc := ⟨.hbm, 225, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S8x2048x256 : Shape := ⟨3, ![8, 2048, 256]⟩
abbrev S8x2x5632 : Shape := ⟨3, ![8, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S_ : Shape := ⟨0, ![]⟩
abbrev S8x8x5632 : Shape := ⟨3, ![8, 8, 5632]⟩
abbrev S1x1024 : Shape := ⟨2, ![1, 1024]⟩
abbrev S1x5632 : Shape := ⟨2, ![1, 5632]⟩
abbrev S256x256 : Shape := ⟨2, ![256, 256]⟩
abbrev S1x8x5632 : Shape := ⟨3, ![1, 8, 5632]⟩
abbrev S8x5632 : Shape := ⟨2, ![8, 5632]⟩
abbrev S256 : Shape := ⟨1, ![256]⟩
abbrev S256x1 : Shape := ⟨2, ![256, 1]⟩
abbrev S1024x256 : Shape := ⟨2, ![1024, 256]⟩
abbrev S3x256 : Shape := ⟨2, ![3, 256]⟩
abbrev S8x256 : Shape := ⟨2, ![8, 256]⟩
abbrev S1x256 : Shape := ⟨2, ![1, 256]⟩
abbrev S248x256 : Shape := ⟨2, ![248, 256]⟩

abbrev nBuf : Space → Nat
  | .hbm => 27
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S16384x1024, .f32⟩
  | .hbm, ⟨13, _⟩ => ⟨S16384x256, .f32⟩
  | .hbm, ⟨14, _⟩ => ⟨S_, .i32⟩
  | .hbm, ⟨15, _⟩ => ⟨S_, .f32⟩
  | .hbm, ⟨16, _⟩ => ⟨S8x8x5632, .f32⟩
  | .hbm, ⟨17, _⟩ => ⟨S1024x5632, .bf16⟩
  | .hbm, ⟨18, _⟩ => ⟨S2816x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S1x5632, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S8x8x5632, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x8x5632, .f32⟩
  | .local _ .vmem, ⟨5, _⟩ => ⟨S1x8x5632, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x8x5632, .f32⟩
  | .local _ .vmem, ⟨18, _⟩ => ⟨S1x8x5632, .f32⟩
  | .local _ .vmem, ⟨19, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S8x2048x1024 : Shape := ⟨3, ![8, 2048, 1024]⟩
abbrev S8x2048x256 : Shape := ⟨3, ![8, 2048, 256]⟩
abbrev S8x2x5632 : Shape := ⟨3, ![8, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩
abbrev S8x8x5632 : Shape := ⟨3, ![8, 8, 5632]⟩

abbrev nBuf : Space → Nat
  | .hbm => 113
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x5632, .f32⟩
  | .hbm, ⟨29, _⟩ => ⟨S8x2050x5632, .f32⟩
  | .hbm, ⟨30, _⟩ => ⟨S1x5632, .f32⟩
  | .hbm, ⟨31, _⟩ => ⟨S5632, .f32⟩
  | .hbm, ⟨32, _⟩ => ⟨S8x2048x5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S1x1x5632, .f32⟩
  | .hbm, ⟨37, _⟩ => ⟨S8x2048x5632, .f32⟩
  | .hbm, ⟨38, _⟩ => ⟨S8x2048x5632, .f32⟩
  | .hbm, ⟨39, _⟩ => ⟨S1x5632, .f32⟩
  | .hbm, ⟨40, _⟩ => ⟨S5632, .f32⟩
  | .hbm, ⟨41, _⟩ => ⟨S8x2048x5632, .f32⟩
  | .hbm, ⟨42, _⟩ => ⟨S1x1x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1024, .f32⟩
  | .hbm, ⟨88, _⟩ => ⟨S8x2048x1024, .f32⟩
  | .hbm, ⟨89, _⟩ => ⟨S_, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S8x2048x1, .f32⟩
  | .hbm, ⟨106, _⟩ => ⟨S8x2048x1024, .f32⟩
  | .hbm, ⟨107, _⟩ => ⟨S8x2048x1024, .f32⟩
  | .hbm, ⟨108, _⟩ => ⟨S1x1x1024, .f32⟩
  | .hbm, ⟨109, _⟩ => ⟨S8x2048x1024, .f32⟩
  | .hbm, ⟨110, _⟩ => ⟨S8x2048x1024, .f32⟩
  | .hbm, ⟨111, _⟩ => ⟨S16384x1024, .f32⟩
  | .hbm, ⟨112, _⟩ => ⟨S8x8x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_cst_6 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x256 : Shape := ⟨3, ![8, 2048, 256]⟩
abbrev S8x2x5632 : Shape := ⟨3, ![8, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S_ : Shape := ⟨0, ![]⟩
abbrev S8x8x5632 : Shape := ⟨3, ![8, 8, 5632]⟩
abbrev S1x1024 : Shape := ⟨2, ![1, 1024]⟩
abbrev S1x5632 : Shape := ⟨2, ![1, 5632]⟩
abbrev S256x256 : Shape := ⟨2, ![256, 256]⟩
abbrev S1x8x5632 : Shape := ⟨3, ![1, 8, 5632]⟩
abbrev S8x5632 : Shape := ⟨2, ![8, 5632]⟩
abbrev S256 : Shape := ⟨1, ![256]⟩
abbrev S256x1 : Shape := ⟨2, ![256, 1]⟩
abbrev S1024x256 : Shape := ⟨2, ![1024, 256]⟩
abbrev S3x256 : Shape := ⟨2, ![3, 256]⟩
abbrev S8x256 : Shape := ⟨2, ![8, 256]⟩
abbrev S1x256 : Shape := ⟨2, ![1, 256]⟩
abbrev S248x256 : Shape := ⟨2, ![248, 256]⟩

abbrev nBuf : Space → Nat
  | .hbm => 27
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S16384x1024, .f32⟩
  | .hbm, ⟨13, _⟩ => ⟨S16384x256, .f32⟩
  | .hbm, ⟨14, _⟩ => ⟨S_, .i32⟩
  | .hbm, ⟨15, _⟩ => ⟨S_, .f32⟩
  | .hbm, ⟨16, _⟩ => ⟨S8x8x5632, .f32⟩
  | .hbm, ⟨17, _⟩ => ⟨S1024x5632, .bf16⟩
  | .hbm, ⟨18, _⟩ => ⟨S2816x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S1x5632, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S8x8x5632, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x8x5632, .f32⟩
  | .local _ .vmem, ⟨5, _⟩ => ⟨S1x8x5632, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x8x5632, .f32⟩
  | .local _ .vmem, ⟨18, _⟩ => ⟨S1x8x5632, .f32⟩
  | .local _ .vmem, ⟨19, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference3Ideal.lean ====
abbrev S8x2048x1024 : Shape := ⟨3, ![8, 2048, 1024]⟩
abbrev S8x2048x256 : Shape := ⟨3, ![8, 2048, 256]⟩
abbrev S8x2x5632 : Shape := ⟨3, ![8, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩
abbrev S8x8x5632 : Shape := ⟨3, ![8, 8, 5632]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x5632, .f32⟩
  | .hbm, ⟨29, _⟩ => ⟨S8x2050x5632, .f32⟩
  | .hbm, ⟨30, _⟩ => ⟨S1x5632, .f32⟩
  | .hbm, ⟨31, _⟩ => ⟨S5632, .f32⟩
  | .hbm, ⟨32, _⟩ => ⟨S8x2048x5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S1x1x5632, .f32⟩
  | .hbm, ⟨37, _⟩ => ⟨S8x2048x5632, .f32⟩
  | .hbm, ⟨38, _⟩ => ⟨S8x2048x5632, .f32⟩
  | .hbm, ⟨39, _⟩ => ⟨S1x5632, .f32⟩
  | .hbm, ⟨40, _⟩ => ⟨S5632, .f32⟩
  | .hbm, ⟨41, _⟩ => ⟨S8x2048x5632, .f32⟩
  | .hbm, ⟨42, _⟩ => ⟨S1x1x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1024, .f32⟩
  | .hbm, ⟨88, _⟩ => ⟨S8x2048x1024, .f32⟩
  | .hbm, ⟨89, _⟩ => ⟨S_, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | .hbm, ⟨96, _⟩ => ⟨S8x8x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_cst_6 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S16384x1024 : Shape := ⟨2, ![16384, 1024]⟩
abbrev S128x8 : Shape := ⟨2, ![128, 8]⟩
abbrev S1x1024 : Shape := ⟨2, ![1, 1024]⟩
abbrev S1x6144 : Shape := ⟨2, ![1, 6144]⟩
abbrev S1x3072 : Shape := ⟨2, ![1, 3072]⟩
abbrev S256x1024 : Shape := ⟨2, ![256, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S128x128 : Shape := ⟨2, ![128, 128]⟩
abbrev S1024x384 : Shape := ⟨2, ![1024, 384]⟩
abbrev S256x384 : Shape := ⟨2, ![256, 384]⟩
abbrev S1x384 : Shape := ⟨2, ![1, 384]⟩
abbrev S1x128x128 : Shape := ⟨3, ![1, 128, 128]⟩
abbrev S128x384 : Shape := ⟨2, ![128, 384]⟩
abbrev S128x1 : Shape := ⟨2, ![128, 1]⟩
abbrev S384x1024 : Shape := ⟨2, ![384, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S8x128x128, .f32⟩
  | .hbm, ⟨7, _⟩ => ⟨S8x128, .f32⟩
  | .hbm, ⟨8, _⟩ => ⟨S3072x1024, .f32⟩
  | .hbm, ⟨9, _⟩ => ⟨S16384x1024, .f32⟩
  | .hbm, ⟨10, _⟩ => ⟨S1024x6144, .bf16⟩
  | .hbm, ⟨11, _⟩ => ⟨S128x8, .f32⟩
  | .hbm, ⟨12, _⟩ => ⟨S3072x1024, .bf16⟩
  | .hbm, ⟨13, _⟩ => ⟨S1x1024, .f32⟩
  | .hbm, ⟨14, _⟩ => ⟨S1x6144, .f32⟩
  | .hbm, ⟨15, _⟩ => ⟨S1x3072, .f32⟩
  | .hbm, ⟨16, _⟩ => ⟨S1x3072, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x6144, .f32⟩
  | .local _ .vmem, ⟨5, _⟩ => ⟨S1x3072, .f32⟩
  | .local _ .vmem, ⟨6, _⟩ => ⟨S1x3072, .f32⟩
  | .local _ .vmem, ⟨7, _⟩ => ⟨S8x128x128, .f32⟩
  | .local _ .vmem, ⟨8, _⟩ => ⟨S128x8, .f32⟩
  | .local _ .vmem, ⟨9, _⟩ => ⟨S3072x1024, .bf16⟩
  | .local _ .vmem, ⟨10, _⟩ => ⟨S256x1024, .f32⟩
  | .local _ .vmem, ⟨11, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x2048x1024 : Shape := ⟨3, ![8, 2048, 1024]⟩
abbrev S1024 : Shape := ⟨1, ![1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S1x1x6144 : Shape := ⟨3, ![1, 1, 6144]⟩
abbrev S8x2048x3072 : Shape := ⟨3, ![8, 2048, 3072]⟩
abbrev S1x1x3072 : Shape := ⟨3, ![1, 1, 3072]⟩
abbrev S128x128 : Shape := ⟨2, ![128, 128]⟩
abbrev S1x128x128 : Shape := ⟨3, ![1, 128, 128]⟩
abbrev S8x16x128x8x384 : Shape := ⟨5, ![8, 16, 128, 8, 384]⟩
abbrev S8x8x16x384x128 : Shape := ⟨5, ![8, 8, 16, 384, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S8x128x128, .f32⟩
  | .hbm, ⟨7, _⟩ => ⟨S8x128, .f32⟩
  | .hbm, ⟨8, _⟩ => ⟨S3072x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x6144, .f32⟩
  | .hbm, ⟨26, _⟩ => ⟨S1x1x6144, .f32⟩
  | .hbm, ⟨27, _⟩ => ⟨S8x2048x6144, .f32⟩
  | .hbm, ⟨28, _⟩ => ⟨S8x2048x6144, .f32⟩
  | .hbm, ⟨29, _⟩ => ⟨S8x2048x6144, .f32⟩
  | .hbm, ⟨30, _⟩ => ⟨S8x2048x6144, .f32⟩
  | .hbm, ⟨31, _⟩ => ⟨S_, .f32⟩
  | .hbm, ⟨32, _⟩ => ⟨S8x2048x6144, .f32⟩
  | .hbm, ⟨33, _⟩ => ⟨S8x2048x6144, .f32⟩
  | .hbm, ⟨34, _⟩ => ⟨S8x2048x6144, .f32⟩
  | .hbm, ⟨35, _⟩ => ⟨S_, .f32⟩
  | .hbm, ⟨36, _⟩ => ⟨S8x2048x6144, .f32⟩
  | .hbm, ⟨37, _⟩ => ⟨S8x2048x6144, .f32⟩
  | .hbm, ⟨38, _⟩ => ⟨S8x2048x6144, .f32⟩
  | .hbm, ⟨39, _⟩ => ⟨S_, .f32⟩
  | .hbm, ⟨40, _⟩ => ⟨S8x2048x6144, .f32⟩
  | .hbm, ⟨41, _⟩ => ⟨S8x2048x6144, .f32⟩
  | .hbm, ⟨42, _⟩ => ⟨S_, .f32⟩
  | .hbm, ⟨43, _⟩ => ⟨S8x2048x6144, .f32⟩
  | .hbm, ⟨44, _⟩ => ⟨S8x2048x6144, .f32⟩
  | .hbm, ⟨45, _⟩ => ⟨S8x2048x6144, .f32⟩
  | .hbm, ⟨46, _⟩ => ⟨S8x2048x3072, .f32⟩
  | .hbm, ⟨47, _⟩ => ⟨S8x2048x3072, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x3072, .f32⟩
  | .hbm, ⟨55, _⟩ => ⟨S8x2048x3072, .f32⟩
  | .hbm, ⟨56, _⟩ => ⟨S8x2048x3072, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x3072, .f32⟩
  | .hbm, ⟨64, _⟩ => ⟨S8x2048x3072, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x3072, .f32⟩
  | .hbm, ⟨70, _⟩ => ⟨S8x2048x3072, .f32⟩
  | .hbm, ⟨71, _⟩ => ⟨S1x1x3072, .f32⟩
  | .hbm, ⟨72, _⟩ => ⟨S8x2048x3072, .f32⟩
  | .hbm, ⟨73, _⟩ => ⟨S8x2048x3072, .f32⟩
  | .hbm, ⟨74, _⟩ => ⟨S1x1x3072, .f32⟩
  | .hbm, ⟨75, _⟩ => ⟨S8x2048x3072, .f32⟩
  | .hbm, ⟨76, _⟩ => ⟨S8x2048x3072, .f32⟩
  | .hbm, ⟨77, _⟩ => ⟨S_, .f32⟩
  | .hbm, ⟨78, _⟩ => ⟨S128x128, .f32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .f32⟩
  | .hbm, ⟨86, _⟩ => ⟨S128x128, .f32⟩
  | .hbm, ⟨87, _⟩ => ⟨S128x128, .f32⟩
  | .hbm, ⟨88, _⟩ => ⟨S1x128x128, .f32⟩
  | .hbm, ⟨89, _⟩ => ⟨S8x128x128, .f32⟩
  | .hbm, ⟨90, _⟩ => ⟨S8x128x128, .f32⟩
  | .hbm, ⟨91, _⟩ => ⟨S8x16x128x8x384, .f32⟩
  | .hbm, ⟨92, _⟩ => ⟨S8x8x16x384x128, .f32⟩
  | .hbm, ⟨93, _⟩ => ⟨S8x16x128x8x384, .f32⟩
  | .hbm, ⟨94, _⟩ => ⟨S128x8, .f32⟩
  | .hbm, ⟨95, _⟩ => ⟨S128x8x1, .f32⟩
  | .hbm, ⟨96, _⟩ => ⟨S1x1x128x8x1, .f32⟩
  | .hbm, ⟨97, _⟩ => ⟨S8x16x128x8x384, .f32⟩
  | .hbm, ⟨98, _⟩ => ⟨S8x16x128x8x384, .f32⟩
  | .hbm, ⟨99, _⟩ => ⟨S8x2048x3072, .f32⟩
  | .hbm, ⟨100, _⟩ => ⟨S8x2048x3072, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_cst : Ref sig .tc := ⟨.hbm, 85, rfl⟩
abbrev main_call0_v5 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x3072 : Shape := ⟨2, ![1024, 3072]⟩
abbrev S16384x1024 : Shape := ⟨2, ![16384, 1024]⟩
abbrev S1024x1024 : Shape := ⟨2, ![1024, 1024]⟩
abbrev S1x1024 : Shape := ⟨2, ![1, 1024]⟩
abbrev S8x1024x2048 : Shape := ⟨3, ![8, 1024, 2048]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S16384x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S16384x1024, .bf16⟩
  | .hbm, ⟨12, _⟩ => ⟨S8x1024x2048, .f32⟩
  | .hbm, ⟨13, _⟩ => ⟨S8x1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S16384x1024 : Shape := ⟨2, ![16384, 1024]⟩
abbrev S8x1024x2048 : Shape := ⟨3, ![8, 1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3072, .f32⟩
  | .hbm, ⟨20, _⟩ => ⟨S8x2048x3x16x64, .f32⟩
  | .hbm, ⟨21, _⟩ => ⟨S8x2048x1x16x64, .f32⟩
  | .hbm, ⟨22, _⟩ => ⟨S8x2048x16x64, .f32⟩
  | .hbm, ⟨23, _⟩ => ⟨S8x2048x1x16x64, .f32⟩
  | .hbm, ⟨24, _⟩ => ⟨S8x2048x16x64, .f32⟩
  | .hbm, ⟨25, _⟩ => ⟨S8x2048x1x16x64, .f32⟩
  | .hbm, ⟨26, _⟩ => ⟨S8x2048x16x64, .f32⟩
  | .hbm, ⟨27, _⟩ => ⟨S16384x1024, .f32⟩
  | .hbm, ⟨28, _⟩ => ⟨S16384x1024, .bf16⟩
  | .hbm, ⟨29, _⟩ => ⟨S8x2048x1024, .f32⟩
  | .hbm, ⟨30, _⟩ => ⟨S8x1024x2048, .f32⟩
  | .hbm, ⟨31, _⟩ => ⟨S8x2048x1024, .f32⟩
  | .hbm, ⟨32, _⟩ => ⟨S8x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S16384x1024 : Shape := ⟨2, ![16384, 1024]⟩
abbrev S16384x2048 : Shape := ⟨2, ![16384, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .f32⟩
  | .hbm, ⟨3, _⟩ => ⟨S2048x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S16384x2048 : Shape := ⟨2, ![16384, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S128x1x1024 : Shape := ⟨3, ![128, 1, 1024]⟩
abbrev S1024 : Shape := ⟨1, ![1024]⟩
abbrev S1024x3072 : Shape := ⟨2, ![1024, 3072]⟩
abbrev S128x1024 : Shape := ⟨2, ![128, 1024]⟩
abbrev S1024x1024 : Shape := ⟨2, ![1024, 1024]⟩
abbrev S1x1024 : Shape := ⟨2, ![1, 1024]⟩
abbrev S1x1024x128 : Shape := ⟨3, ![1, 1024, 128]⟩
abbrev S128 : Shape := ⟨1, ![128]⟩
abbrev S128x1 : Shape := ⟨2, ![128, 1]⟩
abbrev S1024x128 : Shape := ⟨2, ![1024, 128]⟩

abbrev nBuf : Space → Nat
  | .hbm => 14
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S128x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S128x1024, .bf16⟩
  | .hbm, ⟨12, _⟩ => ⟨S1x1024x128, .f32⟩
  | .hbm, ⟨13, _⟩ => ⟨S1x1024x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S1x1024x128, .f32⟩
  | .local _ .vmem, ⟨7, _⟩ => ⟨S1x1024x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference8Ideal.lean ====
abbrev S128x1x1024 : Shape := ⟨3, ![128, 1, 1024]⟩
abbrev S1024 : Shape := ⟨1, ![1024]⟩
abbrev S1024x3072 : Shape := ⟨2, ![1024, 3072]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3072 : Shape := ⟨3, ![128, 1, 3072]⟩
abbrev S128x1x3x16x64 : Shape := ⟨5, ![128, 1, 3, 16, 64]⟩
abbrev S128x1x1x16x64 : Shape := ⟨5, ![128, 1, 1, 16, 64]⟩
abbrev S128x1x16x64 : Shape := ⟨4, ![128, 1, 16, 64]⟩
abbrev S128x1024 : Shape := ⟨2, ![128, 1024]⟩
abbrev S1x128x1024 : Shape := ⟨3, ![1, 128, 1024]⟩
abbrev S1x1024x128 : Shape := ⟨3, ![1, 1024, 128]⟩

abbrev nBuf : Space → Nat
  | .hbm => 33
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x3072, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S128x1x3072, .f32⟩
  | .hbm, ⟨20, _⟩ => ⟨S128x1x3x16x64, .f32⟩
  | .hbm, ⟨21, _⟩ => ⟨S128x1x1x16x64, .f32⟩
  | .hbm, ⟨22, _⟩ => ⟨S128x1x16x64, .f32⟩
  | .hbm, ⟨23, _⟩ => ⟨S128x1x1x16x64, .f32⟩
  | .hbm, ⟨24, _⟩ => ⟨S128x1x16x64, .f32⟩
  | .hbm, ⟨25, _⟩ => ⟨S128x1x1x16x64, .f32⟩
  | .hbm, ⟨26, _⟩ => ⟨S128x1x16x64, .f32⟩
  | .hbm, ⟨27, _⟩ => ⟨S128x1024, .f32⟩
  | .hbm, ⟨28, _⟩ => ⟨S128x1024, .bf16⟩
  | .hbm, ⟨29, _⟩ => ⟨S1x128x1024, .f32⟩
  | .hbm, ⟨30, _⟩ => ⟨S1x1024x128, .f32⟩
  | .hbm, ⟨31, _⟩ => ⟨S1x128x1024, .f32⟩
  | .hbm, ⟨32, _⟩ => ⟨S1x1024x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S128x1x1024 : Shape := ⟨3, ![128, 1, 1024]⟩
abbrev S1024 : Shape := ⟨1, ![1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S8x1x1 : Shape := ⟨3, ![8, 1, 1]⟩
abbrev S8 : Shape := ⟨1, ![8]⟩
abbrev S8x384 : Shape := ⟨2, ![8, 384]⟩
abbrev S1x3072 : Shape := ⟨2, ![1, 3072]⟩
abbrev S8x1 : Shape := ⟨2, ![8, 1]⟩
abbrev S128x1024 : Shape := ⟨2, ![128, 1024]⟩
abbrev S1x1024 : Shape := ⟨2, ![1, 1024]⟩
abbrev S1x6144 : Shape := ⟨2, ![1, 6144]⟩
abbrev S128x3072 : Shape := ⟨2, ![128, 3072]⟩
abbrev S128 : Shape := ⟨1, ![128]⟩
abbrev S128x1 : Shape := ⟨2, ![128, 1]⟩
abbrev S1024x3072 : Shape := ⟨2, ![1024, 3072]⟩

abbrev nBuf : Space → Nat
  | .hbm => 28
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S8x128x128, .f32⟩
  | .hbm, ⟨7, _⟩ => ⟨S8x128, .f32⟩
  | .hbm, ⟨8, _⟩ => ⟨S3072x1024, .f32⟩
  | .hbm, ⟨9, _⟩ => ⟨S8x1x1, .f32⟩
  | .hbm, ⟨10, _⟩ => ⟨S8, .f32⟩
  | .hbm, ⟨11, _⟩ => ⟨S8x384, .f32⟩
  | .hbm, ⟨12, _⟩ => ⟨S3072, .f32⟩
  | .hbm, ⟨13, _⟩ => ⟨S1x3072, .f32⟩
  | .hbm, ⟨14, _⟩ => ⟨S8x1, .f32⟩
  | .hbm, ⟨15, _⟩ => ⟨S8, .f32⟩
  | .hbm, ⟨16, _⟩ => ⟨S8x384, .f32⟩
  | .hbm, ⟨17, _⟩ => ⟨S3072, .f32⟩
  | .hbm, ⟨18, _⟩ => ⟨S1x3072, .f32⟩
  | .hbm, ⟨19, _⟩ => ⟨S128x1024, .f32⟩
  | .hbm, ⟨20, _⟩ => ⟨S1024x6144, .bf16⟩
  | .hbm, ⟨21, _⟩ => ⟨S3072x1024, .bf16⟩
  | .hbm, ⟨22, _⟩ => ⟨S1x1024, .f32⟩
  | .hbm, ⟨23, _⟩ => ⟨S1x6144, .f32⟩
  | .hbm, ⟨24, _⟩ => ⟨S1x3072, .f32⟩
  | .hbm, ⟨25, _⟩ => ⟨S1x3072, .f32⟩
  | .hbm, ⟨26, _⟩ => ⟨S128x1024, .f32⟩
  | .hbm, ⟨27, _⟩ => ⟨S128x3072, .f32⟩
  | .local _ .vmem, ⟨0, _⟩ => ⟨S128x1024, .f32⟩
  | .local _ .vmem, ⟨1, _⟩ => ⟨S1x1024, .f32⟩
  | .local _ .vmem, ⟨2, _⟩ => ⟨S1024x6144, .bf16⟩
  | .local _ .vmem, ⟨3, _⟩ => ⟨S1x6144, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S3072x1024, .bf16⟩
  | .local _ .vmem, ⟨9, _⟩ => ⟨S128x1024, .f32⟩
  | .local _ .vmem, ⟨10, _⟩ => ⟨S128x3072, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference9Ideal.lean ====
abbrev S128x1x1024 : Shape := ⟨3, ![128, 1, 1024]⟩
abbrev S1024 : Shape := ⟨1, ![1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x6144 : Shape := ⟨3, ![128, 1, 6144]⟩
abbrev S1x1x6144 : Shape := ⟨3, ![1, 1, 6144]⟩
abbrev S128x1x3072 : Shape := ⟨3, ![128, 1, 3072]⟩
abbrev S1x1x3072 : Shape := ⟨3, ![1, 1, 3072]⟩
abbrev S8x1x1 : Shape := ⟨3, ![8, 1, 1]⟩
abbrev S1x1 : Shape := ⟨2, ![1, 1]⟩
abbrev S1x1x1 : Shape := ⟨3, ![1, 1, 1]⟩
abbrev S128x1x1x8x384 : Shape := ⟨5, ![128, 1, 1, 8, 384]⟩
abbrev S8x128x1x384x1 : Shape := ⟨5, ![8, 128, 1, 384, 1]⟩
abbrev S8x1 : Shape := ⟨2, ![8, 1]⟩
abbrev S1x8 : Shape := ⟨2, ![1, 8]⟩
abbrev S1x8x1 : Shape := ⟨3, ![1, 8, 1]⟩
abbrev S1x1x1x8x1 : Shape := ⟨5, ![1, 1, 1, 8, 1]⟩
abbrev S128x1024 : Shape := ⟨2, ![128, 1024]⟩
abbrev S128x3072 : Shape := ⟨2, ![128, 3072]⟩

abbrev nBuf : Space → Nat
  | .hbm => 107
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S3072, .f32⟩
  | .hbm, ⟨5, _⟩ => ⟨S3072, .f32⟩
  | .hbm, ⟨6, _⟩ => ⟨S8x128x128, .f32⟩
  | .hbm, ⟨7, _⟩ => ⟨S8x128, .f32⟩
  | .hbm, ⟨8, _⟩ => ⟨S3072x1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x6144, .f32⟩
  | .hbm, ⟨26, _⟩ => ⟨S1x1x6144, .f32⟩
  | .hbm, ⟨27, _⟩ => ⟨S128x1x6144, .f32⟩
  | .hbm, ⟨28, _⟩ => ⟨S128x1x6144, .f32⟩
  | .hbm, ⟨29, _⟩ => ⟨S128x1x6144, .f32⟩
  | .hbm, ⟨30, _⟩ => ⟨S128x1x6144, .f32⟩
  | .hbm, ⟨31, _⟩ => ⟨S_, .f32⟩
  | .hbm, ⟨32, _⟩ => ⟨S128x1x6144, .f32⟩
  | .hbm, ⟨33, _⟩ => ⟨S128x1x6144, .f32⟩
  | .hbm, ⟨34, _⟩ => ⟨S128x1x6144, .f32⟩
  | .hbm, ⟨35, _⟩ => ⟨S_, .f32⟩
  | .hbm, ⟨36, _⟩ => ⟨S128x1x6144, .f32⟩
  | .hbm, ⟨37, _⟩ => ⟨S128x1x6144, .f32⟩
  | .hbm, ⟨38, _⟩ => ⟨S128x1x6144, .f32⟩
  | .hbm, ⟨39, _⟩ => ⟨S_, .f32⟩
  | .hbm, ⟨40, _⟩ => ⟨S128x1x6144, .f32⟩
  | .hbm, ⟨41, _⟩ => ⟨S128x1x6144, .f32⟩
  | .hbm, ⟨42, _⟩ => ⟨S_, .f32⟩
  | .hbm, ⟨43, _⟩ => ⟨S128x1x6144, .f32⟩
  | .hbm, ⟨44, _⟩ => ⟨S128x1x6144, .f32⟩
  | .hbm, ⟨45, _⟩ => ⟨S128x1x6144, .f32⟩
  | .hbm, ⟨46, _⟩ => ⟨S128x1x3072, .f32⟩
  | .hbm, ⟨47, _⟩ => ⟨S128x1x3072, .f32⟩
  | .hbm, ⟨48, _⟩ => ⟨S_, .f32⟩
  | .hbm, ⟨49, _⟩ => ⟨S128x1, .f32⟩
  | .hbm, ⟨50, _⟩ => ⟨S128x1x1, .f32⟩
  | .hbm, ⟨51, _⟩ => ⟨S_, .f32⟩
  | .hbm, ⟨52, _⟩ => ⟨S128x1x1, .f32⟩
  | .hbm, ⟨53, _⟩ => ⟨S128x1x1, .f32⟩
  | .hbm, ⟨54, _⟩ => ⟨S128x1x3072, .f32⟩
  | .hbm, ⟨55, _⟩ => ⟨S128x1x3072, .f32⟩
  | .hbm, ⟨56, _⟩ => ⟨S128x1x3072, .f32⟩
  | .hbm, ⟨57, _⟩ => ⟨S_, .f32⟩
  | .hbm, ⟨58, _⟩ => ⟨S128x1, .f32⟩
  | .hbm, ⟨59, _⟩ => ⟨S128x1x1, .f32⟩
  | .hbm, ⟨60, _⟩ => ⟨S_, .f32⟩
  | .hbm, ⟨61, _⟩ => ⟨S128x1x1, .f32⟩
  | .hbm, ⟨62, _⟩ => ⟨S128x1x1, .f32⟩
  | .hbm, ⟨63, _⟩ => ⟨S128x1x3072, .f32⟩
  | .hbm, ⟨64, _⟩ => ⟨S128x1x3072, .f32⟩
  | .hbm, ⟨65, _⟩ => ⟨S_, .f32⟩
  | .hbm, ⟨66, _⟩ => ⟨S128x1x1, .f32⟩
  | .hbm, ⟨67, _⟩ => ⟨S128x1x1, .f32⟩
  | .hbm, ⟨68, _⟩ => ⟨S128x1x1, .f32⟩
  | .hbm, ⟨69, _⟩ => ⟨S128x1x3072, .f32⟩
  | .hbm, ⟨70, _⟩ => ⟨S128x1x3072, .f32⟩
  | .hbm, ⟨71, _⟩ => ⟨S1x1x3072, .f32⟩
  | .hbm, ⟨72, _⟩ => ⟨S128x1x3072, .f32⟩
  | .hbm, ⟨73, _⟩ => ⟨S128x1x3072, .f32⟩
  | .hbm, ⟨74, _⟩ => ⟨S1x1x3072, .f32⟩
  | .hbm, ⟨75, _⟩ => ⟨S128x1x3072, .f32⟩
  | .hbm, ⟨76, _⟩ => ⟨S128x1x3072, .f32⟩
  | .hbm, ⟨77, _⟩ => ⟨S8x1x1, .f32⟩
  | .hbm, ⟨78, _⟩ => ⟨S_, .f32⟩
  | .hbm, ⟨79, _⟩ => ⟨S1x1, .f32⟩
  | .hbm, ⟨80, _⟩ => ⟨S1x1, .i32⟩
  | .hbm, ⟨81, _⟩ => ⟨S_, .i32⟩
  | .hbm, ⟨82, _⟩ => ⟨S1x1, .i32⟩
  | .hbm, ⟨83, _⟩ => ⟨S1x1, .i32⟩
  | .hbm, ⟨84, _⟩ => ⟨S1x1, .i32⟩
  | .hbm, ⟨85, _⟩ => ⟨S1x1, .i1⟩
  | .hbm, ⟨86, _⟩ => ⟨S_, .f32⟩
  | .hbm, ⟨87, _⟩ => ⟨S1x1, .f32⟩
  | .hbm, ⟨88, _⟩ => ⟨S1x1, .f32⟩
  | .hbm, ⟨89, _⟩ => ⟨S1x1x1, .f32⟩
  | .hbm, ⟨90, _⟩ => ⟨S8x1x1, .f32⟩
  | .hbm, ⟨91, _⟩ => ⟨S8x1x1, .f32⟩
  | .hbm, ⟨92, _⟩ => ⟨S128x1x1x8x384, .f32⟩
  | .hbm, ⟨93, _⟩ => ⟨S8x128x1x384x1, .f32⟩
  | .hbm, ⟨94, _⟩ => ⟨S128x1x1x8x384, .f32⟩
  | .hbm, ⟨95, _⟩ => ⟨S8x1, .f32⟩
  | .hbm, ⟨96, _⟩ => ⟨S1x8, .f32⟩
  | .hbm, ⟨97, _⟩ => ⟨S1x8x1, .f32⟩
  | .hbm, ⟨98, _⟩ => ⟨S1x1x1x8x1, .f32⟩
  | .hbm, ⟨99, _⟩ => ⟨S128x1x1x8x384, .f32⟩
  | .hbm, ⟨100, _⟩ => ⟨S128x1x1x8x384, .f32⟩
  | .hbm, ⟨101, _⟩ => ⟨S128x1x3072, .f32⟩
  | .hbm, ⟨102, _⟩ => ⟨S128x1x3072, .f32⟩
  | .hbm, ⟨103, _⟩ => ⟨S128x1x1024, .f32⟩
  | .hbm, ⟨104, _⟩ => ⟨S128x1x1024, .f32⟩
  | .hbm, ⟨105, _⟩ => ⟨S128x1024, .f32⟩
  | .hbm, ⟨106, _⟩ => ⟨S128x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel10.lean ====
abbrev S8x2048x1024 : Shape := ⟨3, ![8, 2048, 1024]⟩
abbrev S8x3x2048 : Shape := ⟨3, ![8, 3, 2048]⟩
abbrev S1024 : Shape := ⟨1, ![1024]⟩
abbrev S1024x4104 : Shape := ⟨2, ![1024, 4104]⟩
abbrev S8 : Shape := ⟨1, ![8]⟩
abbrev S4x2048 : Shape := ⟨2, ![4, 2048]⟩
abbrev S2048 : Shape := ⟨1, ![2048]⟩
abbrev S4x512x512 : Shape := ⟨3, ![4, 512, 512]⟩
abbrev S1024x8 : Shape := ⟨2, ![1024, 8]⟩
abbrev S16384x1024 : Shape := ⟨2, ![16384, 1024]⟩
abbrev S_ : Shape := ⟨0, ![]⟩
abbrev S8x8x2048 : Shape := ⟨3, ![8, 8, 2048]⟩
abbrev S1024x4096 : Shape := ⟨2, ![1024, 4096]⟩
abbrev S1024x128 : Shape := ⟨2, ![1024, 128]⟩
abbrev S1x8 : Shape := ⟨2, ![1, 8]⟩
abbrev S1x128 : Shape := ⟨2, ![1, 128]⟩
abbrev S8x1024 : Shape := ⟨2, ![8, 1024]⟩
abbrev S8x1 : Shape := ⟨2, ![8, 1]⟩
abbrev S1x1024 : Shape := ⟨2, ![1, 1024]⟩
abbrev S1x2048 : Shape := ⟨2, ![1, 2048]⟩
abbrev S16384x2048 : Shape := ⟨2, ![16384, 2048]⟩
abbrev S16384x128 : Shape := ⟨2, ![16384, 128]⟩
abbrev S8x16384 : Shape := ⟨2, ![8, 16384]⟩
abbrev S256x1024 : Shape := ⟨2, ![256, 1024]⟩
abbrev S1x8x2048 : Shape := ⟨3, ![1, 8, 2048]⟩
abbrev S256x2048 : Shape := ⟨2, ![256, 2048]⟩
abbrev S256x128 : Shape := ⟨2, ![256, 128]⟩
abbrev S8x256 : Shape := ⟨2, ![8, 256]⟩
abbrev S8x2048 : Shape := ⟨2, ![8, 2048]⟩
abbrev S256 : Shape := ⟨1, ![256]⟩
abbrev S256x1 : Shape := ⟨2, ![256, 1]⟩
abbrev S1024x2048 : Shape := ⟨2, ![1024, 2048]⟩
abbrev S248x2048 : Shape := ⟨2, ![248, 2048]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 38
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x3x2048, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S4x2048, .f32⟩
  | .hbm, ⟨6, _⟩ => ⟨S2048, .f32⟩
  | .hbm, ⟨7, _⟩ => ⟨S4x512x512, .f32⟩
  | .hbm, ⟨8, _⟩ => ⟨S4x512x512, .f32⟩
  | .hbm, ⟨9, _⟩ => ⟨S4x512x512, .f32⟩
  | .hbm, ⟨10, _⟩ => ⟨S1024x4104, .bf16⟩
  | .hbm, ⟨11, _⟩ => ⟨S1024x8, .bf16⟩
  | .hbm, ⟨12, _⟩ => ⟨S16384x1024, .f32⟩
  | .hbm, ⟨13, _⟩ => ⟨S_, .i32⟩
  | .hbm, ⟨14, _⟩ => ⟨S_, .f32⟩
  | .hbm, ⟨15, _⟩ => ⟨S8x8x2048, .f32⟩
  | .hbm, ⟨16, _⟩ => ⟨S1024x4096, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S8x1024, .bf16⟩
  | .hbm, ⟨25, _⟩ => ⟨S8x1, .f32⟩
  | .hbm, ⟨26, _⟩ => ⟨S4x512x512, .bf16⟩
  | .hbm, ⟨27, _⟩ => ⟨S4x512x512, .bf16⟩
  | .hbm, ⟨28, _⟩ => ⟨S4x512x512, .bf16⟩
  | .hbm, ⟨29, _⟩ => ⟨S1x1024, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x128, .f32⟩
  | .hbm, ⟨36, _⟩ => ⟨S8x16384, .f32⟩
  | .hbm, ⟨37, _⟩ => ⟨S8x8x2048, .f32⟩
  | .local _ .vmem, ⟨0, _⟩ => ⟨S256x1024, .f32⟩
  | .local _ .vmem, ⟨1, _⟩ => ⟨S256x1024, .f32⟩
  | .local _ .vmem, ⟨2, _⟩ => ⟨S1x8x2048, .f32⟩
  | .local _ .vmem, ⟨3, _⟩ => ⟨S1x8x2048, .f32⟩
  | .local _ .vmem, ⟨4, _⟩ => ⟨S1x1024, .f32⟩
  | .local _ .vmem, ⟨5, _⟩ => ⟨S1024x4096, .bf16⟩
  | .local _ .vmem, ⟨6, _⟩ => ⟨S1024x128, .bf16⟩
  | .local _ .vmem, ⟨7, _⟩ => ⟨S1x128, .f32⟩
  | .local _ .vmem, ⟨8, _⟩ => ⟨S8x1024, .bf16⟩
  | .local _ .vmem, ⟨9, _⟩ => ⟨S8x1, .f32⟩
  | .local _ .vmem, ⟨10, _⟩ => ⟨S4x2048, .f32⟩
  | .local _ .vmem, ⟨11, _⟩ => ⟨S1x2048, .f32⟩
  | .local _ .vmem, ⟨12, _⟩ => ⟨S4x512x512, .bf16⟩
  | .local _ .vmem, ⟨13, _⟩ => ⟨S4x512x512, .bf16⟩
  | .local _ .vmem, ⟨14, _⟩ => ⟨S4x512x512, .bf16⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x128, .f32⟩
  | .local _ .vmem, ⟨24, _⟩ => ⟨S256x128, .f32⟩
  | .local _ .vmem, ⟨25, _⟩ => ⟨S8x256, .f32⟩
  | .local _ .vmem, ⟨26, _⟩ => ⟨S8x256, .f32⟩
  | .local _ .vmem, ⟨27, _⟩ => ⟨S1x8x2048, .f32⟩
  | .local _ .vmem, ⟨28, _⟩ => ⟨S1x8x2048, .f32⟩
  | .local _ .vmem, ⟨29, _⟩ => ⟨S8x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v15_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference10Ideal.lean ====
abbrev S8x2048x1024 : Shape := ⟨3, ![8, 2048, 1024]⟩
abbrev S8x3x2048 : Shape := ⟨3, ![8, 3, 2048]⟩
abbrev S1024 : Shape := ⟨1, ![1024]⟩
abbrev S1024x4104 : Shape := ⟨2, ![1024, 4104]⟩
abbrev S8 : Shape := ⟨1, ![8]⟩
abbrev S4x2048 : Shape := ⟨2, ![4, 2048]⟩
abbrev S2048 : Shape := ⟨1, ![2048]⟩
abbrev S4x512x512 : Shape := ⟨3, ![4, 512, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4104 : Shape := ⟨3, ![8, 2048, 4104]⟩
abbrev S8x2048x2048 : Shape := ⟨3, ![8, 2048, 2048]⟩
abbrev S8x2048x8 : Shape := ⟨3, ![8, 2048, 8]⟩
abbrev S1x1x8 : Shape := ⟨3, ![1, 1, 8]⟩
abbrev S16384x8 : Shape := ⟨2, ![16384, 8]⟩
abbrev S8x2051x2048 : Shape := ⟨3, ![8, 2051, 2048]⟩
abbrev S1x2048 : Shape := ⟨2, ![1, 2048]⟩
abbrev S1x1x2048 : Shape := ⟨3, ![1, 1, 2048]⟩
abbrev S8x2048x4x512 : Shape := ⟨4, ![8, 2048, 4, 512]⟩
abbrev S4x512x8x2048 : Shape := ⟨4, ![4, 512, 8, 2048]⟩
abbrev S16384x2048 : Shape := ⟨2, ![16384, 2048]⟩
abbrev S16384x128 : Shape := ⟨2, ![16384, 128]⟩
abbrev S8x16384 : Shape := ⟨2, ![8, 16384]⟩
abbrev S8x8x2048 : Shape := ⟨3, ![8, 8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x2048, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S4x2048, .f32⟩
  | .hbm, ⟨6, _⟩ => ⟨S2048, .f32⟩
  | .hbm, ⟨7, _⟩ => ⟨S4x512x512, .f32⟩
  | .hbm, ⟨8, _⟩ => ⟨S4x512x512, .f32⟩
  | .hbm, ⟨9, _⟩ => ⟨S4x512x512, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x4104, .f32⟩
  | .hbm, ⟨27, _⟩ => ⟨S8x2048x2048, .f32⟩
  | .hbm, ⟨28, _⟩ => ⟨S8x2048x2048, .f32⟩
  | .hbm, ⟨29, _⟩ => ⟨S8x2048x8, .f32⟩
  | .hbm, ⟨30, _⟩ => ⟨S1x1x8, .f32⟩
  | .hbm, ⟨31, _⟩ => ⟨S8x2048x8, .f32⟩
  | .hbm, ⟨32, _⟩ => ⟨S8x2048x8, .f32⟩
  | .hbm, ⟨33, _⟩ => ⟨S16384x8, .f32⟩
  | .hbm, ⟨34, _⟩ => ⟨S8x2051x2048, .f32⟩
  | .hbm, ⟨35, _⟩ => ⟨S1x2048, .f32⟩
  | .hbm, ⟨36, _⟩ => ⟨S2048, .f32⟩
  | .hbm, ⟨37, _⟩ => ⟨S8x2048x2048, .f32⟩
  | .hbm, ⟨38, _⟩ => ⟨S1x1x2048, .f32⟩
  | .hbm, ⟨39, _⟩ => ⟨S8x2048x2048, .f32⟩
  | .hbm, ⟨40, _⟩ => ⟨S8x2048x2048, .f32⟩
  | .hbm, ⟨41, _⟩ => ⟨S1x1x2048, .f32⟩
  | .hbm, ⟨42, _⟩ => ⟨S8x2048x2048, .f32⟩
  | .hbm, ⟨43, _⟩ => ⟨S8x2048x2048, .f32⟩
  | .hbm, ⟨44, _⟩ => ⟨S1x2048, .f32⟩
  | .hbm, ⟨45, _⟩ => ⟨S2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S1x2048, .f32⟩
  | .hbm, ⟨52, _⟩ => ⟨S2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S1x2048, .f32⟩
  | .hbm, ⟨59, _⟩ => ⟨S2048, .f32⟩
  | .hbm, ⟨60, _⟩ => ⟨S8x2048x2048, .f32⟩
  | .hbm, ⟨61, _⟩ => ⟨S1x1x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S8x2048x4x512, .f32⟩
  | .hbm, ⟨75, _⟩ => ⟨S8x2048x4x512, .f32⟩
  | .hbm, ⟨76, _⟩ => ⟨S4x512x8x2048, .f32⟩
  | .hbm, ⟨77, _⟩ => ⟨S8x2048x4x512, .f32⟩
  | .hbm, ⟨78, _⟩ => ⟨S4x512x8x2048, .f32⟩
  | .hbm, ⟨79, _⟩ => ⟨S8x2048x4x512, .f32⟩
  | .hbm, ⟨80, _⟩ => ⟨S_, .f32⟩
  | .hbm, ⟨81, _⟩ => ⟨S8x2048x4x512, .f32⟩
  | .hbm, ⟨82, _⟩ => ⟨S8x2048x4x512, .f32⟩
  | .hbm, ⟨83, _⟩ => ⟨S4x512x8x2048, .f32⟩
  | .hbm, ⟨84, _⟩ => ⟨S8x2048x4x512, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S_, .i32⟩
  | .hbm, ⟨90, _⟩ => ⟨S_, .f32⟩
  | .hbm, ⟨91, _⟩ => ⟨S16384x128, .f32⟩
  | .hbm, ⟨92, _⟩ => ⟨S8x16384, .f32⟩
  | .hbm, ⟨93, _⟩ => ⟨S8x8x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_2 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c : Ref sig .tc := ⟨.hbm, 89, rfl⟩
abbrev main_call1_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel11.lean ====
abbrev S128x1024 : Shape := ⟨2, ![128, 1024]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024x1024, .bf16⟩
  | .hbm, ⟨4, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference11Ideal.lean ====
abbrev S128x1024 : Shape := ⟨2, ![128, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S128x1024, .f32⟩
  | .hbm, ⟨4, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S128x1024 : Shape := ⟨2, ![128, 1024]⟩
abbrev S128x2048 : Shape := ⟨2, ![128, 2048]⟩
abbrev S2048x1024 : Shape := ⟨2, ![2048, 1024]⟩

abbrev nBuf : Space → Nat
  | .hbm => 5
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S128x2048, .f32⟩
  | .hbm, ⟨2, _⟩ => ⟨S2048x1024, .f32⟩
  | .hbm, ⟨3, _⟩ => ⟨S2048x1024, .bf16⟩
  | .hbm, ⟨4, _⟩ => ⟨S128x1024, .f32⟩
  | .local _ .vmem, ⟨0, _⟩ => ⟨S128x1024, .f32⟩
  | .local _ .vmem, ⟨1, _⟩ => ⟨S128x2048, .f32⟩
  | .local _ .vmem, ⟨2, _⟩ => ⟨S2048x1024, .bf16⟩
  | .local _ .vmem, ⟨3, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference12Ideal.lean ====
abbrev S128x1024 : Shape := ⟨2, ![128, 1024]⟩
abbrev S128x2048 : Shape := ⟨2, ![128, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x2048, .f32⟩
  | .hbm, ⟨2, _⟩ => ⟨S2048x1024, .f32⟩
  | .hbm, ⟨3, _⟩ => ⟨S128x1024, .f32⟩
  | .hbm, ⟨4, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S128x1x1024 : Shape := ⟨3, ![128, 1, 1024]⟩
abbrev S128x1x256 : Shape := ⟨3, ![128, 1, 256]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S128x1024 : Shape := ⟨2, ![128, 1024]⟩
abbrev S128x256 : Shape := ⟨2, ![128, 256]⟩
abbrev S128x11264 : Shape := ⟨2, ![128, 11264]⟩
abbrev S1x1024 : Shape := ⟨2, ![1, 1024]⟩
abbrev S1x5632 : Shape := ⟨2, ![1, 5632]⟩
abbrev S128 : Shape := ⟨1, ![128]⟩
abbrev S128x1 : Shape := ⟨2, ![128, 1]⟩
abbrev S1024x256 : Shape := ⟨2, ![1024, 256]⟩
abbrev S3x256 : Shape := ⟨2, ![3, 256]⟩
abbrev S1x256 : Shape := ⟨2, ![1, 256]⟩

abbrev nBuf : Space → Nat
  | .hbm => 25
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x1x256, .f32⟩
  | .hbm, ⟨2, _⟩ => ⟨S128x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S128x1024, .f32⟩
  | .hbm, ⟨13, _⟩ => ⟨S128x256, .f32⟩
  | .hbm, ⟨14, _⟩ => ⟨S128x11264, .f32⟩
  | .hbm, ⟨15, _⟩ => ⟨S1024x5632, .bf16⟩
  | .hbm, ⟨16, _⟩ => ⟨S2816x1024, .bf16⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S1x5632, .f32⟩
  | .hbm, ⟨21, _⟩ => ⟨S1x1024, .f32⟩
  | .hbm, ⟨22, _⟩ => ⟨S1x1024, .f32⟩
  | .hbm, ⟨23, _⟩ => ⟨S128x1024, .f32⟩
  | .hbm, ⟨24, _⟩ => ⟨S128x11264, .f32⟩
  | .local _ .vmem, ⟨0, _⟩ => ⟨S128x1024, .f32⟩
  | .local _ .vmem, ⟨1, _⟩ => ⟨S128x256, .f32⟩
  | .local _ .vmem, ⟨2, _⟩ => ⟨S128x11264, .f32⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S128x1024, .f32⟩
  | .local _ .vmem, ⟨13, _⟩ => ⟨S128x11264, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x11264 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference13Ideal.lean ====
abbrev S128x1x1024 : Shape := ⟨3, ![128, 1, 1024]⟩
abbrev S128x1x256 : Shape := ⟨3, ![128, 1, 256]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x3x5632 : Shape := ⟨3, ![128, 3, 5632]⟩
abbrev S1x5632 : Shape := ⟨2, ![1, 5632]⟩
abbrev S1x1x5632 : Shape := ⟨3, ![1, 1, 5632]⟩
abbrev S128x1x2816 : Shape := ⟨3, ![128, 1, 2816]⟩
abbrev S128x1024 : Shape := ⟨2, ![128, 1024]⟩
abbrev S128x11264 : Shape := ⟨2, ![128, 11264]⟩

abbrev nBuf : Space → Nat
  | .hbm => 114
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x256, .f32⟩
  | .hbm, ⟨2, _⟩ => ⟨S128x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S128x1x1024, .f32⟩
  | .hbm, ⟨13, _⟩ => ⟨S_, .f32⟩
  | .hbm, ⟨14, _⟩ => ⟨S128x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S_, .f32⟩
  | .hbm, ⟨20, _⟩ => ⟨S128x1x1, .f32⟩
  | .hbm, ⟨21, _⟩ => ⟨S128x1x1, .f32⟩
  | .hbm, ⟨22, _⟩ => ⟨S128x1x1, .f32⟩
  | .hbm, ⟨23, _⟩ => ⟨S128x1x1024, .f32⟩
  | .hbm, ⟨24, _⟩ => ⟨S128x1x1024, .f32⟩
  | .hbm, ⟨25, _⟩ => ⟨S1x1x1024, .f32⟩
  | .hbm, ⟨26, _⟩ => ⟨S128x1x1024, .f32⟩
  | .hbm, ⟨27, _⟩ => ⟨S128x1x1024, .f32⟩
  | .hbm, ⟨28, _⟩ => ⟨S128x1x5632, .f32⟩
  | .hbm, ⟨29, _⟩ => ⟨S128x3x5632, .f32⟩
  | .hbm, ⟨30, _⟩ => ⟨S1x5632, .f32⟩
  | .hbm, ⟨31, _⟩ => ⟨S5632, .f32⟩
  | .hbm, ⟨32, _⟩ => ⟨S128x1x5632, .f32⟩
  | .hbm, ⟨33, _⟩ => ⟨S1x1x5632, .f32⟩
  | .hbm, ⟨34, _⟩ => ⟨S128x1x5632, .f32⟩
  | .hbm, ⟨35, _⟩ => ⟨S128x1x5632, .f32⟩
  | .hbm, ⟨36, _⟩ => ⟨S1x1x5632, .f32⟩
  | .hbm, ⟨37, _⟩ => ⟨S128x1x5632, .f32⟩
  | .hbm, ⟨38, _⟩ => ⟨S128x1x5632, .f32⟩
  | .hbm, ⟨39, _⟩ => ⟨S1x5632, .f32⟩
  | .hbm, ⟨40, _⟩ => ⟨S5632, .f32⟩
  | .hbm, ⟨41, _⟩ => ⟨S128x1x5632, .f32⟩
  | .hbm, ⟨42, _⟩ => ⟨S1x1x5632, .f32⟩
  | .hbm, ⟨43, _⟩ => ⟨S128x1x5632, .f32⟩
  | .hbm, ⟨44, _⟩ => ⟨S128x1x5632, .f32⟩
  | .hbm, ⟨45, _⟩ => ⟨S128x1x5632, .f32⟩
  | .hbm, ⟨46, _⟩ => ⟨S1x5632, .f32⟩
  | .hbm, ⟨47, _⟩ => ⟨S5632, .f32⟩
  | .hbm, ⟨48, _⟩ => ⟨S128x1x5632, .f32⟩
  | .hbm, ⟨49, _⟩ => ⟨S1x1x5632, .f32⟩
  | .hbm, ⟨50, _⟩ => ⟨S128x1x5632, .f32⟩
  | .hbm, ⟨51, _⟩ => ⟨S128x1x5632, .f32⟩
  | .hbm, ⟨52, _⟩ => ⟨S128x1x5632, .f32⟩
  | .hbm, ⟨53, _⟩ => ⟨S128x1x2816, .f32⟩
  | .hbm, ⟨54, _⟩ => ⟨S128x1x2816, .f32⟩
  | .hbm, ⟨55, _⟩ => ⟨S128x1x2816, .f32⟩
  | .hbm, ⟨56, _⟩ => ⟨S128x1x2816, .f32⟩
  | .hbm, ⟨57, _⟩ => ⟨S_, .f32⟩
  | .hbm, ⟨58, _⟩ => ⟨S128x1x2816, .f32⟩
  | .hbm, ⟨59, _⟩ => ⟨S128x1x2816, .f32⟩
  | .hbm, ⟨60, _⟩ => ⟨S_, .f32⟩
  | .hbm, ⟨61, _⟩ => ⟨S128x1x2816, .f32⟩
  | .hbm, ⟨62, _⟩ => ⟨S128x1x2816, .f32⟩
  | .hbm, ⟨63, _⟩ => ⟨S128x1x2816, .f32⟩
  | .hbm, ⟨64, _⟩ => ⟨S128x1x2816, .f32⟩
  | .hbm, ⟨65, _⟩ => ⟨S128x1x1024, .f32⟩
  | .hbm, ⟨66, _⟩ => ⟨S128x1x1024, .f32⟩
  | .hbm, ⟨67, _⟩ => ⟨S128x1x1024, .f32⟩
  | .hbm, ⟨68, _⟩ => ⟨S_, .f32⟩
  | .hbm, ⟨69, _⟩ => ⟨S128x1, .f32⟩
  | .hbm, ⟨70, _⟩ => ⟨S128x1x1, .f32⟩
  | .hbm, ⟨71, _⟩ => ⟨S_, .f32⟩
  | .hbm, ⟨72, _⟩ => ⟨S128x1x1, .f32⟩
  | .hbm, ⟨73, _⟩ => ⟨S128x1x1, .f32⟩
  | .hbm, ⟨74, _⟩ => ⟨S_, .f32⟩
  | .hbm, ⟨75, _⟩ => ⟨S128x1x1, .f32⟩
  | .hbm, ⟨76, _⟩ => ⟨S128x1x1, .f32⟩
  | .hbm, ⟨77, _⟩ => ⟨S128x1x1, .f32⟩
  | .hbm, ⟨78, _⟩ => ⟨S128x1x1024, .f32⟩
  | .hbm, ⟨79, _⟩ => ⟨S128x1x1024, .f32⟩
  | .hbm, ⟨80, _⟩ => ⟨S1x1x1024, .f32⟩
  | .hbm, ⟨81, _⟩ => ⟨S128x1x1024, .f32⟩
  | .hbm, ⟨82, _⟩ => ⟨S128x1x1024, .f32⟩
  | .hbm, ⟨83, _⟩ => ⟨S128x1x1024, .f32⟩
  | .hbm, ⟨84, _⟩ => ⟨S128x1x1024, .f32⟩
  | .hbm, ⟨85, _⟩ => ⟨S128x1x1024, .f32⟩
  | .hbm, ⟨86, _⟩ => ⟨S_, .f32⟩
  | .hbm, ⟨87, _⟩ => ⟨S128x1x1024, .f32⟩
  | .hbm, ⟨88, _⟩ => ⟨S128x1x1024, .f32⟩
  | .hbm, ⟨89, _⟩ => ⟨S_, .f32⟩
  | .hbm, ⟨90, _⟩ => ⟨S128x1x1024, .f32⟩
  | .hbm, ⟨91, _⟩ => ⟨S128x1x1024, .f32⟩
  | .hbm, ⟨92, _⟩ => ⟨S128x1x1024, .f32⟩
  | .hbm, ⟨93, _⟩ => ⟨S128x1x1024, .f32⟩
  | .hbm, ⟨94, _⟩ => ⟨S128x1x1024, .f32⟩
  | .hbm, ⟨95, _⟩ => ⟨S128x1x1024, .f32⟩
  | .hbm, ⟨96, _⟩ => ⟨S_, .f32⟩
  | .hbm, ⟨97, _⟩ => ⟨S128x1, .f32⟩
  | .hbm, ⟨98, _⟩ => ⟨S128x1x1, .f32⟩
  | .hbm, ⟨99, _⟩ => ⟨S_, .f32⟩
  | .hbm, ⟨100, _⟩ => ⟨S128x1x1, .f32⟩
  | .hbm, ⟨101, _⟩ => ⟨S128x1x1, .f32⟩
  | .hbm, ⟨102, _⟩ => ⟨S_, .f32⟩
  | .hbm, ⟨103, _⟩ => ⟨S128x1x1, .f32⟩
  | .hbm, ⟨104, _⟩ => ⟨S128x1x1, .f32⟩
  | .hbm, ⟨105, _⟩ => ⟨S128x1x1, .f32⟩
  | .hbm, ⟨106, _⟩ => ⟨S128x1x1024, .f32⟩
  | .hbm, ⟨107, _⟩ => ⟨S128x1x1024, .f32⟩
  | .hbm, ⟨108, _⟩ => ⟨S1x1x1024, .f32⟩
  | .hbm, ⟨109, _⟩ => ⟨S128x1x1024, .f32⟩
  | .hbm, ⟨110, _⟩ => ⟨S128x1x1024, .f32⟩
  | .hbm, ⟨111, _⟩ => ⟨S128x1024, .f32⟩
  | .hbm, ⟨112, _⟩ => ⟨S128x2x5632, .f32⟩
  | .hbm, ⟨113, _⟩ => ⟨S128x11264, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_cst_6 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel14.lean ====
abbrev S128x1x1024 : Shape := ⟨3, ![128, 1, 1024]⟩
abbrev S128x1x256 : Shape := ⟨3, ![128, 1, 256]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S128x1024 : Shape := ⟨2, ![128, 1024]⟩
abbrev S128x256 : Shape := ⟨2, ![128, 256]⟩
abbrev S128x11264 : Shape := ⟨2, ![128, 11264]⟩
abbrev S1x1024 : Shape := ⟨2, ![1, 1024]⟩
abbrev S1x5632 : Shape := ⟨2, ![1, 5632]⟩
abbrev S128 : Shape := ⟨1, ![128]⟩
abbrev S128x1 : Shape := ⟨2, ![128, 1]⟩
abbrev S1024x256 : Shape := ⟨2, ![1024, 256]⟩
abbrev S3x256 : Shape := ⟨2, ![3, 256]⟩
abbrev S1x256 : Shape := ⟨2, ![1, 256]⟩

abbrev nBuf : Space → Nat
  | .hbm => 25
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x1x256, .f32⟩
  | .hbm, ⟨2, _⟩ => ⟨S128x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S128x1024, .f32⟩
  | .hbm, ⟨13, _⟩ => ⟨S128x256, .f32⟩
  | .hbm, ⟨14, _⟩ => ⟨S128x11264, .f32⟩
  | .hbm, ⟨15, _⟩ => ⟨S1024x5632, .bf16⟩
  | .hbm, ⟨16, _⟩ => ⟨S2816x1024, .bf16⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S1x5632, .f32⟩
  | .hbm, ⟨21, _⟩ => ⟨S1x1024, .f32⟩
  | .hbm, ⟨22, _⟩ => ⟨S1x1024, .f32⟩
  | .hbm, ⟨23, _⟩ => ⟨S128x1024, .f32⟩
  | .hbm, ⟨24, _⟩ => ⟨S128x11264, .f32⟩
  | .local _ .vmem, ⟨0, _⟩ => ⟨S128x1024, .f32⟩
  | .local _ .vmem, ⟨1, _⟩ => ⟨S128x256, .f32⟩
  | .local _ .vmem, ⟨2, _⟩ => ⟨S128x11264, .f32⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S128x1024, .f32⟩
  | .local _ .vmem, ⟨13, _⟩ => ⟨S128x11264, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x11264 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference14Ideal.lean ====
abbrev S128x1x1024 : Shape := ⟨3, ![128, 1, 1024]⟩
abbrev S128x1x256 : Shape := ⟨3, ![128, 1, 256]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x3x5632 : Shape := ⟨3, ![128, 3, 5632]⟩
abbrev S1x5632 : Shape := ⟨2, ![1, 5632]⟩
abbrev S1x1x5632 : Shape := ⟨3, ![1, 1, 5632]⟩
abbrev S128x1x2816 : Shape := ⟨3, ![128, 1, 2816]⟩
abbrev S128x1024 : Shape := ⟨2, ![128, 1024]⟩
abbrev S128x11264 : Shape := ⟨2, ![128, 11264]⟩

abbrev nBuf : Space → Nat
  | .hbm => 98
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x256, .f32⟩
  | .hbm, ⟨2, _⟩ => ⟨S128x2x5632, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S128x1x1024, .f32⟩
  | .hbm, ⟨13, _⟩ => ⟨S_, .f32⟩
  | .hbm, ⟨14, _⟩ => ⟨S128x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S_, .f32⟩
  | .hbm, ⟨20, _⟩ => ⟨S128x1x1, .f32⟩
  | .hbm, ⟨21, _⟩ => ⟨S128x1x1, .f32⟩
  | .hbm, ⟨22, _⟩ => ⟨S128x1x1, .f32⟩
  | .hbm, ⟨23, _⟩ => ⟨S128x1x1024, .f32⟩
  | .hbm, ⟨24, _⟩ => ⟨S128x1x1024, .f32⟩
  | .hbm, ⟨25, _⟩ => ⟨S1x1x1024, .f32⟩
  | .hbm, ⟨26, _⟩ => ⟨S128x1x1024, .f32⟩
  | .hbm, ⟨27, _⟩ => ⟨S128x1x1024, .f32⟩
  | .hbm, ⟨28, _⟩ => ⟨S128x1x5632, .f32⟩
  | .hbm, ⟨29, _⟩ => ⟨S128x3x5632, .f32⟩
  | .hbm, ⟨30, _⟩ => ⟨S1x5632, .f32⟩
  | .hbm, ⟨31, _⟩ => ⟨S5632, .f32⟩
  | .hbm, ⟨32, _⟩ => ⟨S128x1x5632, .f32⟩
  | .hbm, ⟨33, _⟩ => ⟨S1x1x5632, .f32⟩
  | .hbm, ⟨34, _⟩ => ⟨S128x1x5632, .f32⟩
  | .hbm, ⟨35, _⟩ => ⟨S128x1x5632, .f32⟩
  | .hbm, ⟨36, _⟩ => ⟨S1x1x5632, .f32⟩
  | .hbm, ⟨37, _⟩ => ⟨S128x1x5632, .f32⟩
  | .hbm, ⟨38, _⟩ => ⟨S128x1x5632, .f32⟩
  | .hbm, ⟨39, _⟩ => ⟨S1x5632, .f32⟩
  | .hbm, ⟨40, _⟩ => ⟨S5632, .f32⟩
  | .hbm, ⟨41, _⟩ => ⟨S128x1x5632, .f32⟩
  | .hbm, ⟨42, _⟩ => ⟨S1x1x5632, .f32⟩
  | .hbm, ⟨43, _⟩ => ⟨S128x1x5632, .f32⟩
  | .hbm, ⟨44, _⟩ => ⟨S128x1x5632, .f32⟩
  | .hbm, ⟨45, _⟩ => ⟨S128x1x5632, .f32⟩
  | .hbm, ⟨46, _⟩ => ⟨S1x5632, .f32⟩
  | .hbm, ⟨47, _⟩ => ⟨S5632, .f32⟩
  | .hbm, ⟨48, _⟩ => ⟨S128x1x5632, .f32⟩
  | .hbm, ⟨49, _⟩ => ⟨S1x1x5632, .f32⟩
  | .hbm, ⟨50, _⟩ => ⟨S128x1x5632, .f32⟩
  | .hbm, ⟨51, _⟩ => ⟨S128x1x5632, .f32⟩
  | .hbm, ⟨52, _⟩ => ⟨S128x1x5632, .f32⟩
  | .hbm, ⟨53, _⟩ => ⟨S128x1x2816, .f32⟩
  | .hbm, ⟨54, _⟩ => ⟨S128x1x2816, .f32⟩
  | .hbm, ⟨55, _⟩ => ⟨S128x1x2816, .f32⟩
  | .hbm, ⟨56, _⟩ => ⟨S128x1x2816, .f32⟩
  | .hbm, ⟨57, _⟩ => ⟨S_, .f32⟩
  | .hbm, ⟨58, _⟩ => ⟨S128x1x2816, .f32⟩
  | .hbm, ⟨59, _⟩ => ⟨S128x1x2816, .f32⟩
  | .hbm, ⟨60, _⟩ => ⟨S_, .f32⟩
  | .hbm, ⟨61, _⟩ => ⟨S128x1x2816, .f32⟩
  | .hbm, ⟨62, _⟩ => ⟨S128x1x2816, .f32⟩
  | .hbm, ⟨63, _⟩ => ⟨S128x1x2816, .f32⟩
  | .hbm, ⟨64, _⟩ => ⟨S128x1x2816, .f32⟩
  | .hbm, ⟨65, _⟩ => ⟨S128x1x1024, .f32⟩
  | .hbm, ⟨66, _⟩ => ⟨S128x1x1024, .f32⟩
  | .hbm, ⟨67, _⟩ => ⟨S128x1x1024, .f32⟩
  | .hbm, ⟨68, _⟩ => ⟨S_, .f32⟩
  | .hbm, ⟨69, _⟩ => ⟨S128x1, .f32⟩
  | .hbm, ⟨70, _⟩ => ⟨S128x1x1, .f32⟩
  | .hbm, ⟨71, _⟩ => ⟨S_, .f32⟩
  | .hbm, ⟨72, _⟩ => ⟨S128x1x1, .f32⟩
  | .hbm, ⟨73, _⟩ => ⟨S128x1x1, .f32⟩
  | .hbm, ⟨74, _⟩ => ⟨S_, .f32⟩
  | .hbm, ⟨75, _⟩ => ⟨S128x1x1, .f32⟩
  | .hbm, ⟨76, _⟩ => ⟨S128x1x1, .f32⟩
  | .hbm, ⟨77, _⟩ => ⟨S128x1x1, .f32⟩
  | .hbm, ⟨78, _⟩ => ⟨S128x1x1024, .f32⟩
  | .hbm, ⟨79, _⟩ => ⟨S128x1x1024, .f32⟩
  | .hbm, ⟨80, _⟩ => ⟨S1x1x1024, .f32⟩
  | .hbm, ⟨81, _⟩ => ⟨S128x1x1024, .f32⟩
  | .hbm, ⟨82, _⟩ => ⟨S128x1x1024, .f32⟩
  | .hbm, ⟨83, _⟩ => ⟨S128x1x1024, .f32⟩
  | .hbm, ⟨84, _⟩ => ⟨S128x1x1024, .f32⟩
  | .hbm, ⟨85, _⟩ => ⟨S128x1x1024, .f32⟩
  | .hbm, ⟨86, _⟩ => ⟨S_, .f32⟩
  | .hbm, ⟨87, _⟩ => ⟨S128x1x1024, .f32⟩
  | .hbm, ⟨88, _⟩ => ⟨S128x1x1024, .f32⟩
  | .hbm, ⟨89, _⟩ => ⟨S_, .f32⟩
  | .hbm, ⟨90, _⟩ => ⟨S128x1x1024, .f32⟩
  | .hbm, ⟨91, _⟩ => ⟨S128x1x1024, .f32⟩
  | .hbm, ⟨92, _⟩ => ⟨S128x1x1024, .f32⟩
  | .hbm, ⟨93, _⟩ => ⟨S128x1x1024, .f32⟩
  | .hbm, ⟨94, _⟩ => ⟨S128x1x1024, .f32⟩
  | .hbm, ⟨95, _⟩ => ⟨S128x1024, .f32⟩
  | .hbm, ⟨96, _⟩ => ⟨S128x2x5632, .f32⟩
  | .hbm, ⟨97, _⟩ => ⟨S128x11264, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_cst_6 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Proof.Head.lean ====
/-
  One head's chunk as the kernel's body computes it, over the head's own columns and blocks, and the four heads' inputs
  cut out of what the body loads.
-/
module

public import proofs.«01_k».proof.Proof.Gen.KernelIdeal.Frame

@[expose] public section

noncomputable section

namespace Cert.Proof.Head

open Cert.KernelIdeal Cert.KernelIdeal.Gen Idealize.ShloMosaic Idealize.ShloMosaic.TcCoe Idealize.SL.Sem

variable {F : FTy → Type} [FloatOps F]

/-! ## One head, over its columns -/

section One

variable (bc ic : FVec F S128x1 .f32) (br ir : FVec F S1x128 .f32) (mp : Vec F S1x1 .f32)
  (q k v o : Vec F S128x512 .f32) (g : Vec F S1x512 .f32) (C : Vec F S1x512x512 .f32) (n : Vec F S1x512 .f32)

/-- The log weight of row `s` at row `t`: `b t - b s + i s` up to the diagonal, minus infinity above it. -/
def dlog : FVec F S128x128 .f32 :=
  select k0_pay7 (addf (subf (broadcastTo S128x128 bc broadcasts_S128x1_S128x128)
    (broadcastTo S128x128 br broadcasts_S1x128_S128x128)) (broadcastTo S128x128 ir broadcasts_S1x128_S128x128))
    (broadcast S128x128 (Scalar.ofBits .f32 0xFF800000#32))

/-- The log weight of the carried state at row `t`. -/
def inter : FVec F S128x1 .f32 := addf bc (broadcastTo S128x1 mp broadcasts_S1x1_S128x1)

/-- The stabilizer of row `t`. -/
def mt : FVec F S128x1 .f32 :=
  maximumf (inter bc mp) (shapeCast S128x1
    (multiReduction .maximumf [1] S128 (dlog bc br ir) 0xFF800000#32 reduces_S128x128_S128 (.inl rfl) rfl)
    shapeCasts_S128_S128x1)

/-- The weight of the carried state at row `t`. -/
def winter : FVec F S128x1 .f32 := exp (subf (inter bc mp) (mt bc br ir mp))

/-- The scores, weighted. -/
def qk : FVec F S128x128 .f32 :=
  mulf (matmul dot_S128x512_S128x512_S128x128_1_1_0_0_n_n none (k0_pay24 q) (k0_pay25 k)
      (constant S128x128 .f32 0x00000000#32))
    (exp (subf (dlog bc br ir) (broadcastTo S128x128 (mt bc br ir mp) broadcasts_S128x1_S128x128)))

/-- The head's normalized output rows, before the head norm. -/
def hid : FVec F S128x512 .f32 :=
  k0_pay30 (mt bc br ir mp) (winter bc br ir mp) (k0_pay22 q) (k0_pay24 q) (k0_pay26 v) n (qk bc br ir mp q k)
    (k0_pay29 C) (constant S128x512 .f32 0x00000000#32)

/-- The head's output block. -/
def out : FVec F S128x512 .bf16 := k0_pay40 (k0_pay39 (hid bc br ir mp q k v C n) g o)

/-- The head's next state matrix. -/
def newC : FVec F S1x512x512 .f32 :=
  k0_pay34 bc ic mp (mt bc br ir mp) (k0_pay23 k) (k0_pay26 v) (k0_pay27 C)

/-- The head's next normalizer row. -/
def newN : FVec F S1x512 .f32 :=
  k0_pay37 (k0_pay25 k) (k0_pay35 bc mp (mt bc br ir mp) n) (k0_pay36 bc br ir (mt bc br ir mp))

/-- The head's next stabilizer. -/
def newM : FVec F S1x1 .f32 := k0_pay38 (k0_pay31 (mt bc br ir mp))

end One

/-! ## The four heads' inputs -/

variable (x0 x1 x2 x3 : Vec F S128x2048 .f32) (x4 : Vec F S128x128 .f32) (x5 : Vec F S8x128 .f32) (x6 : Vec F S1x2048 .f32)
  (X0 : Vec F S4x512x512 .f32) (X1 : Vec F S4x512 .f32) (X2 : Vec F S1x128 .f32)

/-- A head's column of the running sums of the log forget gates. -/
def bcH : Fin 4 → FVec F S128x1 .f32
  | 0 => k0_pay14 (k0_pay10 x4)
  | 1 => k0_pay41 (k0_pay10 x4)
  | 2 => k0_pay67 (k0_pay10 x4)
  | 3 => k0_pay94 (k0_pay10 x4)

/-- A head's column of the input gates. -/
def icH : Fin 4 → FVec F S128x1 .f32
  | 0 => k0_pay15 (k0_pay8 x4)
  | 1 => k0_pay42 (k0_pay8 x4)
  | 2 => k0_pay68 (k0_pay8 x4)
  | 3 => k0_pay95 (k0_pay8 x4)

/-- The running sums of the log forget gates, as rows. -/
def bRows : FVec F S8x128 .f32 :=
  k0_pay13 (iota .tc S128x128 32 [0] iota_S128x128_d0_w32) (iota .tc S128x128 32 [1] iota_S128x128_d1_w32)
    (k0_pay11 x5) k0_pay12

/-- A head's row of the running sums of the log forget gates. -/
def brH : Fin 4 → FVec F S1x128 .f32
  | 0 => extractStridedSlice S1x128 ![4, 0] (bRows x5) slices_S8x128_o4_0_S1x128
  | 1 => k0_pay43 (bRows x5)
  | 2 => k0_pay69 (bRows x5)
  | 3 => k0_pay96 (bRows x5)

/-- A head's row of the input gates. -/
def irH : Fin 4 → FVec F S1x128 .f32
  | 0 => k0_pay17 (k0_pay9 x5)
  | 1 => k0_pay44 (k0_pay9 x5)
  | 2 => k0_pay70 (k0_pay9 x5)
  | 3 => k0_pay97 (k0_pay9 x5)

/-- A head's 512 columns of a 128-row block. -/
def colsH : Fin 4 → Vec F S128x512 .f32
  | 0 => View.ld x0 (Rect.unit ![0, 0] S128x512.size inb_S128x2048_S128x512_0_0)
  | 1 => View.ld x0 (Rect.unit ![0, 512] S128x512.size inb_S128x2048_S128x512_0_512)
  | 2 => View.ld x0 (Rect.unit ![0, 1024] S128x512.size inb_S128x2048_S128x512_0_1024)
  | 3 => View.ld x0 (Rect.unit ![0, 1536] S128x512.size inb_S128x2048_S128x512_0_1536)

/-- A head's 512 columns of the norm's row. -/
def gH : Fin 4 → Vec F S1x512 .f32
  | 0 => View.ld x6 (Rect.unit ![0, 0] S1x512.size inb_S1x2048_S1x512_0_0)
  | 1 => View.ld x6 (Rect.unit ![0, 512] S1x512.size inb_S1x2048_S1x512_0_512)
  | 2 => View.ld x6 (Rect.unit ![0, 1024] S1x512.size inb_S1x2048_S1x512_0_1024)
  | 3 => View.ld x6 (Rect.unit ![0, 1536] S1x512.size inb_S1x2048_S1x512_0_1536)

/-- A head's state matrix. -/
def cH : Fin 4 → Vec F S1x512x512 .f32
  | 0 => View.ld X0 (Rect.unit ![0, 0, 0] S1x512x512.size inb_S4x512x512_S1x512x512_0_0_0)
  | 1 => View.ld X0 (Rect.unit ![1, 0, 0] S1x512x512.size inb_S4x512x512_S1x512x512_1_0_0)
  | 2 => View.ld X0 (Rect.unit ![2, 0, 0] S1x512x512.size inb_S4x512x512_S1x512x512_2_0_0)
  | 3 => View.ld X0 (Rect.unit ![3, 0, 0] S1x512x512.size inb_S4x512x512_S1x512x512_3_0_0)

/-- A head's normalizer row. -/
def nH : Fin 4 → Vec F S1x512 .f32
  | 0 => View.ld X1 (Rect.unit ![0, 0] S1x512.size inb_S4x512_S1x512_0_0)
  | 1 => View.ld X1 (Rect.unit ![1, 0] S1x512.size inb_S4x512_S1x512_1_0)
  | 2 => View.ld X1 (Rect.unit ![2, 0] S1x512.size inb_S4x512_S1x512_2_0)
  | 3 => View.ld X1 (Rect.unit ![3, 0] S1x512.size inb_S4x512_S1x512_3_0)

/-- A head's stabilizer. -/
def mH : Fin 4 → Vec F S1x1 .f32
  | 0 => View.ld X2 (Rect.unit ![0, 0] S1x1.size inb_S1x128_S1x1_0_0)
  | 1 => View.ld X2 (Rect.unit ![0, 1] S1x1.size inb_S1x128_S1x1_0_1)
  | 2 => View.ld X2 (Rect.unit ![0, 2] S1x1.size inb_S1x128_S1x1_0_2)
  | 3 => View.ld X2 (Rect.unit ![0, 3] S1x1.size inb_S1x128_S1x1_0_3)

/-- Head `h`'s next state matrix, of the loaded blocks and the carried state. -/
def stepC (h : Fin 4) : FVec F S1x512x512 .f32 :=
  newC (bcH x4 h) (icH x4 h) (brH x5 h) (irH x5 h) (mH X2 h) (colsH x1 h) (colsH x2 h) (cH X0 h)

/-- Head `h`'s next normalizer row. -/
def stepN (h : Fin 4) : FVec F S1x512 .f32 :=
  newN (bcH x4 h) (brH x5 h) (irH x5 h) (mH X2 h) (colsH x1 h) (nH X1 h)

/-- Head `h`'s next stabilizer. -/
def stepM (h : Fin 4) : FVec F S1x1 .f32 := newM (bcH x4 h) (brH x5 h) (irH x5 h) (mH X2 h)

/-- Head `h`'s output block. -/
def stepO (h : Fin 4) : FVec F S128x512 .bf16 :=
  out (bcH x4 h) (brH x5 h) (irH x5 h) (mH X2 h) (colsH x0 h) (colsH x1 h) (colsH x2 h) (colsH x3 h) (gH x6 h)
    (cH X0 h) (nH X1 h)

end Cert.Proof.Head

end
-- ==== Proof.Chunk.lean ====
/-
  One head's chunk of 128 rows over extended reals: the formulas both programs compute, on the running sums `b` of the
  log forget gates, the input gates `i`, the rows `q`, `k`, `v`, and the carried state `C`, `n`, `m`.
-/
module

public import Idealize.ShloMosaic.Lib.Pointwise

@[expose] public section

noncomputable section

namespace Cert.Proof.Chunk

open Idealize.ShloMosaic

variable (b i : Fin 128 → EReal) (m : EReal) (q k v : Fin 128 → Fin 512 → EReal) (C : Fin 512 → Fin 512 → EReal)
  (n : Fin 512 → EReal)

/-- Minus infinity, as both programs spell it. -/
def bottom : EReal := Ideal.ofBits .f32 0xFF800000#32

/-- The log weight of row `s` at row `t`. -/
def logWeight (t s : Fin 128) : EReal := if s.val ≤ t.val then b t - b s + i s else bottom

/-- The stabilizer at row `t`. -/
def stab (t : Fin 128) : EReal := max (b t + m) (Finset.univ.fold max bottom fun s => logWeight b i t s)

/-- The weight of the carried state at row `t`. -/
def carry (t : Fin 128) : EReal := Ideal.exp (b t + m - stab b i m t)

/-- The weighted score of rows `t` and `s`. -/
def score (t s : Fin 128) : EReal := (∑ d, q t d * k s d) * Ideal.exp (logWeight b i t s - stab b i m t)

/-- The absolute value. -/
def size (x : EReal) : EReal := max x (-x)

/-- Row `t`'s output, before the head norm. -/
def row (t : Fin 128) (e : Fin 512) : EReal :=
  Ideal.div (carry b i m t * ∑ d, q t d * C d e + ∑ s, score b i m q k t s * v s e)
    (max (size (carry b i m t * ∑ d, q t d * n d + ∑ s, score b i m q k t s)) (Ideal.exp (-stab b i m t)))

/-- The next stabilizer. -/
def nextM : EReal := stab b i m 127

/-- The carried state's weight in the next state. -/
def keep : EReal := Ideal.exp (b 127 + m - nextM b i m)

/-- Row `s`'s weight in the next state. -/
def gain (s : Fin 128) : EReal := Ideal.exp (b 127 - b s + i s - nextM b i m)

/-- The next state matrix. -/
def nextC (d e : Fin 512) : EReal := keep b i m * C d e + ∑ s, k s d * gain b i m s * v s e

/-- The next normalizer row. -/
def nextN (d : Fin 512) : EReal := keep b i m * n d + ∑ s, gain b i m s * k s d

/-! The head norm and the output gate, on one head's row. -/

/-- The mean of 512 entries. -/
def mean (x : Fin 512 → EReal) : EReal := Ideal.div (∑ e, x e) (Ideal.ofBits .f32 0x44000000#32)

/-- One entry of the normed and gated row. -/
def normed (x : Fin 512 → EReal) (o g : EReal) (e : Fin 512) : EReal :=
  Ideal.div 1 (1 + Ideal.exp (-o)) *
    ((x e - mean x) * Ideal.rsqrt (mean (fun d => (x d - mean x) * (x d - mean x)) + Ideal.ofBits .f32 0x358637BD#32) * g)

/-- The log of the logistic function, as both programs compute it. -/
def logForget (x : EReal) : EReal := -(max (-x) 0 + Ideal.log (1 + Ideal.exp (-size x)))

/-- The sum of the entries up to and including entry `t`. -/
def runSum (f : Fin 128 → EReal) (t : Fin 128) : EReal := ∑ s, if s.val ≤ t.val then f s else 0

/-! ## Where a chunk's rows and a head's columns lie -/

section Place

variable (p : Fin 8) (j : Fin 16)

/-- Row `r` of chunk `j`, of a batch row's 2048. -/
def rowOf (r : Fin 128) : Fin 2048 := ⟨128 * j.val + r.val, by omega⟩

/-- Column `d` of head `h`, of the 2048. -/
def colOf (h : Fin 4) (d : Fin 512) : Fin 2048 := ⟨512 * h.val + d.val, by omega⟩

/-- Row `r` of chunk `j` of batch row `p`, of all 16384. -/
def flatOf (r : Fin 128) : Fin 16384 := ⟨128 * (16 * p.val + j.val) + r.val, by omega⟩

end Place

/-! The two comparisons of row numbers that the programs mask by. -/

/-- A comparison of two small row numbers as 32-bit words decides their order. -/
theorem sle_eq (s t : Fin 128) : IntOp.cmpi .sle (BitVec.ofNat 32 s.val) (BitVec.ofNat 32 t.val) = BitVec.ofBool (s.val ≤ t.val) := by
  have hs := s.isLt
  have ht := t.isLt
  show BitVec.ofBool ((BitVec.ofNat 32 s.val).sle (BitVec.ofNat 32 t.val)) = _
  congr 1
  rw [BitVec.sle_eq_decide, decide_eq_decide, BitVec.toInt_eq_toNat_of_lt (by simp; omega),
    BitVec.toInt_eq_toNat_of_lt (by simp; omega)]
  simp only [BitVec.toNat_ofNat]
  omega

/-- Selecting by that comparison is a choice by their order. -/
theorem select_sle (s t : Fin 128) (x y : EReal) :
    Scalar.select (IntOp.cmpi .sle (BitVec.ofNat 32 s.val) (BitVec.ofNat 32 t.val)) x y = if s.val ≤ t.val then x else y := by
  rw [sle_eq]
  unfold Scalar.select
  by_cases h : s.val ≤ t.val <;> simp [h]

/-- The comparison as a number is one or zero. -/
theorem number_sle (s t : Fin 128) :
    (FloatOps.sitofp .f32 (BitVec.setWidth 32 (IntOp.cmpi .sle (BitVec.ofNat 32 s.val) (BitVec.ofNat 32 t.val))) : Ideal .f32)
      = if s.val ≤ t.val then (1 : EReal) else 0 := by
  rw [sle_eq]
  by_cases h : s.val ≤ t.val
  · simp only [h, decide_true, if_true]
    show (((BitVec.setWidth 32 (BitVec.ofBool true)).toInt : ℝ) : EReal) = 1
    rw [show (BitVec.setWidth 32 (BitVec.ofBool true)).toInt = 1 by decide]
    simp
  · simp only [h, decide_false, if_false]
    show (((BitVec.setWidth 32 (BitVec.ofBool false)).toInt : ℝ) : EReal) = 0
    rw [show (BitVec.setWidth 32 (BitVec.ofBool false)).toInt = 0 by decide]
    simp

end Cert.Proof.Chunk

end
-- ==== Proof.HeadAt.lean ====
/-
  The kernel's head functions (`Head.lean`) read at an index over extended reals: each is its formula of `Chunk.lean`.
-/
module

public import proofs.«01_k».proof.Proof.Head
public import proofs.«01_k».proof.Proof.Chunk

@[expose] public section

set_option maxRecDepth 16384

noncomputable section

namespace Cert.Proof.Head

open Cert.KernelIdeal Cert.KernelIdeal.Gen Idealize.ShloMosaic Idealize.ShloMosaic.TcCoe Idealize.SL.Sem

variable {bc ic : FVec Ideal S128x1 .f32} {br ir : FVec Ideal S1x128 .f32} {mp : Vec Ideal S1x1 .f32}
  {b i : Fin 128 → EReal} {m : EReal}

section Gates

variable (hbc : ∀ t, bc (ix2 t 0) = b t) (hbr : ∀ s, br (ix2 0 s) = b s) (hir : ∀ s, ir (ix2 0 s) = i s)
  (hmp : mp (ix2 0 0) = m)

include hbc hbr hir

/-- The log weights. -/
theorem dlog_at (t s : Fin 128) : dlog bc br ir (ix2 t s) = Chunk.logWeight b i t s := by
  unfold dlog
  unfold_payloads
  pointwise
  rw [Chunk.select_sle, hbc, hbr, hir]
  rfl

include hmp

/-- The stabilizers. -/
theorem mt_at (t : Fin 128) : Head.mt bc br ir mp (ix2 t 0) = Chunk.stab b i m t := by
  unfold Head.mt inter
  pointwise
  simp only [hbc, hmp, dlog_at hbc hbr hir]
  rfl

/-- The carried state's weights. -/
theorem winter_at (t : Fin 128) : winter bc br ir mp (ix2 t 0) = Chunk.carry b i m t := by
  unfold winter inter
  pointwise
  rw [hbc, hmp, mt_at hbc hbr hir hmp]
  rfl

/-- The weighted scores. -/
theorem qk_at (q k : Vec Ideal S128x512 .f32) (t s : Fin 128) :
    qk bc br ir mp q k (ix2 t s) = Chunk.score b i m (fun t d => q (ix2 t d)) (fun t d => k (ix2 t d)) t s := by
  unfold qk
  unfold_payloads
  pointwise
  rw [dlog_at hbc hbr hir, mt_at hbc hbr hir hmp]
  rfl

/-- The output rows before the head norm. -/
theorem hid_at (q k v : Vec Ideal S128x512 .f32) (C : Vec Ideal S1x512x512 .f32) (n : Vec Ideal S1x512 .f32) (t : Fin 128)
    (e : Fin 512) : hid bc br ir mp q k v C n (ix2 t e)
      = Chunk.row b i m (fun t d => q (ix2 t d)) (fun t d => k (ix2 t d)) (fun t d => v (ix2 t d)) (fun d e => C (ix3 0 d e))
        (fun d => n (ix2 0 d)) t e := by
  unfold hid
  unfold_payloads
  pointwise
  simp only [winter_at hbc hbr hir hmp, mt_at hbc hbr hir hmp, qk_at hbc hbr hir hmp, zero_sub]
  rfl

/-- The normed and gated output rows. -/
theorem out_at (q k v o : Vec Ideal S128x512 .f32) (g : Vec Ideal S1x512 .f32) (C : Vec Ideal S1x512x512 .f32)
    (n : Vec Ideal S1x512 .f32) (t : Fin 128) (e : Fin 512) : out bc br ir mp q k v o g C n (ix2 t e)
      = Chunk.normed (Chunk.row b i m (fun t d => q (ix2 t d)) (fun t d => k (ix2 t d)) (fun t d => v (ix2 t d))
        (fun d e => C (ix3 0 d e)) (fun d => n (ix2 0 d)) t) (o (ix2 t e)) (g (ix2 0 e)) e := by
  unfold out
  unfold_payloads
  pointwise
  simp only [hid_at hbc hbr hir hmp, zero_sub]
  rfl

/-- The next stabilizer. -/
theorem newM_at : newM bc br ir mp (ix2 0 0) = Chunk.nextM b i m := by
  unfold newM
  unfold_payloads
  pointwise
  exact mt_at hbc hbr hir hmp 127

/-- The next normalizer row. -/
theorem newN_at (k : Vec Ideal S128x512 .f32) (n : Vec Ideal S1x512 .f32) (d : Fin 512) :
    newN bc br ir mp k n (ix2 0 d) = Chunk.nextN b i m (fun t d => k (ix2 t d)) (fun d => n (ix2 0 d)) d := by
  unfold newN
  unfold_payloads
  pointwise
  simp only [hbc, hbr, hir, hmp, mt_at hbc hbr hir hmp]
  rfl

/-- The next state matrix. -/
theorem newC_at (hic : ∀ t, ic (ix2 t 0) = i t) (k v : Vec Ideal S128x512 .f32) (C : Vec Ideal S1x512x512 .f32)
    (d e : Fin 512) : newC bc ic br ir mp k v C (ix3 0 d e)
      = Chunk.nextC b i m (fun t d => k (ix2 t d)) (fun t d => v (ix2 t d)) (fun d e => C (ix3 0 d e)) d e := by
  unfold newC
  unfold_payloads
  pointwise
  simp only [hbc, hic, hmp, mt_at hbc hbr hir hmp]
  rfl

end Gates

/-! ## The four heads' inputs at an index -/

variable (x4 : Vec Ideal S128x128 .f32) (x5 : Vec Ideal S8x128 .f32)

/-- A sum of log forget gates masked by a comparison is a running sum. -/
theorem masked_sum (f : Fin 128 → EReal) (t : Fin 128) :
    (∑ s : Fin 128, (FloatOps.sitofp .f32 (BitVec.setWidth 32 (IntOp.cmpi .sle (BitVec.ofNat 32 s.val) (BitVec.ofNat 32 t.val))) : Ideal .f32)
      * (0 - (max (0 - f s) 0 + Ideal.log (1 + Ideal.exp (0 - Chunk.size (f s))))) : EReal)
      = Chunk.runSum (fun s => Chunk.logForget (f s)) t := by
  simp only [Chunk.number_sle, zero_sub]
  refine Finset.sum_congr rfl fun s _ => ?_
  split
  · rw [one_mul]; rfl
  · rw [zero_mul]

/-- The running sums, along the rows of the transposed gates block. -/
theorem rows_at (r : Fin 8) (t : Fin 128) :
    bRows x5 (ix2 r t) = Chunk.runSum (fun s => Chunk.logForget (x5 (ix2 r s))) t := by
  unfold bRows
  unfold_payloads
  pointwise
  refine Eq.trans (Finset.sum_congr rfl fun s _ => mul_comm _ _) (masked_sum (fun s => x5 (ix2 r s)) t)

/-- A head's running sums, as a column. -/
theorem bcH_at (h : Fin 4) (t : Fin 128) : bcH x4 h (ix2 t 0)
    = Chunk.runSum (fun s => Chunk.logForget (x4 (ix2 s ⟨h.val + 4, by omega⟩))) t := by
  fin_cases h <;> (unfold bcH; unfold_payloads; pointwise; exact masked_sum (fun s => x4 (ix2 s _)) t)

/-- A head's input gates, as a column. -/
theorem icH_at (h : Fin 4) (t : Fin 128) : icH x4 h (ix2 t 0) = x4 (ix2 t ⟨h.val, by omega⟩) := by
  fin_cases h <;> (unfold icH; unfold_payloads; pointwise)

/-- A head's running sums, as a row. -/
theorem brH_at (h : Fin 4) (t : Fin 128) : brH x5 h (ix2 0 t)
    = Chunk.runSum (fun s => Chunk.logForget (x5 (ix2 ⟨h.val + 4, by omega⟩ s))) t := by
  fin_cases h <;> (unfold brH; unfold_payloads; pointwise; exact rows_at x5 _ t)

/-- A head's input gates, as a row. -/
theorem irH_at (h : Fin 4) (t : Fin 128) : irH x5 h (ix2 0 t) = x5 (ix2 ⟨h.val, by omega⟩ t) := by
  fin_cases h <;> (unfold irH; unfold_payloads; pointwise)

variable (x0 : Vec Ideal S128x2048 .f32) (x6 : Vec Ideal S1x2048 .f32) (X0 : Vec Ideal S4x512x512 .f32)
  (X1 : Vec Ideal S4x512 .f32) (X2 : Vec Ideal S1x128 .f32)

/-- A head's columns. -/
theorem colsH_at (h : Fin 4) (t : Fin 128) (e : Fin 512) :
    colsH x0 h (ix2 t e) = x0 (ix2 t ⟨512 * h.val + e.val, by omega⟩) := by
  fin_cases h <;> (unfold colsH; pointwise)

/-- A head's columns of the norm's row. -/
theorem gH_at (h : Fin 4) (e : Fin 512) : gH x6 h (ix2 0 e) = x6 (ix2 0 ⟨512 * h.val + e.val, by omega⟩) := by
  fin_cases h <;> (unfold gH; pointwise)

/-- A head's state matrix. -/
theorem cH_at (h : Fin 4) (d e : Fin 512) : cH X0 h (ix3 0 d e) = X0 (ix3 h d e) := by
  fin_cases h <;> (unfold cH; pointwise)

/-- A head's normalizer row. -/
theorem nH_at (h : Fin 4) (d : Fin 512) : nH X1 h (ix2 0 d) = X1 (ix2 h d) := by
  fin_cases h <;> (unfold nH; pointwise)

/-- A head's stabilizer. -/
theorem mH_at (h : Fin 4) : mH X2 h (ix2 0 0) = X2 (ix2 0 ⟨h.val, by omega⟩) := by
  fin_cases h <;> (unfold mH; pointwise)

end Cert.Proof.Head

end
-- ==== Proof.TripAt.lean ====
/-
  The reference's trip read at an index over extended reals: each value of a trip is its formula of `Chunk.lean`, on the
  trip's rows of the inputs and the carried state.
-/
module

public import proofs.«01_k».proof.Proof.Gen.ReferenceIdeal.Step
public import proofs.«01_k».proof.Proof.Chunk
public import Idealize.ShloMosaic.Lib.WordCmp
public import Idealize.ShloMosaic.Lib.DynamicIndex

@[expose] public section

set_option maxRecDepth 16384

noncomputable section

namespace Cert.Proof.Trip

open Cert.ReferenceIdeal Cert.ReferenceIdeal.Gen Cert.ReferenceIdeal.Step
open Idealize.ShloMosaic Idealize.ShloMosaic.TcCoe Idealize.SL.Sem

/-! ## The chunk a trip reads -/

/-- The start a trip computes for the leading axis of a five-axis array is the trip's number. -/
theorem start5 (j : Fin 16) (a : Fin 5) :
    ((![constantI S_ 32 (BitVec.ofNat 32 j.val), constantI S_ 32 0#32, constantI S_ 32 0#32, constantI S_ 32 0#32,
      constantI S_ 32 0#32] : Fin 5 → S_.Idx → BitVec 32) a (Shape.Idx.first h_S_)).toInt
      = (((![j.val, 0, 0, 0, 0] : Fin 5 → ℕ) a : ℕ) : ℤ) := by
  match a with
  | ⟨0, _⟩ => exact toInt_ofNat_of_lt (by omega)
  | ⟨1, _⟩ => rfl
  | ⟨2, _⟩ => rfl
  | ⟨3, _⟩ => rfl
  | ⟨4, _⟩ => rfl

/-- The start a trip computes for the leading axis of a four-axis array is the trip's number. -/
theorem start4 (j : Fin 16) (a : Fin 4) :
    ((![constantI S_ 32 (BitVec.ofNat 32 j.val), constantI S_ 32 0#32, constantI S_ 32 0#32, constantI S_ 32 0#32]
      : Fin 4 → S_.Idx → BitVec 32) a (Shape.Idx.first h_S_)).toInt
      = (((![j.val, 0, 0, 0] : Fin 4 → ℕ) a : ℕ) : ℤ) := by
  match a with
  | ⟨0, _⟩ => exact toInt_ofNat_of_lt (by omega)
  | ⟨1, _⟩ => rfl
  | ⟨2, _⟩ => rfl
  | ⟨3, _⟩ => rfl

/-- The block of chunk `j` lies inside the five-axis array. -/
theorem fits5 (j : Fin 16) : S16x8x4x128x512.Slices ![j.val, 0, 0, 0, 0] S1x8x4x128x512 :=
  ⟨rfl, fun a => by
    have := j.isLt
    match a with
    | ⟨0, _⟩ => show j.val + 1 ≤ 16; omega
    | ⟨1, _⟩ => exact Nat.le_refl _
    | ⟨2, _⟩ => exact Nat.le_refl _
    | ⟨3, _⟩ => exact Nat.le_refl _
    | ⟨4, _⟩ => exact Nat.le_refl _⟩

/-- The block of chunk `j` lies inside the four-axis array. -/
theorem fits4 (j : Fin 16) : S16x8x4x128.Slices ![j.val, 0, 0, 0] S1x8x4x128 :=
  ⟨rfl, fun a => by
    have := j.isLt
    match a with
    | ⟨0, _⟩ => show j.val + 1 ≤ 16; omega
    | ⟨1, _⟩ => exact Nat.le_refl _
    | ⟨2, _⟩ => exact Nat.le_refl _
    | ⟨3, _⟩ => exact Nat.le_refl _⟩

/-- A reshape that drops a leading axis of one, at an index. -/
theorem drop5 {α : Type} (x : S1x8x4x128x512.Idx → α) (p : Fin 8) (h : Fin 4) (t : Fin 128) (d : Fin 512) :
    shapeCast S8x4x128x512 x shapeCasts_S1x8x4x128x512_S8x4x128x512 (ix4 p h t d) = x (ix5 0 p h t d) := by
  pointwise

/-- The same for a four-axis array. -/
theorem drop4 {α : Type} (x : S1x8x4x128.Idx → α) (p : Fin 8) (h : Fin 4) (t : Fin 128) :
    shapeCast S8x4x128 x shapeCasts_S1x8x4x128_S8x4x128 (ix3 p h t) = x (ix4 0 p h t) := by
  pointwise

/-- Chunk `j` of a five-axis array, sliced and with its leading axis dropped. -/
theorem chunk5 {α : Type} (x : S16x8x4x128x512.Idx → α) (j : Fin 16) (p : Fin 8) (h : Fin 4) (t : Fin 128) (d : Fin 512) :
    shapeCast S8x4x128x512 (Host.dynamicSlice S1x8x4x128x512 x (fun k => ((![constantI S_ 32 (BitVec.ofNat 32 j.val),
      constantI S_ 32 0#32, constantI S_ 32 0#32, constantI S_ 32 0#32, constantI S_ 32 0#32] : Fin 5 → S_.Idx → BitVec 32) k
      (Shape.Idx.first h_S_)).toInt) sliceFits_S16x8x4x128x512_S1x8x4x128x512) shapeCasts_S1x8x4x128x512_S8x4x128x512 (ix4 p h t d)
      = x (ix5 j p h t d) := by
  rw [drop5, Host.dynamicSlice_eq_extractStridedSlice _ _ _ _ _ (fits5 j) (start5 j)]
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

/-- Chunk `j` of a four-axis array, sliced and with its leading axis dropped. -/
theorem chunk4 {α : Type} (x : S16x8x4x128.Idx → α) (j : Fin 16) (p : Fin 8) (h : Fin 4) (t : Fin 128) :
    shapeCast S8x4x128 (Host.dynamicSlice S1x8x4x128 x (fun k => ((![constantI S_ 32 (BitVec.ofNat 32 j.val),
      constantI S_ 32 0#32, constantI S_ 32 0#32, constantI S_ 32 0#32] : Fin 4 → S_.Idx → BitVec 32) k
      (Shape.Idx.first h_S_)).toInt) sliceFits_S16x8x4x128_S1x8x4x128) shapeCasts_S1x8x4x128_S8x4x128 (ix3 p h t)
      = x (ix4 j p h t) := by
  rw [drop4, Host.dynamicSlice_eq_extractStridedSlice _ _ _ _ _ (fits4 j) (start4 j)]
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _

/-! ## The running sum -/

/-- A left fold that adds a function's values is the start plus their sum. -/
theorem foldl_add {α : Type} (l : List α) (f : α → EReal) (z : EReal) :
    l.foldl (fun r n => r + f n) z = z + (l.map f).sum := by
  induction l generalizing z with
  | nil => simp
  | cons a l ih => rw [List.foldl_cons, ih, List.map_cons, List.sum_cons, add_assoc]

/-- The positions of a window of one row are the row's. -/
def windowIdx : (⟨3, ![1, 1, 128]⟩ : Shape).Idx ≃ Fin 128 where
  toFun w := w 2
  invFun s := ix3 0 0 s
  left_inv w := by
    funext a
    match a with
    | ⟨0, _⟩ => exact Subsingleton.elim (α := Fin 1) _ _
    | ⟨1, _⟩ => exact Subsingleton.elim (α := Fin 1) _ _
    | ⟨2, _⟩ => rfl
  right_inv _ := rfl

/-- A window of the whole length, padded low by one less, sums a prefix. -/
theorem window_sum (x : FVec Ideal S8x4x128 .f32) (init : FVec Ideal S_ .f32) (hz : init (Shape.Idx.first h_S_) = (0 : EReal))
    (p : Fin 8) (h : Fin 4) (t : Fin 128) :
    Host.reduceWindowAdd ![1, 1, 128] ![1, 1, 1] ![0, 0, 127] ![0, 0, 0] x init
      reduceWindows_S8x4x128_S8x4x128_w1s1p0_0_w1s1p0_0_w128s1p127_0 h_S_ (ix3 p h t)
      = Chunk.runSum (fun s => x (ix3 p h s)) t := by
  unfold Host.reduceWindowAdd
  rw [Ideal.hostReduceWindowAdd_def, hz]
  unfold Ideal.hostReduceWindowAdd Host.reduceWindow
  dsimp only
  rw [foldl_add, zero_add, ← List.ofFn_eq_map, List.sum_ofFn]
  unfold Chunk.runSum
  refine Fintype.sum_equiv (((Shape.rowMajor ⟨3, ![1, 1, 128]⟩).symm.trans windowIdx).trans (Equiv.addRight (t + 1))) _ _ fun n => ?_
  let w := (Shape.rowMajor ⟨3, ![1, 1, 128]⟩).symm n
  show _ = if (windowIdx w + (t + 1)).val ≤ t.val then x (ix3 p h (windowIdx w + (t + 1))) else 0
  have hw0 : (w 0).val = 0 := Nat.lt_one_iff.mp (w 0).isLt
  have hw1 : (w 1).val = 0 := Nat.lt_one_iff.mp (w 1).isLt
  have hw2 : (w 2).val < 128 := (w 2).isLt
  have ht := t.isLt
  have hs : (windowIdx w + (t + 1)).val = ((w 2).val + (t.val + 1)) % 128 := by
    rw [Fin.val_add, Fin.val_add]
    show ((w 2).val + (t.val + 1) % 128) % 128 = _
    omega
  have hiff : (∀ a : Fin 3, (![0, 0, 127] : Fin 3 → ℕ) a ≤ (ix3 p h t a).val * (![1, 1, 1] : Fin 3 → ℕ) a + (w a).val
      ∧ (ix3 p h t a).val * (![1, 1, 1] : Fin 3 → ℕ) a + (w a).val - (![0, 0, 127] : Fin 3 → ℕ) a < (![8, 4, 128] : Fin 3 → ℕ) a)
      ↔ 127 ≤ t.val + (w 2).val := by
    constructor
    · intro hall
      have : 127 ≤ t.val * 1 + (w 2).val := (hall 2).1
      omega
    · intro hle a
      have hp := p.isLt
      have hh := h.isLt
      match a with
      | ⟨0, _⟩ =>
        show 0 ≤ p.val * 1 + (w 0).val ∧ p.val * 1 + (w 0).val - 0 < 8
        omega
      | ⟨1, _⟩ =>
        show 0 ≤ h.val * 1 + (w 1).val ∧ h.val * 1 + (w 1).val - 0 < 4
        omega
      | ⟨2, _⟩ =>
        show 127 ≤ t.val * 1 + (w 2).val ∧ t.val * 1 + (w 2).val - 127 < 128
        omega
  by_cases hle : 127 ≤ t.val + (w 2).val
  · have hv : ((w 2).val + (t.val + 1)) % 128 = t.val + (w 2).val - 127 := by omega
    rw [if_pos (by rw [hs, hv]; omega)]
    refine (dif_pos (hiff.mpr hle)).trans (congrArg x (funext fun a => Fin.ext ?_))
    match a with
    | ⟨0, _⟩ =>
      show p.val * 1 + (w 0).val - 0 = p.val
      omega
    | ⟨1, _⟩ =>
      show h.val * 1 + (w 1).val - 0 = h.val
      omega
    | ⟨2, _⟩ =>
      show t.val * 1 + (w 2).val - 127 = (windowIdx w + (t + 1)).val
      omega
  · rw [if_neg (by rw [hs]; omega)]
    exact dif_neg fun hall => hle (hiff.mp hall)

/-! ## The trip's values -/

variable (j : Fin 16) (st : State Ideal) (p : Fin 8) (h : Fin 4)

/-- The trip's running sums of the log forget gates. -/
def sums (t : Fin 128) : EReal := Chunk.runSum (fun s => st.main_v35_4 (ix4 j p h s)) t

/-- The trip's input gates. -/
def gatesIn (t : Fin 128) : EReal := st.main_v35_3 (ix4 j p h t)

/-- The carried stabilizer. -/
def stabIn : EReal := st.main_v35_9 (ix2 p h)

/-- The trip's query rows. -/
def rowsQ (t : Fin 128) (d : Fin 512) : EReal := st.main_v35_0 (ix5 j p h t d)

/-- The trip's key rows. -/
def rowsK (t : Fin 128) (d : Fin 512) : EReal := st.main_v35_1 (ix5 j p h t d)

/-- The trip's value rows. -/
def rowsV (t : Fin 128) (d : Fin 512) : EReal := st.main_v35_2 (ix5 j p h t d)

/-- The carried state matrix. -/
def matIn (d e : Fin 512) : EReal := st.main_v35_7 (ix4 p h d e)

/-- The carried normalizer row. -/
def normIn (d : Fin 512) : EReal := st.main_v35_8 (ix3 p h d)

theorem q_at (t : Fin 128) (d : Fin 512) : b5 j.val st (ix4 p h t d) = rowsQ j st p h t d := chunk5 _ j p h t d
theorem k_at (t : Fin 128) (d : Fin 512) : b11 j.val st (ix4 p h t d) = rowsK j st p h t d := chunk5 _ j p h t d
theorem v_at (t : Fin 128) (d : Fin 512) : b17 j.val st (ix4 p h t d) = rowsV j st p h t d := chunk5 _ j p h t d
theorem i_at (t : Fin 128) : b22 j.val st (ix3 p h t) = gatesIn j st p h t := chunk4 _ j p h t
theorem f_at (t : Fin 128) : b27 j.val st (ix3 p h t) = st.main_v35_4 (ix4 j p h t) := chunk4 _ j p h t

theorem b_at (t : Fin 128) : b30 j.val st (ix3 p h t) = sums j st p h t := by
  unfold b30
  rw [window_sum _ _ (by pointwise [b29, b28])]
  simp only [f_at]
  rfl

/-- The mask the reference selects by is the order of the rows. -/
theorem mask_at (t s : Fin 128) (x y : EReal) :
    Scalar.select (K_main_v18 (F := Ideal) (ix2 t s)) x y = if s.val ≤ t.val then x else y := by
  have hs := s.isLt
  have ht := t.isLt
  have e : K_main_v18 (F := Ideal) (ix2 t s) = BitVec.ofBool (s.val ≤ t.val) := by
    have hcmp : K_main_call0_v4 (F := Ideal) (ix2 t s) = BitVec.ofBool (s.val ≤ t.val) := by
      refine Eq.trans ?_ (Chunk.sle_eq s t)
      show BitVec.ofBool ((BitVec.ofNat 32 s.val).sle (BitVec.ofNat 32 t.val + 0#32)) = _
      rw [BitVec.add_zero]
      rfl
    show Scalar.select (K_main_call0_v4 (F := Ideal) (ix2 t s)) (1#1) (0#1) = _
    rw [hcmp]
    by_cases hle : s.val ≤ t.val
    · rw [decide_eq_true hle]; rfl
    · rw [decide_eq_false hle]; rfl
  rw [e]
  unfold Scalar.select
  by_cases hle : s.val ≤ t.val <;> simp [hle]

theorem dlog_at (t s : Fin 128) :
    b43 j.val st (ix4 p h t s) = Chunk.logWeight (sums j st p h) (gatesIn j st p h) t s := by
  pointwise [b43, b42, b41, b40, b39, b38, b37, b36, b35, b34, b33, b32, b31]
  rw [mask_at, b_at, b_at, i_at]
  rfl

theorem inter_at (t : Fin 128) : b46 j.val st (ix3 p h t) = sums j st p h t + stabIn st p h := by
  pointwise [b46, b45, b44]
  rw [b_at]
  rfl

theorem stab_at (t : Fin 128) :
    b49 j.val st (ix3 p h t) = Chunk.stab (sums j st p h) (gatesIn j st p h) (stabIn st p h) t := by
  pointwise [b49, b48, b47]
  simp only [inter_at, dlog_at]
  rfl

theorem carry_at (t : Fin 128) :
    b55 j.val st (ix3 p h t) = Chunk.carry (sums j st p h) (gatesIn j st p h) (stabIn st p h) t := by
  pointwise [b55, b54]
  rw [inter_at, stab_at]
  rfl

theorem score_at (t s : Fin 128) : b57 j.val st (ix4 p h t s)
    = Chunk.score (sums j st p h) (gatesIn j st p h) (stabIn st p h) (rowsQ j st p h) (rowsK j st p h) t s := by
  pointwise [b57, b56, b53, b52, b51, b50]
  simp only [q_at, k_at, dlog_at, stab_at]
  rfl

theorem num_at (t : Fin 128) (e : Fin 512) : b63 j.val st (ix4 p h t e)
    = Chunk.carry (sums j st p h) (gatesIn j st p h) (stabIn st p h) t * (∑ d, rowsQ j st p h t d * matIn st p h d e)
      + ∑ s, Chunk.score (sums j st p h) (gatesIn j st p h) (stabIn st p h) (rowsQ j st p h) (rowsK j st p h) t s
        * rowsV j st p h s e := by
  pointwise [b63, b62, b61, b60, b59, b58]
  simp only [q_at, v_at, score_at, carry_at]
  rfl

theorem den_at (t : Fin 128) : b72 j.val st (ix3 p h t)
    = max (Chunk.size (Chunk.carry (sums j st p h) (gatesIn j st p h) (stabIn st p h) t
        * (∑ d, rowsQ j st p h t d * normIn st p h d)
      + ∑ s, Chunk.score (sums j st p h) (gatesIn j st p h) (stabIn st p h) (rowsQ j st p h) (rowsK j st p h) t s))
      (Ideal.exp (-Chunk.stab (sums j st p h) (gatesIn j st p h) (stabIn st p h) t)) := by
  pointwise [b72, b71, b70, b69, b68, b67, b66, b65, b64]
  simp only [q_at, score_at, carry_at, stab_at]
  rfl

/-- The trip's output rows. -/
theorem row_at (t : Fin 128) (e : Fin 512) : b75 j.val st (ix4 p h t e)
    = Chunk.row (sums j st p h) (gatesIn j st p h) (stabIn st p h) (rowsQ j st p h) (rowsK j st p h) (rowsV j st p h)
      (matIn st p h) (normIn st p h) t e := by
  pointwise [b75, b74, b73]
  rw [num_at, den_at]
  rfl

/-- The trip's next stabilizer. -/
theorem nextM_at : b77 j.val st (ix2 p h) = Chunk.nextM (sums j st p h) (gatesIn j st p h) (stabIn st p h) := by
  pointwise [b77, b76]
  exact stab_at j st p h 127

theorem keep_at : b82 j.val st (ix2 p h) = Chunk.keep (sums j st p h) (gatesIn j st p h) (stabIn st p h) := by
  pointwise [b82, b81, b80, b79, b78]
  rw [b_at, nextM_at]
  rfl

theorem gain_at (s : Fin 128) :
    b90 j.val st (ix3 p h s) = Chunk.gain (sums j st p h) (gatesIn j st p h) (stabIn st p h) s := by
  pointwise [b90, b89, b88, b87, b86, b85, b84, b83]
  rw [b_at, b_at, i_at, nextM_at]
  rfl

/-- The trip's next state matrix. -/
theorem nextC_at (d e : Fin 512) : b98 j.val st (ix4 p h d e)
    = Chunk.nextC (sums j st p h) (gatesIn j st p h) (stabIn st p h) (rowsK j st p h) (rowsV j st p h) (matIn st p h) d e := by
  pointwise [b98, b97, b96, b95, b94, b93, b92, b91]
  simp only [keep_at, gain_at, k_at, v_at]
  rfl

/-- The trip's next normalizer row. -/
theorem nextN_at (d : Fin 512) : b103 j.val st (ix3 p h d)
    = Chunk.nextN (sums j st p h) (gatesIn j st p h) (stabIn st p h) (rowsK j st p h) (normIn st p h) d := by
  pointwise [b103, b102, b101, b100, b99]
  simp only [keep_at, gain_at, k_at]
  rfl

/-! ## The rows a trip stores -/

/-- Storing a chunk leaves the chunk where it was stored. -/
theorem stored_at (t : Fin 128) (e : Fin 512) : b109 j.val st (ix5 j p h t e) = b75 j.val st (ix4 p h t e) := by
  unfold b109 b105 b106 b107 b108
  rw [WordCmp.dynamicUpdateSlice_eq_update _ _ _ _ _ (fits5 j) (start5 j)]
  refine (dif_pos ?_).trans ?_
  · intro a
    have hp := p.isLt
    have hh := h.isLt
    have ht := t.isLt
    have he := e.isLt
    match a with
    | ⟨0, _⟩ => show j.val ≤ j.val ∧ j.val < j.val + 1; omega
    | ⟨1, _⟩ => show 0 ≤ p.val ∧ p.val < 0 + 8; omega
    | ⟨2, _⟩ => show 0 ≤ h.val ∧ h.val < 0 + 4; omega
    | ⟨3, _⟩ => show 0 ≤ t.val ∧ t.val < 0 + 128; omega
    | ⟨4, _⟩ => show 0 ≤ e.val ∧ e.val < 0 + 512; omega
  · unfold b104
    refine congrArg (b75 j.val st) (funext fun a => Fin.ext ?_)
    match a with
    | ⟨0, _⟩ => rfl
    | ⟨1, _⟩ => rfl
    | ⟨2, _⟩ => rfl
    | ⟨3, _⟩ => rfl

/-- Storing a chunk leaves the other chunks. -/
theorem kept_at (i : Fin 16) (hi : i ≠ j) (t : Fin 128) (e : Fin 512) :
    b109 j.val st (ix5 i p h t e) = st.main_v35_10 (ix5 i p h t e) := by
  unfold b109 b105 b106 b107 b108
  rw [WordCmp.dynamicUpdateSlice_eq_update _ _ _ _ _ (fits5 j) (start5 j)]
  refine dif_neg fun hall => hi (Fin.ext ?_)
  have h0 : j.val ≤ i.val ∧ i.val < j.val + 1 := hall 0
  omega

end Cert.Proof.Trip

end
-- ==== Proof.Turn.lean ====
/-
  One chunk, both ways: when the blocks a point loads hold what a trip slices for one batch row (`Loads`) and the carried
  state is that row's (`Carries`), the kernel's step of each head is the reference's.
-/
module

public import proofs.«01_k».proof.Proof.HeadAt
public import proofs.«01_k».proof.Proof.TripAt

@[expose] public section

noncomputable section

namespace Cert.Proof.Turn

open Idealize.ShloMosaic Idealize.ShloMosaic.TcCoe
open Cert.KernelIdeal (S128x2048 S128x128 S8x128 S1x2048 S4x512x512 S4x512 S1x128)
open Cert.Proof.Chunk Cert.Proof.Head
open Cert.ReferenceIdeal.Step (State b75 b77 b98 b103)

variable (j : Fin 16) (st : State Ideal) (p : Fin 8)
variable (x0 x1 x2 x3 : Vec Ideal S128x2048 .f32) (x4 : Vec Ideal S128x128 .f32) (x5 : Vec Ideal S8x128 .f32)
  (x6 : Vec Ideal S1x2048 .f32) (X0 : Vec Ideal S4x512x512 .f32) (X1 : Vec Ideal S4x512 .f32) (X2 : Vec Ideal S1x128 .f32)

/-- The blocks of a point hold the rows and the gates that trip `j` slices for batch row `p`. -/
structure Loads : Prop where
  q : ∀ (h : Fin 4) r d, x0 (ix2 r (colOf h d)) = Trip.rowsQ j st p h r d
  k : ∀ (h : Fin 4) r d, x1 (ix2 r (colOf h d)) = Trip.rowsK j st p h r d
  v : ∀ (h : Fin 4) r d, x2 (ix2 r (colOf h d)) = Trip.rowsV j st p h r d
  gateCol : ∀ (h : Fin 4) r, x4 (ix2 r ⟨h.val, by omega⟩) = Trip.gatesIn j st p h r
  forgetCol : ∀ (h : Fin 4) r, logForget (x4 (ix2 r ⟨h.val + 4, by omega⟩)) = st.main_v35_4 (ix4 j p h r)
  gateRow : ∀ (h : Fin 4) r, x5 (ix2 ⟨h.val, by omega⟩ r) = Trip.gatesIn j st p h r
  forgetRow : ∀ (h : Fin 4) r, logForget (x5 (ix2 ⟨h.val + 4, by omega⟩ r)) = st.main_v35_4 (ix4 j p h r)

/-- The carried state is batch row `p`'s; the stabilizers' lanes beyond the heads hold zero. -/
structure Carries : Prop where
  mat : ∀ (h : Fin 4) d e, X0 (ix3 h d e) = st.main_v35_7 (ix4 p h d e)
  norm : ∀ (h : Fin 4) d, X1 (ix2 h d) = st.main_v35_8 (ix3 p h d)
  stab : ∀ e : Fin 128, X2 (ix2 0 e)
    = if he : e.val < 4 then st.main_v35_9 (ix2 p ⟨e.val, he⟩) else (FloatOps.sitofp .f32 0#32 : Ideal .f32)

variable {j st p x0 x1 x2 x4 x5 X0 X1 X2} (L : Loads j st p x0 x1 x2 x4 x5) (S : Carries st p X0 X1 X2) (h : Fin 4)

include L in
/-- The running sums, as a column. -/
theorem sumsCol (t : Fin 128) : bcH x4 h (ix2 t 0) = Trip.sums j st p h t := by
  rw [bcH_at]
  exact congrArg (fun f => runSum f t) (funext fun s => L.forgetCol h s)

include L in
/-- The running sums, as a row. -/
theorem sumsRow (t : Fin 128) : brH x5 h (ix2 0 t) = Trip.sums j st p h t := by
  rw [brH_at]
  exact congrArg (fun f => runSum f t) (funext fun s => L.forgetRow h s)

include S in
/-- The carried stabilizer. -/
theorem stabIn : mH X2 h (ix2 0 0) = Trip.stabIn st p h :=
  (mH_at X2 h).trans ((S.stab _).trans (dif_pos h.isLt))

include L S in
/-- The next state matrix. -/
theorem mat_next (d e : Fin 512) : stepC x1 x2 x4 x5 X0 X2 h (ix3 0 d e) = b98 j.val st (ix4 p h d e) := by
  refine (newC_at (sumsCol L h) (sumsRow L h) (fun s => (irH_at x5 h s).trans (L.gateRow h s)) (stabIn S h)
    (fun t => (icH_at x4 h t).trans (L.gateCol h t)) _ _ _ d e).trans ?_
  rw [Trip.nextC_at]
  congr 1 <;> funext a b
  · exact (colsH_at x1 h a b).trans (L.k h a b)
  · exact (colsH_at x2 h a b).trans (L.v h a b)
  · exact (cH_at X0 h a b).trans (S.mat h a b)

include L S in
/-- The next normalizer row. -/
theorem norm_next (d : Fin 512) : stepN x1 x4 x5 X1 X2 h (ix2 0 d) = b103 j.val st (ix3 p h d) := by
  refine (newN_at (sumsCol L h) (sumsRow L h) (fun s => (irH_at x5 h s).trans (L.gateRow h s)) (stabIn S h)
    _ _ d).trans ?_
  rw [Trip.nextN_at]
  congr 1
  · funext a b
    exact (colsH_at x1 h a b).trans (L.k h a b)
  · funext a
    exact (nH_at X1 h a).trans (S.norm h a)

include L S in
/-- The next stabilizer. -/
theorem stab_next : stepM x4 x5 X2 h (ix2 0 0) = b77 j.val st (ix2 p h) :=
  (newM_at (sumsCol L h) (sumsRow L h) (fun s => (irH_at x5 h s).trans (L.gateRow h s)) (stabIn S h)).trans
    (Trip.nextM_at j st p h).symm

include L S in
/-- The output rows. -/
theorem out_next (t : Fin 128) (e : Fin 512) : stepO x0 x1 x2 x3 x4 x5 x6 X0 X1 X2 h (ix2 t e)
    = normed (fun e => b75 j.val st (ix4 p h t e)) (x3 (ix2 t (colOf h e))) (x6 (ix2 0 (colOf h e))) e := by
  refine (out_at (sumsCol L h) (sumsRow L h) (fun s => (irH_at x5 h s).trans (L.gateRow h s)) (stabIn S h)
    _ _ _ _ _ _ _ t e).trans ?_
  rw [colsH_at x3, gH_at]
  refine congrArg (fun f => normed f _ _ e) (funext fun e' => ?_)
  rw [Trip.row_at]
  congr 1
  · funext a b
    exact (colsH_at x0 h a b).trans (L.q h a b)
  · funext a b
    exact (colsH_at x1 h a b).trans (L.k h a b)
  · funext a b
    exact (colsH_at x2 h a b).trans (L.v h a b)
  · funext a b
    exact (cH_at X0 h a b).trans (S.mat h a b)
  · funext a
    exact (nH_at X1 h a).trans (S.norm h a)

end Cert.Proof.Turn

end
-- ==== Proof.Inputs.lean ====
/-
  The kernel's input blocks at an index: what each point reads of the arguments, through the flattening, padding and
  transposing that come before the call. Point `t` is chunk `t % 16` of batch row `t / 16`.
-/
module

public import proofs.«01_k».proof.Proof.Gen.KernelIdeal.Value
public import proofs.«01_k».proof.Proof.Chunk

@[expose] public section

set_option maxRecDepth 16384

noncomputable section

namespace Cert.Proof.Inputs

open Cert.KernelIdeal Cert.KernelIdeal.Gen Cert.Proof.Chunk
open Idealize.ShloMosaic Idealize.ShloMosaic.TcCoe Idealize.SL.Sem

variable {F : FTy → Type} [FloatOps F] (m : (ℓ : Loc nD τ sig) → Buf (Elt F) ℓ) (c : Dev nD)

/-! ## The windowed arrays, of the arguments -/

theorem V_v1 : V m c main_v1
    = shapeCast S16384x2048 (m ((c.tc : Thread nD τ).loc main_arg0)) shapeCasts_S8x2048x4x512_S16384x2048 := rfl
theorem V_v2 : V m c main_v2
    = shapeCast S16384x2048 (m ((c.tc : Thread nD τ).loc main_arg1)) shapeCasts_S8x2048x4x512_S16384x2048 := rfl
theorem V_v3 : V m c main_v3
    = shapeCast S16384x2048 (m ((c.tc : Thread nD τ).loc main_arg2)) shapeCasts_S8x2048x4x512_S16384x2048 := rfl
theorem V_v4 : V m c main_v4
    = shapeCast S16384x2048 (m ((c.tc : Thread nD τ).loc main_arg3)) shapeCasts_S8x2048x2048_S16384x2048 := rfl
theorem V_v5 : V m c main_v5 = pad S16384x128 ![0, 0] ![0, 120] ![0, 0]
    (shapeCast S16384x8 (m ((c.tc : Thread nD τ).loc main_arg4)) shapeCasts_S8x2048x8_S16384x8)
    (sitofp .f32 (constantI S_ 32 0#32)) pads_S16384x8_S16384x128_000_01200 h_S_ := rfl
theorem V_v6 : V m c main_v6 = transpose S8x16384 [1, 0]
    (shapeCast S16384x8 (m ((c.tc : Thread nD τ).loc main_arg4)) shapeCasts_S8x2048x8_S16384x8)
    transposes_S16384x8_S8x16384_1_0 := rfl
theorem V_v9 : V m c main_v9
    = shapeCast S1x2048 (m ((c.tc : Thread nD τ).loc main_arg5)) shapeCasts_S2048_S1x2048 := rfl
theorem V_v8 : V m c main_v8 = shapeCast S8x1x128 (pad S8x128 ![0, 0] ![0, 124] ![0, 0]
    (m ((c.tc : Thread nD τ).loc main_arg8)) (sitofp .f32 (constantI S_ 32 0#32)) pads_S8x4_S8x128_000_01240 h_S_)
    shapeCasts_S8x128_S8x1x128 := rfl

/-! ## Where a point's block lies -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![0, t.val] :=
  (by decide +kernel : ∀ t : Fin grid0.N, win0_5.index t = ![0, t.val])
theorem idx6 : ∀ t : Fin cfg0.N, win0_6.index t = ![0, 0] :=
  (by decide +kernel : ∀ t : Fin grid0.N, win0_6.index t = ![0, 0])
theorem idx7 : ∀ t : Fin cfg0.N, win0_7.index t = ![t.val / 16, 0, 0, 0] :=
  (by decide +kernel : ∀ t : Fin grid0.N, win0_7.index t = ![t.val / 16, 0, 0, 0])
theorem idx8 : ∀ t : Fin cfg0.N, win0_8.index t = ![t.val / 16, 0, 0] :=
  (by decide +kernel : ∀ t : Fin grid0.N, win0_8.index t = ![t.val / 16, 0, 0])
theorem idx9 : ∀ t : Fin cfg0.N, win0_9.index t = ![t.val / 16, 0, 0] :=
  (by decide +kernel : ∀ t : Fin grid0.N, win0_9.index t = ![t.val / 16, 0, 0])

/-! ## A point's block, at an index -/

variable (p : Fin 8) (j : Fin 16)

/-- The point of chunk `j` of batch row `p`. -/
def point : Fin cfg0.N := ⟨16 * p.val + j.val, by show _ < 128; omega⟩

/-- Flattening four axes to two, read at a head's column. -/
theorem flat4 {α : Type} (x : S8x2048x4x512.Idx → α) (h : Fin 4) (r : Fin 128) (d : Fin 512) :
    shapeCast S16384x2048 x shapeCasts_S8x2048x4x512_S16384x2048 (ix2 (flatOf p j r) (colOf h d))
      = x (ix4 p (rowOf j r) h d) := by
  have hp := p.isLt
  have hj := j.isLt
  have hr := r.isLt
  have hd := d.isLt
  have e0 : (128 * (16 * p.val + j.val) + r.val) / 2048 = p.val := by omega
  have e1 : (128 * (16 * p.val + j.val) + r.val) % 2048 = 128 * j.val + r.val := by omega
  have e2 : (512 * h.val + d.val) / 512 = h.val := by omega
  have e3 : (512 * h.val + d.val) % 512 = d.val := by omega
  pointwise
  refine congrArg x ?_
  simp only [flatOf, rowOf, colOf, e0, e1, e2, e3]

/-- Flattening the two leading axes of three, read at a row. -/
theorem flat3 {α : Type} (x : S8x2048x2048.Idx → α) (r : Fin 128) (e : Fin 2048) :
    shapeCast S16384x2048 x shapeCasts_S8x2048x2048_S16384x2048 (ix2 (flatOf p j r) e) = x (ix3 p (rowOf j r) e) := by
  have hp := p.isLt
  have hj := j.isLt
  have hr := r.isLt
  have e0 : (128 * (16 * p.val + j.val) + r.val) / 2048 = p.val := by omega
  have e1 : (128 * (16 * p.val + j.val) + r.val) % 2048 = 128 * j.val + r.val := by omega
  pointwise
  refine congrArg x ?_
  simp only [flatOf, rowOf, e0, e1]

/-- The same for the gates' eight columns. -/
theorem flat8 {α : Type} (x : S8x2048x8.Idx → α) (r : Fin 128) (e : Fin 8) :
    shapeCast S16384x8 x shapeCasts_S8x2048x8_S16384x8 (ix2 (flatOf p j r) e) = x (ix3 p (rowOf j r) e) := by
  have hp := p.isLt
  have hj := j.isLt
  have hr := r.isLt
  have e0 : (128 * (16 * p.val + j.val) + r.val) / 2048 = p.val := by omega
  have e1 : (128 * (16 * p.val + j.val) + r.val) % 2048 = 128 * j.val + r.val := by omega
  pointwise
  refine congrArg x ?_
  simp only [flatOf, rowOf, e0, e1]

/-- The q block. -/
theorem block0 (h : Fin 4) (r : Fin 128) (d : Fin 512) : iblk m c 0 (point p j) (ix2 r (colOf h d))
    = m ((c.tc : Thread nD τ).loc main_arg0) (ix4 p (rowOf j r) h d) := by
  refine Eq.trans ?_ (flat4 p j _ h r d)
  unfold iblk
  rw [View.read_apply]
  refine Eq.trans ?_ (congrFun (V_v1 m c) _)
  refine congrArg (V m c main_v1) (funext fun a => Fin.ext ?_)
  match a with
  | ⟨0, _⟩ =>
    show win0_0.index (point p j) 0 * 128 + 1 * r.val = 128 * (16 * p.val + j.val) + r.val
    rw [idx0]
    show (16 * p.val + j.val) * 128 + 1 * r.val = _
    omega
  | ⟨1, _⟩ =>
    show win0_0.index (point p j) 1 * 2048 + 1 * (colOf h d).val = (colOf h d).val
    rw [idx0]
    show 0 * 2048 + 1 * _ = _
    omega

/-- The k block. -/
theorem block1 (h : Fin 4) (r : Fin 128) (d : Fin 512) : iblk m c 1 (point p j) (ix2 r (colOf h d))
    = m ((c.tc : Thread nD τ).loc main_arg1) (ix4 p (rowOf j r) h d) := by
  refine Eq.trans ?_ (flat4 p j _ h r d)
  unfold iblk
  rw [View.read_apply]
  refine Eq.trans ?_ (congrFun (V_v2 m c) _)
  refine congrArg (V m c main_v2) (funext fun a => Fin.ext ?_)
  match a with
  | ⟨0, _⟩ =>
    show win0_1.index (point p j) 0 * 128 + 1 * r.val = 128 * (16 * p.val + j.val) + r.val
    rw [idx1]
    show (16 * p.val + j.val) * 128 + 1 * r.val = _
    omega
  | ⟨1, _⟩ =>
    show win0_1.index (point p j) 1 * 2048 + 1 * (colOf h d).val = (colOf h d).val
    rw [idx1]
    show 0 * 2048 + 1 * _ = _
    omega

/-- The v block. -/
theorem block2 (h : Fin 4) (r : Fin 128) (d : Fin 512) : iblk m c 2 (point p j) (ix2 r (colOf h d))
    = m ((c.tc : Thread nD τ).loc main_arg2) (ix4 p (rowOf j r) h d) := by
  refine Eq.trans ?_ (flat4 p j _ h r d)
  unfold iblk
  rw [View.read_apply]
  refine Eq.trans ?_ (congrFun (V_v3 m c) _)
  refine congrArg (V m c main_v3) (funext fun a => Fin.ext ?_)
  match a with
  | ⟨0, _⟩ =>
    show win0_2.index (point p j) 0 * 128 + 1 * r.val = 128 * (16 * p.val + j.val) + r.val
    rw [idx2]
    show (16 * p.val + j.val) * 128 + 1 * r.val = _
    omega
  | ⟨1, _⟩ =>
    show win0_2.index (point p j) 1 * 2048 + 1 * (colOf h d).val = (colOf h d).val
    rw [idx2]
    show 0 * 2048 + 1 * _ = _
    omega

/-- Four lanes padded to 128 with zeros, at a lane. -/
theorem padded (x : FVec F S8x4 .f32) (e : Fin 128) :
    shapeCast S8x1x128 (pad S8x128 ![0, 0] ![0, 124] ![0, 0] x (sitofp .f32 (constantI S_ 32 0#32))
      pads_S8x4_S8x128_000_01240 h_S_) shapeCasts_S8x128_S8x1x128 (ix3 p 0 e)
      = if he : e.val < 4 then x (ix2 p ⟨e.val, he⟩) else FloatOps.sitofp .f32 0#32 := by
  pointwise

/-- The output gate block. -/
theorem block3 (r : Fin 128) (e : Fin 2048) : iblk m c 3 (point p j) (ix2 r e)
    = m ((c.tc : Thread nD τ).loc main_arg3) (ix3 p (rowOf j r) e) := by
  refine Eq.trans (b := V m c main_v4 (ix2 (flatOf p j r) e)) ?_ ?_
  · unfold iblk
    rw [View.read_apply]
    refine congrArg (V m c main_v4) (funext fun a => Fin.ext ?_)
    match a with
    | ⟨0, _⟩ =>
      show win0_3.index (point p j) 0 * 128 + 1 * (r.val) = 128 * (16 * p.val + j.val) + r.val
      rw [idx3]
      show (16 * p.val + j.val) * 128 + 1 * _ = _
      omega
    | ⟨1, _⟩ =>
      show win0_3.index (point p j) 1 * 2048 + 1 * (e.val) = e.val
      rw [idx3]
      show 0 * 2048 + 1 * _ = _
      omega
  · rw [V_v4]
    exact flat3 p j _ r e

/-- The gates block, in its first eight lanes. -/
theorem block4 (r : Fin 128) (e : Fin 8) : iblk m c 4 (point p j) (ix2 r ⟨e.val, by omega⟩)
    = m ((c.tc : Thread nD τ).loc main_arg4) (ix3 p (rowOf j r) e) := by
  refine Eq.trans (b := V m c main_v5 (ix2 (flatOf p j r) ⟨e.val, by omega⟩)) ?_ ?_
  · unfold iblk
    rw [View.read_apply]
    refine congrArg (V m c main_v5) (funext fun a => Fin.ext ?_)
    match a with
    | ⟨0, _⟩ =>
      show win0_4.index (point p j) 0 * 128 + 1 * (r.val) = 128 * (16 * p.val + j.val) + r.val
      rw [idx4]
      show (16 * p.val + j.val) * 128 + 1 * _ = _
      omega
    | ⟨1, _⟩ =>
      show win0_4.index (point p j) 1 * 128 + 1 * (e.val) = e.val
      rw [idx4]
      show 0 * 128 + 1 * _ = _
      omega
  · have he := e.isLt
    rw [V_v5]
    refine Eq.trans ?_ (flat8 p j _ r e)
    generalize shapeCast S16384x8 _ _ = x
    generalize flatOf p j r = f
    pointwise

/-- The transposed gates block. -/
theorem block5 (e : Fin 8) (r : Fin 128) : iblk m c 5 (point p j) (ix2 e r)
    = m ((c.tc : Thread nD τ).loc main_arg4) (ix3 p (rowOf j r) e) := by
  refine Eq.trans (b := V m c main_v6 (ix2 e (flatOf p j r))) ?_ ?_
  · unfold iblk
    rw [View.read_apply]
    refine congrArg (V m c main_v6) (funext fun a => Fin.ext ?_)
    match a with
    | ⟨0, _⟩ =>
      show win0_5.index (point p j) 0 * 8 + 1 * (e.val) = e.val
      rw [idx5]
      show 0 * 8 + 1 * _ = _
      omega
    | ⟨1, _⟩ =>
      show win0_5.index (point p j) 1 * 128 + 1 * (r.val) = 128 * (16 * p.val + j.val) + r.val
      rw [idx5]
      show (16 * p.val + j.val) * 128 + 1 * _ = _
      omega
  · rw [V_v6]
    refine Eq.trans ?_ (flat8 p j _ r e)
    generalize shapeCast S16384x8 _ _ = x
    generalize flatOf p j r = f
    pointwise

/-- The head norm's row. -/
theorem block6 (e : Fin 2048) : iblk m c 6 (point p j) (ix2 0 e)
    = m ((c.tc : Thread nD τ).loc main_arg5) (ix1 e) := by
  refine Eq.trans (b := V m c main_v9 (ix2 0 e)) ?_ ?_
  · unfold iblk
    rw [View.read_apply]
    refine congrArg (V m c main_v9) (funext fun a => Fin.ext ?_)
    match a with
    | ⟨0, _⟩ =>
      show win0_6.index (point p j) 0 * 1 + 1 * (0) = 0
      rw [idx6]
      show 0 * 1 + 1 * _ = _
      omega
    | ⟨1, _⟩ =>
      show win0_6.index (point p j) 1 * 2048 + 1 * (e.val) = e.val
      rw [idx6]
      show 0 * 2048 + 1 * _ = _
      omega
  · rw [V_v9]
    pointwise

/-- The given state matrices. -/
theorem block7 (h : Fin 4) (d e : Fin 512) : iblk m c 7 (point p j) (ix4 0 h d e)
    = m ((c.tc : Thread nD τ).loc main_arg6) (ix4 p h d e) := by
  refine Eq.trans (b := V m c main_arg6 (ix4 p h d e)) ?_ ?_
  · unfold iblk
    rw [View.read_apply]
    refine congrArg (V m c main_arg6) (funext fun a => Fin.ext ?_)
    match a with
    | ⟨0, _⟩ =>
      show win0_7.index (point p j) 0 * 1 + 1 * (0) = p.val
      rw [idx7]
      show ((16 * p.val + j.val) / 16) * 1 + 1 * _ = _
      omega
    | ⟨1, _⟩ =>
      show win0_7.index (point p j) 1 * 4 + 1 * (h.val) = h.val
      rw [idx7]
      show 0 * 4 + 1 * _ = _
      omega
    | ⟨2, _⟩ =>
      show win0_7.index (point p j) 2 * 512 + 1 * (d.val) = d.val
      rw [idx7]
      show 0 * 512 + 1 * _ = _
      omega
    | ⟨3, _⟩ =>
      show win0_7.index (point p j) 3 * 512 + 1 * (e.val) = e.val
      rw [idx7]
      show 0 * 512 + 1 * _ = _
      omega
  · rfl

/-- The given normalizer rows. -/
theorem block8 (h : Fin 4) (d : Fin 512) : iblk m c 8 (point p j) (ix3 0 h d)
    = m ((c.tc : Thread nD τ).loc main_arg7) (ix3 p h d) := by
  refine Eq.trans (b := V m c main_arg7 (ix3 p h d)) ?_ ?_
  · unfold iblk
    rw [View.read_apply]
    refine congrArg (V m c main_arg7) (funext fun a => Fin.ext ?_)
    match a with
    | ⟨0, _⟩ =>
      show win0_8.index (point p j) 0 * 1 + 1 * (0) = p.val
      rw [idx8]
      show ((16 * p.val + j.val) / 16) * 1 + 1 * _ = _
      omega
    | ⟨1, _⟩ =>
      show win0_8.index (point p j) 1 * 4 + 1 * (h.val) = h.val
      rw [idx8]
      show 0 * 4 + 1 * _ = _
      omega
    | ⟨2, _⟩ =>
      show win0_8.index (point p j) 2 * 512 + 1 * (d.val) = d.val
      rw [idx8]
      show 0 * 512 + 1 * _ = _
      omega
  · rfl

/-- The given stabilizers, padded. -/
theorem block9 (e : Fin 128) : iblk m c 9 (point p j) (ix3 0 0 e)
    = if he : e.val < 4 then m ((c.tc : Thread nD τ).loc main_arg8) (ix2 p ⟨e.val, he⟩) else FloatOps.sitofp .f32 0#32 := by
  refine Eq.trans (b := V m c main_v8 (ix3 p 0 e)) ?_ ?_
  · unfold iblk
    rw [View.read_apply]
    refine congrArg (V m c main_v8) (funext fun a => Fin.ext ?_)
    match a with
    | ⟨0, _⟩ =>
      show win0_9.index (point p j) 0 * 1 + 1 * (0) = p.val
      rw [idx9]
      show ((16 * p.val + j.val) / 16) * 1 + 1 * _ = _
      omega
    | ⟨1, _⟩ =>
      show win0_9.index (point p j) 1 * 1 + 1 * (0) = 0
      rw [idx9]
      show 0 * 1 + 1 * _ = _
      omega
    | ⟨2, _⟩ =>
      show win0_9.index (point p j) 2 * 128 + 1 * (e.val) = e.val
      rw [idx9]
      show 0 * 128 + 1 * _ = _
      omega
  · rw [V_v8]
    exact padded p _ e

end Cert.Proof.Inputs

end
-- ==== Proof.RefRun.lean ====
/-
  The reference's run, stated over one trip's step (`Step.lean`): the valuation before trip `k` holds state `k` of any
  sequence that starts at `init` and goes on by `step` (`Holds`, `holds_trip`), so every result is a function of state 16
  (`run_states`).
-/
module

public import proofs.«01_k».proof.Proof.Gen.ReferenceIdeal.Run
public import proofs.«01_k».proof.Proof.Gen.ReferenceIdeal.Step

@[expose] public section

set_option maxRecDepth 8192

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F] (V0 : Valuation τ sig (Elt F)) (s : State F) (j : ℕ)

/-- The valuation's carried buffers are the state's fields, its counter is the trip's number, and its mask is the
    lower triangle. -/
structure Holds : Prop where
  stC : V0 (Proc.devRef .tc main_v35_7) = s.main_v35_7
  stN : V0 (Proc.devRef .tc main_v35_8) = s.main_v35_8
  stM : V0 (Proc.devRef .tc main_v35_9) = s.main_v35_9
  stH : V0 (Proc.devRef .tc main_v35_10) = s.main_v35_10
  inQ : V0 (Proc.devRef .tc main_v35_0) = s.main_v35_0
  inK : V0 (Proc.devRef .tc main_v35_1) = s.main_v35_1
  inV : V0 (Proc.devRef .tc main_v35_2) = s.main_v35_2
  inI : V0 (Proc.devRef .tc main_v35_3) = s.main_v35_3
  inF : V0 (Proc.devRef .tc main_v35_4) = s.main_v35_4
  cnt : V0 (Proc.devRef .tc main_v35_6) = constantI S_ 32 (BitVec.ofNat 32 j)
  msk : V0 (Proc.devRef .tc main_v35_5) = K_main_v18 (F := F)

variable {V0 s j}

/-! The run's named values of a trip are the step's. -/

theorem q_eq (h : Holds V0 s j) : res_main_while0b_v72 V0 = b5 j s := by
  unfold res_main_while0b_v72; rw [h.inQ, h.cnt]; rfl
theorem k_eq (h : Holds V0 s j) : res_main_while0b_v73 V0 = b11 j s := by
  unfold res_main_while0b_v73; rw [h.inK, h.cnt]; rfl
theorem v_eq (h : Holds V0 s j) : res_main_while0b_v74 V0 = b17 j s := by
  unfold res_main_while0b_v74; rw [h.inV, h.cnt]; rfl
theorem i_eq (h : Holds V0 s j) : res_main_while0b_v75 V0 = b22 j s := by
  unfold res_main_while0b_v75; rw [h.inI, h.cnt]; rfl
theorem b_eq (h : Holds V0 s j) : res_main_while0b_v77 V0 = b30 j s := by
  unfold res_main_while0b_v77; rw [h.inF, h.cnt]; rfl
theorem dlog_eq (h : Holds V0 s j) : res_main_while0b_v86 V0 = b43 j s := by
  unfold res_main_while0b_v86; rw [b_eq h, i_eq h, h.msk]; rfl
theorem inter_eq (h : Holds V0 s j) : res_main_while0b_v89 V0 = b46 j s := by
  unfold res_main_while0b_v89; rw [b_eq h, h.stM]; rfl
theorem mt_eq (h : Holds V0 s j) : res_main_while0b_v91 V0 = b49 j s := by
  unfold res_main_while0b_v91; rw [inter_eq h, dlog_eq h]; rfl
theorem winter_eq (h : Holds V0 s j) : res_main_while0b_v97 V0 = b55 j s := by
  unfold res_main_while0b_v97; rw [inter_eq h, mt_eq h]; rfl
theorem qk_eq (h : Holds V0 s j) : res_main_while0b_v99 V0 = b57 j s := by
  unfold res_main_while0b_v99; rw [q_eq h, k_eq h, dlog_eq h, mt_eq h]; rfl
theorem mnew_eq (h : Holds V0 s j) : res_main_while0b_v118 V0 = b77 j s := by
  unfold res_main_while0b_v118; rw [mt_eq h]; rfl
theorem wstate_eq (h : Holds V0 s j) : res_main_while0b_v123 V0 = b82 j s := by
  unfold res_main_while0b_v123; rw [b_eq h, mnew_eq h, h.stM]; rfl
theorem wrows_eq (h : Holds V0 s j) : res_main_while0b_v131 V0 = b90 j s := by
  unfold res_main_while0b_v131; rw [b_eq h, i_eq h, mnew_eq h]; rfl

/-! One trip's new carried values are the step's fields. -/

theorem newC (h : Holds V0 s j) : Value.step_main_v35_7 V0 = b98 j s := by
  unfold Value.step_main_v35_7; rw [wstate_eq h, k_eq h, wrows_eq h, v_eq h, h.stC]; rfl
theorem newN (h : Holds V0 s j) : Value.step_main_v35_8 V0 = b103 j s := by
  unfold Value.step_main_v35_8; rw [wstate_eq h, k_eq h, wrows_eq h, h.stN]; rfl
theorem newM (h : Holds V0 s j) : Value.step_main_v35_9 V0 = b77 j s := by
  unfold Value.step_main_v35_9; rw [mnew_eq h]; rfl
theorem newH (h : Holds V0 s j) : Value.step_main_v35_10 V0 = b109 j s := by
  unfold Value.step_main_v35_10
  rw [winter_eq h, q_eq h, qk_eq h, v_eq h, mt_eq h, h.stC, h.stN, h.stH, h.cnt]; rfl
theorem newCnt (h : Holds V0 s j) : Value.step_main_v35_6 V0 = constantI S_ 32 (BitVec.ofNat 32 (j + 1)) := by
  unfold Value.step_main_v35_6
  rw [h.cnt]
  funext i
  exact (BitVec.ofNat_add j 1).symm

/-- A trip takes a valuation that holds a state to one that holds the next state. -/
theorem holds_next (h : Holds V0 s j) : Holds (STEP V0) (step j s) (j + 1) where
  stC := (STEP_main_v35_7 V0).trans (newC h)
  stN := (STEP_main_v35_8 V0).trans (newN h)
  stM := (STEP_main_v35_9 V0).trans (newM h)
  stH := (STEP_main_v35_10 V0).trans (newH h)
  inQ := (STEP_main_v35_0 V0).trans h.inQ
  inK := (STEP_main_v35_1 V0).trans h.inK
  inV := (STEP_main_v35_2 V0).trans h.inV
  inI := (STEP_main_v35_3 V0).trans h.inI
  inF := (STEP_main_v35_4 V0).trans h.inF
  cnt := (STEP_main_v35_6 V0).trans (newCnt h)
  msk := (STEP_main_v35_5 V0).trans h.msk

variable (m : (ℓ : Loc nD τ sig) → Buf (Elt F) ℓ) (c : Dev nD)

/-- The state before the first trip, of the arguments. -/
abbrev start : State F :=
  init (m ((c.tc : Thread nD τ).loc main_arg6)) (m ((c.tc : Thread nD τ).loc main_arg7))
    (m ((c.tc : Thread nD τ).loc main_arg8)) (m ((c.tc : Thread nD τ).loc main_arg0))
    (m ((c.tc : Thread nD τ).loc main_arg1)) (m ((c.tc : Thread nD τ).loc main_arg2))
    (m ((c.tc : Thread nD τ).loc main_arg4))

set_option maxRecDepth 65536 in
set_option maxHeartbeats 500000 in
/-- What the host operations before the loop leave is the first state. -/
theorem holds_start : Holds (entryContents preI m c) (start m c) 0 := by
  constructor <;> (simp only [entryContents, afterL_cons, afterL_nil]; after_reads_simp) <;> rfl

/-- State `k` of the run. -/
def states : ℕ → State F
  | 0 => start m c
  | k + 1 => step k (states k)

/-- Before trip `k` the loop's valuation holds state `k`. -/
theorem holds_trip : ∀ k, Holds (STEP^[k] (entryContents preI m c)) (states m c k) k
  | 0 => holds_start m c
  | k + 1 => by
    rw [Function.iterate_succ_apply']
    exact holds_next (holds_trip k)

/-- The results the operations after the loop compute, of the last state. -/
theorem out_y (h : Holds V0 s j) {x3 : (⟨S8x2048x2048, .f32⟩ : BufTy).Contents (Elt F)}
    (h3 : V0 (Proc.devRef .tc main_arg3) = x3) {x5 : (⟨S2048, .f32⟩ : BufTy).Contents (Elt F)}
    (h5 : V0 (Proc.devRef .tc main_arg5) = x5) : out_main_v71 V0 = R_main_v71 s x3 x5 := by
  unfold out_main_v71; rw [h.stH, h3, h5]; rfl
theorem out_m (h : Holds V0 s j) : out_main_v69 V0 = R_main_v69 s := by
  unfold out_main_v69; rw [h.stM]; rfl

/-- The run: every result is read off state 16, and every argument is unchanged. -/
theorem run_states (ρ : Dev nD → PrngReg) :
    θ_run (defs (F := F)) (onTc (τ := τ) (main (F := F))) ⟨m, fun _ => 0, ρ⟩ fun r => ∀ c : Dev nD,
      (r.2.mem ((c.tc : Thread nD τ).loc main_v71) = R_main_v71 (states m c 16)
          (m ((c.tc : Thread nD τ).loc main_arg3)) (m ((c.tc : Thread nD τ).loc main_arg5))
      ∧ r.2.mem ((c.tc : Thread nD τ).loc main_v35_7) = (states m c 16).main_v35_7
      ∧ r.2.mem ((c.tc : Thread nD τ).loc main_v35_8) = (states m c 16).main_v35_8
      ∧ r.2.mem ((c.tc : Thread nD τ).loc main_v69) = R_main_v69 (states m c 16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  have hk := holds_trip m c 16
  obtain ⟨hy, hC, hN, hM, hargs⟩ := h c
  exact ⟨⟨hy.trans (out_y hk (iter_main_arg3 m c 16) (iter_main_arg5 m c 16)), hC.trans hk.stC, hN.trans hk.stN,
    hM.trans (out_m hk)⟩, hargs⟩

end Cert.Proof.RefRun

end
-- ==== Proof.StartAt.lean ====
/-
  What the reference's loop starts from, and what it makes of the last state, at an index over extended reals.
-/
module

public import proofs.«01_k».proof.Proof.RefRun
public import proofs.«01_k».proof.Proof.Chunk

@[expose] public section

set_option maxRecDepth 16384

noncomputable section

namespace Cert.Proof.Start

open Cert.ReferenceIdeal Cert.ReferenceIdeal.Gen Cert.ReferenceIdeal.Step Cert.Proof.Chunk
open Idealize.ShloMosaic Idealize.ShloMosaic.TcCoe Idealize.SL.Sem

variable (p : Fin 8) (j : Fin 16) (h : Fin 4) (r : Fin 128)

/-! ## The chunked inputs -/

/-- Rows cut into chunks, the chunks brought to the front and the heads before the rows, at an index. -/
theorem chunked {α : Type} (x : S8x2048x4x512.Idx → α) (d : Fin 512) :
    transpose S16x8x4x128x512 [0, 1, 3, 2, 4] (transpose S16x8x128x4x512 [1, 0, 2, 3, 4]
      (shapeCast S8x16x128x4x512 x shapeCasts_S8x2048x4x512_S8x16x128x4x512)
      transposes_S8x16x128x4x512_S16x8x128x4x512_1_0_2_3_4) transposes_S16x8x128x4x512_S16x8x4x128x512_0_1_3_2_4
      (ix5 j p h r d) = x (ix4 p (rowOf j r) h d) := by
  have e : rowOf j r = ⟨j.val * 128 + r.val, by omega⟩ := Fin.ext (by show 128 * j.val + r.val = j.val * 128 + r.val; omega)
  rw [e]
  pointwise

/-- The same for gates. -/
theorem chunkedGate {α : Type} (x : S8x2048x4.Idx → α) :
    transpose S16x8x4x128 [0, 1, 3, 2] (transpose S16x8x128x4 [1, 0, 2, 3]
      (shapeCast S8x16x128x4 x shapeCasts_S8x2048x4_S8x16x128x4)
      transposes_S8x16x128x4_S16x8x128x4_1_0_2_3) transposes_S16x8x128x4_S16x8x4x128_0_1_3_2
      (ix4 j p h r) = x (ix3 p (rowOf j r) h) := by
  have e : rowOf j r = ⟨j.val * 128 + r.val, by omega⟩ := Fin.ext (by show 128 * j.val + r.val = j.val * 128 + r.val; omega)
  rw [e]
  pointwise

section Args

variable (a0 a1 a2 : (⟨S8x2048x4x512, .f32⟩ : BufTy).Contents (Elt Ideal)) (a4 : (⟨S8x2048x8, .f32⟩ : BufTy).Contents (Elt Ideal))

theorem q_start (d : Fin 512) : A_main_v21 a0 a1 a2 a4 (ix5 j p h r d) = a0 (ix4 p (rowOf j r) h d) := chunked p j h r a0 d
theorem k_start (d : Fin 512) : A_main_v24 a0 a1 a2 a4 (ix5 j p h r d) = a1 (ix4 p (rowOf j r) h d) := chunked p j h r a1 d
theorem v_start (d : Fin 512) : A_main_v27 a0 a1 a2 a4 (ix5 j p h r d) = a2 (ix4 p (rowOf j r) h d) := chunked p j h r a2 d

theorem i_start : A_main_v30 a0 a1 a2 a4 (ix4 j p h r) = a4 (ix3 p (rowOf j r) ⟨h.val, by omega⟩) := by
  refine (chunkedGate p j h r (A_main_v0 a0 a1 a2 a4)).trans ?_
  generalize rowOf j r = f
  pointwise [A_main_v0]

theorem f_start : A_main_v33 a0 a1 a2 a4 (ix4 j p h r) = logForget (a4 (ix3 p (rowOf j r) ⟨h.val + 4, by omega⟩)) := by
  refine (chunkedGate p j h r (A_main_v16 a0 a1 a2 a4)).trans ?_
  generalize rowOf j r = f
  pointwise [A_main_v16, A_main_v15, A_main_v14, A_main_v13, A_main_v12, A_main_v11, A_main_v10, A_main_v9, A_main_v7, A_main_v6, A_main_v4, A_main_v2, A_main_v1, K_main_v3, K_main_v5, K_main_v8, K_main_cst]
  rw [if_neg (not_not.mpr rfl)]
  have e : (⟨h.val + 4, by omega⟩ : Fin 8) = ⟨4 + h.val, by omega⟩ := Fin.ext (Nat.add_comm _ _)
  rw [e]
  generalize a4 _ = x
  show -(max (-x) 0 + Ideal.log (1 + Ideal.exp (-size (-x)))) = _
  rw [show size (-x) = size x by unfold size; rw [neg_neg, max_comm]]
  rfl

end Args

/-! ## The results -/

/-- The normed and gated output. -/
theorem out_end (st : State Ideal) (a3 : (⟨S8x2048x2048, .f32⟩ : BufTy).Contents (Elt Ideal)) (a5 : (⟨S2048, .f32⟩ : BufTy).Contents (Elt Ideal))
    (d : Fin 512) : R_main_v71 st a3 a5 (ix2 (flatOf p j r) (colOf h d))
      = normed (fun e => st.main_v35_10 (ix5 j p h r e)) (a3 (ix3 p (rowOf j r) (colOf h d))) (a5 (ix1 (colOf h d))) d := by
  unfold R_main_v71
  have hp := p.isLt
  have hj := j.isLt
  have hr := r.isLt
  have hd := d.isLt
  have e0 : (128 * (16 * p.val + j.val) + r.val) / 2048 = p.val := by omega
  have e1 : (128 * (16 * p.val + j.val) + r.val) % 2048 = 128 * j.val + r.val := by omega
  have e2 : (512 * h.val + d.val) / 512 = h.val := by omega
  have e3 : (512 * h.val + d.val) % 512 = d.val := by omega
  have e4 : (128 * j.val + r.val) / 128 = j.val := by omega
  have e5 : (128 * j.val + r.val) % 128 = r.val := by omega
  pointwise
  simp only [flatOf, rowOf, colOf, e0, e1, e2, e3, e4, e5]
  rfl

/-- The padded stabilizers. -/
theorem m_end (st : State Ideal) (e : Fin 128) : R_main_v69 st (ix3 p 0 e)
    = if he : e.val < 4 then st.main_v35_9 (ix2 p ⟨e.val, he⟩) else (FloatOps.sitofp .f32 0#32 : Ideal .f32) := by
  unfold R_main_v69
  pointwise

end Cert.Proof.Start

end
-- ==== Proof.Blocks.lean ====
/-
  How a load of one head's part of the carried scratch reads past the stores of the other heads' parts.
-/
module

public import proofs.«01_k».proof.Proof.Head
public import Idealize.ShloMosaic.Lib.Pointwise

@[expose] public section

noncomputable section

namespace Cert.Proof.Blocks

open Cert.KernelIdeal Cert.KernelIdeal.Gen Cert.Proof.Head
open Idealize.ShloMosaic Idealize.ShloMosaic.TcCoe Idealize.SL.Sem

/-- Zero offsets, of each rank the kernel uses. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz : (![0, 0] : Fin 2 → Nat) = fun _ => 0 := funext fun a => by fin_cases a <;> rfl

variable {F : FTy → Type} [FloatOps F]

/-- A load of one head's part skips a store of another head's: the state matrices, -/
theorem skipC {v : View sig .tc .vmem S4x512x512 .f32} {off size off' size' : Fin 3 → ℕ} {inb inb'}
    (w : (Rect.unit (s := S4x512x512) off size inb).shape.Idx → Elt F .f32) (L : List (View.Piece (Elt F) S4x512x512 .f32))
    (h : off 0 + size 0 ≤ off' 0 ∨ off' 0 + size' 0 ≤ off 0) :
    v.readCov (⟨Rect.unit off size inb, w⟩ :: L) (Rect.unit (s := S4x512x512) off' size' inb').toLoadRect
      = v.readCov L (Rect.unit (s := S4x512x512) off' size' inb').toLoadRect :=
  View.readCov_cons_of_disjoint v _ L _ (Rect.unit_disjoint (inb := inb) (inb' := inb') 0 h)

/-- the normalizer rows, -/
theorem skipN {v : View sig .tc .vmem S4x512 .f32} {off size off' size' : Fin 2 → ℕ} {inb inb'}
    (w : (Rect.unit (s := S4x512) off size inb).shape.Idx → Elt F .f32) (L : List (View.Piece (Elt F) S4x512 .f32))
    (h : off 0 + size 0 ≤ off' 0 ∨ off' 0 + size' 0 ≤ off 0) :
    v.readCov (⟨Rect.unit off size inb, w⟩ :: L) (Rect.unit (s := S4x512) off' size' inb').toLoadRect
      = v.readCov L (Rect.unit (s := S4x512) off' size' inb').toLoadRect :=
  View.readCov_cons_of_disjoint v _ L _ (Rect.unit_disjoint (inb := inb) (inb' := inb') 0 h)

/-- the stabilizers. -/
theorem skipM {v : View sig .tc .vmem S1x128 .f32} {off size off' size' : Fin 2 → ℕ} {inb inb'}
    (w : (Rect.unit (s := S1x128) off size inb).shape.Idx → Elt F .f32) (L : List (View.Piece (Elt F) S1x128 .f32))
    (h : off 1 + size 1 ≤ off' 1 ∨ off' 1 + size' 1 ≤ off 1) :
    v.readCov (⟨Rect.unit off size inb, w⟩ :: L) (Rect.unit (s := S1x128) off' size' inb').toLoadRect
      = v.readCov L (Rect.unit (s := S1x128) off' size' inb').toLoadRect :=
  View.readCov_cons_of_disjoint v _ L _ (Rect.unit_disjoint (inb := inb) (inb' := inb') 1 h)

/-- A load after one store of the whole buffer reads what was stored. -/
theorem ofWhole {S : Shape} {v : View sig .tc .vmem S .f32} {off off' size' : Fin S.rank → ℕ} {inb inb'} (hoff : off = fun _ => 0)
    (w : S.Idx → Elt F .f32) :
    v.readCov [⟨Rect.unit off S.size inb, w⟩] (Rect.unit off' size' inb').toLoadRect = View.ld w (Rect.unit off' size' inb') := by
  rw [View.readCov_eq_canon']
  funext j
  rw [View.canon_unit_zero hoff]

end Cert.Proof.Blocks

end
-- ==== Proof.BlocksA.lean ====
/-
  What the kernel's body leaves at a point that is the first of its batch row: in the output it writes and in the
  carried scratch, each head's part is that head's step (`Head.lean`) of the blocks the point loads and of the state it
  starts from.
-/
module

public import proofs.«01_k».proof.Proof.Blocks
public import proofs.«01_k».proof.Proof.Chunk

@[expose] public section

noncomputable section

namespace Cert.Proof.Blocks

open Cert.KernelIdeal Cert.KernelIdeal.Gen Cert.Proof.Head
open Idealize.ShloMosaic Idealize.ShloMosaic.TcCoe Idealize.SL.Sem

variable {F : FTy → Type} [FloatOps F]
variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S1x2048 .f32) (harg8 : arg8.IsWhole) (arg9 : Memref sig .tc .vmem S1x4x512x512 .f32) (harg9 : arg9.IsWhole) (arg10 : Memref sig .tc .vmem S1x4x512 .f32) (harg10 : arg10.IsWhole) (arg11 : Memref sig .tc .vmem S1x1x128 .f32) (harg11 : arg11.IsWhole) (arg12 : Memref sig .tc .vmem S128x2048 .bf16) (harg12 : arg12.IsWhole) (arg13 : Memref sig .tc .vmem S1x4x512x512 .f32) (harg13 : arg13.IsWhole) (arg14 : Memref sig .tc .vmem S1x4x512 .f32) (harg14 : arg14.IsWhole) (arg15 : Memref sig .tc .vmem S1x1x128 .f32) (harg15 : arg15.IsWhole) (arg16 : Memref sig .tc .vmem S4x512x512 .f32) (harg16 : arg16.IsWhole) (arg17 : Memref sig .tc .vmem S4x512 .f32) (harg17 : arg17.IsWhole) (arg18 : Memref sig .tc .vmem S1x128 .f32) (harg18 : arg18.IsWhole)
  (x0 : Vec F S128x2048 .f32) (x1 : Vec F S128x2048 .f32) (x2 : Vec F S128x2048 .f32) (x3 : Vec F S128x2048 .f32)
  (x4 : Vec F S128x128 .f32) (x5 : Vec F S8x128 .f32) (x6 : Vec F S1x2048 .f32) (x7 : Vec F S1x4x512x512 .f32)
  (x8 : Vec F S1x4x512 .f32) (x9 : Vec F S1x1x128 .f32) (xs0 : Vec F S4x512x512 .f32) (xs1 : Vec F S4x512 .f32)
  (xs2 : Vec F S1x128 .f32)

/-- The state matrices. -/
theorem scA_C (hc0 : cond0_0 i) (hc1 : ¬cond0_1 i) (h : Fin 4) (d e : Fin 512) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
        (ix3 h d e) = stepC x1 x2 x4 x5 (k0_pay4 x7) (k0_pay6 x9) h (ix3 0 d e) := by
  unfold sout0_A_0 kernelRun0_A
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix3 0 d e) _ ?_) ?_
    · intro a
      fin_cases a <;> dsimp [Chunk.colOf] <;> omega
    sl_unfold_words
    simp (disch := decide) only [skipC, skipN, skipM, ofWhole (S := S1x128) hz, ofWhole (S := S4x512) hz, ofWhole (S := S4x512x512) hz3]
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz, View.ld_unit_zero (S := S1x4x512x512) hz4, View.ld_unit_zero (S := S1x4x512) hz3, View.ld_unit_zero (S := S1x1x128) hz3]
    refine congrFun (?_ : _ = stepC _ _ _ _ _ _ _) _
    dsimp only [stepC, stepN, stepM, stepO, newC, newN, newM, out, hid, qk, winter, Head.mt, dlog, inter, bcH, icH, bRows, brH, irH, colsH, gH, cH, nH, mH]
    unfold_payloads
    rfl

/-- The normalizer rows. -/
theorem scA_N (hc0 : cond0_0 i) (hc1 : ¬cond0_1 i) (h : Fin 4) (d : Fin 512) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
        (ix2 h d) = stepN x1 x4 x5 (k0_pay5 x8) (k0_pay6 x9) h (ix2 0 d) := by
  unfold sout0_A_1 kernelRun0_A
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix2 0 d) _ ?_) ?_
    · intro a
      fin_cases a <;> dsimp [Chunk.colOf] <;> omega
    sl_unfold_words
    simp (disch := decide) only [skipC, skipN, skipM, ofWhole (S := S1x128) hz, ofWhole (S := S4x512) hz, ofWhole (S := S4x512x512) hz3]
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz, View.ld_unit_zero (S := S1x4x512x512) hz4, View.ld_unit_zero (S := S1x4x512) hz3, View.ld_unit_zero (S := S1x1x128) hz3]
    refine congrFun (?_ : _ = stepN _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers. -/
theorem scA_M (hc0 : cond0_0 i) (hc1 : ¬cond0_1 i) (h : Fin 4) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
        (ix2 0 ⟨h.val, by omega⟩) = stepM x4 x5 (k0_pay6 x9) h (ix2 0 0) := by
  unfold sout0_A_2 kernelRun0_A
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 0 0) _ ?_) ?_
    · intro a
      fin_cases a <;> dsimp [Chunk.colOf] <;> omega
    sl_unfold_words
    simp (disch := decide) only [skipC, skipN, skipM, ofWhole (S := S1x128) hz, ofWhole (S := S4x512) hz, ofWhole (S := S4x512x512) hz3]
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz, View.ld_unit_zero (S := S1x4x512x512) hz4, View.ld_unit_zero (S := S1x4x512) hz3, View.ld_unit_zero (S := S1x1x128) hz3]
    refine congrFun (?_ : _ = stepM _ _ _ _) _
    dsimp only [stepC, stepN, stepM, stepO, newC, newN, newM, out, hid, qk, winter, Head.mt, dlog, inter, bcH, icH, bRows, brH, irH, colsH, gH, cH, nH, mH]
    unfold_payloads
    rfl

/-- The output rows. -/
theorem outA_O (hc0 : cond0_0 i) (hc1 : ¬cond0_1 i) (h : Fin 4) (t : Fin 128) (e : Fin 512) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
        (ix2 t (Chunk.colOf h e)) = stepO x0 x1 x2 x3 x4 x5 x6 (k0_pay4 x7) (k0_pay5 x8) (k0_pay6 x9) h (ix2 t e) := by
  unfold out0_A_10 kernelRun0_A
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 t e) _ ?_) ?_
    · intro a
      fin_cases a <;> dsimp [Chunk.colOf] <;> omega
    sl_unfold_words
    simp (disch := decide) only [skipC, skipN, skipM, ofWhole (S := S1x128) hz, ofWhole (S := S4x512) hz, ofWhole (S := S4x512x512) hz3]
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz, View.ld_unit_zero (S := S1x4x512x512) hz4, View.ld_unit_zero (S := S1x4x512) hz3, View.ld_unit_zero (S := S1x1x128) hz3]
    refine congrFun (?_ : _ = stepO _ _ _ _ _ _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers' lanes beyond the heads are left as they were. -/
theorem scA_rest (hc0 : cond0_0 i) (hc1 : ¬cond0_1 i) (j : Fin 128) (hj : 4 ≤ j.val) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 (ix2 0 j) = (k0_pay6 x9) (ix2 0 j) := by
  unfold sout0_A_2 kernelRun0_A
  dsimp only
  refine (View.read_writes_cons_miss_of_axis _ _ _ _ _ 1 3 1 rfl rfl rfl (Or.inr (by show 3 + 1 ≤ j.val; omega))).trans ?_
  refine (View.read_writes_cons_miss_of_axis _ _ _ _ _ 1 2 1 rfl rfl rfl (Or.inr (by show 2 + 1 ≤ j.val; omega))).trans ?_
  refine (View.read_writes_cons_miss_of_axis _ _ _ _ _ 1 1 1 rfl rfl rfl (Or.inr (by show 1 + 1 ≤ j.val; omega))).trans ?_
  refine (View.read_writes_cons_miss_of_axis _ _ _ _ _ 1 0 1 rfl rfl rfl (Or.inr (by show 0 + 1 ≤ j.val; omega))).trans ?_
  refine (View.read_writes_cons_hit_of_coords _ _ _ _ _ (ix2 0 j) _ (fun a => match a with | ⟨0, _⟩ => rfl | ⟨1, _⟩ => (by show j.val = 0 + 1 * j.val; omega))).trans ?_
  simp only [View.readAt_eq_ld, harg11.read_unread, View.ld_unit_zero (S := S1x1x128) hz3]

end Cert.Proof.Blocks

end
-- ==== Proof.BlocksB.lean ====
/-
  What the kernel's body leaves at a point that is neither the first nor the last of its batch row: in the output it writes and in the
  carried scratch, each head's part is that head's step (`Head.lean`) of the blocks the point loads and of the state it
  starts from.
-/
module

public import proofs.«01_k».proof.Proof.Blocks
public import proofs.«01_k».proof.Proof.Chunk

@[expose] public section

noncomputable section

namespace Cert.Proof.Blocks

open Cert.KernelIdeal Cert.KernelIdeal.Gen Cert.Proof.Head
open Idealize.ShloMosaic Idealize.ShloMosaic.TcCoe Idealize.SL.Sem

variable {F : FTy → Type} [FloatOps F]
variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S1x2048 .f32) (harg8 : arg8.IsWhole) (arg9 : Memref sig .tc .vmem S1x4x512x512 .f32) (harg9 : arg9.IsWhole) (arg10 : Memref sig .tc .vmem S1x4x512 .f32) (harg10 : arg10.IsWhole) (arg11 : Memref sig .tc .vmem S1x1x128 .f32) (harg11 : arg11.IsWhole) (arg12 : Memref sig .tc .vmem S128x2048 .bf16) (harg12 : arg12.IsWhole) (arg13 : Memref sig .tc .vmem S1x4x512x512 .f32) (harg13 : arg13.IsWhole) (arg14 : Memref sig .tc .vmem S1x4x512 .f32) (harg14 : arg14.IsWhole) (arg15 : Memref sig .tc .vmem S1x1x128 .f32) (harg15 : arg15.IsWhole) (arg16 : Memref sig .tc .vmem S4x512x512 .f32) (harg16 : arg16.IsWhole) (arg17 : Memref sig .tc .vmem S4x512 .f32) (harg17 : arg17.IsWhole) (arg18 : Memref sig .tc .vmem S1x128 .f32) (harg18 : arg18.IsWhole)
  (x0 : Vec F S128x2048 .f32) (x1 : Vec F S128x2048 .f32) (x2 : Vec F S128x2048 .f32) (x3 : Vec F S128x2048 .f32)
  (x4 : Vec F S128x128 .f32) (x5 : Vec F S8x128 .f32) (x6 : Vec F S1x2048 .f32) (x7 : Vec F S1x4x512x512 .f32)
  (x8 : Vec F S1x4x512 .f32) (x9 : Vec F S1x1x128 .f32) (xs0 : Vec F S4x512x512 .f32) (xs1 : Vec F S4x512 .f32)
  (xs2 : Vec F S1x128 .f32)

/-- The state matrices. -/
theorem scB_C (hc0 : ¬cond0_0 i) (hc1 : ¬cond0_1 i) (h : Fin 4) (d e : Fin 512) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix3 h d e) = stepC x1 x2 x4 x5 xs0 xs2 h (ix3 0 d e) := by
  unfold sout0_B_0 kernelRun0_B
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix3 0 d e) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepC _ _ _ _ _ _ _) _
    dsimp only [stepC, stepN, stepM, stepO, newC, newN, newM, out, hid, qk, winter, Head.mt, dlog, inter, bcH, icH, bRows, brH, irH, colsH, gH, cH, nH, mH]
    unfold_payloads
    rfl

/-- The normalizer rows. -/
theorem scB_N (hc0 : ¬cond0_0 i) (hc1 : ¬cond0_1 i) (h : Fin 4) (d : Fin 512) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 h d) = stepN x1 x4 x5 xs1 xs2 h (ix2 0 d) := by
  unfold sout0_B_1 kernelRun0_B
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix2 0 d) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepN _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers. -/
theorem scB_M (hc0 : ¬cond0_0 i) (hc1 : ¬cond0_1 i) (h : Fin 4) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 0 ⟨h.val, by omega⟩) = stepM x4 x5 xs2 h (ix2 0 0) := by
  unfold sout0_B_2 kernelRun0_B
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 0 0) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepM _ _ _ _) _
    dsimp only [stepC, stepN, stepM, stepO, newC, newN, newM, out, hid, qk, winter, Head.mt, dlog, inter, bcH, icH, bRows, brH, irH, colsH, gH, cH, nH, mH]
    unfold_payloads
    rfl

/-- The output rows. -/
theorem outB_O (hc0 : ¬cond0_0 i) (hc1 : ¬cond0_1 i) (h : Fin 4) (t : Fin 128) (e : Fin 512) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 t (Chunk.colOf h e)) = stepO x0 x1 x2 x3 x4 x5 x6 xs0 xs1 xs2 h (ix2 t e) := by
  unfold out0_B_10 kernelRun0_B
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 t e) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepO _ _ _ _ _ _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers' lanes beyond the heads are left as they were. -/
theorem scB_rest (hc0 : ¬cond0_0 i) (hc1 : ¬cond0_1 i) (j : Fin 128) (hj : 4 ≤ j.val) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix2 0 j) = xs2 (ix2 0 j) := by
  unfold sout0_B_2 kernelRun0_B
  dsimp only
  refine (View.read_writes_cons_miss_of_axis _ _ _ _ _ 1 3 1 rfl rfl rfl (Or.inr (by show 3 + 1 ≤ j.val; omega))).trans ?_
  refine (View.read_writes_cons_miss_of_axis _ _ _ _ _ 1 2 1 rfl rfl rfl (Or.inr (by show 2 + 1 ≤ j.val; omega))).trans ?_
  refine (View.read_writes_cons_miss_of_axis _ _ _ _ _ 1 1 1 rfl rfl rfl (Or.inr (by show 1 + 1 ≤ j.val; omega))).trans ?_
  refine (View.read_writes_cons_miss_of_axis _ _ _ _ _ 1 0 1 rfl rfl rfl (Or.inr (by show 0 + 1 ≤ j.val; omega))).trans ?_
  exact congrFun (harg18.read_unread xs2) _

end Cert.Proof.Blocks

end
-- ==== Proof.BlocksC.lean ====
/-
  What the kernel's body leaves at a point that is the last of its batch row: in the output it writes and in the
  carried scratch, each head's part is that head's step (`Head.lean`) of the blocks the point loads and of the state it
  starts from.
-/
module

public import proofs.«01_k».proof.Proof.Blocks
public import proofs.«01_k».proof.Proof.Chunk

@[expose] public section

noncomputable section

namespace Cert.Proof.Blocks

open Cert.KernelIdeal Cert.KernelIdeal.Gen Cert.Proof.Head
open Idealize.ShloMosaic Idealize.ShloMosaic.TcCoe Idealize.SL.Sem

variable {F : FTy → Type} [FloatOps F]
variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S1x2048 .f32) (harg8 : arg8.IsWhole) (arg9 : Memref sig .tc .vmem S1x4x512x512 .f32) (harg9 : arg9.IsWhole) (arg10 : Memref sig .tc .vmem S1x4x512 .f32) (harg10 : arg10.IsWhole) (arg11 : Memref sig .tc .vmem S1x1x128 .f32) (harg11 : arg11.IsWhole) (arg12 : Memref sig .tc .vmem S128x2048 .bf16) (harg12 : arg12.IsWhole) (arg13 : Memref sig .tc .vmem S1x4x512x512 .f32) (harg13 : arg13.IsWhole) (arg14 : Memref sig .tc .vmem S1x4x512 .f32) (harg14 : arg14.IsWhole) (arg15 : Memref sig .tc .vmem S1x1x128 .f32) (harg15 : arg15.IsWhole) (arg16 : Memref sig .tc .vmem S4x512x512 .f32) (harg16 : arg16.IsWhole) (arg17 : Memref sig .tc .vmem S4x512 .f32) (harg17 : arg17.IsWhole) (arg18 : Memref sig .tc .vmem S1x128 .f32) (harg18 : arg18.IsWhole)
  (x0 : Vec F S128x2048 .f32) (x1 : Vec F S128x2048 .f32) (x2 : Vec F S128x2048 .f32) (x3 : Vec F S128x2048 .f32)
  (x4 : Vec F S128x128 .f32) (x5 : Vec F S8x128 .f32) (x6 : Vec F S1x2048 .f32) (x7 : Vec F S1x4x512x512 .f32)
  (x8 : Vec F S1x4x512 .f32) (x9 : Vec F S1x1x128 .f32) (xs0 : Vec F S4x512x512 .f32) (xs1 : Vec F S4x512 .f32)
  (xs2 : Vec F S1x128 .f32)

/-- The state matrices. -/
theorem scC_C (hc0 : ¬cond0_0 i) (hc1 : cond0_1 i) (h : Fin 4) (d e : Fin 512) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix3 h d e) = stepC x1 x2 x4 x5 xs0 xs2 h (ix3 0 d e) := by
  unfold sout0_C_0 kernelRun0_C
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix3 0 d e) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepC _ _ _ _ _ _ _) _
    dsimp only [stepC, stepN, stepM, stepO, newC, newN, newM, out, hid, qk, winter, Head.mt, dlog, inter, bcH, icH, bRows, brH, irH, colsH, gH, cH, nH, mH]
    unfold_payloads
    rfl

/-- The normalizer rows. -/
theorem scC_N (hc0 : ¬cond0_0 i) (hc1 : cond0_1 i) (h : Fin 4) (d : Fin 512) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 h d) = stepN x1 x4 x5 xs1 xs2 h (ix2 0 d) := by
  unfold sout0_C_1 kernelRun0_C
  dsimp only
  fin_cases h <;>
  · repeat
      refine Eq.trans (View.read_writes_cons_miss_of_axis _ _ _ _ _ 0 _ _ rfl rfl rfl (Or.inl ?_)) ?_
      · dsimp [Chunk.colOf] <;> omega
    refine Eq.trans (View.read_writes_cons_hit_of_coords _ _ _ _ _ (ix2 0 d) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepN _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers. -/
theorem scC_M (hc0 : ¬cond0_0 i) (hc1 : cond0_1 i) (h : Fin 4) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 0 ⟨h.val, by omega⟩) = stepM x4 x5 xs2 h (ix2 0 0) := by
  unfold sout0_C_2 kernelRun0_C
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 0 0) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepM _ _ _ _) _
    dsimp only [stepC, stepN, stepM, stepO, newC, newN, newM, out, hid, qk, winter, Head.mt, dlog, inter, bcH, icH, bRows, brH, irH, colsH, gH, cH, nH, mH]
    unfold_payloads
    rfl

/-- The output rows. -/
theorem outC_O (hc0 : ¬cond0_0 i) (hc1 : cond0_1 i) (h : Fin 4) (t : Fin 128) (e : Fin 512) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2
        (ix2 t (Chunk.colOf h e)) = stepO x0 x1 x2 x3 x4 x5 x6 xs0 xs1 xs2 h (ix2 t e) := by
  unfold out0_C_10 kernelRun0_C
  dsimp only
  fin_cases h <;>
  · repeat
      refine Eq.trans (View.read_writes_cons_miss_of_axis _ _ _ _ _ 1 _ _ rfl rfl rfl (Or.inl ?_)) ?_
      · dsimp [Chunk.colOf] <;> omega
    refine Eq.trans (View.read_writes_cons_hit_of_coords _ _ _ _ _ (ix2 t e) _ ?_) ?_
    · intro a
      fin_cases a <;> dsimp [Chunk.colOf] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg16.read_unread, harg17.read_unread, harg18.read_unread, View.ld_unit_zero (S := S128x128) hz, View.ld_unit_zero (S := S8x128) hz]
    refine congrFun (?_ : _ = stepO _ _ _ _ _ _ _ _ _ _ _) _
    dsimp only [stepC, stepN, stepM, stepO, newC, newN, newM, out, hid, qk, winter, Head.mt, dlog, inter, bcH, icH, bRows, brH, irH, colsH, gH, cH, nH, mH]
    unfold_payloads
    rfl

/-- The stabilizers' lanes beyond the heads are left as they were. -/
theorem scC_rest (hc0 : ¬cond0_0 i) (hc1 : cond0_1 i) (j : Fin 128) (hj : 4 ≤ j.val) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix2 0 j) = xs2 (ix2 0 j) := by
  unfold sout0_C_2 kernelRun0_C
  dsimp only
  refine (View.read_writes_cons_miss_of_axis _ _ _ _ _ 1 3 1 rfl rfl rfl (Or.inr (by show 3 + 1 ≤ j.val; omega))).trans ?_
  refine (View.read_writes_cons_miss_of_axis _ _ _ _ _ 1 2 1 rfl rfl rfl (Or.inr (by show 2 + 1 ≤ j.val; omega))).trans ?_
  refine (View.read_writes_cons_miss_of_axis _ _ _ _ _ 1 1 1 rfl rfl rfl (Or.inr (by show 1 + 1 ≤ j.val; omega))).trans ?_
  refine (View.read_writes_cons_miss_of_axis _ _ _ _ _ 1 0 1 rfl rfl rfl (Or.inr (by show 0 + 1 ≤ j.val; omega))).trans ?_
  exact congrFun (harg18.read_unread xs2) _

/-- The state matrices are written out as the scratch holds them, -/
theorem outC_11 (hc0 : ¬cond0_0 i) (hc1 : cond0_1 i) (h : Fin 4) (d e : Fin 512) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix4 0 h d e) = sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix3 h d e) := by
  unfold out0_C_11 sout0_C_0 kernelRun0_C
  dsimp only
  rw [View.read_writes_junk_eq_canon, View.canon_unit_zero hz4]
  pointwise [k0_pay1]
  rw [View.read_writes_junk_apply_eq_canon]
  unfold kernelRun0_C.sl.v572
  rw [View.readCov_eq_canon']
  exact congrArg (View.canon _) (funext fun a => Fin.ext (match a with | ⟨0, _⟩ => (by show 0 + 1 * h.val = h.val; omega) | ⟨1, _⟩ => (by show 0 + 1 * d.val = d.val; omega) | ⟨2, _⟩ => (by show 0 + 1 * e.val = e.val; omega)))

/-- so are the normalizer rows, -/
theorem outC_12 (hc0 : ¬cond0_0 i) (hc1 : cond0_1 i) (h : Fin 4) (d : Fin 512) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix3 0 h d) = sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix2 h d) := by
  unfold out0_C_12 sout0_C_1 kernelRun0_C
  dsimp only
  rw [View.read_writes_junk_eq_canon, View.canon_unit_zero hz3]
  pointwise [k0_pay2]
  rw [View.read_writes_junk_apply_eq_canon]
  unfold kernelRun0_C.sl.v576
  rw [View.readCov_eq_canon']
  exact congrArg (View.canon _) (funext fun a => Fin.ext (match a with | ⟨0, _⟩ => (by show 0 + 1 * h.val = h.val; omega) | ⟨1, _⟩ => (by show 0 + 1 * d.val = d.val; omega)))

/-- and the stabilizers. -/
theorem outC_13 (hc0 : ¬cond0_0 i) (hc1 : cond0_1 i) (j : Fin 128) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix3 0 0 j) = sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 (ix2 0 j) := by
  unfold out0_C_13 sout0_C_2 kernelRun0_C
  dsimp only
  rw [View.read_writes_junk_eq_canon, View.canon_unit_zero hz3]
  pointwise [k0_pay3]
  unfold kernelRun0_C.sl.v580
  rw [View.readAt_eq_ld, View.ld_unit_zero (S := S1x128) hz]

end Cert.Proof.Blocks

end
-- ==== Proof.Sweep.lean ====
/-
  The kernel's points against the reference's trips: after the point of chunk `j` of batch row `p` the carried scratch is
  that row of the reference's state `j + 1` (`carries_after`), and the point's output block is the reference's rows, normed
  and gated (`block_out`).
-/
module

public import proofs.«01_k».proof.Proof.Turn
public import proofs.«01_k».proof.Proof.Inputs
public import proofs.«01_k».proof.Proof.StartAt
public import proofs.«01_k».proof.Proof.RefRun
public import proofs.«01_k».proof.Proof.BlocksA
public import proofs.«01_k».proof.Proof.BlocksB
public import proofs.«01_k».proof.Proof.BlocksC

@[expose] public section

set_option maxRecDepth 16384

noncomputable section

namespace Cert.Proof.Sweep

open Idealize.ShloMosaic Idealize.ShloMosaic.TcCoe Idealize.SL.Sem
open Cert.Proof.Chunk Cert.Proof.Inputs
open Cert.KernelIdeal.Gen (iblk outsAt0)
open Cert.ReferenceIdeal.Step (State step b75 A_main_v21 A_main_v24 A_main_v27 A_main_v30 A_main_v33)

/-- The arguments the two memories hold on a device are equal. -/
structure Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) : Prop where
  a0 : m' ((c.tc : Thread ReferenceIdeal.nD ReferenceIdeal.τ).loc ReferenceIdeal.main_arg0)
    = m ((c.tc : Thread KernelIdeal.nD KernelIdeal.τ).loc KernelIdeal.main_arg0)
  a1 : m' ((c.tc : Thread ReferenceIdeal.nD ReferenceIdeal.τ).loc ReferenceIdeal.main_arg1)
    = m ((c.tc : Thread KernelIdeal.nD KernelIdeal.τ).loc KernelIdeal.main_arg1)
  a2 : m' ((c.tc : Thread ReferenceIdeal.nD ReferenceIdeal.τ).loc ReferenceIdeal.main_arg2)
    = m ((c.tc : Thread KernelIdeal.nD KernelIdeal.τ).loc KernelIdeal.main_arg2)
  a3 : m' ((c.tc : Thread ReferenceIdeal.nD ReferenceIdeal.τ).loc ReferenceIdeal.main_arg3)
    = m ((c.tc : Thread KernelIdeal.nD KernelIdeal.τ).loc KernelIdeal.main_arg3)
  a4 : m' ((c.tc : Thread ReferenceIdeal.nD ReferenceIdeal.τ).loc ReferenceIdeal.main_arg4)
    = m ((c.tc : Thread KernelIdeal.nD KernelIdeal.τ).loc KernelIdeal.main_arg4)
  a5 : m' ((c.tc : Thread ReferenceIdeal.nD ReferenceIdeal.τ).loc ReferenceIdeal.main_arg5)
    = m ((c.tc : Thread KernelIdeal.nD KernelIdeal.τ).loc KernelIdeal.main_arg5)
  a6 : m' ((c.tc : Thread ReferenceIdeal.nD ReferenceIdeal.τ).loc ReferenceIdeal.main_arg6)
    = m ((c.tc : Thread KernelIdeal.nD KernelIdeal.τ).loc KernelIdeal.main_arg6)
  a7 : m' ((c.tc : Thread ReferenceIdeal.nD ReferenceIdeal.τ).loc ReferenceIdeal.main_arg7)
    = m ((c.tc : Thread KernelIdeal.nD KernelIdeal.τ).loc KernelIdeal.main_arg7)
  a8 : m' ((c.tc : Thread ReferenceIdeal.nD ReferenceIdeal.τ).loc ReferenceIdeal.main_arg8)
    = m ((c.tc : Thread KernelIdeal.nD KernelIdeal.τ).loc KernelIdeal.main_arg8)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- The reference's state before trip `k`. -/
abbrev at_ (m' : (ℓ : Loc ReferenceIdeal.nD ReferenceIdeal.τ ReferenceIdeal.sig) → Buf (Elt Ideal) ℓ) (c : Dev KernelIdeal.nD)
    (k : ℕ) : State Ideal := RefRun.states m' c k

/-- The reference's arguments that its trips slice. -/
abbrev ref0 (m' : (ℓ : Loc ReferenceIdeal.nD ReferenceIdeal.τ ReferenceIdeal.sig) → Buf (Elt Ideal) ℓ) (c : Dev KernelIdeal.nD) :
    (⟨ReferenceIdeal.S8x2048x4x512, .f32⟩ : BufTy).Contents (Elt Ideal) :=
  m' ((c.tc : Thread ReferenceIdeal.nD ReferenceIdeal.τ).loc ReferenceIdeal.main_arg0)
abbrev ref1 (m' : (ℓ : Loc ReferenceIdeal.nD ReferenceIdeal.τ ReferenceIdeal.sig) → Buf (Elt Ideal) ℓ) (c : Dev KernelIdeal.nD) :
    (⟨ReferenceIdeal.S8x2048x4x512, .f32⟩ : BufTy).Contents (Elt Ideal) :=
  m' ((c.tc : Thread ReferenceIdeal.nD ReferenceIdeal.τ).loc ReferenceIdeal.main_arg1)
abbrev ref2 (m' : (ℓ : Loc ReferenceIdeal.nD ReferenceIdeal.τ ReferenceIdeal.sig) → Buf (Elt Ideal) ℓ) (c : Dev KernelIdeal.nD) :
    (⟨ReferenceIdeal.S8x2048x4x512, .f32⟩ : BufTy).Contents (Elt Ideal) :=
  m' ((c.tc : Thread ReferenceIdeal.nD ReferenceIdeal.τ).loc ReferenceIdeal.main_arg2)
abbrev ref4 (m' : (ℓ : Loc ReferenceIdeal.nD ReferenceIdeal.τ ReferenceIdeal.sig) → Buf (Elt Ideal) ℓ) (c : Dev KernelIdeal.nD) :
    (⟨ReferenceIdeal.S8x2048x8, .f32⟩ : BufTy).Contents (Elt Ideal) :=
  m' ((c.tc : Thread ReferenceIdeal.nD ReferenceIdeal.τ).loc ReferenceIdeal.main_arg4)

/-! ## The chunked inputs never change -/

theorem same_q (k : ℕ) : (at_ m' c k).main_v35_0
    = A_main_v21 (ref0 m' c) (ref1 m' c) (ref2 m' c) (ref4 m' c) := by
  induction k with
  | zero => rfl
  | succ k ih => exact ih
theorem same_k (k : ℕ) : (at_ m' c k).main_v35_1
    = A_main_v24 (ref0 m' c) (ref1 m' c) (ref2 m' c) (ref4 m' c) := by
  induction k with
  | zero => rfl
  | succ k ih => exact ih
theorem same_v (k : ℕ) : (at_ m' c k).main_v35_2
    = A_main_v27 (ref0 m' c) (ref1 m' c) (ref2 m' c) (ref4 m' c) := by
  induction k with
  | zero => rfl
  | succ k ih => exact ih
theorem same_i (k : ℕ) : (at_ m' c k).main_v35_3
    = A_main_v30 (ref0 m' c) (ref1 m' c) (ref2 m' c) (ref4 m' c) := by
  induction k with
  | zero => rfl
  | succ k ih => exact ih
theorem same_f (k : ℕ) : (at_ m' c k).main_v35_4
    = A_main_v33 (ref0 m' c) (ref1 m' c) (ref2 m' c) (ref4 m' c) := by
  induction k with
  | zero => rfl
  | succ k ih => exact ih

/-! ## One point -/

variable (A : Agree m m' c) (p : Fin 8) (j : Fin 16)

include A in
/-- A point's blocks hold what its trip slices. -/
theorem loads (k : ℕ) : Turn.Loads j (at_ m' c k) p (iblk m c 0 (point p j)) (iblk m c 1 (point p j)) (iblk m c 2 (point p j))
    (iblk m c 4 (point p j)) (iblk m c 5 (point p j)) where
  q h r d := by
    refine (block0 m c p j h r d).trans ?_
    unfold Trip.rowsQ
    rw [same_q]
    exact (congrFun A.a0.symm _).trans
      (Start.q_start p j h r (ref0 m' c) (ref1 m' c) (ref2 m' c) (ref4 m' c) d).symm
  k h r d := by
    refine (block1 m c p j h r d).trans ?_
    unfold Trip.rowsK
    rw [same_k]
    exact (congrFun A.a1.symm _).trans
      (Start.k_start p j h r (ref0 m' c) (ref1 m' c) (ref2 m' c) (ref4 m' c) d).symm
  v h r d := by
    refine (block2 m c p j h r d).trans ?_
    unfold Trip.rowsV
    rw [same_v]
    exact (congrFun A.a2.symm _).trans
      (Start.v_start p j h r (ref0 m' c) (ref1 m' c) (ref2 m' c) (ref4 m' c) d).symm
  gateCol h r := by
    refine (block4 m c p j r ⟨h.val, by omega⟩).trans ?_
    unfold Trip.gatesIn
    rw [same_i]
    exact (congrFun A.a4.symm _).trans
      (Start.i_start p j h r (ref0 m' c) (ref1 m' c) (ref2 m' c) (ref4 m' c)).symm
  forgetCol h r := by
    refine (congrArg logForget (block4 m c p j r ⟨h.val + 4, by omega⟩)).trans ?_
    rw [same_f]
    exact (congrArg logForget (congrFun A.a4.symm _)).trans
      (Start.f_start p j h r (ref0 m' c) (ref1 m' c) (ref2 m' c) (ref4 m' c)).symm
  gateRow h r := by
    refine (block5 m c p j ⟨h.val, by omega⟩ r).trans ?_
    unfold Trip.gatesIn
    rw [same_i]
    exact (congrFun A.a4.symm _).trans
      (Start.i_start p j h r (ref0 m' c) (ref1 m' c) (ref2 m' c) (ref4 m' c)).symm
  forgetRow h r := by
    refine (congrArg logForget (block5 m c p j ⟨h.val + 4, by omega⟩ r)).trans ?_
    rw [same_f]
    exact (congrArg logForget (congrFun A.a4.symm _)).trans
      (Start.f_start p j h r (ref0 m' c) (ref1 m' c) (ref2 m' c) (ref4 m' c)).symm

include A in
/-- At a batch row's first point the state is the reference's first. -/
theorem carries_start : Turn.Carries (at_ m' c 0) p (KernelIdeal.Gen.k0_pay4 (iblk m c 7 (point p j)))
    (KernelIdeal.Gen.k0_pay5 (iblk m c 8 (point p j))) (KernelIdeal.Gen.k0_pay6 (iblk m c 9 (point p j))) where
  mat h d e := by
    pointwise [KernelIdeal.Gen.k0_pay4]
    exact (block7 m c p j h d e).trans (congrFun A.a6.symm _)
  norm h d := by
    pointwise [KernelIdeal.Gen.k0_pay5]
    exact (block8 m c p j h d).trans (congrFun A.a7.symm _)
  stab e := by
    pointwise [KernelIdeal.Gen.k0_pay6]
    refine (block9 m c p j e).trans ?_
    split
    · exact congrFun A.a8.symm _
    · rfl

/-- What the kernel holds once it has run a chunk from a state, as the reference's next state has it. -/
theorem carries_next {st : State Ideal} {x0 x1 x2 x4 x5 X0 X1 X2 Y0 Y1 Y2} (L : Turn.Loads j st p x0 x1 x2 x4 x5)
    (S : Turn.Carries st p X0 X1 X2)
    (h0 : ∀ (h : Fin 4) d e, Y0 (ix3 h d e) = Head.stepC x1 x2 x4 x5 X0 X2 h (ix3 0 d e))
    (h1 : ∀ (h : Fin 4) d, Y1 (ix2 h d) = Head.stepN x1 x4 x5 X1 X2 h (ix2 0 d))
    (h2 : ∀ h : Fin 4, Y2 (ix2 0 ⟨h.val, by omega⟩) = Head.stepM x4 x5 X2 h (ix2 0 0))
    (h3 : ∀ e : Fin 128, 4 ≤ e.val → Y2 (ix2 0 e) = X2 (ix2 0 e)) : Turn.Carries (step j.val st) p Y0 Y1 Y2 where
  mat h d e := (h0 h d e).trans (Turn.mat_next L S h d e)
  norm h d := (h1 h d).trans (Turn.norm_next L S h d)
  stab e := by
    by_cases he : e.val < 4
    · rw [dif_pos he]
      exact (h2 ⟨e.val, he⟩).trans (Turn.stab_next L S ⟨e.val, he⟩)
    · rw [dif_neg he]
      exact (h3 e (by omega)).trans ((S.stab e).trans (dif_neg he))

/-- The contents a point leaves: its output block, and the carried scratch. -/
abbrev held (m : (ℓ : Loc KernelIdeal.nD KernelIdeal.τ KernelIdeal.sig) → Buf (Elt Ideal) ℓ) (c : Dev KernelIdeal.nD)
    (p : Fin 8) (j : Fin 16) := outsAt0 m c (point p j).val (point p j).isLt

/-- What a point leaves is the reference's, of trip `j`. -/
structure Good (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (p : Fin 8) (j : Fin 16) : Prop where
  carried : Turn.Carries (at_ m' c (j.val + 1)) p (held m c p j).2.2.2.2.1 (held m c p j).2.2.2.2.2.1 (held m c p j).2.2.2.2.2.2
  rows : ∀ (h : Fin 4) r d, (held m c p j).1 (ix2 r (colOf h d))
    = normed (fun e => b75 j.val (at_ m' c j.val) (ix4 p h r e))
      (m ((c.tc : Thread KernelIdeal.nD KernelIdeal.τ).loc KernelIdeal.main_arg3) (ix3 p (rowOf j r) (colOf h d)))
      (m ((c.tc : Thread KernelIdeal.nD KernelIdeal.τ).loc KernelIdeal.main_arg5) (ix1 (colOf h d))) d

/-- A point's rows, from its head steps. -/
theorem rows_of {st : State Ideal} {X0 X1 X2} (L : Turn.Loads j st p (iblk m c 0 (point p j)) (iblk m c 1 (point p j))
    (iblk m c 2 (point p j)) (iblk m c 4 (point p j)) (iblk m c 5 (point p j))) (S : Turn.Carries st p X0 X1 X2)
    (h : Fin 4) (r : Fin 128) (d : Fin 512) :
    Head.stepO (iblk m c 0 (point p j)) (iblk m c 1 (point p j)) (iblk m c 2 (point p j)) (iblk m c 3 (point p j))
      (iblk m c 4 (point p j)) (iblk m c 5 (point p j)) (iblk m c 6 (point p j)) X0 X1 X2 h (ix2 r d)
    = normed (fun e => b75 j.val st (ix4 p h r e))
      (m ((c.tc : Thread KernelIdeal.nD KernelIdeal.τ).loc KernelIdeal.main_arg3) (ix3 p (rowOf j r) (colOf h d)))
      (m ((c.tc : Thread KernelIdeal.nD KernelIdeal.τ).loc KernelIdeal.main_arg5) (ix1 (colOf h d))) d := by
  refine (Turn.out_next (iblk m c 3 (point p j)) (iblk m c 6 (point p j)) L S h r d).trans ?_
  rw [block3 m c p j r (colOf h d), block6 m c p j (colOf h d)]

include A in
/-- The first point of a batch row. -/
theorem good_first (hj : j.val = 0) : Good m m' c p j := by
  have h0 : (point p j).val % 16 = 0 := by show (16 * p.val + j.val) % 16 = 0; omega
  have h1 : ¬(point p j).val % 16 = 15 := by omega
  have L := loads A p j j.val
  have S := carries_start A p j
  rw [← hj] at S
  have e := KernelIdeal.Gen.outsAt0_A m c (point p j) h0 h1
  refine ⟨?_, fun h r d => ?_⟩ <;> unfold held <;> rw [e] <;> dsimp only
  · exact carries_next p j L S (fun h d e => Blocks.scA_C (h := h) (d := d) (e := e) ..)
      (fun h d => Blocks.scA_N (h := h) (d := d) ..) (fun h => Blocks.scA_M (h := h) ..)
      (fun e he => Blocks.scA_rest (j := e) (hj := he) ..)
  · exact (Blocks.outA_O (h := h) (t := r) (e := d) ..).trans (rows_of p j L S h r d)

include A in
/-- A later point, from the point before. -/
theorem good_next (i : Fin 16) (hj : j.val = i.val + 1) (G : Good m m' c p i) : Good m m' c p j := by
  have h0 : ¬(point p j).val % 16 = 0 := by show ¬(16 * p.val + j.val) % 16 = 0; omega
  have L := loads A p j j.val
  have hp : (point p j).val - 1 = (point p i).val := by show 16 * p.val + j.val - 1 = 16 * p.val + i.val; omega
  have S := G.carried
  rw [← hj] at S
  unfold held at S
  simp only [← hp] at S
  by_cases h1 : (point p j).val % 16 = 15
  · have e := KernelIdeal.Gen.outsAt0_C m c (point p j) h0 h1
    refine ⟨?_, fun h r d => ?_⟩ <;> unfold held <;> rw [e] <;> dsimp only
    · exact carries_next p j L S (fun h d e => Blocks.scC_C (h := h) (d := d) (e := e) ..)
        (fun h d => Blocks.scC_N (h := h) (d := d) ..) (fun h => Blocks.scC_M (h := h) ..)
        (fun e he => Blocks.scC_rest (j := e) (hj := he) ..)
    · exact (Blocks.outC_O (h := h) (t := r) (e := d) ..).trans (rows_of p j L S h r d)
  · have e := KernelIdeal.Gen.outsAt0_B m c (point p j) h0 h1
    refine ⟨?_, fun h r d => ?_⟩ <;> unfold held <;> rw [e] <;> dsimp only
    · exact carries_next p j L S (fun h d e => Blocks.scB_C (h := h) (d := d) (e := e) ..)
        (fun h d => Blocks.scB_N (h := h) (d := d) ..) (fun h => Blocks.scB_M (h := h) ..)
        (fun e he => Blocks.scB_rest (j := e) (hj := he) ..)
    · exact (Blocks.outB_O (h := h) (t := r) (e := d) ..).trans (rows_of p j L S h r d)

include A in
/-- Every point leaves what the reference has. -/
theorem good : ∀ (n : ℕ) (hn : n < 16), Good m m' c p ⟨n, hn⟩
  | 0, _ => good_first A p _ rfl
  | n + 1, hn => good_next A p _ ⟨n, by omega⟩ rfl (good n (by omega))

/-! ## The rows the reference stores -/

/-- A trip's rows are what the reference holds at its chunk from then on. -/
theorem stored (h : Fin 4) (r : Fin 128) (e : Fin 512) : ∀ k : ℕ, j.val < k → k ≤ 16 →
    (at_ m' c k).main_v35_10 (ix5 j p h r e) = b75 j.val (at_ m' c j.val) (ix4 p h r e)
  | 0, hk, _ => absurd hk (Nat.not_lt_zero _)
  | k + 1, hk, hle => by
    by_cases hjk : j.val = k
    · subst hjk
      exact Trip.stored_at j (at_ m' c j.val) p h r e
    · exact (Trip.kept_at ⟨k, by omega⟩ (at_ m' c k) p h j (fun hh => hjk (congrArg Fin.val hh)) r e).trans
        (stored h r e k (by omega) (by omega))

end Cert.Proof.Sweep

end
-- ==== Proof.Result.lean ====
/-
  The four result arrays of the kernel are the reference's.
-/
module

public import proofs.«01_k».proof.Proof.Sweep
public import proofs.«01_k».proof.Proof.Gen.KernelIdeal.Value

@[expose] public section

set_option maxRecDepth 16384

noncomputable section

namespace Cert.Proof.Result

open Idealize.ShloMosaic Idealize.ShloMosaic.TcCoe Idealize.SL.Sem
open Cert.Proof.Chunk Cert.Proof.Inputs Cert.Proof.Sweep
open Cert.KernelIdeal.Value (stAt0 junk0 G10 G11 G12 G13)
open Cert.ReferenceIdeal.Step (R_main_v71 R_main_v69)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- The fold up to a point is what the point leaves. -/
theorem fold_at (p : Fin 8) (j : Fin 16) {n : ℕ} (hn : 0 + n < KernelIdeal.cfg0.N) (h : n = 16 * p.val + j.val) :
    Pipeline.accAt (fun n h => stAt0 m c n h junk0) (stAt0 m c) 0 n hn = held m c p j := by
  subst h
  exact (KernelIdeal.Value.outsAt0_sweep m c _ (point p j).isLt).symm

variable (A : Agree m m' c)

include A in
/-- The output rows. -/
theorem rows_eq : G10 m c = R_main_v71 (at_ m' c 16)
    (m' ((c.tc : Thread ReferenceIdeal.nD ReferenceIdeal.τ).loc ReferenceIdeal.main_arg3))
    (m' ((c.tc : Thread ReferenceIdeal.nD ReferenceIdeal.τ).loc ReferenceIdeal.main_arg5)) := by
  funext i
  obtain ⟨p, j, r, h, d, rfl⟩ : ∃ (p : Fin 8) (j : Fin 16) (r : Fin 128) (h : Fin 4) (d : Fin 512),
      i = ix2 (flatOf p j r) (colOf h d) := by
    have h0 : (i 0).val < 16384 := (i 0).isLt
    have h1 : (i 1).val < 2048 := (i 1).isLt
    refine ⟨⟨(i 0).val / 2048, by omega⟩, ⟨(i 0).val / 128 % 16, by omega⟩, ⟨(i 0).val % 128, by omega⟩,
      ⟨(i 1).val / 512, by omega⟩, ⟨(i 1).val % 512, by omega⟩, ?_⟩
    funext a
    refine Fin.ext ?_
    match a with
    | ⟨0, _⟩ => show (i 0).val = 128 * (16 * ((i 0).val / 2048) + (i 0).val / 128 % 16) + (i 0).val % 128; omega
    | ⟨1, _⟩ => show (i 1).val = 512 * ((i 1).val / 512) + (i 1).val % 512; omega
  have hp := p.isLt
  have hj := j.isLt
  have hr := r.isLt
  have hh := h.isLt
  have hd := d.isLt
  have hpt : KernelIdeal.Value.pt10Of (ix2 (flatOf p j r) (colOf h d)) = 16 * p.val + j.val := by
    show 1 * ((128 * (16 * p.val + j.val) + r.val) / 128 - 0) + 1 * ((512 * h.val + d.val) / 2048 - 0) = _
    omega
  have hloc : KernelIdeal.Value.loc10Of (ix2 (flatOf p j r) (colOf h d)) = ix2 r (colOf h d) := by
    funext a
    refine Fin.ext ?_
    match a with
    | ⟨0, _⟩ => show (128 * (16 * p.val + j.val) + r.val) % 128 = r.val; omega
    | ⟨1, _⟩ => show (512 * h.val + d.val) % 2048 = 512 * h.val + d.val; omega
  unfold G10
  rw [A.a3, A.a5, dif_pos (show KernelIdeal.Value.pt10Of _ < KernelIdeal.cfg0.N by rw [hpt]; exact (point p j).isLt),
    fold_at p j _ hpt, hloc, (good A p j.val j.isLt).rows h r d, Start.out_end]
  exact congrArg (fun f => normed f _ _ d) (funext fun e => (stored (m' := m') (c := c) p j h r e 16 hj le_rfl).symm)

/-! ## The final state -/

/-- The last chunk. -/
abbrev last : Fin 16 := 15

theorem last_first (p : Fin 8) : ¬(point p last).val % 16 = 0 := by show ¬(16 * p.val + 15) % 16 = 0; omega
theorem last_last (p : Fin 8) : (point p last).val % 16 = 15 := by show (16 * p.val + 15) % 16 = 15; omega

/-- A batch row's last point writes out the state it carries: the state matrices, -/
theorem flush_mat (p : Fin 8) (h : Fin 4) (d e : Fin 512) :
    (held m c p last).2.1 (ix4 0 h d e) = (held m c p last).2.2.2.2.1 (ix3 h d e) := by
  unfold held
  rw [KernelIdeal.Gen.outsAt0_C m c (point p last) (last_first p) (last_last p)]
  dsimp only
  exact Blocks.outC_11 (h := h) (d := d) (e := e) ..

/-- the normalizer rows, -/
theorem flush_norm (p : Fin 8) (h : Fin 4) (d : Fin 512) :
    (held m c p last).2.2.1 (ix3 0 h d) = (held m c p last).2.2.2.2.2.1 (ix2 h d) := by
  unfold held
  rw [KernelIdeal.Gen.outsAt0_C m c (point p last) (last_first p) (last_last p)]
  dsimp only
  exact Blocks.outC_12 (h := h) (d := d) ..

/-- the stabilizers. -/
theorem flush_stab (p : Fin 8) (e : Fin 128) :
    (held m c p last).2.2.2.1 (ix3 0 0 e) = (held m c p last).2.2.2.2.2.2 (ix2 0 e) := by
  unfold held
  rw [KernelIdeal.Gen.outsAt0_C m c (point p last) (last_first p) (last_last p)]
  dsimp only
  exact Blocks.outC_13 (j := e) ..

include A in
/-- The final state matrices. -/
theorem mat_eq : G11 m c = (at_ m' c 16).main_v35_7 := by
  funext i
  obtain ⟨p, h, d, e, rfl⟩ : ∃ (p : Fin 8) (h : Fin 4) (d e : Fin 512), i = ix4 p h d e :=
    ⟨i 0, i 1, i 2, i 3, funext fun a => match a with | ⟨0, _⟩ => rfl | ⟨1, _⟩ => rfl | ⟨2, _⟩ => rfl | ⟨3, _⟩ => rfl⟩
  have hp := p.isLt
  have hh := h.isLt
  have hd := d.isLt
  have he := e.isLt
  have hpt : KernelIdeal.Value.pt11Of (ix4 p h d e) = 16 * p.val + last.val := by
    show 16 * (1 * (p.val / 1 - 0) + 1 * (h.val / 4 - 0) + 1 * (d.val / 512 - 0) + 1 * (e.val / 512 - 0)) + 15 = 16 * p.val + 15
    omega
  have hloc : KernelIdeal.Value.loc11Of (ix4 p h d e) = ix4 0 h d e := by
    funext a
    refine Fin.ext ?_
    match a with
    | ⟨0, _⟩ => show p.val % 1 = 0; omega
    | ⟨1, _⟩ => show h.val % 4 = h.val; omega
    | ⟨2, _⟩ => show d.val % 512 = d.val; omega
    | ⟨3, _⟩ => show e.val % 512 = e.val; omega
  unfold G11
  rw [dif_pos (show KernelIdeal.Value.pt11Of _ < KernelIdeal.cfg0.N by rw [hpt]; exact (point p last).isLt),
    fold_at p last _ hpt, hloc, flush_mat]
  exact (good A p 15 (by omega)).carried.mat h d e

include A in
/-- The final normalizer rows. -/
theorem norm_eq : G12 m c = (at_ m' c 16).main_v35_8 := by
  funext i
  obtain ⟨p, h, d, rfl⟩ : ∃ (p : Fin 8) (h : Fin 4) (d : Fin 512), i = ix3 p h d :=
    ⟨i 0, i 1, i 2, funext fun a => match a with | ⟨0, _⟩ => rfl | ⟨1, _⟩ => rfl | ⟨2, _⟩ => rfl⟩
  have hp := p.isLt
  have hh := h.isLt
  have hd := d.isLt
  have hpt : KernelIdeal.Value.pt12Of (ix3 p h d) = 16 * p.val + last.val := by
    show 16 * (1 * (p.val / 1 - 0) + 1 * (h.val / 4 - 0) + 1 * (d.val / 512 - 0)) + 15 = 16 * p.val + 15
    omega
  have hloc : KernelIdeal.Value.loc12Of (ix3 p h d) = ix3 0 h d := by
    funext a
    refine Fin.ext ?_
    match a with
    | ⟨0, _⟩ => show p.val % 1 = 0; omega
    | ⟨1, _⟩ => show h.val % 4 = h.val; omega
    | ⟨2, _⟩ => show d.val % 512 = d.val; omega
  unfold G12
  rw [dif_pos (show KernelIdeal.Value.pt12Of _ < KernelIdeal.cfg0.N by rw [hpt]; exact (point p last).isLt),
    fold_at p last _ hpt, hloc, flush_norm]
  exact (good A p 15 (by omega)).carried.norm h d

include A in
/-- The final stabilizers. -/
theorem stab_eq : G13 m c = R_main_v69 (at_ m' c 16) := by
  funext i
  obtain ⟨p, e, rfl⟩ : ∃ (p : Fin 8) (e : Fin 128), i = ix3 p 0 e :=
    ⟨i 0, i 2, funext fun a => match a with
      | ⟨0, _⟩ => rfl
      | ⟨1, _⟩ => Fin.ext (by have h1 : (i 1).val < 1 := (i 1).isLt; show (i 1).val = 0; omega)
      | ⟨2, _⟩ => rfl⟩
  have hp := p.isLt
  have he := e.isLt
  have hpt : KernelIdeal.Value.pt13Of (ix3 p 0 e) = 16 * p.val + last.val := by
    show 16 * (1 * (p.val / 1 - 0) + 1 * (0 / 1 - 0) + 1 * (e.val / 128 - 0)) + 15 = 16 * p.val + 15
    omega
  have hloc : KernelIdeal.Value.loc13Of (ix3 p 0 e) = ix3 0 0 e := by
    funext a
    refine Fin.ext ?_
    match a with
    | ⟨0, _⟩ => show p.val % 1 = 0; omega
    | ⟨1, _⟩ => rfl
    | ⟨2, _⟩ => show e.val % 128 = e.val; omega
  unfold G13
  rw [dif_pos (show KernelIdeal.Value.pt13Of _ < KernelIdeal.cfg0.N by rw [hpt]; exact (point p last).isLt),
    fold_at p last _ hpt, hloc, flush_stab, Start.m_end]
  exact (good A p 15 (by omega)).carried.stab e

end Cert.Proof.Result

end
-- ==== Proof.FfnBody.lean ====
/-
  What the feed-forward kernel's body computes of the blocks that it loads: eleven turns over 256 columns each of the gate
  and of the up projection, their sum, then the per-layer embedding's gate and the last norm.
-/
module

public import proofs.«01_k».proof.Proof.Gen.Kernel2Ideal.Frame

@[expose] public section

noncomputable section

namespace Cert.Proof.FfnBody

open Cert.Kernel2Ideal Cert.Kernel2Ideal.Gen
open Idealize.ShloMosaic Idealize.ShloMosaic.TcCoe Idealize.SL.Sem

variable {F : FTy → Type} [FloatOps F]

/-! ## The columns of turn `k`: `u` is 0 for the gate's half and 1 for the up projection's -/

/-- The first column. -/
def first (u : Fin 2) (k : Fin 11) : ℕ := 2816 * u.val + 256 * k.val

/-- Column `j` of the turn. -/
def col (u : Fin 2) (k : Fin 11) (j : Fin 256) : Fin 5632 := ⟨first u k + j.val, by unfold first; omega⟩

/-- The turn's columns lie within the array. -/
theorem fits {n : ℕ} (u : Fin 2) (k : Fin 11) :
    ∀ a, (![0, first u k] : Fin 2 → Nat) a + (![n, 256] : Fin 2 → Nat) a ≤ (![n, 5632] : Fin 2 → Nat) a := by
  intro a
  have hu := u.isLt
  have hk := k.isLt
  fin_cases a <;> dsimp [first] <;> omega

/-- The turn's rows of the down projection lie within the array. -/
theorem fits_down (k : Fin 11) :
    ∀ a, (![256 * k.val, 0] : Fin 2 → Nat) a + (![256, 1024] : Fin 2 → Nat) a ≤ (![2816, 1024] : Fin 2 → Nat) a := by
  intro a
  have hk := k.isLt
  fin_cases a <;> dsimp <;> omega

variable (x0 : Vec F S256x1024 .f32) (x1 : Vec F S256x256 .f32) (X : Vec F S8x5632 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)
  (u : Fin 2) (k : Fin 11)

/-- The up projection's weights, -/
def upW : Vec F S1024x256 .bf16 := View.ld x4 (Rect.unit (s := S1024x5632) ![0, first u k] S1024x256.size (fits u k))

/-- the convolution's taps, -/
def taps : Vec F S3x256 .f32 := View.ld x5 (Rect.unit (s := S3x5632) ![0, first u k] S3x256.size (fits u k))

/-- its bias, -/
def bias : Vec F S1x256 .f32 := View.ld x6 (Rect.unit (s := S1x5632) ![0, first u k] S1x256.size (fits u k))

/-- the carried rows, -/
def prev : Vec F S8x256 .f32 := View.ld X (Rect.unit (s := S8x5632) ![0, first u k] S8x256.size (fits u k))

/-- and the down projection's rows. -/
def downW : Vec F S256x1024 .bf16 := View.ld x7 (Rect.unit (s := S2816x1024) ![256 * k.val, 0] S256x1024.size (fits_down k))

/-! ## The values -/

/-- The projected rows of the turn. -/
def proj : FVec F S256x256 .f32 := k0_pay23 (k0_pay2 x0 x3) (upW x4 u k)

/-- The last eight of them, which the next point's convolution reads. -/
def tail : FVec F S8x256 .f32 := k0_pay25 (proj x0 x3 x4 u k)

/-- Their convolution. -/
def conv : FVec F S256x256 .f32 := k0_pay24 (proj x0 x3 x4 u k) (taps x5 u k) (prev X u k) (bias x6 u k)

/-- One turn: the gated columns times their rows of the down projection, added to the sum so far. -/
def turn (acc : FVec F S256x1024 .f32) : FVec F S256x1024 .f32 :=
  k0_pay31 acc (conv x0 X x3 x4 x5 x6 0 k) (conv x0 X x3 x4 x5 x6 1 k) (k0_pay29 (conv x0 X x3 x4 x5 x6 0 k)) k0_pay30
    (downW x7 k)

/-- The sum after the first ten turns. -/
def ten : FVec F S256x1024 .f32 :=
  turn x0 X x3 x4 x5 x6 x7 9 (turn x0 X x3 x4 x5 x6 x7 8 (turn x0 X x3 x4 x5 x6 x7 7 (turn x0 X x3 x4 x5 x6 x7 6
    (turn x0 X x3 x4 x5 x6 x7 5 (turn x0 X x3 x4 x5 x6 x7 4 (turn x0 X x3 x4 x5 x6 x7 3 (turn x0 X x3 x4 x5 x6 x7 2
      (turn x0 X x3 x4 x5 x6 x7 1 (turn x0 X x3 x4 x5 x6 x7 0 k0_pay4)))))))))

/-- The rows with the feed-forward part added. -/
def mid : FVec F S256x1024 .f32 :=
  k0_pay149 (k0_pay1 x0) (ten x0 X x3 x4 x5 x6 x7) (conv x0 X x3 x4 x5 x6 0 10) (conv x0 X x3 x4 x5 x6 1 10)
    (k0_pay29 (conv x0 X x3 x4 x5 x6 0 10)) k0_pay30 (downW x7 10)

/-- The gate's denominator. -/
def den : FVec F S256x1024 .f32 :=
  k0_pay150 (k0_pay1 x0) (ten x0 X x3 x4 x5 x6 x7) (conv x0 X x3 x4 x5 x6 0 10) (conv x0 X x3 x4 x5 x6 1 10)
    (k0_pay29 (conv x0 X x3 x4 x5 x6 0 10)) k0_pay30 (downW x7 10) x8 x9

/-- The block of rows that the point writes. -/
def rows : FVec F S256x1024 .f32 :=
  k0_pay152 (mid x0 X x3 x4 x5 x6 x7) (den x0 X x3 x4 x5 x6 x7 x8 x9) k0_pay151 x1 x10 x11

end Cert.Proof.FfnBody

end
-- ==== Proof.FfnSkip.lean ====
/-
  How a load of some columns of the rows carried in scratch reads past the stores of other columns.
-/
module

public import proofs.«01_k».proof.Proof.FfnBody
public import Idealize.ShloMosaic.Lib.Pointwise

@[expose] public section

noncomputable section

namespace Cert.Proof.FfnBlocks

open Cert.Kernel2Ideal Cert.Kernel2Ideal.Gen
open Idealize.ShloMosaic Idealize.ShloMosaic.TcCoe Idealize.SL.Sem

/-- Zero offsets, of each rank the kernel uses. -/
theorem hz3 : (![0, 0, 0] : Fin 3 → Nat) = fun _ => 0 := funext fun a => by fin_cases a <;> rfl
theorem hz : (![0, 0] : Fin 2 → Nat) = fun _ => 0 := funext fun a => by fin_cases a <;> rfl

variable {F : FTy → Type} [FloatOps F]

/-- A load of some columns skips a store of columns apart from them. -/
theorem skip {σ : RefSig} {v : View σ .tc .vmem S8x5632 .f32} {off size off' size' : Fin 2 → ℕ} {inb inb'}
    (w : (Rect.unit (s := S8x5632) off size inb).shape.Idx → Elt F .f32) (L : List (View.Piece (Elt F) S8x5632 .f32))
    (h : off 1 + size 1 ≤ off' 1 ∨ off' 1 + size' 1 ≤ off 1) :
    v.readCov (⟨Rect.unit off size inb, w⟩ :: L) (Rect.unit (s := S8x5632) off' size' inb').toLoadRect
      = v.readCov L (Rect.unit (s := S8x5632) off' size' inb').toLoadRect :=
  View.readCov_cons_of_disjoint v _ L _ (Rect.unit_disjoint (inb := inb) (inb' := inb') 1 h)

/-- A load after one store of the whole buffer reads what was stored. -/
theorem whole {σ : RefSig} {v : View σ .tc .vmem S8x5632 .f32} {off off' size' : Fin 2 → ℕ} {inb inb'} (hoff : off = fun _ => 0)
    (w : S8x5632.Idx → Elt F .f32) :
    v.readCov [⟨Rect.unit off S8x5632.size inb, w⟩] (Rect.unit off' size' inb').toLoadRect = View.ld w (Rect.unit off' size' inb') := by
  rw [View.readCov_eq_canon']
  funext j
  rw [View.canon_unit_zero hoff]

end Cert.Proof.FfnBlocks

end
-- ==== Proof.FfnBlocksA.lean ====
/-
  What the feed-forward kernel's body leaves at a point that is the first of its batch row: the block of rows, and the last rows of its
  projection as the scratch carries them.
-/
module

public import proofs.«01_k».proof.Proof.FfnSkip

@[expose] public section

noncomputable section

namespace Cert.Proof.FfnBlocks

open Cert.Kernel2Ideal Cert.Kernel2Ideal.Gen Cert.Proof.FfnBody
open Idealize.ShloMosaic Idealize.ShloMosaic.TcCoe Idealize.SL.Sem

variable {F : FTy → Type} [FloatOps F]
variable (c : Dev nD) (i : grid0.Coords) (i : grid0.Coords) (arg2 : Memref sig .tc .vmem S256x1024 .f32) (harg2 : arg2.IsWhole) (arg3 : Memref sig .tc .vmem S256x256 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x8x5632 .f32) (harg15 : arg15.IsWhole) (arg16 : Memref sig .tc .vmem S8x5632 .f32) (harg16 : arg16.IsWhole)
  (x0 : Vec F S256x1024 .f32) (x1 : Vec F S256x256 .f32) (x2 : Vec F S1x8x5632 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)
  (xs : Vec F S8x5632 .f32)

set_option maxRecDepth 16384 in
/-- The block of rows. -/
theorem outA_12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = rows x0 x1 (k0_pay3 x2) x3 x4 x5 x6 x7 x8 x9 x10 x11 := by
  unfold out0_A_12 kernelRun0_A
  dsimp only
  rw [View.read_writes_junk_eq_canon, View.canon_unit_zero hz]
  sl_unfold_words
  simp (disch := decide) only [skip, whole hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
  dsimp only [rows, den, mid, ten, turn, conv, proj, upW, taps, bias, prev, downW]
  unfold_payloads
  rfl

set_option maxRecDepth 16384 in
/-- The carried rows, column `j` of turn `k`. -/
theorem scA (hc0 : cond0_0 i) (u : Fin 2) (k : Fin 11) (r : Fin 8) (j : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
        (ix2 r (col u k j)) = tail x0 x3 x4 u k (ix2 r j) := by
  unfold sout0_A_0 kernelRun0_A
  dsimp only
  fin_cases u <;> fin_cases k <;>
  · repeat
      refine Eq.trans (View.read_writes_cons_miss_of_axis _ _ _ _ _ 1 _ _ rfl rfl rfl (?_ : _ ∨ _)) ?_
      · first
        | (refine Or.inl ?_; dsimp [col, first] <;> omega)
        | (refine Or.inr ?_; dsimp [col, first] <;> omega)
    refine Eq.trans (View.read_writes_cons_hit_of_coords _ _ _ _ _ (ix2 r j) _ ?_) ?_
    · intro a
      fin_cases a <;> dsimp [col, first] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
    refine congrFun (?_ : _ = tail _ _ _ _ _) _
    dsimp only [tail, proj, upW]
    unfold_payloads
    rfl

end Cert.Proof.FfnBlocks

end
-- ==== Proof.FfnBlocksB.lean ====
/-
  What the feed-forward kernel's body leaves at a point that is not the first of its batch row: the block of rows, and the last rows of its
  projection as the scratch carries them and as they are written out.
-/
module

public import proofs.«01_k».proof.Proof.FfnSkip

@[expose] public section

noncomputable section

namespace Cert.Proof.FfnBlocks

open Cert.Kernel2Ideal Cert.Kernel2Ideal.Gen Cert.Proof.FfnBody
open Idealize.ShloMosaic Idealize.ShloMosaic.TcCoe Idealize.SL.Sem

variable {F : FTy → Type} [FloatOps F]
variable (c : Dev nD) (i : grid0.Coords) (i : grid0.Coords) (arg2 : Memref sig .tc .vmem S256x1024 .f32) (harg2 : arg2.IsWhole) (arg3 : Memref sig .tc .vmem S256x256 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x8x5632 .f32) (harg15 : arg15.IsWhole) (arg16 : Memref sig .tc .vmem S8x5632 .f32) (harg16 : arg16.IsWhole)
  (x0 : Vec F S256x1024 .f32) (x1 : Vec F S256x256 .f32) (x2 : Vec F S1x8x5632 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)
  (xs : Vec F S8x5632 .f32)

set_option maxRecDepth 16384 in
/-- The block of rows. -/
theorem outB_12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs
      = rows x0 x1 xs x3 x4 x5 x6 x7 x8 x9 x10 x11 := by
  unfold out0_B_12 kernelRun0_B
  dsimp only
  rw [View.read_writes_junk_eq_canon, View.canon_unit_zero hz]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
  dsimp only [rows, den, mid, ten, turn, conv, proj, upW, taps, bias, prev, downW]
  unfold_payloads
  rfl

set_option maxRecDepth 16384 in
/-- The carried rows, column `j` of turn `k`. -/
theorem scB (hc0 : ¬cond0_0 i) (u : Fin 2) (k : Fin 11) (r : Fin 8) (j : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs
        (ix2 r (col u k j)) = tail x0 x3 x4 u k (ix2 r j) := by
  unfold sout0_B_0 kernelRun0_B
  dsimp only
  fin_cases u <;> fin_cases k <;>
  · repeat
      refine Eq.trans (View.read_writes_cons_miss_of_axis _ _ _ _ _ 1 _ _ rfl rfl rfl (?_ : _ ∨ _)) ?_
      · first
        | (refine Or.inl ?_; dsimp [col, first] <;> omega)
        | (refine Or.inr ?_; dsimp [col, first] <;> omega)
    refine Eq.trans (View.read_writes_cons_hit_of_coords _ _ _ _ _ (ix2 r j) _ ?_) ?_
    · intro a
      fin_cases a <;> dsimp [col, first] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
    refine congrFun (?_ : _ = tail _ _ _ _ _) _
    dsimp only [tail, proj, upW]
    unfold_payloads
    rfl

/-- The carried rows are written out as the scratch holds them. -/
theorem outB_13 (hc0 : ¬cond0_0 i) (r : Fin 8) (q : Fin 5632) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs (ix3 0 r q)
      = sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs (ix2 r q) := by
  unfold out0_B_13 sout0_B_0 kernelRun0_B
  dsimp only
  rw [View.read_writes_junk_eq_canon, View.canon_unit_zero hz3]
  pointwise [k0_pay148]
  rw [View.read_writes_junk_apply_eq_canon]
  unfold kernelRun0_B.sl.v1099
  rw [View.readCov_eq_canon']
  exact congrArg (View.canon _) (funext fun a => Fin.ext (match a with
    | ⟨0, _⟩ => (by show 0 + 1 * r.val = r.val; omega)
    | ⟨1, _⟩ => (by show 0 + 1 * q.val = q.val; omega)))

end Cert.Proof.FfnBlocks

end
-- ==== Proof.FfnRow.lean ====
/-
  One row through the feed-forward part and the gated projection that follows it, as functions of the row's values.
-/
module

public import Idealize.ShloMosaic.Lib.Pointwise

@[expose] public section

noncomputable section

namespace Cert.Proof.FfnRow

open Idealize.ShloMosaic

/-- One entry of a row scaled to unit root mean square, times a gain. -/
def rms (x g : Fin 1024 → EReal) (d : Fin 1024) : EReal :=
  x d * Ideal.rsqrt (Ideal.div (∑ e, x e * x e) (Ideal.ofBits .f32 0x44800000#32) + Ideal.ofBits .f32 0x358637BD#32) * g d

/-- One column of the up projection of a row. -/
def up (x g : Fin 1024 → EReal) (w : Fin 1024 → EReal) : EReal := ∑ d, rms x g d * w d

/-- The convolution's three taps and its bias, at the entries two rows back, one row back and here. -/
def mix (b w0 w1 w2 a0 a1 a2 : EReal) : EReal := b + w0 * a0 + w1 * a1 + w2 * a2

/-- The gate. -/
def gated (u v : EReal) : EReal := u * Ideal.div 1 (1 + Ideal.exp (-u)) * v

/-- Column `j` of one half of the projected columns. -/
def half (u : Fin 2) (j : Fin 2816) : Fin 5632 := ⟨2816 * u.val + j.val, by omega⟩

/-- The row with the feed-forward part added, of the row and its convolved columns. -/
def ffn (x : Fin 1024 → EReal) (h : Fin 5632 → EReal) (w : Fin 2816 → Fin 1024 → EReal) (d : Fin 1024) : EReal :=
  x d + ∑ j, gated (h (half 0 j)) (h (half 1 j)) * w j d

/-- That row with the gated projection added. -/
def ple (y : Fin 1024 → EReal) (p : Fin 256 → EReal) (g : Fin 1024 → EReal) (wg : Fin 1024 → Fin 1024 → EReal)
    (wp : Fin 256 → Fin 1024 → EReal) (d : Fin 1024) : EReal :=
  y d + Ideal.div 1 (1 + Ideal.exp (-∑ e, rms y g e * wg e d)) * ∑ e, p e * wp e d

/-- The entry `n` rows before row `r` of a block, from the eight rows that precede the block when it lies there. -/
def back (A : Fin 256 → EReal) (P : Fin 8 → EReal) (n : ℕ) (hn : n ≤ 8) (r : Fin 256) : EReal :=
  if h : r.val < n then P ⟨r.val + 8 - n, by omega⟩ else A ⟨r.val - n, by omega⟩

/-- Entry `x` of the `k`-th of eleven runs of 256. -/
def run (k : Fin 11) (x : Fin 256) : Fin 2816 := ⟨256 * k.val + x.val, by omega⟩

/-- A sum over 2816 entries, by eleven runs of 256 added from the left. -/
theorem sum_runs (f : Fin 2816 → EReal) (s : Fin 11 → EReal) (h : ∀ k, s k = ∑ x, f (run k x)) :
    0 + s 0 + s 1 + s 2 + s 3 + s 4 + s 5 + s 6 + s 7 + s 8 + s 9 + s 10 = ∑ j, f j := by
  have e : ∑ j, f j = ∑ k, s k := by
    rw [← (finProdFinEquiv (m := 11) (n := 256)).sum_comp f, Fintype.sum_prod_type]
    refine Finset.sum_congr rfl fun k _ => ?_
    rw [h]
    refine Finset.sum_congr rfl fun x _ => congrArg f (Fin.ext ?_)
    show x.val + 256 * k.val = 256 * k.val + x.val
    omega
  rw [e, zero_add]
  simp only [Fin.sum_univ_succ, Fin.sum_univ_zero, add_zero, ← add_assoc]
  rfl

end Cert.Proof.FfnRow

end
-- ==== Proof.FfnAt.lean ====
/-
  The feed-forward kernel's values at an index, as functions of a row.
-/
module

public import proofs.«01_k».proof.Proof.FfnBody
public import proofs.«01_k».proof.Proof.FfnRow

@[expose] public section

set_option maxRecDepth 16384

noncomputable section

namespace Cert.Proof.FfnAt

open Cert.Kernel2Ideal Cert.Kernel2Ideal.Gen Cert.Proof.FfnBody Cert.Proof.FfnRow
open Idealize.ShloMosaic Idealize.ShloMosaic.TcCoe Idealize.SL.Sem

/-! ## The parts read of the arrays -/

section Parts

variable {F : FTy → Type} [FloatOps F] (u : Fin 2) (k : Fin 11)

theorem upW_at (w : Vec F S1024x5632 .bf16) (d : Fin 1024) (j : Fin 256) : upW w u k (ix2 d j) = w (ix2 d (col u k j)) :=
  congrArg w (funext fun a => Fin.ext (match a with
    | ⟨0, _⟩ => (by show 0 + 1 * d.val = d.val; omega)
    | ⟨1, _⟩ => (by show first u k + 1 * j.val = first u k + j.val; omega)))

theorem taps_at (w : Vec F S3x5632 .f32) (s : Fin 3) (j : Fin 256) : taps w u k (ix2 s j) = w (ix2 s (col u k j)) :=
  congrArg w (funext fun a => Fin.ext (match a with
    | ⟨0, _⟩ => (by show 0 + 1 * s.val = s.val; omega)
    | ⟨1, _⟩ => (by show first u k + 1 * j.val = first u k + j.val; omega)))

theorem bias_at (w : Vec F S1x5632 .f32) (j : Fin 256) : bias w u k (ix2 0 j) = w (ix2 0 (col u k j)) :=
  congrArg w (funext fun a => Fin.ext (match a with
    | ⟨0, _⟩ => rfl
    | ⟨1, _⟩ => (by show first u k + 1 * j.val = first u k + j.val; omega)))

theorem prev_at (w : Vec F S8x5632 .f32) (s : Fin 8) (j : Fin 256) : prev w u k (ix2 s j) = w (ix2 s (col u k j)) :=
  congrArg w (funext fun a => Fin.ext (match a with
    | ⟨0, _⟩ => (by show 0 + 1 * s.val = s.val; omega)
    | ⟨1, _⟩ => (by show first u k + 1 * j.val = first u k + j.val; omega)))

theorem downW_at (w : Vec F S2816x1024 .bf16) (j : Fin 256) (d : Fin 1024) : downW w k (ix2 j d) = w (ix2 (run k j) d) :=
  congrArg w (funext fun a => Fin.ext (match a with
    | ⟨0, _⟩ => (by show 256 * k.val + 1 * j.val = 256 * k.val + j.val; omega)
    | ⟨1, _⟩ => (by show 0 + 1 * d.val = d.val; omega)))

end Parts

variable (x0 : Vec Ideal S256x1024 .f32) (x1 : Vec Ideal S256x256 .f32) (X : Vec Ideal S8x5632 .f32) (x3 : Vec Ideal S1x1024 .f32)
  (x4 : Vec Ideal S1024x5632 .bf16) (x5 : Vec Ideal S3x5632 .f32) (x6 : Vec Ideal S1x5632 .f32) (x7 : Vec Ideal S2816x1024 .bf16)
  (x8 : Vec Ideal S1x1024 .f32) (x9 : Vec Ideal S1024x1024 .bf16) (x10 : Vec Ideal S256x1024 .bf16) (x11 : Vec Ideal S1x1024 .f32)
  (u : Fin 2) (k : Fin 11)

/-! ## The projected columns and their convolution -/

/-- Column `q` of row `r`, projected. -/
def upAt (r : Fin 256) (q : Fin 5632) : EReal :=
  up (fun d => x0 (ix2 r d)) (fun d => x3 (ix2 0 d)) (fun d => x4 (ix2 d q))

/-- The same, convolved with the rows before. -/
def hid (r : Fin 256) (q : Fin 5632) : EReal :=
  mix (x6 (ix2 0 q)) (x5 (ix2 0 q)) (x5 (ix2 1 q)) (x5 (ix2 2 q))
    (back (fun s => upAt x0 x3 x4 s q) (fun s => X (ix2 s q)) 2 (by omega) r)
    (back (fun s => upAt x0 x3 x4 s q) (fun s => X (ix2 s q)) 1 (by omega) r)
    (upAt x0 x3 x4 r q)

theorem proj_at (r j : Fin 256) : proj x0 x3 x4 u k (ix2 r j) = upAt x0 x3 x4 r (col u k j) := by
  unfold proj
  pointwise [k0_pay23, k0_pay2, k0_pay1]
  unfold upAt up rms
  simp only [upW_at]

/-- The last eight rows of a turn. -/
theorem tail_at (r : Fin 8) (j : Fin 256) : tail x0 x3 x4 u k (ix2 r j) = upAt x0 x3 x4 ⟨248 + r.val, by omega⟩ (col u k j) := by
  refine Eq.trans ?_ (proj_at x0 x3 x4 u k ⟨248 + r.val, by omega⟩ j)
  unfold tail
  pointwise [k0_pay25]

/-- A comparison of a small row number with a shift, as it selects. -/
theorem select_lt {α : Type} (n : ℕ) (hn : n = 1 ∨ n = 2) (r : Fin 256) (hr : r.val < 8) (a b : α) :
    Scalar.select (IntOp.cmpi .slt (BitVec.ofNat 32 r.val) (BitVec.ofNat 32 n)) a b = if r.val < n then a else b := by
  obtain ⟨r, h⟩ := r
  dsimp only at hr ⊢
  rcases hn with rfl | rfl <;> interval_cases r <;> rfl

/-- The rows `n` back, spelled by a rotation of the block and one of the eight rows before it. -/
theorem shift_at (A : Fin 256 → EReal) (P : Fin 8 → EReal) (n : ℕ) (hn : n = 1 ∨ n = 2) (r : Fin 256) :
    (if h : r.val < 8 then
      Scalar.select (IntOp.cmpi .slt (BitVec.ofNat 32 r.val) (BitVec.ofNat 32 n))
        (P ⟨(r.val + 8 - n) % 8, Nat.mod_lt _ (by omega)⟩) (A ⟨(r.val + 256 - n) % 256, Nat.mod_lt _ (by omega)⟩)
      else A ⟨(8 + (r.val - 8) + 256 - n) % 256, Nat.mod_lt _ (by omega)⟩) = back A P n (by omega) r := by
  have hr := r.isLt
  unfold back
  by_cases h8 : r.val < 8
  · rw [dif_pos h8, select_lt n hn r h8]
    by_cases h : r.val < n
    · rw [if_pos h, dif_pos h]
      exact congrArg P (Fin.ext (by show (r.val + 8 - n) % 8 = r.val + 8 - n; omega))
    · rw [if_neg h, dif_neg h]
      exact congrArg A (Fin.ext (by show (r.val + 256 - n) % 256 = r.val - n; omega))
  · rw [dif_neg h8, dif_neg (by omega)]
    exact congrArg A (Fin.ext (by show (8 + (r.val - 8) + 256 - n) % 256 = r.val - n; omega))

theorem conv_at (r j : Fin 256) : conv x0 X x3 x4 x5 x6 u k (ix2 r j) = hid x0 X x3 x4 x5 x6 r (col u k j) := by
  unfold conv
  pointwise [k0_pay24]
  rw [bias_at, taps_at, taps_at, taps_at, proj_at]
  unfold hid mix
  simp only [proj_at, prev_at]
  refine congrArg₂ (fun a b => _ + _ * a + _ * b + _) ?_ ?_
  · exact shift_at (fun s => upAt x0 x3 x4 s (col u k j)) (fun s => X (ix2 s (col u k j))) 2 (.inr rfl) r
  · exact shift_at (fun s => upAt x0 x3 x4 s (col u k j)) (fun s => X (ix2 s (col u k j))) 1 (.inl rfl) r

/-! ## The sum over the turns -/

/-- One entry's part of the down projection. -/
def term (r : Fin 256) (d : Fin 1024) (j : Fin 2816) : EReal :=
  gated (hid x0 X x3 x4 x5 x6 r (half 0 j)) (hid x0 X x3 x4 x5 x6 r (half 1 j)) * x7 (ix2 j d)

/-- A turn's columns, of either half. -/
theorem col_half (j : Fin 256) : col u k j = half u (run k j) :=
  Fin.ext (by show 2816 * u.val + 256 * k.val + j.val = 2816 * u.val + (256 * k.val + j.val); omega)

theorem turn_at (acc : FVec Ideal S256x1024 .f32) (r : Fin 256) (d : Fin 1024) :
    turn x0 X x3 x4 x5 x6 x7 k acc (ix2 r d) = acc (ix2 r d) + ∑ x, term x0 X x3 x4 x5 x6 x7 r d (run k x) := by
  unfold turn
  pointwise [k0_pay31, k0_pay29, k0_pay30]
  unfold term gated
  simp only [conv_at, downW_at, zero_sub, col_half]

theorem mid_at (r : Fin 256) (d : Fin 1024) : mid x0 X x3 x4 x5 x6 x7 (ix2 r d)
    = ffn (fun d => x0 (ix2 r d)) (hid x0 X x3 x4 x5 x6 r) (fun j d => x7 (ix2 j d)) d := by
  have e : mid x0 X x3 x4 x5 x6 x7 (ix2 r d)
      = x0 (ix2 r d) + turn x0 X x3 x4 x5 x6 x7 10 (ten x0 X x3 x4 x5 x6 x7) (ix2 r d) := by
    unfold mid turn
    pointwise [k0_pay149, k0_pay1, k0_pay31, k0_pay29, k0_pay30]
  rw [e]
  unfold ten
  simp only [turn_at]
  unfold ffn
  refine congrArg (x0 (ix2 r d) + ·) ?_
  have z : k0_pay4 (F := Ideal) (ix2 r d) = 0 := by pointwise [k0_pay4]
  rw [z]
  exact sum_runs (term x0 X x3 x4 x5 x6 x7 r d) (fun k => ∑ x, term x0 X x3 x4 x5 x6 x7 r d (run k x)) (fun k => rfl)

/-! ## The rows written -/

theorem den_at (r : Fin 256) (d : Fin 1024) : den x0 X x3 x4 x5 x6 x7 x8 x9 (ix2 r d)
    = 1 + Ideal.exp (-∑ e, rms (fun d => mid x0 X x3 x4 x5 x6 x7 (ix2 r d)) (fun d => x8 (ix2 0 d)) e * x9 (ix2 e d)) := by
  unfold den
  unfold k0_pay150
  rw [show k0_pay149 (k0_pay1 x0) (ten x0 X x3 x4 x5 x6 x7) (conv x0 X x3 x4 x5 x6 0 10) (conv x0 X x3 x4 x5 x6 1 10)
    (k0_pay29 (conv x0 X x3 x4 x5 x6 0 10)) k0_pay30 (downW x7 10) = mid x0 X x3 x4 x5 x6 x7 from rfl]
  generalize mid x0 X x3 x4 x5 x6 x7 = y
  pointwise
  rw [zero_sub]
  rfl

/-- One entry of the block a point writes. -/
theorem rows_at (r : Fin 256) (d : Fin 1024) : rows x0 x1 X x3 x4 x5 x6 x7 x8 x9 x10 x11 (ix2 r d)
    = rms (ple (ffn (fun d => x0 (ix2 r d)) (hid x0 X x3 x4 x5 x6 r) (fun j d => x7 (ix2 j d))) (fun d => x1 (ix2 r d))
        (fun d => x8 (ix2 0 d)) (fun e d => x9 (ix2 e d)) (fun e d => x10 (ix2 e d))) (fun d => x11 (ix2 0 d)) d := by
  rw [show ffn (fun d => x0 (ix2 r d)) (hid x0 X x3 x4 x5 x6 r) (fun j d => x7 (ix2 j d))
    = fun d => mid x0 X x3 x4 x5 x6 x7 (ix2 r d) from funext fun d => (mid_at x0 X x3 x4 x5 x6 x7 r d).symm]
  unfold rows
  have hd := den_at x0 X x3 x4 x5 x6 x7 x8 x9 r
  generalize den x0 X x3 x4 x5 x6 x7 x8 x9 = z at hd ⊢
  generalize mid x0 X x3 x4 x5 x6 x7 = y at hd ⊢
  pointwise [k0_pay152, k0_pay151]
  simp only [hd]
  rfl

end Cert.Proof.FfnAt

end
-- ==== Proof.FfnInputs.lean ====
/-
  The feed-forward kernel's input blocks at an index: what each point reads of the arguments, through the flattening, padding
  and casting that come before the call. Point `t` is tile `t % 8` of batch row `t / 8`.
-/
module

public import proofs.«01_k».proof.Proof.Gen.Kernel2Ideal.Value
public import Idealize.ShloMosaic.Lib.Pointwise

@[expose] public section

set_option maxRecDepth 16384

noncomputable section

namespace Cert.Proof.FfnInputs

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-! ## The windowed arrays, of the arguments -/

theorem V_v0 : V m c main_v0
    = shapeCast S16384x1024 (m ((c.tc : Thread nD τ).loc main_arg0)) shapeCasts_S8x2048x1024_S16384x1024 := rfl
theorem V_v1 : V m c main_v1
    = shapeCast S16384x256 (m ((c.tc : Thread nD τ).loc main_arg1)) shapeCasts_S8x2048x256_S16384x256 := rfl
theorem V_v2 : V m c main_v2 = pad S8x8x5632 ![0, 6, 0] ![0, 0, 0] ![0, 0, 0]
    (m ((c.tc : Thread nD τ).loc main_arg2)) (sitofp (F := Ideal) .f32 (constantI S_ 32 0#32)) pads_S8x2x5632_S8x8x5632_000_600_000 h_S_ := rfl
theorem V_v3 : V m c main_v3 = m ((c.tc : Thread nD τ).loc main_arg4) := rfl
theorem V_v4 : V m c main_v4 = m ((c.tc : Thread nD τ).loc main_arg7) := rfl
theorem V_v5 : V m c main_v5 = m ((c.tc : Thread nD τ).loc main_arg9) := rfl
theorem V_v6 : V m c main_v6 = m ((c.tc : Thread nD τ).loc main_arg10) := rfl
theorem V_v7 : V m c main_v7 = shapeCast S1x1024 (m ((c.tc : Thread nD τ).loc main_arg3)) shapeCasts_S1024_S1x1024 := rfl
theorem V_v8 : V m c main_v8 = shapeCast S1x5632 (m ((c.tc : Thread nD τ).loc main_arg6)) shapeCasts_S5632_S1x5632 := rfl
theorem V_v9 : V m c main_v9 = shapeCast S1x1024 (m ((c.tc : Thread nD τ).loc main_arg8)) shapeCasts_S1024_S1x1024 := rfl
theorem V_v10 : V m c main_v10 = shapeCast S1x1024 (m ((c.tc : Thread nD τ).loc main_arg11)) shapeCasts_S1024_S1x1024 := rfl

/-! ## Where a point's block lies -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val / 8, 0, 0] :=
  (by decide +kernel : ∀ t : Fin grid0.N, win0_2.index t = ![t.val / 8, 0, 0])

/-- The weights' windows stand still. -/
theorem still : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0])

/-- An index in a block at the origin is the array's. -/
theorem origin {i : Fin 2 → ℕ} (h : i = ![0, 0]) (a : Fin 2) (n y : ℕ) : i a * n + 1 * y = y := by
  subst h
  fin_cases a <;> simp

/-- Row `r` of tile `j`, in its batch row, -/
def rowOf (j : Fin 8) (r : Fin 256) : Fin 2048 := ⟨256 * j.val + r.val, by omega⟩

/-- and among all rows. -/
def flatOf (p j : Fin 8) (r : Fin 256) : Fin 16384 := ⟨256 * (8 * p.val + j.val) + r.val, by omega⟩

variable (p j : Fin 8)

/-- The point of tile `j` of batch row `p`. -/
def point : Fin cfg0.N := ⟨8 * p.val + j.val, by show _ < 64; omega⟩

variable (t : Fin cfg0.N)

/-! ## The arrays that are reshaped or padded, at an index -/

section Reshaped

variable {α : Type}

/-- Flattening the two leading axes, read at a row, -/
theorem flat1024 (x : S8x2048x1024.Idx → α) (r : Fin 256) (d : Fin 1024) :
    shapeCast S16384x1024 x shapeCasts_S8x2048x1024_S16384x1024 (ix2 (flatOf p j r) d) = x (ix3 p (rowOf j r) d) := by
  have hp := p.isLt
  have hj := j.isLt
  have hr := r.isLt
  have e0 : (256 * (8 * p.val + j.val) + r.val) / 2048 = p.val := by omega
  have e1 : (256 * (8 * p.val + j.val) + r.val) % 2048 = 256 * j.val + r.val := by omega
  pointwise
  refine congrArg x ?_
  simp only [flatOf, rowOf, e0, e1]

/-- also of the narrower rows. -/
theorem flat256 (x : S8x2048x256.Idx → α) (r d : Fin 256) :
    shapeCast S16384x256 x shapeCasts_S8x2048x256_S16384x256 (ix2 (flatOf p j r) d) = x (ix3 p (rowOf j r) d) := by
  have hp := p.isLt
  have hj := j.isLt
  have hr := r.isLt
  have e0 : (256 * (8 * p.val + j.val) + r.val) / 2048 = p.val := by omega
  have e1 : (256 * (8 * p.val + j.val) + r.val) % 2048 = 256 * j.val + r.val := by omega
  pointwise
  refine congrArg x ?_
  simp only [flatOf, rowOf, e0, e1]

/-- A gain as one row, -/
theorem gain (x : S1024.Idx → α) (d : Fin 1024) : shapeCast S1x1024 x shapeCasts_S1024_S1x1024 (ix2 0 d) = x (ix1 d) := by
  pointwise

/-- and the bias. -/
theorem biasRow (x : S5632.Idx → α) (q : Fin 5632) : shapeCast S1x5632 x shapeCasts_S5632_S1x5632 (ix2 0 q) = x (ix1 q) := by
  pointwise

/-- Six rows put before two, at the two. -/
theorem padded (x : S8x2x5632.Idx → α) (z : S_.Idx → α) (i : Fin 2) (q : Fin 5632) :
    pad S8x8x5632 ![0, 6, 0] ![0, 0, 0] ![0, 0, 0] x z pads_S8x2x5632_S8x8x5632_000_600_000 h_S_
      (ix3 p ⟨6 + i.val, by omega⟩ q) = x (ix3 p i q) := by
  have hi := i.isLt
  pointwise

end Reshaped

/-! ## The weights -/

theorem block3 (d : Fin 1024) : iblk m c 3 t (ix2 0 d) = m ((c.tc : Thread nD τ).loc main_arg3) (ix1 d) := by
  refine Eq.trans (b := V m c main_v7 (ix2 0 d)) ?_ ?_
  · exact congrArg (V m c main_v7) (funext fun a => Fin.ext (origin (still t).1 a _ _))
  · rw [V_v7]
    exact gain _ d

theorem block4 (d : Fin 1024) (q : Fin 5632) : iblk m c 4 t (ix2 d q) = m ((c.tc : Thread nD τ).loc main_arg4) (ix2 d q) :=
  congrArg (V m c main_v3) (funext fun a => Fin.ext (origin (still t).2.1 a _ _))

theorem block5 (s : Fin 3) (q : Fin 5632) : iblk m c 5 t (ix2 s q) = m ((c.tc : Thread nD τ).loc main_arg5) (ix2 s q) :=
  congrArg (V m c main_arg5) (funext fun a => Fin.ext (origin (still t).2.2.1 a _ _))

theorem block6 (q : Fin 5632) : iblk m c 6 t (ix2 0 q) = m ((c.tc : Thread nD τ).loc main_arg6) (ix1 q) := by
  refine Eq.trans (b := V m c main_v8 (ix2 0 q)) ?_ ?_
  · exact congrArg (V m c main_v8) (funext fun a => Fin.ext (origin (still t).2.2.2.1 a _ _))
  · rw [V_v8]
    exact biasRow _ q

theorem block7 (j : Fin 2816) (d : Fin 1024) : iblk m c 7 t (ix2 j d) = m ((c.tc : Thread nD τ).loc main_arg7) (ix2 j d) :=
  congrArg (V m c main_v4) (funext fun a => Fin.ext (origin (still t).2.2.2.2.1 a _ _))

theorem block8 (d : Fin 1024) : iblk m c 8 t (ix2 0 d) = m ((c.tc : Thread nD τ).loc main_arg8) (ix1 d) := by
  refine Eq.trans (b := V m c main_v9 (ix2 0 d)) ?_ ?_
  · exact congrArg (V m c main_v9) (funext fun a => Fin.ext (origin (still t).2.2.2.2.2.1 a _ _))
  · rw [V_v9]
    exact gain _ d

theorem block9 (e d : Fin 1024) : iblk m c 9 t (ix2 e d) = m ((c.tc : Thread nD τ).loc main_arg9) (ix2 e d) :=
  congrArg (V m c main_v5) (funext fun a => Fin.ext (origin (still t).2.2.2.2.2.2.1 a _ _))

theorem block10 (e : Fin 256) (d : Fin 1024) : iblk m c 10 t (ix2 e d) = m ((c.tc : Thread nD τ).loc main_arg10) (ix2 e d) :=
  congrArg (V m c main_v6) (funext fun a => Fin.ext (origin (still t).2.2.2.2.2.2.2.1 a _ _))

theorem block11 (d : Fin 1024) : iblk m c 11 t (ix2 0 d) = m ((c.tc : Thread nD τ).loc main_arg11) (ix1 d) := by
  refine Eq.trans (b := V m c main_v10 (ix2 0 d)) ?_ ?_
  · exact congrArg (V m c main_v10) (funext fun a => Fin.ext (origin (still t).2.2.2.2.2.2.2.2 a _ _))
  · rw [V_v10]
    exact gain _ d

/-! ## The rows -/

/-- The residual rows' block. -/
theorem block0 (r : Fin 256) (d : Fin 1024) : iblk m c 0 (point p j) (ix2 r d)
    = m ((c.tc : Thread nD τ).loc main_arg0) (ix3 p (rowOf j r) d) := by
  refine Eq.trans (b := V m c main_v0 (ix2 (flatOf p j r) d)) ?_ ?_
  · refine congrArg (V m c main_v0) (funext fun a => Fin.ext ?_)
    match a with
    | ⟨0, _⟩ =>
      show win0_0.index (point p j) 0 * 256 + 1 * r.val = 256 * (8 * p.val + j.val) + r.val
      rw [idx0]
      show (8 * p.val + j.val) * 256 + 1 * _ = _
      omega
    | ⟨1, _⟩ =>
      show win0_0.index (point p j) 1 * 1024 + 1 * d.val = d.val
      rw [idx0]
      show 0 * 1024 + 1 * _ = _
      omega
  · rw [V_v0]
    exact flat1024 p j _ r d

/-- The block of rows that the gated projection takes. -/
theorem block1 (r d : Fin 256) : iblk m c 1 (point p j) (ix2 r d)
    = m ((c.tc : Thread nD τ).loc main_arg1) (ix3 p (rowOf j r) d) := by
  refine Eq.trans (b := V m c main_v1 (ix2 (flatOf p j r) d)) ?_ ?_
  · refine congrArg (V m c main_v1) (funext fun a => Fin.ext ?_)
    match a with
    | ⟨0, _⟩ =>
      show win0_1.index (point p j) 0 * 256 + 1 * r.val = 256 * (8 * p.val + j.val) + r.val
      rw [idx1]
      show (8 * p.val + j.val) * 256 + 1 * _ = _
      omega
    | ⟨1, _⟩ =>
      show win0_1.index (point p j) 1 * 256 + 1 * d.val = d.val
      rw [idx1]
      show 0 * 256 + 1 * _ = _
      omega
  · rw [V_v1]
    exact flat256 p j _ r d

/-- The given buffer, whose two rows come last of the block's eight. -/
theorem block2 (i : Fin 2) (q : Fin 5632) : k0_pay3 (iblk m c 2 (point p j)) (ix2 ⟨6 + i.val, by omega⟩ q)
    = m ((c.tc : Thread nD τ).loc main_arg2) (ix3 p i q) := by
  have hp := p.isLt
  have hj := j.isLt
  refine Eq.trans (b := iblk m c 2 (point p j) (ix3 0 ⟨6 + i.val, by omega⟩ q)) ?_ ?_
  · generalize iblk m c 2 (point p j) = x
    pointwise [k0_pay3]
  refine Eq.trans (b := V m c main_v2 (ix3 p ⟨6 + i.val, by omega⟩ q)) ?_ ?_
  · refine congrArg (V m c main_v2) (funext fun a => Fin.ext ?_)
    match a with
    | ⟨0, _⟩ =>
      show win0_2.index (point p j) 0 * 1 + 1 * 0 = p.val
      rw [idx2]
      show ((8 * p.val + j.val) / 8) * 1 + 1 * _ = _
      omega
    | ⟨1, _⟩ =>
      show win0_2.index (point p j) 1 * 8 + 1 * (6 + i.val) = 6 + i.val
      rw [idx2]
      show 0 * 8 + 1 * _ = _
      omega
    | ⟨2, _⟩ =>
      show win0_2.index (point p j) 2 * 5632 + 1 * q.val = q.val
      rw [idx2]
      show 0 * 5632 + 1 * _ = _
      omega
  · rw [V_v2]
    exact padded p _ _ i q

end Cert.Proof.FfnInputs

end
-- ==== Proof.FfnRef.lean ====
/-
  The reference's values at an index, as functions of a row.
-/
module

public import proofs.«01_k».proof.Proof.Gen.Reference2Ideal.Run
public import proofs.«01_k».proof.Proof.FfnRow

@[expose] public section

set_option maxRecDepth 16384

noncomputable section

namespace Cert.Proof.FfnRef

open Cert.Reference2Ideal Cert.Reference2Ideal.Gen Cert.Reference2Ideal.Value Cert.Proof.FfnRow
open Idealize.ShloMosaic Idealize.ShloMosaic.TcCoe Idealize.SL.Sem

variable (V : Valuation τ sig (Elt Ideal)) (b : Fin 8) (s : Fin 2048)

theorem v13_at (q : Fin 5632) : res_main_v13 V (ix3 b s q)
    = up (fun d => V (Proc.tc.devRef main_arg0) (ix3 b s d)) (fun d => V (Proc.tc.devRef main_arg3) (ix1 d))
        (fun d => V (Proc.tc.devRef main_arg4) (ix2 d q)) := by
  pointwise [res_main_v13]
  rfl

/-- The projected column `n` rows back, from the buffer's two rows at the start. -/
def back (n : ℕ) (hn : n ≤ 2) (q : Fin 5632) : EReal :=
  if h : s.val < n then V (Proc.tc.devRef main_arg2) (ix3 b ⟨s.val + 2 - n, by omega⟩ q)
  else res_main_v13 V (ix3 b ⟨s.val - n, by omega⟩ q)

theorem v37_at (q : Fin 5632) : res_main_v37 V (ix3 b s q)
    = mix (V (Proc.tc.devRef main_arg6) (ix1 q)) (V (Proc.tc.devRef main_arg5) (ix2 0 q))
        (V (Proc.tc.devRef main_arg5) (ix2 1 q)) (V (Proc.tc.devRef main_arg5) (ix2 2 q))
        (back V b s 2 (by omega) q) (back V b s 1 (by omega) q) (res_main_v13 V (ix3 b s q)) := by
  have hs := s.isLt
  pointwise [res_main_v37, res_main_v14]
  refine congrArg₂ (fun x y => mix (V (Proc.tc.devRef main_arg6) (ix1 q)) (V (Proc.tc.devRef main_arg5) (ix2 0 q))
    (V (Proc.tc.devRef main_arg5) (ix2 1 q)) (V (Proc.tc.devRef main_arg5) (ix2 2 q)) x y (res_main_v13 V (ix3 b s q))) ?_ ?_
  · unfold back
    refine dite_congr rfl (fun h => ?_) (fun h => rfl)
    exact congrArg (fun t => V (Proc.tc.devRef main_arg2) (ix3 b t q)) (Fin.ext (by show s.val = s.val + 2 - 2; omega))
  · unfold back
    by_cases h : s.val < 1
    · rw [dif_pos h, dif_pos (by omega)]
      exact congrArg (fun t => V (Proc.tc.devRef main_arg2) (ix3 b t q)) (Fin.ext (by show 1 + s.val = s.val + 2 - 1; omega))
    · rw [dif_neg h, dif_neg (by omega)]
      exact congrArg (fun t => res_main_v13 V (ix3 b t q)) (Fin.ext (by show 1 + s.val - 2 = s.val - 1; omega))

theorem v43_at (d : Fin 1024) : res_main_v43 V (ix3 b s d)
    = ffn (fun d => V (Proc.tc.devRef main_arg0) (ix3 b s d)) (fun q => res_main_v37 V (ix3 b s q))
        (fun j d => V (Proc.tc.devRef main_arg7) (ix2 j d)) d := by
  pointwise [res_main_v43, res_main_v38]
  unfold ffn gated
  refine congrArg₂ (fun x y : EReal => x + y) rfl (Finset.sum_congr rfl fun j _ => ?_)
  have e : half 0 j = ⟨j.val, by omega⟩ := Fin.ext (by show 2816 * 0 + j.val = j.val; omega)
  rw [e]
  rfl

theorem v66_at (d : Fin 1024) : res_main_v66 V (ix3 b s d)
    = ple (fun d => res_main_v43 V (ix3 b s d)) (fun d => V (Proc.tc.devRef main_arg1) (ix3 b s d))
        (fun d => V (Proc.tc.devRef main_arg8) (ix1 d)) (fun e d => V (Proc.tc.devRef main_arg9) (ix2 e d))
        (fun e d => V (Proc.tc.devRef main_arg10) (ix2 e d)) d := by
  pointwise [res_main_v66]
  rfl

/-- The first result, -/
def out : (Proc.devRef .tc main_v80 : DevRef τ sig).ty.Contents (Elt Ideal) :=
  shapeCast S16384x1024 (mulf (mulf (res_main_v66 V) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v66 V) (res_main_v66 V)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (V (Proc.devRef .tc main_arg11))))) shapeCasts_S8x2048x1024_S16384x1024

/-- and the second. -/
def tails : (Proc.devRef .tc main_v81 : DevRef τ sig).ty.Contents (Elt Ideal) :=
  extractStridedSlice S8x8x5632 ![0, 2040, 0] (res_main_v13 V) slices_S8x2048x5632_S8x8x5632_0_2040_0

/-- Row `s` of batch row `b`, flattened. -/
def flat : Fin 16384 := ⟨2048 * b.val + s.val, by omega⟩

theorem out_at (d : Fin 1024) : out V (ix2 (flat b s) d)
    = rms (fun d => res_main_v66 V (ix3 b s d)) (fun d => V (Proc.tc.devRef main_arg11) (ix1 d)) d := by
  have hb := b.isLt
  have hs := s.isLt
  have e0 : (2048 * b.val + s.val) / 2048 = b.val := by omega
  have e1 : (2048 * b.val + s.val) % 2048 = s.val := by omega
  unfold out
  pointwise
  simp only [flat, e0, e1]
  rfl

/-- Flattened rows, read at a row. -/
theorem flat_at (x : S8x2048x1024.Idx → EReal) (d : Fin 1024) :
    shapeCast S16384x1024 x shapeCasts_S8x2048x1024_S16384x1024 (ix2 (flat b s) d) = x (ix3 b s d) := by
  have hb := b.isLt
  have hs := s.isLt
  have e0 : (2048 * b.val + s.val) / 2048 = b.val := by omega
  have e1 : (2048 * b.val + s.val) % 2048 = s.val := by omega
  pointwise
  simp only [flat, e0, e1]

theorem tails_at (r : Fin 8) (q : Fin 5632) : tails V (ix3 b r q) = res_main_v13 V (ix3 b ⟨2040 + r.val, by omega⟩ q) := by
  unfold tails
  pointwise

end Cert.Proof.FfnRef

end
-- ==== Proof.FfnResult.lean ====
/-
  The feed-forward kernel's two result arrays are the reference's.
-/
module

public import proofs.«01_k».proof.Proof.FfnBlocksA
public import proofs.«01_k».proof.Proof.FfnBlocksB
public import proofs.«01_k».proof.Proof.FfnAt
public import proofs.«01_k».proof.Proof.FfnInputs
public import proofs.«01_k».proof.Proof.FfnRef

@[expose] public section

set_option maxRecDepth 16384

noncomputable section

namespace Cert.Proof.FfnResult

open Idealize.ShloMosaic Idealize.ShloMosaic.TcCoe Idealize.SL.Sem
open Cert.Proof.FfnBody Cert.Proof.FfnRow Cert.Proof.FfnAt Cert.Proof.FfnInputs
open Cert.Kernel2Ideal.Gen (outsAt0 iblk k0_pay3 cond0_0 hcond0_0)
open Cert.Kernel2Ideal.Value (stAt0 junk0 G12 G13)
open Cert.Reference2Ideal.Value (res_main_v13 res_main_v37 res_main_v43 res_main_v66)

/-- The arguments a memory and a valuation hold on a device are equal. -/
structure Agree (m : (ℓ : Loc Kernel2Ideal.nD Kernel2Ideal.τ Kernel2Ideal.sig) → Buf (Elt Ideal) ℓ)
    (V : Valuation Reference2Ideal.τ Reference2Ideal.sig (Elt Ideal)) (c : Dev Kernel2Ideal.nD) : Prop where
  a0 : V (Proc.tc.devRef Reference2Ideal.main_arg0) = m ((c.tc : Thread Kernel2Ideal.nD Kernel2Ideal.τ).loc Kernel2Ideal.main_arg0)
  a1 : V (Proc.tc.devRef Reference2Ideal.main_arg1) = m ((c.tc : Thread Kernel2Ideal.nD Kernel2Ideal.τ).loc Kernel2Ideal.main_arg1)
  a2 : V (Proc.tc.devRef Reference2Ideal.main_arg2) = m ((c.tc : Thread Kernel2Ideal.nD Kernel2Ideal.τ).loc Kernel2Ideal.main_arg2)
  a3 : V (Proc.tc.devRef Reference2Ideal.main_arg3) = m ((c.tc : Thread Kernel2Ideal.nD Kernel2Ideal.τ).loc Kernel2Ideal.main_arg3)
  a4 : V (Proc.tc.devRef Reference2Ideal.main_arg4) = m ((c.tc : Thread Kernel2Ideal.nD Kernel2Ideal.τ).loc Kernel2Ideal.main_arg4)
  a5 : V (Proc.tc.devRef Reference2Ideal.main_arg5) = m ((c.tc : Thread Kernel2Ideal.nD Kernel2Ideal.τ).loc Kernel2Ideal.main_arg5)
  a6 : V (Proc.tc.devRef Reference2Ideal.main_arg6) = m ((c.tc : Thread Kernel2Ideal.nD Kernel2Ideal.τ).loc Kernel2Ideal.main_arg6)
  a7 : V (Proc.tc.devRef Reference2Ideal.main_arg7) = m ((c.tc : Thread Kernel2Ideal.nD Kernel2Ideal.τ).loc Kernel2Ideal.main_arg7)
  a8 : V (Proc.tc.devRef Reference2Ideal.main_arg8) = m ((c.tc : Thread Kernel2Ideal.nD Kernel2Ideal.τ).loc Kernel2Ideal.main_arg8)
  a9 : V (Proc.tc.devRef Reference2Ideal.main_arg9) = m ((c.tc : Thread Kernel2Ideal.nD Kernel2Ideal.τ).loc Kernel2Ideal.main_arg9)
  a10 : V (Proc.tc.devRef Reference2Ideal.main_arg10) = m ((c.tc : Thread Kernel2Ideal.nD Kernel2Ideal.τ).loc Kernel2Ideal.main_arg10)
  a11 : V (Proc.tc.devRef Reference2Ideal.main_arg11) = m ((c.tc : Thread Kernel2Ideal.nD Kernel2Ideal.τ).loc Kernel2Ideal.main_arg11)

variable {m : (ℓ : Loc Kernel2Ideal.nD Kernel2Ideal.τ Kernel2Ideal.sig) → Buf (Elt Ideal) ℓ}
  {V : Valuation Reference2Ideal.τ Reference2Ideal.sig (Elt Ideal)} {c : Dev Kernel2Ideal.nD}
variable (A : Agree m V c) (p j : Fin 8)

/-! ## A point's values, of the reference's -/

include A in
/-- The projected columns. -/
theorem up_eq (r : Fin 256) (q : Fin 5632) :
    upAt (iblk m c 0 (point p j)) (iblk m c 3 (point p j)) (iblk m c 4 (point p j)) r q
      = res_main_v13 V (ix3 p (rowOf j r) q) := by
  rw [FfnRef.v13_at, A.a0, A.a3, A.a4]
  unfold upAt
  simp only [block0, block3, block4]

/-- The projected columns of the two rows before a tile. -/
def before (V : Valuation Reference2Ideal.τ Reference2Ideal.sig (Elt Ideal)) (p j : Fin 8) (i : Fin 2)
    (q : Fin 5632) : EReal :=
  if h : j.val = 0 then V (Proc.tc.devRef Reference2Ideal.main_arg2) (ix3 p i q)
  else res_main_v13 V (ix3 p ⟨256 * j.val - 2 + i.val, by omega⟩ q)

include A in
/-- A tile's rows one or two back. -/
theorem back_eq (X : Vec Ideal Kernel2Ideal.S8x5632 .f32) (q : Fin 5632)
    (hX : ∀ i : Fin 2, X (ix2 ⟨6 + i.val, by omega⟩ q) = before V p j i q) (n : ℕ) (hn : n ≤ 2) (r : Fin 256) :
    back (fun s => upAt (iblk m c 0 (point p j)) (iblk m c 3 (point p j)) (iblk m c 4 (point p j)) s q)
      (fun s => X (ix2 s q)) n (by omega) r = FfnRef.back V p (rowOf j r) n hn q := by
  have hj := j.isLt
  have hr := r.isLt
  unfold FfnRow.back
  by_cases h : r.val < n
  · rw [dif_pos h]
    have e : (⟨r.val + 8 - n, by omega⟩ : Fin 8) = ⟨6 + (⟨r.val + 2 - n, by omega⟩ : Fin 2).val, by dsimp only; omega⟩ :=
      Fin.ext (by show r.val + 8 - n = 6 + (r.val + 2 - n); omega)
    rw [e]
    refine Eq.trans (hX ⟨r.val + 2 - n, by omega⟩) ?_
    unfold before FfnRef.back
    by_cases h0 : j.val = 0
    · have hs : (rowOf j r).val = r.val := by show 256 * j.val + r.val = r.val; omega
      rw [dif_pos h0, dif_pos (by omega)]
      exact congrArg (fun t => V (Proc.tc.devRef Reference2Ideal.main_arg2) (ix3 p t q)) (Fin.ext (by
        show r.val + 2 - n = (rowOf j r).val + 2 - n; omega))
    · have hs : (rowOf j r).val = 256 * j.val + r.val := rfl
      rw [dif_neg h0, dif_neg (by omega)]
      exact congrArg (fun t => res_main_v13 V (ix3 p t q)) (Fin.ext (by
        show 256 * j.val - 2 + (r.val + 2 - n) = (rowOf j r).val - n; omega))
  · have hs : (rowOf j r).val = 256 * j.val + r.val := rfl
    rw [dif_neg h]
    refine Eq.trans (up_eq A p j ⟨r.val - n, by omega⟩ q) ?_
    unfold FfnRef.back
    rw [dif_neg (by omega)]
    exact congrArg (fun t => res_main_v13 V (ix3 p t q)) (Fin.ext (by
      show 256 * j.val + (r.val - n) = (rowOf j r).val - n; omega))

include A in
/-- The convolved columns. -/
theorem hid_eq (X : Vec Ideal Kernel2Ideal.S8x5632 .f32)
    (hX : ∀ (i : Fin 2) (q : Fin 5632), X (ix2 ⟨6 + i.val, by omega⟩ q) = before V p j i q) (r : Fin 256) (q : Fin 5632) :
    hid (iblk m c 0 (point p j)) X (iblk m c 3 (point p j)) (iblk m c 4 (point p j)) (iblk m c 5 (point p j))
      (iblk m c 6 (point p j)) r q = res_main_v37 V (ix3 p (rowOf j r) q) := by
  unfold hid
  rw [back_eq A p j X q (fun i => hX i q) 2 (by omega) r, back_eq A p j X q (fun i => hX i q) 1 (by omega) r, up_eq A,
    FfnRef.v37_at, A.a5, A.a6, block5, block5, block5, block6]

include A in
/-- The block of rows. -/
theorem written (X : Vec Ideal Kernel2Ideal.S8x5632 .f32)
    (hX : ∀ (i : Fin 2) (q : Fin 5632), X (ix2 ⟨6 + i.val, by omega⟩ q) = before V p j i q) (r : Fin 256) (d : Fin 1024) :
    rows (iblk m c 0 (point p j)) (iblk m c 1 (point p j)) X (iblk m c 3 (point p j)) (iblk m c 4 (point p j))
      (iblk m c 5 (point p j)) (iblk m c 6 (point p j)) (iblk m c 7 (point p j)) (iblk m c 8 (point p j))
      (iblk m c 9 (point p j)) (iblk m c 10 (point p j)) (iblk m c 11 (point p j)) (ix2 r d)
      = FfnRef.out V (ix2 (FfnRef.flat p (rowOf j r)) d) := by
  rw [rows_at, FfnRef.out_at, A.a11, show hid (iblk m c 0 (point p j)) X (iblk m c 3 (point p j)) (iblk m c 4 (point p j))
    (iblk m c 5 (point p j)) (iblk m c 6 (point p j)) r = fun q => res_main_v37 V (ix3 p (rowOf j r) q)
    from funext fun q => hid_eq A p j X hX r q]
  simp only [FfnRef.v66_at, FfnRef.v43_at, A.a0, A.a1, A.a7, A.a8, A.a9, A.a10, block0, block1, block7, block8, block9,
    block10, block11]

/-! ## What each point leaves -/

/-- What the point of tile `j` of batch row `p` leaves. -/
abbrev held (m : (ℓ : Loc Kernel2Ideal.nD Kernel2Ideal.τ Kernel2Ideal.sig) → Buf (Elt Ideal) ℓ) (c : Dev Kernel2Ideal.nD)
    (p j : Fin 8) := outsAt0 m c (point p j).val (point p j).isLt

/-- Every column is a turn's. -/
theorem col_cover (q : Fin 5632) : ∃ (u : Fin 2) (k : Fin 11) (e : Fin 256), q = col u k e :=
  ⟨⟨q.val / 2816, by omega⟩, ⟨q.val % 2816 / 256, by omega⟩, ⟨q.val % 256, by omega⟩, Fin.ext (by
    show q.val = 2816 * (q.val / 2816) + 256 * (q.val % 2816 / 256) + q.val % 256
    omega)⟩

include A in
/-- The carried rows are the tile's last eight, projected. -/
theorem carried (r : Fin 8) (q : Fin 5632) :
    (held m c p j).2.2 (ix2 r q) = res_main_v13 V (ix3 p (rowOf j ⟨248 + r.val, by omega⟩) q) := by
  obtain ⟨u, k, e, rfl⟩ := col_cover q
  rw [← up_eq A, ← tail_at]
  unfold held
  by_cases h : (point p j).val % 8 = 0
  · rw [Kernel2Ideal.Gen.outsAt0_A m c (point p j) h]
    dsimp only
    exact FfnBlocks.scA (u := u) (k := k) (r := r) (j := e) ..
  · rw [Kernel2Ideal.Gen.outsAt0_B m c (point p j) h]
    dsimp only
    exact FfnBlocks.scB (u := u) (k := k) (r := r) (j := e) ..

include A in
/-- The rows written. -/
theorem rows_held (r : Fin 256) (d : Fin 1024) :
    (held m c p j).1 (ix2 r d) = FfnRef.out V (ix2 (FfnRef.flat p (rowOf j r)) d) := by
  have hp := p.isLt
  have hj := j.isLt
  have hv : (point p j).val = 8 * p.val + j.val := rfl
  unfold held
  by_cases h : (point p j).val % 8 = 0
  · rw [Kernel2Ideal.Gen.outsAt0_A m c (point p j) h]
    dsimp only
    refine (congrFun (FfnBlocks.outA_12 ..) (ix2 r d)).trans (written A p j _ (fun i q => ?_) r d)
    rw [block2]
    unfold before
    rw [dif_pos (by omega), A.a2]
  · rw [Kernel2Ideal.Gen.outsAt0_B m c (point p j) h]
    dsimp only
    refine (congrFun (FfnBlocks.outB_12 ..) (ix2 r d)).trans (written A p j _ (fun i q => ?_) r d)
    have hj1 : j.val - 1 < 8 := by omega
    have hi := i.isLt
    have e := carried A p ⟨j.val - 1, hj1⟩ ⟨6 + i.val, by omega⟩ q
    unfold held at e
    have hn : (point p ⟨j.val - 1, hj1⟩).val = (point p j).val - 1 := by
      show 8 * p.val + (j.val - 1) = 8 * p.val + j.val - 1
      omega
    simp only [hn] at e
    refine e.trans ?_
    unfold before
    rw [dif_neg (by omega)]
    exact congrArg (fun t => res_main_v13 V (ix3 p t q)) (Fin.ext (by
      show 256 * (j.val - 1) + (248 + (6 + i.val)) = 256 * j.val - 2 + i.val
      omega))

/-- A batch row's last point writes out the rows it carries. -/
theorem flush (r : Fin 8) (q : Fin 5632) : (held m c p 7).2.1 (ix3 0 r q) = (held m c p 7).2.2 (ix2 r q) := by
  have h : ¬(point p 7).val % 8 = 0 := by show ¬(8 * p.val + 7) % 8 = 0; omega
  unfold held
  rw [Kernel2Ideal.Gen.outsAt0_B m c (point p 7) h]
  dsimp only
  exact FfnBlocks.outB_13 (r := r) (q := q) ..

/-! ## The result arrays -/

/-- The fold up to a point is what the point leaves. -/
theorem fold_at {n : ℕ} (hn : 0 + n < Kernel2Ideal.cfg0.N) (h : n = 8 * p.val + j.val) :
    Pipeline.accAt (fun n h => stAt0 m c n h junk0) (stAt0 m c) 0 n hn = held m c p j := by
  subst h
  exact (Kernel2Ideal.Value.outsAt0_sweep m c _ (point p j).isLt).symm

/-- Every index of the rows is a row's of some tile. -/
theorem flat_cover (i : Kernel2Ideal.S16384x1024.Idx) :
    ∃ (p j : Fin 8) (r : Fin 256) (d : Fin 1024), i = ix2 (FfnRef.flat p (rowOf j r)) d := by
  have h0 : (i 0).val < 16384 := (i 0).isLt
  refine ⟨⟨(i 0).val / 2048, by omega⟩, ⟨(i 0).val / 256 % 8, by omega⟩, ⟨(i 0).val % 256, by omega⟩, i 1, ?_⟩
  funext a
  refine Fin.ext ?_
  match a with
  | ⟨0, _⟩ => show (i 0).val = 2048 * ((i 0).val / 2048) + (256 * ((i 0).val / 256 % 8) + (i 0).val % 256); omega
  | ⟨1, _⟩ => rfl

/-- The point that writes it, -/
theorem pt12_at (r : Fin 256) (d : Fin 1024) :
    Kernel2Ideal.Value.pt12Of (ix2 (FfnRef.flat p (rowOf j r)) d) = 8 * p.val + j.val := by
  have hp := p.isLt
  have hj := j.isLt
  have hr := r.isLt
  have hd := d.isLt
  show 1 * ((2048 * p.val + (256 * j.val + r.val)) / 256 - 0) + 1 * (d.val / 1024 - 0) = _
  omega

/-- and where in its block. -/
theorem loc12_at (r : Fin 256) (d : Fin 1024) :
    Kernel2Ideal.Value.loc12Of (ix2 (FfnRef.flat p (rowOf j r)) d) = ix2 r d := by
  funext a
  refine Fin.ext ?_
  match a with
  | ⟨0, _⟩ => show (2048 * p.val + (256 * j.val + r.val)) % 256 = r.val; omega
  | ⟨1, _⟩ => show d.val % 1024 = d.val; omega

include A in
/-- The rows. -/
theorem rows_eq : G12 m c = FfnRef.out V := by
  funext i
  obtain ⟨p, j, r, d, rfl⟩ := flat_cover i
  unfold G12
  rw [dif_pos (show Kernel2Ideal.Value.pt12Of _ < Kernel2Ideal.cfg0.N by rw [pt12_at]; exact (point p j).isLt),
    fold_at p j _ (pt12_at p j r d), loc12_at, rows_held A]

/-- The carried rows of a batch row are written out last by its last point, -/
theorem pt13_at (r : Fin 8) (q : Fin 5632) : Kernel2Ideal.Value.pt13Of (ix3 p r q) = 8 * p.val + (7 : Fin 8).val := by
  have hp := p.isLt
  have hr := r.isLt
  have hq := q.isLt
  show 8 * (1 * (p.val / 1 - 0) + 1 * (r.val / 8 - 0) + 1 * (q.val / 5632 - 0)) + 7 = 8 * p.val + 7
  omega

/-- as they lie in the block. -/
theorem loc13_at (r : Fin 8) (q : Fin 5632) : Kernel2Ideal.Value.loc13Of (ix3 p r q) = ix3 0 r q := by
  have hp := p.isLt
  have hr := r.isLt
  have hq := q.isLt
  funext a
  refine Fin.ext ?_
  match a with
  | ⟨0, _⟩ => show p.val % 1 = 0; omega
  | ⟨1, _⟩ => show r.val % 8 = r.val; omega
  | ⟨2, _⟩ => show q.val % 5632 = q.val; omega

include A in
/-- The last projected rows of each batch row. -/
theorem tails_eq : G13 m c = FfnRef.tails V := by
  funext i
  obtain ⟨p, r, q, rfl⟩ : ∃ (p r : Fin 8) (q : Fin 5632), i = ix3 p r q :=
    ⟨i 0, i 1, i 2, funext fun a => match a with | ⟨0, _⟩ => rfl | ⟨1, _⟩ => rfl | ⟨2, _⟩ => rfl⟩
  unfold G13
  rw [dif_pos (show Kernel2Ideal.Value.pt13Of _ < Kernel2Ideal.cfg0.N by rw [pt13_at]; exact (point p 7).isLt),
    fold_at p 7 _ (pt13_at p r q), loc13_at, flush, carried A, FfnRef.tails_at]
  exact congrArg (fun t => res_main_v13 V (ix3 p t q)) (Fin.ext (by
    show 256 * 7 + (248 + r.val) = 2040 + r.val
    omega))

end Cert.Proof.FfnResult

end
-- ==== Proof.FfnPlainBlocks.lean ====
/-
  What a point of the feed-forward kernel without the last norm leaves: the block of rows, of the same values as with the
  norm, and the carried rows, which are the same.
-/
module

public import proofs.«01_k».proof.Proof.FfnSkip
public import proofs.«01_k».proof.Proof.Gen.Kernel3Ideal.Frame

@[expose] public section

noncomputable section

namespace Cert.Proof.FfnPlain

open Cert.Kernel3Ideal Cert.Kernel3Ideal.Gen Cert.Proof.FfnBody Cert.Proof.FfnBlocks
open Idealize.ShloMosaic Idealize.ShloMosaic.TcCoe Idealize.SL.Sem

variable {F : FTy → Type} [FloatOps F]
/-- The block of rows that the point writes. -/
def plain (x0 : Vec F S256x1024 .f32) (x1 : Vec F S256x256 .f32) (X : Vec F S8x5632 .f32) (x3 : Vec F S1x1024 .f32)
    (x4 : Vec F S1024x5632 .bf16) (x5 : Vec F S3x5632 .f32) (x6 : Vec F S1x5632 .f32) (x7 : Vec F S2816x1024 .bf16)
    (x8 : Vec F S1x1024 .f32) (x9 : Vec F S1024x1024 .bf16) (x10 : Vec F S256x1024 .bf16) : FVec F S256x1024 .f32 :=
  k0_pay1 (mid x0 X x3 x4 x5 x6 x7) (den x0 X x3 x4 x5 x6 x7 x8 x9) k0_pay152 x1 x10

variable (c : Dev nD) (i : grid0.Coords) (arg2 : Memref sig .tc .vmem S256x1024 .f32) (harg2 : arg2.IsWhole) (arg3 : Memref sig .tc .vmem S256x256 .f32) (harg3 : arg3.IsWhole) (arg4 : Memref sig .tc .vmem S1x8x5632 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x8x5632 .f32) (harg15 : arg15.IsWhole) (arg16 : Memref sig .tc .vmem S8x5632 .f32) (harg16 : arg16.IsWhole)
  (x0 : Vec F S256x1024 .f32) (x1 : Vec F S256x256 .f32) (x2 : Vec F S1x8x5632 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)
  (xs : Vec F S8x5632 .f32)

set_option maxRecDepth 16384 in
/-- The block of rows. -/
theorem outA_12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
      = plain x0 x1 (Kernel2Ideal.Gen.k0_pay3 x2) x3 x4 x5 x6 x7 x8 x9 x10 := by
  unfold out0_A_12 kernelRun0_A
  dsimp only
  rw [View.read_writes_junk_eq_canon, View.canon_unit_zero hz]
  sl_unfold_words
  simp (disch := decide) only [skip, whole hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
  dsimp only [plain, den, mid, ten, turn, conv, proj, upW, taps, bias, prev, downW]
  unfold_payloads
  rfl

set_option maxRecDepth 16384 in
/-- The carried rows, column `j` of turn `k`. -/
theorem scA (hc0 : cond0_0 i) (u : Fin 2) (k : Fin 11) (r : Fin 8) (j : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
        (ix2 r (col u k j)) = tail x0 x3 x4 u k (ix2 r j) := by
  unfold sout0_A_0 kernelRun0_A
  dsimp only
  fin_cases u <;> fin_cases k <;>
  · repeat
      refine Eq.trans (View.read_writes_cons_miss_of_axis _ _ _ _ _ 1 _ _ rfl rfl rfl (?_ : _ ∨ _)) ?_
      · first
        | (refine Or.inl ?_; dsimp [col, first] <;> omega)
        | (refine Or.inr ?_; dsimp [col, first] <;> omega)
    refine Eq.trans (View.read_writes_cons_hit_of_coords _ _ _ _ _ (ix2 r j) _ ?_) ?_
    · intro a
      fin_cases a <;> dsimp [col, first] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
    refine congrFun (?_ : _ = tail _ _ _ _ _) _
    dsimp only [tail, proj, upW]
    unfold_payloads
    rfl

set_option maxRecDepth 16384 in
/-- The block of rows. -/
theorem outB_12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs
      = plain x0 x1 xs x3 x4 x5 x6 x7 x8 x9 x10 := by
  unfold out0_B_12 kernelRun0_B
  dsimp only
  rw [View.read_writes_junk_eq_canon, View.canon_unit_zero hz]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
  dsimp only [plain, den, mid, ten, turn, conv, proj, upW, taps, bias, prev, downW]
  unfold_payloads
  rfl

set_option maxRecDepth 16384 in
/-- The carried rows, column `j` of turn `k`. -/
theorem scB (hc0 : ¬cond0_0 i) (u : Fin 2) (k : Fin 11) (r : Fin 8) (j : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs
        (ix2 r (col u k j)) = tail x0 x3 x4 u k (ix2 r j) := by
  unfold sout0_B_0 kernelRun0_B
  dsimp only
  fin_cases u <;> fin_cases k <;>
  · repeat
      refine Eq.trans (View.read_writes_cons_miss_of_axis _ _ _ _ _ 1 _ _ rfl rfl rfl (?_ : _ ∨ _)) ?_
      · first
        | (refine Or.inl ?_; dsimp [col, first] <;> omega)
        | (refine Or.inr ?_; dsimp [col, first] <;> omega)
    refine Eq.trans (View.read_writes_cons_hit_of_coords _ _ _ _ _ (ix2 r j) _ ?_) ?_
    · intro a
      fin_cases a <;> dsimp [col, first] <;> omega
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x256) hz, View.ld_unit_zero (S := S1x8x5632) hz3, View.ld_unit_zero (S := S1x1024) hz, View.ld_unit_zero (S := S1024x1024) hz]
    refine congrFun (?_ : _ = tail _ _ _ _ _) _
    dsimp only [tail, proj, upW]
    unfold_payloads
    rfl

/-- The carried rows are written out as the scratch holds them. -/
theorem outB_13 (hc0 : ¬cond0_0 i) (r : Fin 8) (q : Fin 5632) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs (ix3 0 r q)
      = sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs (ix2 r q) := by
  unfold out0_B_13 sout0_B_0 kernelRun0_B
  dsimp only
  rw [View.read_writes_junk_eq_canon, View.canon_unit_zero hz3]
  pointwise [k0_pay149]
  rw [View.read_writes_junk_apply_eq_canon]
  unfold kernelRun0_B.sl.v1099
  rw [View.readCov_eq_canon']
  exact congrArg (View.canon _) (funext fun a => Fin.ext (match a with
    | ⟨0, _⟩ => (by show 0 + 1 * r.val = r.val; omega)
    | ⟨1, _⟩ => (by show 0 + 1 * q.val = q.val; omega)))

end Cert.Proof.FfnPlain

end
-- ==== Proof.FfnPlain.lean ====
/-
  The feed-forward kernel without the last norm, as the layers before the last apply it: its two result arrays are its reference's.
  Its values are those of the kernel with the norm up to that norm, so the facts proved there are used here.
-/
module

public import proofs.«01_k».proof.Proof.FfnResult
public import proofs.«01_k».proof.Proof.FfnPlainBlocks
public import proofs.«01_k».proof.Proof.Gen.Kernel3Ideal.Value
public import proofs.«01_k».proof.Proof.Gen.Reference3Ideal.Run

@[expose] public section

set_option maxRecDepth 16384

noncomputable section

namespace Cert.Proof.FfnPlain

open Idealize.ShloMosaic Idealize.ShloMosaic.TcCoe Idealize.SL.Sem
open Cert.Proof.FfnBody Cert.Proof.FfnRow Cert.Proof.FfnAt Cert.Proof.FfnInputs Cert.Proof.FfnResult
open Cert.Kernel2Ideal.Gen (iblk k0_pay3)
open Cert.Kernel3Ideal.Gen (outsAt0)
open Cert.Kernel3Ideal.Value (stAt0 junk0 G12 G13)
open Cert.Reference2Ideal.Value (res_main_v13 res_main_v37 res_main_v43 res_main_v66)

section Block

open Cert.Kernel2Ideal

variable (x0 : Vec Ideal S256x1024 .f32) (x1 : Vec Ideal S256x256 .f32) (X : Vec Ideal S8x5632 .f32) (x3 : Vec Ideal S1x1024 .f32)
  (x4 : Vec Ideal S1024x5632 .bf16) (x5 : Vec Ideal S3x5632 .f32) (x6 : Vec Ideal S1x5632 .f32) (x7 : Vec Ideal S2816x1024 .bf16)
  (x8 : Vec Ideal S1x1024 .f32) (x9 : Vec Ideal S1024x1024 .bf16) (x10 : Vec Ideal S256x1024 .bf16)

/-- One entry of the block a point writes. -/
theorem plain_at (r : Fin 256) (d : Fin 1024) : plain x0 x1 X x3 x4 x5 x6 x7 x8 x9 x10 (ix2 r d)
    = ple (ffn (fun d => x0 (ix2 r d)) (hid x0 X x3 x4 x5 x6 r) (fun j d => x7 (ix2 j d))) (fun d => x1 (ix2 r d))
        (fun d => x8 (ix2 0 d)) (fun e d => x9 (ix2 e d)) (fun e d => x10 (ix2 e d)) d := by
  rw [show ffn (fun d => x0 (ix2 r d)) (hid x0 X x3 x4 x5 x6 r) (fun j d => x7 (ix2 j d))
    = fun d => mid x0 X x3 x4 x5 x6 x7 (ix2 r d) from funext fun d => (mid_at x0 X x3 x4 x5 x6 x7 r d).symm]
  unfold plain
  have hd := den_at x0 X x3 x4 x5 x6 x7 x8 x9 r
  generalize den x0 X x3 x4 x5 x6 x7 x8 x9 = z at hd ⊢
  generalize mid x0 X x3 x4 x5 x6 x7 = y at hd ⊢
  pointwise [Kernel3Ideal.Gen.k0_pay1, Kernel3Ideal.Gen.k0_pay152]
  simp only [hd]
  rfl

end Block

variable {m : (ℓ : Loc Kernel2Ideal.nD Kernel2Ideal.τ Kernel2Ideal.sig) → Buf (Elt Ideal) ℓ}
  {V : Valuation Reference2Ideal.τ Reference2Ideal.sig (Elt Ideal)} {c : Dev Kernel2Ideal.nD}
variable (A : Agree m V c) (p j : Fin 8)

include A in
/-- The block of rows. -/
theorem plain_eq (X : Vec Ideal Kernel2Ideal.S8x5632 .f32)
    (hX : ∀ (i : Fin 2) (q : Fin 5632), X (ix2 ⟨6 + i.val, by omega⟩ q) = before V p j i q) (r : Fin 256) (d : Fin 1024) :
    plain (iblk m c 0 (point p j)) (iblk m c 1 (point p j)) X (iblk m c 3 (point p j)) (iblk m c 4 (point p j))
      (iblk m c 5 (point p j)) (iblk m c 6 (point p j)) (iblk m c 7 (point p j)) (iblk m c 8 (point p j))
      (iblk m c 9 (point p j)) (iblk m c 10 (point p j)) (ix2 r d) = res_main_v66 V (ix3 p (rowOf j r) d) := by
  rw [plain_at, show hid (iblk m c 0 (point p j)) X (iblk m c 3 (point p j)) (iblk m c 4 (point p j))
    (iblk m c 5 (point p j)) (iblk m c 6 (point p j)) r = fun q => res_main_v37 V (ix3 p (rowOf j r) q)
    from funext fun q => hid_eq A p j X hX r q]
  simp only [FfnRef.v66_at, FfnRef.v43_at, A.a0, A.a1, A.a7, A.a8, A.a9, A.a10, block0, block1, block7, block8, block9,
    block10]

/-! ## What each point leaves -/

/-- What the point of tile `j` of batch row `p` leaves. -/
abbrev left (m : (ℓ : Loc Kernel2Ideal.nD Kernel2Ideal.τ Kernel2Ideal.sig) → Buf (Elt Ideal) ℓ) (c : Dev Kernel2Ideal.nD)
    (p j : Fin 8) := outsAt0 m c (point p j).val (point p j).isLt

include A in
/-- The carried rows are the tile's last eight, projected. -/
theorem carry_eq (r : Fin 8) (q : Fin 5632) :
    (left m c p j).2.2 (ix2 r q) = res_main_v13 V (ix3 p (rowOf j ⟨248 + r.val, by omega⟩) q) := by
  obtain ⟨u, k, e, rfl⟩ := col_cover q
  rw [← up_eq A, ← tail_at]
  unfold left
  by_cases h : (point p j).val % 8 = 0
  · rw [Kernel3Ideal.Gen.outsAt0_A m c (point p j) h]
    dsimp only
    exact FfnPlain.scA (u := u) (k := k) (r := r) (j := e) ..
  · rw [Kernel3Ideal.Gen.outsAt0_B m c (point p j) h]
    dsimp only
    exact FfnPlain.scB (u := u) (k := k) (r := r) (j := e) ..

include A in
/-- The rows written. -/
theorem left_eq (r : Fin 256) (d : Fin 1024) : (left m c p j).1 (ix2 r d) = res_main_v66 V (ix3 p (rowOf j r) d) := by
  have hp := p.isLt
  have hj := j.isLt
  have hv : (point p j).val = 8 * p.val + j.val := rfl
  unfold left
  by_cases h : (point p j).val % 8 = 0
  · rw [Kernel3Ideal.Gen.outsAt0_A m c (point p j) h]
    dsimp only
    refine (congrFun (FfnPlain.outA_12 ..) (ix2 r d)).trans (plain_eq A p j (k0_pay3 (iblk m c 2 (point p j))) (fun i q => ?_) r d)
    rw [block2]
    unfold before
    rw [dif_pos (by omega), A.a2]
  · rw [Kernel3Ideal.Gen.outsAt0_B m c (point p j) h]
    dsimp only
    refine (congrFun (FfnPlain.outB_12 ..) (ix2 r d)).trans (plain_eq A p j _ (fun i q => ?_) r d)
    have hj1 : j.val - 1 < 8 := by omega
    have hi := i.isLt
    have e := carry_eq A p ⟨j.val - 1, hj1⟩ ⟨6 + i.val, by omega⟩ q
    unfold left at e
    have hn : (point p ⟨j.val - 1, hj1⟩).val = (point p j).val - 1 := by
      show 8 * p.val + (j.val - 1) = 8 * p.val + j.val - 1
      omega
    simp only [hn] at e
    refine e.trans ?_
    unfold before
    rw [dif_neg (by omega)]
    exact congrArg (fun t => res_main_v13 V (ix3 p t q)) (Fin.ext (by
      show 256 * (j.val - 1) + (248 + (6 + i.val)) = 256 * j.val - 2 + i.val
      omega))

/-- A batch row's last point writes out the rows it carries. -/
theorem flush_eq (r : Fin 8) (q : Fin 5632) : (left m c p 7).2.1 (ix3 0 r q) = (left m c p 7).2.2 (ix2 r q) := by
  have h : ¬(point p 7).val % 8 = 0 := by show ¬(8 * p.val + 7) % 8 = 0; omega
  unfold left
  rw [Kernel3Ideal.Gen.outsAt0_B m c (point p 7) h]
  dsimp only
  exact FfnPlain.outB_13 (r := r) (q := q) ..

/-! ## The result arrays -/

/-- The fold up to a point is what the point leaves. -/
theorem fold_left {n : ℕ} (hn : 0 + n < Kernel3Ideal.cfg0.N) (h : n = 8 * p.val + j.val) :
    Pipeline.accAt (fun n h => stAt0 m c n h junk0) (stAt0 m c) 0 n hn = left m c p j := by
  subst h
  exact (Kernel3Ideal.Value.outsAt0_sweep m c _ (point p j).isLt).symm

include A in
/-- The rows. -/
theorem rows_eq : G12 m c = shapeCast Reference2Ideal.S16384x1024 (res_main_v66 V)
    Reference2Ideal.Gen.facts.shapeCasts_S8x2048x1024_S16384x1024 := by
  funext i
  obtain ⟨p, j, r, d, rfl⟩ := flat_cover i
  unfold G12
  rw [dif_pos (show Kernel3Ideal.Value.pt12Of _ < Kernel3Ideal.cfg0.N by rw [show Kernel3Ideal.Value.pt12Of _ = _ from pt12_at p j r d]; exact (point p j).isLt),
    fold_left p j _ (pt12_at p j r d), show Kernel3Ideal.Value.loc12Of _ = _ from loc12_at p j r d, left_eq A]
  exact (FfnRef.flat_at ..).symm

include A in
/-- The last projected rows of each batch row. -/
theorem tails_eq : G13 m c = FfnRef.tails V := by
  funext i
  obtain ⟨p, r, q, rfl⟩ : ∃ (p r : Fin 8) (q : Fin 5632), i = ix3 p r q :=
    ⟨i 0, i 1, i 2, funext fun a => match a with | ⟨0, _⟩ => rfl | ⟨1, _⟩ => rfl | ⟨2, _⟩ => rfl⟩
  unfold G13
  rw [dif_pos (show Kernel3Ideal.Value.pt13Of _ < Kernel3Ideal.cfg0.N by rw [show Kernel3Ideal.Value.pt13Of _ = _ from pt13_at p r q]; exact (point p 7).isLt),
    fold_left p 7 _ (pt13_at p r q), show Kernel3Ideal.Value.loc13Of _ = _ from loc13_at p r q, flush_eq, carry_eq A, FfnRef.tails_at]
  exact congrArg (fun t => res_main_v13 V (ix3 p t q)) (Fin.ext (by
    show 256 * 7 + (248 + r.val) = 2040 + r.val
    omega))

end Cert.Proof.FfnPlain

end
-- ==== Proof.FfnPlainRef.lean ====
/-
  The reference without the last norm has the values of the reference with it, up to that norm.
-/
module

public import proofs.«01_k».proof.Proof.FfnResult
public import proofs.«01_k».proof.Proof.Gen.Reference3Ideal.Run

@[expose] public section

set_option maxRecDepth 16384

noncomputable section

namespace Cert.Proof.FfnPlainRef

open Idealize.ShloMosaic Idealize.ShloMosaic.TcCoe Idealize.SL.Sem
open Cert.Proof.FfnResult
open Cert.Reference2Ideal.Value (res_main_v13 res_main_v14 res_main_v37 res_main_v38 res_main_v43 res_main_v66)

/-- An array of anything. -/
def any (b : DevRef Reference2Ideal.τ Reference2Ideal.sig) : b.ty.Contents (Elt Ideal) := fun _ => default

/-- A valuation with given arguments. -/
theorem exists_agree (m : (ℓ : Loc Kernel2Ideal.nD Kernel2Ideal.τ Kernel2Ideal.sig) → Buf (Elt Ideal) ℓ)
    (c : Dev Kernel2Ideal.nD) : ∃ V, Agree m V c := by
  let put (r : Ref Reference2Ideal.sig .tc) (x : (Proc.tc.devRef r : DevRef Reference2Ideal.τ Reference2Ideal.sig).ty.Contents (Elt Ideal))
    (V : Valuation Reference2Ideal.τ Reference2Ideal.sig (Elt Ideal)) := Function.update V (Proc.tc.devRef r) x
  refine ⟨put Reference2Ideal.main_arg0 (m ((c.tc : Thread Kernel2Ideal.nD Kernel2Ideal.τ).loc Kernel2Ideal.main_arg0)) <|
    put Reference2Ideal.main_arg1 (m ((c.tc : Thread Kernel2Ideal.nD Kernel2Ideal.τ).loc Kernel2Ideal.main_arg1)) <|
    put Reference2Ideal.main_arg2 (m ((c.tc : Thread Kernel2Ideal.nD Kernel2Ideal.τ).loc Kernel2Ideal.main_arg2)) <|
    put Reference2Ideal.main_arg3 (m ((c.tc : Thread Kernel2Ideal.nD Kernel2Ideal.τ).loc Kernel2Ideal.main_arg3)) <|
    put Reference2Ideal.main_arg4 (m ((c.tc : Thread Kernel2Ideal.nD Kernel2Ideal.τ).loc Kernel2Ideal.main_arg4)) <|
    put Reference2Ideal.main_arg5 (m ((c.tc : Thread Kernel2Ideal.nD Kernel2Ideal.τ).loc Kernel2Ideal.main_arg5)) <|
    put Reference2Ideal.main_arg6 (m ((c.tc : Thread Kernel2Ideal.nD Kernel2Ideal.τ).loc Kernel2Ideal.main_arg6)) <|
    put Reference2Ideal.main_arg7 (m ((c.tc : Thread Kernel2Ideal.nD Kernel2Ideal.τ).loc Kernel2Ideal.main_arg7)) <|
    put Reference2Ideal.main_arg8 (m ((c.tc : Thread Kernel2Ideal.nD Kernel2Ideal.τ).loc Kernel2Ideal.main_arg8)) <|
    put Reference2Ideal.main_arg9 (m ((c.tc : Thread Kernel2Ideal.nD Kernel2Ideal.τ).loc Kernel2Ideal.main_arg9)) <|
    put Reference2Ideal.main_arg10 (m ((c.tc : Thread Kernel2Ideal.nD Kernel2Ideal.τ).loc Kernel2Ideal.main_arg10)) <|
    put Reference2Ideal.main_arg11 (m ((c.tc : Thread Kernel2Ideal.nD Kernel2Ideal.τ).loc Kernel2Ideal.main_arg11)) any, ?_⟩
  constructor <;>
  · dsimp only [put]
    repeat rw [Function.update_of_ne (by decide)]
    exact Function.update_self ..

variable {m : (ℓ : Loc Reference3Ideal.nD Reference3Ideal.τ Reference3Ideal.sig) → Buf (Elt Ideal) ℓ}
  {V : Valuation Reference2Ideal.τ Reference2Ideal.sig (Elt Ideal)} {c : Dev Reference3Ideal.nD}

/-- The arguments of the two references are equal. -/
structure Same (m : (ℓ : Loc Reference3Ideal.nD Reference3Ideal.τ Reference3Ideal.sig) → Buf (Elt Ideal) ℓ)
    (V : Valuation Reference2Ideal.τ Reference2Ideal.sig (Elt Ideal)) (c : Dev Reference3Ideal.nD) : Prop where
  a0 : m ((c.tc : Thread Reference3Ideal.nD Reference3Ideal.τ).loc Reference3Ideal.main_arg0) = V (Proc.tc.devRef Reference2Ideal.main_arg0)
  a1 : m ((c.tc : Thread Reference3Ideal.nD Reference3Ideal.τ).loc Reference3Ideal.main_arg1) = V (Proc.tc.devRef Reference2Ideal.main_arg1)
  a2 : m ((c.tc : Thread Reference3Ideal.nD Reference3Ideal.τ).loc Reference3Ideal.main_arg2) = V (Proc.tc.devRef Reference2Ideal.main_arg2)
  a3 : m ((c.tc : Thread Reference3Ideal.nD Reference3Ideal.τ).loc Reference3Ideal.main_arg3) = V (Proc.tc.devRef Reference2Ideal.main_arg3)
  a4 : m ((c.tc : Thread Reference3Ideal.nD Reference3Ideal.τ).loc Reference3Ideal.main_arg4) = V (Proc.tc.devRef Reference2Ideal.main_arg4)
  a5 : m ((c.tc : Thread Reference3Ideal.nD Reference3Ideal.τ).loc Reference3Ideal.main_arg5) = V (Proc.tc.devRef Reference2Ideal.main_arg5)
  a6 : m ((c.tc : Thread Reference3Ideal.nD Reference3Ideal.τ).loc Reference3Ideal.main_arg6) = V (Proc.tc.devRef Reference2Ideal.main_arg6)
  a7 : m ((c.tc : Thread Reference3Ideal.nD Reference3Ideal.τ).loc Reference3Ideal.main_arg7) = V (Proc.tc.devRef Reference2Ideal.main_arg7)
  a8 : m ((c.tc : Thread Reference3Ideal.nD Reference3Ideal.τ).loc Reference3Ideal.main_arg8) = V (Proc.tc.devRef Reference2Ideal.main_arg8)
  a9 : m ((c.tc : Thread Reference3Ideal.nD Reference3Ideal.τ).loc Reference3Ideal.main_arg9) = V (Proc.tc.devRef Reference2Ideal.main_arg9)
  a10 : m ((c.tc : Thread Reference3Ideal.nD Reference3Ideal.τ).loc Reference3Ideal.main_arg10) = V (Proc.tc.devRef Reference2Ideal.main_arg10)

/-- The rows. -/
theorem rows (S : Same m V c) : Reference3Ideal.Value.res_main_v67 m c
    = shapeCast Reference2Ideal.S16384x1024 (res_main_v66 V) Reference2Ideal.Gen.facts.shapeCasts_S8x2048x1024_S16384x1024 := by
  unfold Reference3Ideal.Value.res_main_v67
  rw [S.a0, S.a1, S.a2, S.a3, S.a4, S.a5, S.a6, S.a7, S.a8, S.a9, S.a10]
  unfold res_main_v66 res_main_v43 res_main_v38 res_main_v37 res_main_v14 res_main_v13
  rfl

end Cert.Proof.FfnPlainRef

end
-- ==== Proof.GateBody.lean ====
/-
  What one point of the spatial gating kernel writes: the rows, with eight groups of gated columns projected back and added.
-/
module

public import proofs.«01_k».proof.Proof.Gen.Kernel4Ideal.Value
public import Idealize.ShloMosaic.Lib.Pointwise

@[expose] public section

set_option maxRecDepth 16384

noncomputable section

namespace Cert.Proof.GateBody

open Cert.Kernel4Ideal Cert.Kernel4Ideal.Gen
open Idealize.ShloMosaic Idealize.ShloMosaic.TcCoe Idealize.SL.Sem

variable {F : FTy → Type} [FloatOps F]

/-! ## Where group `g` lies in each array -/

/-- Columns of a wide array. -/
theorem fits {n k : ℕ} (hk : 3072 ≤ k) (g : Fin 8) :
    ∀ a, (![0, 384 * g.val] : Fin 2 → Nat) a + (![n, 384] : Fin 2 → Nat) a ≤ (![n, k] : Fin 2 → Nat) a := by
  intro a
  have hg := g.isLt
  fin_cases a <;> dsimp <;> omega

/-- One of eight matrices. -/
theorem fits_mat (g : Fin 8) :
    ∀ a, (![g.val, 0, 0] : Fin 3 → Nat) a + (![1, 128, 128] : Fin 3 → Nat) a ≤ (![8, 128, 128] : Fin 3 → Nat) a := by
  intro a
  have hg := g.isLt
  fin_cases a <;> dsimp <;> omega

/-- One of eight columns. -/
theorem fits_col (g : Fin 8) :
    ∀ a, (![0, g.val] : Fin 2 → Nat) a + (![128, 1] : Fin 2 → Nat) a ≤ (![128, 8] : Fin 2 → Nat) a := by
  intro a
  have hg := g.isLt
  fin_cases a <;> dsimp <;> omega

/-- Rows of the down projection. -/
theorem fits_down (g : Fin 8) :
    ∀ a, (![384 * g.val, 0] : Fin 2 → Nat) a + (![384, 1024] : Fin 2 → Nat) a ≤ (![3072, 1024] : Fin 2 → Nat) a := by
  intro a
  have hg := g.isLt
  fin_cases a <;> dsimp <;> omega

/-- One half of a block's rows, and the group's columns. -/
theorem fits_part (e : Fin 2) (g : Fin 8) : S256x3072.Slices ![128 * e.val, 384 * g.val] S128x384 := by
  have he := e.isLt
  have hg := g.isLt
  refine ⟨rfl, fun a => ?_⟩
  fin_cases a <;> dsimp <;> omega

variable (x0 : Vec F S256x1024 .f32) (x1 : Vec F S1x1024 .f32) (x2 : Vec F S1024x6144 .bf16) (x3 : Vec F S1x6144 .f32)
  (x4 x5 : Vec F S1x3072 .f32) (x6 : Vec F S8x128x128 .f32) (x7 : Vec F S128x8 .f32) (x8 : Vec F S3072x1024 .bf16) (g : Fin 8)

/-- The weights of the group's first columns, -/
def inW : Vec F S1024x384 .bf16 := View.ld x2 (Rect.unit (s := S1024x6144) ![0, 384 * g.val] S1024x384.size (fits (by omega) g))

/-- their bias, -/
def inB : Vec F S1x384 .f32 := View.ld x3 (Rect.unit (s := S1x6144) ![0, 384 * g.val] S1x384.size (fits (by omega) g))

/-- the weights of the rows before, -/
def pastW : Vec F S1x128x128 .f32 := View.ld x6 (Rect.unit (s := S8x128x128) ![g.val, 0, 0] S1x128x128.size (fits_mat g))

/-- their bias, -/
def pastB : Vec F S128x1 .f32 := View.ld x7 (Rect.unit (s := S128x8) ![0, g.val] S128x1.size (fits_col g))

/-- and the down projection's rows. -/
def downW : Vec F S384x1024 .bf16 := View.ld x8 (Rect.unit (s := S3072x1024) ![384 * g.val, 0] S384x1024.size (fits_down g))

/-- The weights of the second half's columns, -/
def in2W : Vec F S1024x3072 .bf16 := View.ld x2 r0_2

/-- and their bias. -/
def in2B : Vec F S1x3072 .f32 := View.ld x3 r0_3

/-! ## The values -/

/-- The second half's columns, through the activation, -/
def act : FVec F S256x3072 .f32 := k0_pay4 x0 x1 (in2W x2) (in2B x3)

/-- and normalized. -/
def normed : FVec F S256x3072 .bf16 := k0_pay6 (act x0 x1 x2 x3) (k0_pay5 x0 x1 (in2W x2) (in2B x3)) x4 x5

/-- The weights of the rows before, those of later rows taken as zero. -/
def lower : FVec F S128x128 .bf16 := k0_pay34 (iota .tc S128x128 32 [0] iota_S128x128_d0_w32) (iota .tc S128x128 32 [1] iota_S128x128_d1_w32) (pastW x6 g)

/-- A chunk of 128 rows of the group's columns, each the weighted sum of the chunk's rows up to it. -/
def past (v : FVec F S256x3072 .bf16) (e : Fin 2) : FVec F S128x384 .f32 :=
  matmul dot_S128x128_S128x384_S128x384_1_0_0_1_n_n none (lower x6 g)
    (extractStridedSlice S128x384 ![128 * e.val, 384 * g.val] v (fits_part e g)) (constant S128x384 .f32 0x00000000#32)

/-- The same with its bias. -/
def gate (v : FVec F S256x3072 .bf16) (e : Fin 2) : FVec F S128x384 .f32 :=
  addf (past x6 g v e) (broadcastTo S128x384 (shapeCast S128x1 (pastB x7 g) shapeCasts_S128x1_S128x1) broadcasts_S128x1_S128x384)

/-- One group: its first columns times the gate, projected back, added to the sum so far. -/
def group (acc : FVec F S256x1024 .f32) : FVec F S256x1024 .f32 :=
  k0_pay27 acc (k0_pay33 (k0_pay3 x0 x1) (inW x2 g) (inB x3 g)) (gate x6 x7 g (normed x0 x1 x2 x3 x4 x5) 0)
    (past x6 g (normed x0 x1 x2 x3 x4 x5) 1) (pastB x7 g) (downW x8 g)

/-- The block of rows that the point writes. -/
def rows : FVec F S256x1024 .f32 :=
  addf (k0_pay2 x0) (group x0 x1 x2 x3 x4 x5 x6 x7 x8 7 (group x0 x1 x2 x3 x4 x5 x6 x7 x8 6
    (group x0 x1 x2 x3 x4 x5 x6 x7 x8 5 (group x0 x1 x2 x3 x4 x5 x6 x7 x8 4 (group x0 x1 x2 x3 x4 x5 x6 x7 x8 3
      (group x0 x1 x2 x3 x4 x5 x6 x7 x8 2 (group x0 x1 x2 x3 x4 x5 x6 x7 x8 1 (group x0 x1 x2 x3 x4 x5 x6 x7 x8 0 k0_pay7))))))))

theorem hz : (![0, 0] : Fin 2 → Nat) = fun _ => 0 := by
  funext a
  fin_cases a <;> rfl

/-- It is what the point writes. -/
theorem out_eq : out0_9 x0 x1 x2 x3 x4 x5 x6 x7 x8 = rows x0 x1 x2 x3 x4 x5 x6 x7 x8 := by
  unfold out0_9 k0_pay35 k0_pay36 k0_pay37 k0_pay38
  rw [View.canon_unit_zero hz]
  simp only [View.ld_unit_zero (S := S256x1024) hz, View.ld_unit_zero (S := S1x1024) hz, View.ld_unit_zero (S := S1x3072) hz]
  dsimp only [rows, group, gate, past, lower, normed, act, inW, inB, pastW, pastB, downW, in2W, in2B]
  unfold_payloads
  rfl

end Cert.Proof.GateBody

end
-- ==== Proof.GateRow.lean ====
/-
  The spatial gating's values of one row, as both programs compute them.
-/
module

public import proofs.«01_k».proof.Proof.FfnRow

@[expose] public section

noncomputable section

namespace Cert.Proof.GateRow

open Idealize.ShloMosaic Cert.Proof.FfnRow

/-- The activation's factor, -/
def tanhPart (z : EReal) : EReal :=
  1 + Ideal.tanh (Ideal.ofBits .f32 0x3F4C422A#32 * (z + Ideal.ofBits .f32 0x3D372713#32 * (z * z * z)))

/-- and the activation. -/
def gelu (z : EReal) : EReal := Ideal.ofBits .f32 0x3F000000#32 * z * tanhPart z

/-- The same, with the half taken of the factor. -/
theorem gelu_eq (z : EReal) : z * (Ideal.ofBits .f32 0x3F000000#32 * tanhPart z) = gelu z := by
  rw [gelu, mul_comm (Ideal.ofBits .f32 0x3F000000#32) z, mul_assoc]

/-- One column of a row. -/
def hid (x g w : Fin 1024 → EReal) (b : EReal) : EReal := gelu (up x g w + b)

/-- The mean of a row's columns, -/
def mean (v : Fin 3072 → EReal) : EReal := Ideal.div (∑ q, v q) (Ideal.ofBits .f32 0x45400000#32)

/-- and the columns normalized. -/
def norm (v g b : Fin 3072 → EReal) (q : Fin 3072) : EReal :=
  (v q - mean v) * Ideal.rsqrt (Ideal.div (∑ p, (v p - mean v) * (v p - mean v)) (Ideal.ofBits .f32 0x45400000#32)
    + Ideal.ofBits .f32 0x358637BD#32) * g q + b q

/-- The weighted sum of the rows of a chunk up to row `t`, with its bias. -/
def gate (w v : Fin 128 → EReal) (t : Fin 128) (b : EReal) : EReal := ∑ s, (if s ≤ t then w s else 0) * v s + b

/-- Column `x` of the `k`-th of eight groups of 384. -/
def col (k : Fin 8) (x : Fin 384) : Fin 3072 := ⟨384 * k.val + x.val, by omega⟩

/-- A column of the second half. -/
def second (q : Fin 3072) : Fin 6144 := ⟨3072 + q.val, by omega⟩

/-- A column of the first half. -/
def fst (q : Fin 3072) : Fin 6144 := ⟨q.val, by omega⟩

/-- The group of a column. -/
def groupOf (q : Fin 3072) : Fin 8 := ⟨q.val / 384, by omega⟩

theorem groupOf_col (g : Fin 8) (j : Fin 384) : groupOf (col g j) = g := Fin.ext (by
  show (384 * g.val + j.val) / 384 = g.val
  omega)

/-- A comparison of two small numbers, as it selects, -/
theorem select_le {α : Type} (t s : Fin 128) (a b : α) :
    Scalar.select (IntOp.cmpi .sle (BitVec.ofNat 32 s.val) (BitVec.ofNat 32 t.val)) a b = if s ≤ t then a else b := by
  have hs := s.isLt
  have ht := t.isLt
  have n (x : Fin 128) : (BitVec.ofNat 32 x.val).toInt = x.val := by
    rw [BitVec.toInt_eq_toNat_of_lt (by rw [BitVec.toNat_ofNat]; omega), BitVec.toNat_ofNat, Nat.mod_eq_of_lt (by omega)]
  unfold IntOp.cmpi
  dsimp only
  rw [BitVec.sle_eq_decide, n, n]
  by_cases h : s ≤ t
  · rw [if_pos h, decide_eq_true (by exact_mod_cast h)]
    rfl
  · rw [if_neg h, decide_eq_false (by exact_mod_cast h)]
    rfl

/-- also written the other way round. -/
theorem select_ge {α : Type} (t s : Fin 128) (a b : α) :
    Scalar.select (IntOp.cmpi .sge (IntOp.addi (BitVec.ofNat 32 t.val) 0#32) (BitVec.ofNat 32 s.val)) a b = if s ≤ t then a else b := by
  rw [← select_le]
  unfold IntOp.addi
  rw [BitVec.add_zero]
  rfl

/-- A sum over 3072 entries, by eight groups of 384 added from the left. -/
theorem sum_groups (f : Fin 3072 → EReal) (s : Fin 8 → EReal) (h : ∀ k, s k = ∑ x, f (col k x)) :
    0 + s 0 + s 1 + s 2 + s 3 + s 4 + s 5 + s 6 + s 7 = ∑ j, f j := by
  have e : ∑ j, f j = ∑ k, s k := by
    rw [← (finProdFinEquiv (m := 8) (n := 384)).sum_comp f, Fintype.sum_prod_type]
    refine Finset.sum_congr rfl fun k _ => ?_
    rw [h]
    refine Finset.sum_congr rfl fun x _ => congrArg f (Fin.ext ?_)
    show x.val + 384 * k.val = 384 * k.val + x.val
    omega
  rw [e, zero_add]
  simp only [Fin.sum_univ_succ, Fin.sum_univ_zero, add_zero, ← add_assoc]
  rfl

end Cert.Proof.GateRow

end
-- ==== Proof.GateAt.lean ====
/-
  The spatial gating kernel's values at an index, as functions of a row.
-/
module

public import proofs.«01_k».proof.Proof.GateBody
public import proofs.«01_k».proof.Proof.GateRow

@[expose] public section

set_option maxRecDepth 16384

noncomputable section

namespace Cert.Proof.GateAt

open Cert.Kernel4Ideal Cert.Kernel4Ideal.Gen Cert.Proof.GateBody Cert.Proof.GateRow
open Idealize.ShloMosaic Idealize.ShloMosaic.TcCoe Idealize.SL.Sem
open Cert.Proof.FfnRow (rms up)

/-- Row `t` of chunk `e` of a block. -/
def row (e : Fin 2) (t : Fin 128) : Fin 256 := ⟨128 * e.val + t.val, by omega⟩

/-! ## The parts read of the arrays -/

section Parts

variable {F : FTy → Type} [FloatOps F] (g : Fin 8)

theorem inW_at (w : Vec F S1024x6144 .bf16) (d : Fin 1024) (j : Fin 384) : inW w g (ix2 d j) = w (ix2 d (fst (col g j))) :=
  congrArg w (funext fun a => Fin.ext (match a with
    | ⟨0, _⟩ => (by show 0 + 1 * d.val = d.val; omega)
    | ⟨1, _⟩ => (by show 384 * g.val + 1 * j.val = 384 * g.val + j.val; omega)))

theorem inB_at (w : Vec F S1x6144 .f32) (j : Fin 384) : inB w g (ix2 0 j) = w (ix2 0 (fst (col g j))) :=
  congrArg w (funext fun a => Fin.ext (match a with
    | ⟨0, _⟩ => rfl
    | ⟨1, _⟩ => (by show 384 * g.val + 1 * j.val = 384 * g.val + j.val; omega)))

theorem in2W_at (w : Vec F S1024x6144 .bf16) (d : Fin 1024) (q : Fin 3072) : in2W w (ix2 d q) = w (ix2 d (second q)) :=
  congrArg w (funext fun a => Fin.ext (match a with
    | ⟨0, _⟩ => (by show 0 + 1 * d.val = d.val; omega)
    | ⟨1, _⟩ => (by show 3072 + 1 * q.val = 3072 + q.val; omega)))

theorem in2B_at (w : Vec F S1x6144 .f32) (q : Fin 3072) : in2B w (ix2 0 q) = w (ix2 0 (second q)) :=
  congrArg w (funext fun a => Fin.ext (match a with
    | ⟨0, _⟩ => rfl
    | ⟨1, _⟩ => (by show 3072 + 1 * q.val = 3072 + q.val; omega)))

theorem pastW_at (w : Vec F S8x128x128 .f32) (t s : Fin 128) : pastW w g (ix3 0 t s) = w (ix3 g t s) :=
  congrArg w (funext fun a => Fin.ext (match a with
    | ⟨0, _⟩ => (by show g.val + 1 * 0 = g.val; omega)
    | ⟨1, _⟩ => (by show 0 + 1 * t.val = t.val; omega)
    | ⟨2, _⟩ => (by show 0 + 1 * s.val = s.val; omega)))

theorem pastB_at (w : Vec F S128x8 .f32) (t : Fin 128) : pastB w g (ix2 t 0) = w (ix2 t g) :=
  congrArg w (funext fun a => Fin.ext (match a with
    | ⟨0, _⟩ => (by show 0 + 1 * t.val = t.val; omega)
    | ⟨1, _⟩ => (by show g.val + 1 * 0 = g.val; omega)))

theorem downW_at (w : Vec F S3072x1024 .bf16) (j : Fin 384) (d : Fin 1024) : downW w g (ix2 j d) = w (ix2 (col g j) d) :=
  congrArg w (funext fun a => Fin.ext (match a with
    | ⟨0, _⟩ => (by show 384 * g.val + 1 * j.val = 384 * g.val + j.val; omega)
    | ⟨1, _⟩ => (by show 0 + 1 * d.val = d.val; omega)))

end Parts

variable (x0 : Vec Ideal S256x1024 .f32) (x1 : Vec Ideal S1x1024 .f32) (x2 : Vec Ideal S1024x6144 .bf16) (x3 : Vec Ideal S1x6144 .f32)
  (x4 x5 : Vec Ideal S1x3072 .f32) (x6 : Vec Ideal S8x128x128 .f32) (x7 : Vec Ideal S128x8 .f32)
  (x8 : Vec Ideal S3072x1024 .bf16) (g : Fin 8)

/-- Column `q` of row `r`, projected and through the activation. -/
def hidAt (r : Fin 256) (q : Fin 6144) : EReal :=
  hid (fun d => x0 (ix2 r d)) (fun d => x1 (ix2 0 d)) (fun d => x2 (ix2 d q)) (x3 (ix2 0 q))

theorem act_at (r : Fin 256) (q : Fin 3072) : act x0 x1 x2 x3 (ix2 r q) = hidAt x0 x1 x2 x3 r (second q) := by
  unfold act
  pointwise [k0_pay4, k0_pay3, k0_pay2]
  unfold hidAt hid gelu tanhPart up rms
  simp only [in2W_at, in2B_at]

/-- The normalized columns of row `r`. -/
def normAt (r : Fin 256) : Fin 3072 → EReal :=
  norm (fun q => hidAt x0 x1 x2 x3 r (second q)) (fun q => x4 (ix2 0 q)) (fun q => x5 (ix2 0 q))

theorem mean_at (r : Fin 256) : k0_pay5 x0 x1 (in2W x2) (in2B x3) (ix2 r 0) = mean (fun q => hidAt x0 x1 x2 x3 r (second q)) := by
  have h := act_at x0 x1 x2 x3 r
  unfold act at h
  pointwise [k0_pay5]
  simp only [h]
  rfl

theorem normed_at (r : Fin 256) (q : Fin 3072) : normed x0 x1 x2 x3 x4 x5 (ix2 r q) = normAt x0 x1 x2 x3 x4 x5 r q := by
  have h := mean_at x0 x1 x2 x3 r
  have h' := act_at x0 x1 x2 x3 r
  unfold normed
  generalize k0_pay5 x0 x1 (in2W x2) (in2B x3) = y at h ⊢
  generalize act x0 x1 x2 x3 = z at h' ⊢
  pointwise [k0_pay6]
  simp only [h, h']
  rfl

theorem lower_at (t s : Fin 128) : lower x6 g (ix2 t s) = if s ≤ t then x6 (ix3 g t s) else 0 := by
  unfold lower
  have h := pastW_at g x6 t s
  generalize pastW x6 g = y at h ⊢
  pointwise [k0_pay34]
  rw [select_le, h]

theorem past_at (v : Vec Ideal S256x3072 .bf16) (e : Fin 2) (t : Fin 128) (j : Fin 384) :
    past x6 g v e (ix2 t j) = ∑ s, (if s ≤ t then x6 (ix3 g t s) else 0) * v (ix2 (row e s) (col g j)) := by
  have h := lower_at x6 g t
  unfold past
  generalize lower x6 g = y at h ⊢
  pointwise
  simp only [h]
  rfl

theorem gate_at (v : Vec Ideal S256x3072 .bf16) (e : Fin 2) (t : Fin 128) (j : Fin 384) : GateBody.gate x6 x7 g v e (ix2 t j)
    = gate (fun s => x6 (ix3 g t s)) (fun s => v (ix2 (row e s) (col g j))) t (x7 (ix2 t g)) := by
  have h := past_at x6 g v e t j
  have h' := pastB_at g x7 t
  unfold GateBody.gate
  generalize past x6 g v e = y at h ⊢
  generalize pastB x7 g = z at h' ⊢
  pointwise
  rw [h, h']
  rfl

theorem first_at (r : Fin 256) (j : Fin 384) :
    k0_pay33 (k0_pay3 x0 x1) (inW x2 g) (inB x3 g) (ix2 r j) = hidAt x0 x1 x2 x3 r (fst (col g j)) := by
  pointwise [k0_pay33, k0_pay3, k0_pay2]
  simp only [inW_at, inB_at]
  rfl

/-- The gate of column `q` in row `t` of chunk `e`. -/
def gateAt (e : Fin 2) (t : Fin 128) (q : Fin 3072) (g : Fin 8) : EReal :=
  gate (fun s => x6 (ix3 g t s)) (fun s => normAt x0 x1 x2 x3 x4 x5 (row e s) q) t (x7 (ix2 t g))

theorem group_at (acc : Vec Ideal S256x1024 .f32) (e : Fin 2) (t : Fin 128) (d : Fin 1024) :
    group x0 x1 x2 x3 x4 x5 x6 x7 x8 g acc (ix2 (row e t) d)
      = acc (ix2 (row e t) d) + ∑ j, hidAt x0 x1 x2 x3 (row e t) (fst (col g j)) * gateAt x0 x1 x2 x3 x4 x5 x6 x7 e t (col g j) g
          * x8 (ix2 (col g j) d) := by
  have h1 (e : Fin 2) (j : Fin 384) := gate_at x6 x7 g (normed x0 x1 x2 x3 x4 x5) e t j
  simp only [normed_at] at h1
  have h2 (j : Fin 384) : past x6 g (normed x0 x1 x2 x3 x4 x5) 1 (ix2 t j) + pastB x7 g (ix2 t 0) = gateAt x0 x1 x2 x3 x4 x5 x6 x7 1 t (col g j) g := by
    refine Eq.trans ?_ (h1 1 j)
    unfold GateBody.gate
    pointwise
  have ht := t.isLt
  unfold group
  pointwise [k0_pay27]
  refine congrArg₂ (fun x y : EReal => x + y) rfl (Finset.sum_congr rfl fun j _ => ?_)
  rw [first_at, downW_at]
  refine congrArg₂ (fun x y : EReal => x * y) (congrArg₂ (fun x y : EReal => x * y) rfl ?_) rfl
  match e with
  | 0 =>
    rw [dif_pos (by show 128 * 0 + t.val < 128; omega)]
    refine Eq.trans (congrArg (fun r => GateBody.gate x6 x7 g (normed x0 x1 x2 x3 x4 x5) 0 (ix2 r j)) (Fin.ext ?_)) (h1 0 j)
    show 128 * 0 + t.val = t.val
    omega
  | 1 =>
    rw [dif_neg (by show ¬128 * 1 + t.val < 128; omega)]
    have e : (⟨(row 1 t).val - 128, by show 128 * 1 + t.val - 128 < 128; omega⟩ : Fin 128) = t :=
      Fin.ext (by show 128 * 1 + t.val - 128 = t.val; omega)
    rw [e]
    exact h2 j

/-- One entry of the block a point writes. -/
theorem rows_at (e : Fin 2) (t : Fin 128) (d : Fin 1024) : rows x0 x1 x2 x3 x4 x5 x6 x7 x8 (ix2 (row e t) d)
    = x0 (ix2 (row e t) d) + ∑ q, hidAt x0 x1 x2 x3 (row e t) (fst q) * gateAt x0 x1 x2 x3 x4 x5 x6 x7 e t q (groupOf q) * x8 (ix2 q d) := by
  have h (x y : FVec Ideal S256x1024 .f32) (i : S256x1024.Idx) : addf x y i = (fun x y : EReal => x + y) (x i) (y i) := rfl
  unfold rows
  rw [h]
  refine congrArg₂ (fun x y : EReal => x + y) ?_ ?_
  · pointwise [k0_pay2]
  · have hz : k0_pay7 (F := Ideal) (ix2 (row e t) d) = (0 : EReal) := by pointwise [k0_pay7]
    simp only [group_at, hz]
    refine sum_groups _ (fun g => ∑ j, hidAt x0 x1 x2 x3 (row e t) (fst (col g j)) * gateAt x0 x1 x2 x3 x4 x5 x6 x7 e t (col g j) g
      * x8 (ix2 (col g j) d)) fun g => Finset.sum_congr rfl fun j _ => ?_
    rw [groupOf_col]

end Cert.Proof.GateAt

end
-- ==== Proof.GateInputs.lean ====
/-
  The spatial gating kernel's input blocks at an index: what each point reads of the arguments. Point `t` is tile `t % 8` of
  batch row `t / 8`.
-/
module

public import proofs.«01_k».proof.Proof.Gen.Kernel4Ideal.Value
public import proofs.«01_k».proof.Proof.FfnInputs

@[expose] public section

set_option maxRecDepth 16384

noncomputable section

namespace Cert.Proof.GateInputs

open Cert.Kernel4Ideal Cert.Kernel4Ideal.Gen
open Idealize.ShloMosaic Idealize.ShloMosaic.TcCoe Idealize.SL.Sem
open Cert.Proof.FfnInputs (origin rowOf flatOf flat1024 gain)

variable (m : (ℓ : Loc nD τ sig) → Buf (Elt Ideal) ℓ) (c : Dev nD)

/-! ## The windowed arrays, of the arguments -/

theorem V_v0 : V m c main_v0
    = shapeCast S16384x1024 (m ((c.tc : Thread nD τ).loc main_arg0)) shapeCasts_S8x2048x1024_S16384x1024 := rfl
theorem V_v1 : V m c main_v1 = m ((c.tc : Thread nD τ).loc main_arg2) := rfl
theorem V_v2 : V m c main_v2 = transpose S128x8 [1, 0] (m ((c.tc : Thread nD τ).loc main_arg7)) transposes_S8x128_S128x8_1_0 := rfl
theorem V_v3 : V m c main_v3 = m ((c.tc : Thread nD τ).loc main_arg8) := rfl
theorem V_v4 : V m c main_v4 = shapeCast S1x1024 (m ((c.tc : Thread nD τ).loc main_arg1)) shapeCasts_S1024_S1x1024 := rfl
theorem V_v5 : V m c main_v5 = shapeCast S1x6144 (m ((c.tc : Thread nD τ).loc main_arg3)) shapeCasts_S6144_S1x6144 := rfl
theorem V_v6 : V m c main_v6 = shapeCast S1x3072 (m ((c.tc : Thread nD τ).loc main_arg4)) shapeCasts_S3072_S1x3072 := rfl
theorem V_v7 : V m c main_v7 = shapeCast S1x3072 (m ((c.tc : Thread nD τ).loc main_arg5)) shapeCasts_S3072_S1x3072 := rfl

/-! ## Where a point's block lies -/

theorem idx0 : ∀ t : Fin cfg0.N, win0_0.index t = ![t.val, 0] :=
  (by decide +kernel : ∀ t : Fin grid0.N, win0_0.index t = ![t.val, 0])

theorem idx9 : ∀ t : Fin cfg0.N, win0_9.index t = ![t.val, 0] :=
  (by decide +kernel : ∀ t : Fin grid0.N, win0_9.index t = ![t.val, 0])

/-- The weights' windows stand still, -/
theorem still : ∀ t : Fin cfg0.N, win0_1.index t = ![0, 0] ∧ win0_2.index t = ![0, 0] ∧ win0_3.index t = ![0, 0]
    ∧ win0_4.index t = ![0, 0] ∧ win0_5.index t = ![0, 0] ∧ win0_7.index t = ![0, 0] ∧ win0_8.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_7.index t = ![0, 0] ∧ win0_8.index t = ![0, 0])

/-- also that of the eight matrices. -/
theorem still6 : ∀ t : Fin cfg0.N, win0_6.index t = ![0, 0, 0] :=
  (by decide +kernel : ∀ t : Fin grid0.N, win0_6.index t = ![0, 0, 0])

variable (p j : Fin 8)

/-- The point of tile `j` of batch row `p`. -/
def point : Fin cfg0.N := ⟨8 * p.val + j.val, by show _ < 64; omega⟩

variable (t : Fin cfg0.N)

section Reshaped

variable {α : Type}

theorem wide (x : S6144.Idx → α) (q : Fin 6144) : shapeCast S1x6144 x shapeCasts_S6144_S1x6144 (ix2 0 q) = x (ix1 q) := by
  pointwise

theorem half (x : S3072.Idx → α) (q : Fin 3072) : shapeCast S1x3072 x shapeCasts_S3072_S1x3072 (ix2 0 q) = x (ix1 q) := by
  pointwise

theorem turned (x : S8x128.Idx → α) (s : Fin 128) (g : Fin 8) :
    transpose S128x8 [1, 0] x transposes_S8x128_S128x8_1_0 (ix2 s g) = x (ix2 g s) := by
  pointwise

end Reshaped

/-! ## The weights -/

theorem block1 (d : Fin 1024) : iblk m c 1 t (ix2 0 d) = m ((c.tc : Thread nD τ).loc main_arg1) (ix1 d) := by
  refine Eq.trans (b := V m c main_v4 (ix2 0 d)) ?_ ?_
  · exact congrArg (V m c main_v4) (funext fun a => Fin.ext (origin (still t).1 a _ _))
  · rw [V_v4]
    exact gain _ d

theorem block2 (d : Fin 1024) (q : Fin 6144) : iblk m c 2 t (ix2 d q) = m ((c.tc : Thread nD τ).loc main_arg2) (ix2 d q) :=
  congrArg (V m c main_v1) (funext fun a => Fin.ext (origin (still t).2.1 a _ _))

theorem block3 (q : Fin 6144) : iblk m c 3 t (ix2 0 q) = m ((c.tc : Thread nD τ).loc main_arg3) (ix1 q) := by
  refine Eq.trans (b := V m c main_v5 (ix2 0 q)) ?_ ?_
  · exact congrArg (V m c main_v5) (funext fun a => Fin.ext (origin (still t).2.2.1 a _ _))
  · rw [V_v5]
    exact wide _ q

theorem block4 (q : Fin 3072) : iblk m c 4 t (ix2 0 q) = m ((c.tc : Thread nD τ).loc main_arg4) (ix1 q) := by
  refine Eq.trans (b := V m c main_v6 (ix2 0 q)) ?_ ?_
  · exact congrArg (V m c main_v6) (funext fun a => Fin.ext (origin (still t).2.2.2.1 a _ _))
  · rw [V_v6]
    exact half _ q

theorem block5 (q : Fin 3072) : iblk m c 5 t (ix2 0 q) = m ((c.tc : Thread nD τ).loc main_arg5) (ix1 q) := by
  refine Eq.trans (b := V m c main_v7 (ix2 0 q)) ?_ ?_
  · exact congrArg (V m c main_v7) (funext fun a => Fin.ext (origin (still t).2.2.2.2.1 a _ _))
  · rw [V_v7]
    exact half _ q

theorem block6 (g : Fin 8) (r s : Fin 128) : iblk m c 6 t (ix3 g r s) = m ((c.tc : Thread nD τ).loc main_arg6) (ix3 g r s) := by
  have h := still6 t
  refine congrArg (V m c main_arg6) (funext fun a => Fin.ext ?_)
  match a with
  | ⟨0, _⟩ => show win0_6.index t 0 * 8 + 1 * g.val = g.val; rw [h]; show 0 * 8 + 1 * _ = _; omega
  | ⟨1, _⟩ => show win0_6.index t 1 * 128 + 1 * r.val = r.val; rw [h]; show 0 * 128 + 1 * _ = _; omega
  | ⟨2, _⟩ => show win0_6.index t 2 * 128 + 1 * s.val = s.val; rw [h]; show 0 * 128 + 1 * _ = _; omega

theorem block7 (s : Fin 128) (g : Fin 8) : iblk m c 7 t (ix2 s g) = m ((c.tc : Thread nD τ).loc main_arg7) (ix2 g s) := by
  refine Eq.trans (b := V m c main_v2 (ix2 s g)) ?_ ?_
  · exact congrArg (V m c main_v2) (funext fun a => Fin.ext (origin (still t).2.2.2.2.2.1 a _ _))
  · rw [V_v2]
    exact turned _ s g

theorem block8 (q : Fin 3072) (d : Fin 1024) : iblk m c 8 t (ix2 q d) = m ((c.tc : Thread nD τ).loc main_arg8) (ix2 q d) :=
  congrArg (V m c main_v3) (funext fun a => Fin.ext (origin (still t).2.2.2.2.2.2 a _ _))

/-! ## The rows -/

/-- An index of a block of rows, in the array. -/
theorem rows_idx {i : Fin 2 → ℕ} (h : i = ![(point p j).val, 0]) (r : Fin 256) (d : Fin 1024) (a : Fin 2) :
    i a * (![256, 1024] : Fin 2 → ℕ) a + 1 * (![r.val, d.val] : Fin 2 → ℕ) a = (![(flatOf p j r).val, d.val] : Fin 2 → ℕ) a := by
  subst h
  match a with
  | ⟨0, _⟩ => show (8 * p.val + j.val) * 256 + 1 * r.val = 256 * (8 * p.val + j.val) + r.val; omega
  | ⟨1, _⟩ => show 0 * 1024 + 1 * d.val = d.val; omega

theorem block0 (r : Fin 256) (d : Fin 1024) : iblk m c 0 (point p j) (ix2 r d)
    = m ((c.tc : Thread nD τ).loc main_arg0) (ix3 p (rowOf j r) d) := by
  refine Eq.trans (b := V m c main_v0 (ix2 (flatOf p j r) d)) ?_ ?_
  · refine congrArg (V m c main_v0) (funext fun a => Fin.ext ?_)
    match a with
    | ⟨0, _⟩ => exact rows_idx p j (idx0 _) r d 0
    | ⟨1, _⟩ => exact rows_idx p j (idx0 _) r d 1
  · rw [V_v0]
    exact flat1024 p j _ r d

end Cert.Proof.GateInputs

end
-- ==== Proof.GateRef.lean ====
/-
  The reference's values at an index, as functions of a row.
-/
module

public import proofs.«01_k».proof.Proof.Gen.Reference4Ideal.Run
public import proofs.«01_k».proof.Proof.GateRow
public import proofs.«01_k».proof.Proof.FfnRef

@[expose] public section

set_option maxRecDepth 16384

noncomputable section

namespace Cert.Proof.GateRef

open Cert.Reference4Ideal Cert.Reference4Ideal.Gen Cert.Reference4Ideal.Value Cert.Proof.GateRow
open Idealize.ShloMosaic Idealize.ShloMosaic.TcCoe Idealize.SL.Sem

variable {F : FTy → Type} [FloatOps F]
variable (x0 : Vec F S8x2048x1024 .f32) (x1 : Vec F S1024 .f32) (x2 : Vec F S1024x6144 .f32) (x3 : Vec F S6144 .f32)
  (x4 x5 : Vec F S3072 .f32) (x6 : Vec F S8x128x128 .f32) (x7 : Vec F S8x128 .f32) (x8 : Vec F S3072x1024 .f32)

/-! ## The reference's values, one after the other -/

/-- The projected columns, -/
def proj : FVec F S8x2048x6144 .f32 :=
  addf (Host.dotGeneral dot_S8x2048x1024_S1024x6144_S8x2048x6144_2_0_01_1_n_n none (mulf (mulf x0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x0 x0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x1))) x2)
    (broadcastInDim S8x2048x6144 ![0, 1, 2] bcast_S1x1x6144_S8x2048x6144_0_1_2 (broadcastInDim S1x1x6144 ![2] bcast_S6144_S1x1x6144_2 x3))

/-- through the activation, -/
def act (z : FVec F S8x2048x6144 .f32) : FVec F S8x2048x6144 .f32 :=
  mulf z (mulf (broadcastInDim S8x2048x6144 ![] bcast_S_S8x2048x6144 (constant S_ .f32 0x3F000000#32)) (addf (broadcastInDim S8x2048x6144 ![] bcast_S_S8x2048x6144 (constant S_ .f32 0x3F800000#32)) (Host.tanh (mulf (broadcastInDim S8x2048x6144 ![] bcast_S_S8x2048x6144 (constant S_ .f32 0x3F4C422A#32)) (addf z (mulf (broadcastInDim S8x2048x6144 ![] bcast_S_S8x2048x6144 (constant S_ .f32 0x3D372713#32)) (mulf (mulf z z) z)))))))

/-- their first half, -/
def first (h : FVec F S8x2048x6144 .f32) : FVec F S8x2048x3072 .f32 :=
  extractStridedSlice S8x2048x3072 ![0, 0, 0] h slices_S8x2048x6144_S8x2048x3072_0_0_0

/-- their second, -/
def later (h : FVec F S8x2048x6144 .f32) : FVec F S8x2048x3072 .f32 :=
  extractStridedSlice S8x2048x3072 ![0, 0, 3072] h slices_S8x2048x6144_S8x2048x3072_0_0_3072

/-- that with its mean taken off, -/
def centred (v : FVec F S8x2048x3072 .f32) : FVec F S8x2048x3072 .f32 :=
  subf v (broadcastInDim S8x2048x3072 ![0, 1, 2] bcast_S8x2048x1_S8x2048x3072_0_1_2 (Host.divf (broadcastInDim S8x2048x1 ![0, 1] bcast_S8x2048_S8x2048x1_0_1 (Host.reduceAdd v (constant S_ .f32 0x00000000#32) reducesTo_S8x2048x3072_S8x2048_d2 h_S_)) (broadcastInDim S8x2048x1 ![] bcast_S_S8x2048x1 (constant S_ .f32 0x45400000#32))))

/-- and normalized, -/
def normed (w : FVec F S8x2048x3072 .f32) : FVec F S8x2048x3072 .f32 :=
  addf (mulf (mulf w (broadcastInDim S8x2048x3072 ![0, 1, 2] bcast_S8x2048x1_S8x2048x3072_0_1_2 (Host.rsqrt (addf (Host.divf (broadcastInDim S8x2048x1 ![0, 1] bcast_S8x2048_S8x2048x1_0_1 (Host.reduceAdd (mulf w w) (constant S_ .f32 0x00000000#32) reducesTo_S8x2048x3072_S8x2048_d2 h_S_)) (broadcastInDim S8x2048x1 ![] bcast_S_S8x2048x1 (constant S_ .f32 0x45400000#32))) (broadcastInDim S8x2048x1 ![] bcast_S_S8x2048x1 (constant S_ .f32 0x358637BD#32)))))) (broadcastInDim S8x2048x3072 ![0, 1, 2] bcast_S1x1x3072_S8x2048x3072_0_1_2 (broadcastInDim S1x1x3072 ![2] bcast_S3072_S1x1x3072_2 x4))) (broadcastInDim S8x2048x3072 ![0, 1, 2] bcast_S1x1x3072_S8x2048x3072_0_1_2 (broadcastInDim S1x1x3072 ![2] bcast_S3072_S1x1x3072_2 x5))

/-- the weights of the rows before, -/
def lower : FVec F S8x128x128 .f32 :=
  mulf x6 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- the weighted sums, by chunk and group, -/
def past (n : FVec F S8x2048x3072 .f32) (w : FVec F S8x128x128 .f32) : FVec F S8x8x16x384x128 .f32 :=
  Host.dotGeneral dot_S8x16x128x8x384_S8x128x128_S8x8x16x384x128_2_2_014_1_3_0 none (shapeCast _ n shapeCasts_S8x2048x3072_S8x16x128x8x384) w

/-- with their bias, -/
def gates (y : FVec F S8x8x16x384x128 .f32) : FVec F S8x2048x3072 .f32 :=
  shapeCast _ (addf (transpose S8x16x128x8x384 [1, 2, 4, 0, 3] y transposes_S8x8x16x384x128_S8x16x128x8x384_1_2_4_0_3) (broadcastInDim S8x16x128x8x384 ![0, 1, 2, 3, 4] bcast_S1x1x128x8x1_S8x16x128x8x384_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] x7 transposes_S8x128_S128x8_1_0))))) shapeCasts_S8x16x128x8x384_S8x2048x3072

/-- and the rows. -/
def rows (u s : FVec F S8x2048x3072 .f32) : FVec F S8x2048x1024 .f32 :=
  addf x0 (Host.dotGeneral dot_S8x2048x3072_S3072x1024_S8x2048x1024_2_0_01_1_n_n none (mulf u s) x8)

/-- The whole result. -/
def out : FVec F S8x2048x1024 .f32 :=
  rows x0 x8 (first (act (proj x0 x1 x2 x3)))
    (gates x7 (past (normed x4 x5 (centred (later (act (proj x0 x1 x2 x3))))) (lower x6)))

theorem res_eq (m : (ℓ : Loc nD τ sig) → Buf (Elt F) ℓ) (c : Dev nD) : res_main_v73 m c
    = shapeCast S16384x1024 (out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))) shapeCasts_S8x2048x1024_S16384x1024 := by
  unfold res_main_v73
  rfl

section At

variable (x0 : Vec Ideal S8x2048x1024 .f32) (x1 : Vec Ideal S1024 .f32) (x2 : Vec Ideal S1024x6144 .f32) (x3 : Vec Ideal S6144 .f32)
  (x4 x5 : Vec Ideal S3072 .f32) (x6 : Vec Ideal S8x128x128 .f32) (x7 : Vec Ideal S8x128 .f32) (x8 : Vec Ideal S3072x1024 .f32)
  (b : Fin 8) (s : Fin 2048)

theorem proj_at (q : Fin 6144) : proj x0 x1 x2 x3 (ix3 b s q)
    = FfnRow.up (fun d => x0 (ix3 b s d)) (fun d => x1 (ix1 d)) (fun d => x2 (ix2 d q)) + x3 (ix1 q) := by
  unfold proj
  pointwise
  rfl

theorem act_at (z : FVec Ideal S8x2048x6144 .f32) (q : Fin 6144) : act z (ix3 b s q) = gelu (z (ix3 b s q)) := by
  rw [← gelu_eq]
  unfold act
  pointwise
  rfl

theorem normed_at (v : FVec Ideal S8x2048x3072 .f32) (q : Fin 3072) : normed x4 x5 (centred v) (ix3 b s q)
    = norm (fun q => v (ix3 b s q)) (fun q => x4 (ix1 q)) (fun q => x5 (ix1 q)) q := by
  unfold normed centred
  pointwise
  rfl

theorem lower_at (g : Fin 8) (t s : Fin 128) : lower x6 (ix3 g t s) = if s ≤ t then x6 (ix3 g t s) else 0 := by
  unfold lower
  pointwise
  exact select_ge t s _ _

/-- Row `t` of chunk `e`. -/
def row (e : Fin 16) (t : Fin 128) : Fin 2048 := ⟨128 * e.val + t.val, by omega⟩

theorem gates_at (n : FVec Ideal S8x2048x3072 .f32) (e : Fin 16) (t : Fin 128) (g : Fin 8) (j : Fin 384) :
    gates x7 (past n (lower x6)) (ix3 b (row e t) (col g j))
      = gate (fun s => x6 (ix3 g t s)) (fun s => n (ix3 b (row e s) (col g j))) t (x7 (ix2 g t)) := by
  have h := lower_at x6 g t
  generalize lower x6 = w at h ⊢
  unfold gates past
  pointwise
  have ht := t.isLt
  have hj := j.isLt
  have e0 : (row e t).val / 128 = e.val := by show (128 * e.val + t.val) / 128 = _; omega
  have e1 (h : (row e t).val % 128 < 128) : (⟨(row e t).val % 128, h⟩ : Fin 128) = t :=
    Fin.ext (by show (128 * e.val + t.val) % 128 = _; omega)
  have e2 (h : (col g j).val / 384 < 8) : (⟨(col g j).val / 384, h⟩ : Fin 8) = g :=
    Fin.ext (by show (384 * g.val + j.val) / 384 = _; omega)
  rw [e1, e2]
  refine congrArg₂ (fun x y : EReal => x + y) (Finset.sum_congr rfl fun s _ => ?_) rfl
  rw [h, mul_comm (n _)]
  refine congrArg₂ (fun x y : EReal => x * y) rfl (congrArg (fun r => n (ix3 b r (col g j))) (Fin.ext ?_))
  show (row e t).val / 128 * 128 + s.val = 128 * e.val + s.val
  omega

theorem rows_at (u v : FVec Ideal S8x2048x3072 .f32) (d : Fin 1024) : rows x0 x8 u v (ix3 b s d)
    = x0 (ix3 b s d) + ∑ q, u (ix3 b s q) * v (ix3 b s q) * x8 (ix2 q d) := by
  unfold rows
  pointwise

theorem first_at (h : FVec Ideal S8x2048x6144 .f32) (q : Fin 3072) : first h (ix3 b s q) = h (ix3 b s (fst q)) := by
  unfold first
  pointwise
  rfl

theorem later_at (h : FVec Ideal S8x2048x6144 .f32) (q : Fin 3072) : later h (ix3 b s q) = h (ix3 b s (second q)) := by
  unfold later
  pointwise
  rfl

/-- Column `q` of row `s`, projected and through the activation. -/
def hidAt (q : Fin 6144) : EReal :=
  hid (fun d => x0 (ix3 b s d)) (fun d => x1 (ix1 d)) (fun d => x2 (ix2 d q)) (x3 (ix1 q))

/-- The normalized columns of row `s`. -/
def normAt : Fin 3072 → EReal :=
  norm (fun q => hidAt x0 x1 x2 x3 b s (second q)) (fun q => x4 (ix1 q)) (fun q => x5 (ix1 q))

/-- The gate of column `q` in row `t` of chunk `e`. -/
def gateAt (e : Fin 16) (t : Fin 128) (q : Fin 3072) (g : Fin 8) : EReal :=
  gate (fun s => x6 (ix3 g t s)) (fun s => normAt x0 x1 x2 x3 x4 x5 b (row e s) q) t (x7 (ix2 g t))

/-- Every column is a group's. -/
theorem col_groupOf (q : Fin 3072) : ∃ (g : Fin 8) (j : Fin 384), q = col g j :=
  ⟨groupOf q, ⟨q.val % 384, by omega⟩, Fin.ext (by show q.val = 384 * (q.val / 384) + q.val % 384; omega)⟩

/-- One entry of the result. -/
theorem out_at (e : Fin 16) (t : Fin 128) (d : Fin 1024) : out x0 x1 x2 x3 x4 x5 x6 x7 x8 (ix3 b (row e t) d)
    = x0 (ix3 b (row e t) d) + ∑ q, hidAt x0 x1 x2 x3 b (row e t) (fst q) * gateAt x0 x1 x2 x3 x4 x5 x6 x7 b e t q (groupOf q)
        * x8 (ix2 q d) := by
  unfold out
  rw [rows_at]
  refine congrArg₂ (fun x y : EReal => x + y) rfl (Finset.sum_congr rfl fun q _ => ?_)
  refine congrArg₂ (fun x y : EReal => x * y) (congrArg₂ (fun x y : EReal => x * y) ?_ ?_) rfl
  · rw [first_at, act_at, proj_at]
    rfl
  · obtain ⟨g, j, rfl⟩ := col_groupOf q
    rw [gates_at, groupOf_col]
    unfold gateAt normAt hidAt hid
    simp only [normed_at, later_at, act_at, proj_at]

end At

end Cert.Proof.GateRef

end
-- ==== Proof.GateResult.lean ====
/-
  The spatial gating kernel's result array is its reference's.
-/
module

public import proofs.«01_k».proof.Proof.GateAt
public import proofs.«01_k».proof.Proof.GateInputs
public import proofs.«01_k».proof.Proof.GateRef
public import proofs.«01_k».proof.Proof.FfnResult

@[expose] public section

set_option maxRecDepth 16384

noncomputable section

namespace Cert.Proof.GateResult

open Cert.Kernel4Ideal Cert.Kernel4Ideal.Gen
open Idealize.ShloMosaic Idealize.ShloMosaic.TcCoe Idealize.SL.Sem
open Cert.Proof.GateInputs
open Cert.Proof.FfnInputs (rowOf flatOf)

variable (m : (ℓ : Loc nD τ sig) → Buf (Elt Ideal) ℓ) (c : Dev nD)

/-- The reference's result of the kernel's arguments. -/
def want : FVec Ideal Reference4Ideal.S8x2048x1024 .f32 :=
  GateRef.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

variable (p j : Fin 8) (e : Fin 2) (t : Fin 128)

/-- Chunk `e` of tile `j`, among a batch row's. -/
def chunk : Fin 16 := ⟨2 * j.val + e.val, by omega⟩

theorem row_eq : rowOf j (GateAt.row e t) = GateRef.row (chunk j e) t := Fin.ext (by
  show 256 * j.val + (128 * e.val + t.val) = 128 * (2 * j.val + e.val) + t.val
  omega)

/-- What a point writes. -/
theorem block_eq (d : Fin 1024) :
    out0_9 (iblk m c 0 (point p j)) (iblk m c 1 (point p j)) (iblk m c 2 (point p j)) (iblk m c 3 (point p j))
      (iblk m c 4 (point p j)) (iblk m c 5 (point p j)) (iblk m c 6 (point p j)) (iblk m c 7 (point p j)) (iblk m c 8 (point p j))
      (ix2 (GateAt.row e t) d) = want m c (ix3 p (rowOf j (GateAt.row e t)) d) := by
  rw [GateBody.out_eq, GateAt.rows_at, row_eq]
  unfold want
  rw [GateRef.out_at]
  unfold GateAt.gateAt GateRef.gateAt GateAt.normAt GateRef.normAt GateAt.hidAt GateRef.hidAt
  simp only [block0, block1, block2, block3, block4, block5, block6, block7, block8, row_eq]

/-- The result array. -/
theorem rows_eq : (dats m 0 c).arrAt 9 cfg0.N
    = shapeCast S16384x1024 (want m c) shapeCasts_S8x2048x1024_S16384x1024 := by
  funext i
  obtain ⟨p, j, r, d, rfl⟩ := FfnResult.flat_cover i
  refine Eq.trans ?_ (FfnRef.flat_at p (rowOf j r) (want m c) d).symm
  obtain ⟨e, t, rfl⟩ : ∃ (e : Fin 2) (t : Fin 128), r = GateAt.row e t :=
    ⟨⟨r.val / 128, by omega⟩, ⟨r.val % 128, by omega⟩, Fin.ext (by show r.val = 128 * (r.val / 128) + r.val % 128; omega)⟩
  refine Eq.trans ?_ (block_eq m c p j e t d)
  have h := congrFun (Value.blocks9 m c (point p j) (flush0_9 _)) (ix2 (GateAt.row e t) d)
  rw [Value.flushed9] at h
  refine Eq.trans (congrArg ((dats m 0 c).arrAt 9 cfg0.N) (funext fun a => Fin.ext ?_)) h
  match a with
  | ⟨0, _⟩ =>
    refine Eq.trans ?_ (rows_idx p j (idx9 _) (GateAt.row e t) d 0).symm
    show 2048 * p.val + (256 * j.val + _) = 256 * (8 * p.val + j.val) + _
    omega
  | ⟨1, _⟩ => exact (rows_idx p j (idx9 _) (GateAt.row e t) d 1).symm

end Cert.Proof.GateResult

end
-- ==== Proof.QkvRef.lean ====
/-
  The reference's queries, keys and values at an index, as functions of a row.
-/
module

public import proofs.«01_k».proof.Proof.Gen.Reference5Ideal.Run
public import proofs.«01_k».proof.Proof.FfnRef

@[expose] public section

set_option maxRecDepth 16384

noncomputable section

namespace Cert.Proof.QkvRef

open Cert.Reference5Ideal Cert.Reference5Ideal.Gen Cert.Reference5Ideal.Value
open Idealize.ShloMosaic Idealize.ShloMosaic.TcCoe Idealize.SL.Sem
open Cert.Proof.FfnRow (up)
open Cert.Proof.FfnRef (flat)

/-- Column `q` of part `i` of the projected columns. -/
def col (i : Fin 3) (q : Fin 1024) : Fin 3072 := ⟨1024 * i.val + q.val, by omega⟩

/-! ## The reference's values, one after the other -/

section Stages

variable {F : FTy → Type} [FloatOps F] (x0 : Vec F S8x2048x1024 .f32) (x1 : Vec F S1024 .f32) (x2 : Vec F S1024x3072 .f32)

/-- The projected columns, -/
def proj : FVec F S8x2048x3072 .f32 :=
  Host.dotGeneral dot_S8x2048x1024_S1024x3072_S8x2048x3072_2_0_01_1_n_n none (mulf (mulf x0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x0 x0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x1))) x2

/-- the queries of them, -/
def first (y : FVec F S8x2048x3072 .f32) : FVec F S16384x1024 .bf16 :=
  truncf .bf16 (shapeCast _ (shapeCast S8x2048x16x64 (extractStridedSlice S8x2048x1x16x64 ![0, 0, 0, 0, 0] (shapeCast _ y
    shapeCasts_S8x2048x3072_S8x2048x3x16x64) slices_S8x2048x3x16x64_S8x2048x1x16x64_0_0_0_0_0)
      shapeCasts_S8x2048x1x16x64_S8x2048x16x64) shapeCasts_S8x2048x16x64_S16384x1024) bitsLt_bf16_f32

/-- the keys, -/
def second (y : FVec F S8x2048x3072 .f32) : FVec F S8x1024x2048 .f32 :=
  transpose S8x1024x2048 [0, 2, 1] (shapeCast _ (shapeCast S8x2048x16x64 (extractStridedSlice S8x2048x1x16x64 ![0, 0, 1, 0, 0]
    (shapeCast _ y shapeCasts_S8x2048x3072_S8x2048x3x16x64) slices_S8x2048x3x16x64_S8x2048x1x16x64_0_0_1_0_0)
      shapeCasts_S8x2048x1x16x64_S8x2048x16x64) shapeCasts_S8x2048x16x64_S8x2048x1024) transposes_S8x2048x1024_S8x1024x2048_0_2_1

/-- and the values. -/
def third (y : FVec F S8x2048x3072 .f32) : FVec F S8x1024x2048 .f32 :=
  transpose S8x1024x2048 [0, 2, 1] (shapeCast _ (shapeCast S8x2048x16x64 (extractStridedSlice S8x2048x1x16x64 ![0, 0, 2, 0, 0]
    (shapeCast _ y shapeCasts_S8x2048x3072_S8x2048x3x16x64) slices_S8x2048x3x16x64_S8x2048x1x16x64_0_0_2_0_0)
      shapeCasts_S8x2048x1x16x64_S8x2048x16x64) shapeCasts_S8x2048x16x64_S8x2048x1024) transposes_S8x2048x1024_S8x1024x2048_0_2_1

end Stages

section At

variable (x0 : Vec Ideal S8x2048x1024 .f32) (x1 : Vec Ideal S1024 .f32) (x2 : Vec Ideal S1024x3072 .f32)
  (y : FVec Ideal S8x2048x3072 .f32) (b : Fin 8) (s : Fin 2048)

theorem proj_at (q : Fin 3072) : proj x0 x1 x2 (ix3 b s q)
    = up (fun d => x0 (ix3 b s d)) (fun d => x1 (ix1 d)) (fun d => x2 (ix2 d q)) := by
  unfold proj
  pointwise
  rfl

theorem first_at (q : Fin 1024) : first y (ix2 (flat b s) q) = y (ix3 b s (col 0 q)) := by
  have hb := b.isLt
  have hs := s.isLt
  have hq := q.isLt
  unfold first
  pointwise
  refine congrArg y (funext fun a => Fin.ext ?_)
  match a with
  | ⟨0, _⟩ => show _ = b.val; dsimp [flat]; omega
  | ⟨1, _⟩ => show _ = s.val; dsimp [flat]; omega
  | ⟨2, _⟩ => show _ = 1024 * 0 + q.val; dsimp [flat]; omega

theorem second_at (q : Fin 1024) : second y (ix3 b q s) = y (ix3 b s (col 1 q)) := by
  have hq := q.isLt
  unfold second
  pointwise
  refine congrArg y (funext fun a => Fin.ext ?_)
  match a with
  | ⟨0, _⟩ => show _ = b.val; dsimp
  | ⟨1, _⟩ => show _ = s.val; dsimp
  | ⟨2, _⟩ => show _ = 1024 * 1 + q.val; dsimp; omega

theorem third_at (q : Fin 1024) : third y (ix3 b q s) = y (ix3 b s (col 2 q)) := by
  have hq := q.isLt
  unfold third
  pointwise
  refine congrArg y (funext fun a => Fin.ext ?_)
  match a with
  | ⟨0, _⟩ => show _ = b.val; dsimp
  | ⟨1, _⟩ => show _ = s.val; dsimp
  | ⟨2, _⟩ => show _ = 1024 * 2 + q.val; dsimp; omega

end At

end Cert.Proof.QkvRef

end
-- ==== Proof.Tile.lean ====
/-
  Tiles of rows: where a tile's row lies in the whole array, and which tile a row is of.
-/
module

public import Idealize.ShloMosaic.Lib.Pointwise

@[expose] public section

noncomputable section

namespace Cert.Proof.Tile

open Idealize.ShloMosaic

/-- Row `r` of tile `t` of 512 rows, among all. -/
def row (t : Fin 32) (r : Fin 512) : Fin 16384 := ⟨512 * t.val + r.val, by omega⟩

/-- Every row is a tile's. -/
theorem row_cover (i : Fin 16384) : ∃ (t : Fin 32) (r : Fin 512), i = row t r :=
  ⟨⟨i.val / 512, by omega⟩, ⟨i.val % 512, by omega⟩, Fin.ext (by show i.val = 512 * (i.val / 512) + i.val % 512; omega)⟩

/-- Every index of the rows is in a tile. -/
theorem cover (i : (⟨2, ![16384, 1024]⟩ : Shape).Idx) : ∃ (t : Fin 32) (r : Fin 512) (d : Fin 1024), i = ix2 (row t r) d := by
  obtain ⟨t, r, e⟩ := row_cover (i 0)
  exact ⟨t, r, i 1, funext fun a => match a with
    | ⟨0, _⟩ => e
    | ⟨1, _⟩ => rfl⟩

/-- An index of tile `t` of `n` rows of `k` entries, in the whole array. -/
theorem idx {i : Fin 2 → ℕ} {t n k : ℕ} (h : i = ![t, 0]) (r d : ℕ) (a : Fin 2) :
    i a * (![n, k] : Fin 2 → ℕ) a + 1 * (![r, d] : Fin 2 → ℕ) a = (![n * t + r, d] : Fin 2 → ℕ) a := by
  subst h
  match a with
  | ⟨0, _⟩ => show t * n + 1 * r = n * t + r; rw [mul_comm, one_mul]
  | ⟨1, _⟩ => show 0 * k + 1 * d = d; omega

theorem hz : (![0, 0] : Fin 2 → Nat) = fun _ => 0 := by
  funext a
  fin_cases a <;> rfl

theorem hz3 : (![0, 0, 0] : Fin 3 → Nat) = fun _ => 0 := by
  funext a
  fin_cases a <;> rfl

end Cert.Proof.Tile

end
-- ==== Proof.Qkv.lean ====
/-
  The attention's projections of the prompt: what a point writes, and the three result arrays, which are the reference's. Point
  `4 p + j` is tile `j` of batch row `p`.
-/
module

public import proofs.«01_k».proof.Proof.Gen.Kernel5Ideal.Value
public import proofs.«01_k».proof.Proof.FfnInputs
public import proofs.«01_k».proof.Proof.QkvRef
public import proofs.«01_k».proof.Proof.Tile

@[expose] public section

set_option maxRecDepth 16384

noncomputable section

namespace Cert.Proof.Qkv

open Cert.Kernel5Ideal Cert.Kernel5Ideal.Gen
open Idealize.ShloMosaic Idealize.ShloMosaic.TcCoe Idealize.SL.Sem
open Cert.Proof.FfnInputs (origin gain)
open Cert.Proof.FfnRow (up)
open Cert.Proof.FfnRef (flat)
open Cert.Proof.QkvRef (col)

/-! ## What a point writes -/

section Body

variable (x0 : Vec Ideal S512x1024 .f32) (x1 : Vec Ideal S1x1024 .f32) (x2 x3 x4 : Vec Ideal S1024x1024 .bf16)
  (r : Fin 512) (q : Fin 1024)

/-- Row `r` projected on a column. -/
def projAt (w : Fin 1024 → EReal) : EReal := up (fun d => x0 (ix2 r d)) (fun d => x1 (ix2 0 d)) w

theorem first_at : out0_5 x0 x1 x2 x3 x4 (ix2 r q) = projAt x0 x1 r fun d => x2 (ix2 d q) := by
  unfold out0_5
  rw [View.canon_unit_zero Tile.hz]
  simp only [View.ld_unit_zero (S := S512x1024) Tile.hz, View.ld_unit_zero (S := S1x1024) Tile.hz,
    View.ld_unit_zero (S := S1024x1024) Tile.hz]
  pointwise [k0_pay3, k0_pay2]
  rfl

theorem second_at : out0_6 x0 x1 x2 x3 x4 (ix3 0 q r) = projAt x0 x1 r fun d => x3 (ix2 q d) := by
  unfold out0_6
  rw [View.canon_unit_zero Tile.hz3]
  simp only [View.ld_unit_zero (S := S512x1024) Tile.hz, View.ld_unit_zero (S := S1x1024) Tile.hz,
    View.ld_unit_zero (S := S1024x1024) Tile.hz]
  pointwise [k0_pay4, k0_pay2]
  exact Finset.sum_congr rfl fun d _ => mul_comm _ _

theorem third_at : out0_7 x0 x1 x2 x3 x4 (ix3 0 q r) = projAt x0 x1 r fun d => x4 (ix2 q d) := by
  unfold out0_7
  rw [View.canon_unit_zero Tile.hz3]
  simp only [View.ld_unit_zero (S := S512x1024) Tile.hz, View.ld_unit_zero (S := S1x1024) Tile.hz,
    View.ld_unit_zero (S := S1024x1024) Tile.hz]
  pointwise [k0_pay1, k0_pay5, k0_pay2]
  exact Finset.sum_congr rfl fun d _ => mul_comm _ _

end Body

/-! ## What a point reads -/

variable (m : (ℓ : Loc nD τ sig) → Buf (Elt Ideal) ℓ) (c : Dev nD)

theorem V_rows : V m c main_v1
    = shapeCast S16384x1024 (m ((c.tc : Thread nD τ).loc main_arg0)) shapeCasts_S8x2048x1024_S16384x1024 := rfl
theorem V_gain : V m c main_v7 = shapeCast S1x1024 (m ((c.tc : Thread nD τ).loc main_arg1)) shapeCasts_S1024_S1x1024 := rfl
theorem V_first : V m c main_v2
    = extractStridedSlice S1024x1024 ![0, 0] (m ((c.tc : Thread nD τ).loc main_arg2)) slices_S1024x3072_S1024x1024_0_0 := rfl
theorem V_second : V m c main_v4 = transpose S1024x1024 [1, 0] (extractStridedSlice S1024x1024 ![0, 1024]
    (m ((c.tc : Thread nD τ).loc main_arg2)) slices_S1024x3072_S1024x1024_0_1024) transposes_S1024x1024_S1024x1024_1_0 := rfl
theorem V_third : V m c main_v6 = transpose S1024x1024 [1, 0] (extractStridedSlice S1024x1024 ![0, 2048]
    (m ((c.tc : Thread nD τ).loc main_arg2)) slices_S1024x3072_S1024x1024_0_2048) transposes_S1024x1024_S1024x1024_1_0 := rfl

section Parts

variable {α : Type} (x : S1024x3072.Idx → α) (d q : Fin 1024)

theorem part0 : extractStridedSlice S1024x1024 ![0, 0] x slices_S1024x3072_S1024x1024_0_0 (ix2 d q) = x (ix2 d (col 0 q)) := by
  pointwise
  exact congrArg (fun i => x (ix2 d i)) (Fin.ext (by show q.val = 1024 * 0 + q.val; omega))

theorem part1 : transpose S1024x1024 [1, 0] (extractStridedSlice S1024x1024 ![0, 1024] x slices_S1024x3072_S1024x1024_0_1024)
    transposes_S1024x1024_S1024x1024_1_0 (ix2 q d) = x (ix2 d (col 1 q)) := by
  pointwise
  exact congrArg (fun i => x (ix2 d i)) (Fin.ext (by show 1024 + q.val = 1024 * 1 + q.val; omega))

theorem part2 : transpose S1024x1024 [1, 0] (extractStridedSlice S1024x1024 ![0, 2048] x slices_S1024x3072_S1024x1024_0_2048)
    transposes_S1024x1024_S1024x1024_1_0 (ix2 q d) = x (ix2 d (col 2 q)) := by
  pointwise
  exact congrArg (fun i => x (ix2 d i)) (Fin.ext (by show 2048 + q.val = 1024 * 2 + q.val; omega))

end Parts

variable (p : Fin 8) (j : Fin 4) (t : Fin cfg0.N)

/-- The point of a tile, -/
def point : Fin cfg0.N := ⟨4 * p.val + j.val, by show _ < 32; omega⟩

/-- and its row `r`, in the batch row. -/
def row (r : Fin 512) : Fin 2048 := ⟨512 * j.val + r.val, by omega⟩

theorem moves : ∀ t : Fin cfg0.N, win0_0.index t = ![t.val, 0] ∧ win0_5.index t = ![t.val, 0]
    ∧ win0_6.index t = ![t.val / 4, 0, t.val % 4] ∧ win0_7.index t = ![t.val / 4, 0, t.val % 4] :=
  (by decide +kernel : ∀ t : Fin grid0.N, win0_0.index t = ![t.val, 0] ∧ win0_5.index t = ![t.val, 0]
    ∧ win0_6.index t = ![t.val / 4, 0, t.val % 4] ∧ win0_7.index t = ![t.val / 4, 0, t.val % 4])

theorem still : ∀ t : Fin cfg0.N, win0_1.index t = ![0, 0] ∧ win0_2.index t = ![0, 0] ∧ win0_3.index t = ![0, 0]
    ∧ win0_4.index t = ![0, 0] :=
  (by decide +kernel : ∀ t : Fin grid0.N, win0_1.index t = ![0, 0] ∧ win0_2.index t = ![0, 0] ∧ win0_3.index t = ![0, 0]
    ∧ win0_4.index t = ![0, 0])

/-- A row of a tile, among all rows. -/
theorem rows_idx {i : Fin 2 → ℕ} (h : i = ![(point p j).val, 0]) (r : Fin 512) (d : Fin 1024) (a : Fin 2) :
    i a * (![512, 1024] : Fin 2 → ℕ) a + 1 * (![r.val, d.val] : Fin 2 → ℕ) a
      = (![(flat p (row j r)).val, d.val] : Fin 2 → ℕ) a := by
  refine (Tile.idx h r.val d.val a).trans (congrArg (fun n => (![n, d.val] : Fin 2 → ℕ) a) ?_)
  show 512 * (4 * p.val + j.val) + r.val = 2048 * p.val + (512 * j.val + r.val)
  omega

theorem block0 (r : Fin 512) (d : Fin 1024) : iblk m c 0 (point p j) (ix2 r d)
    = m ((c.tc : Thread nD τ).loc main_arg0) (ix3 p (row j r) d) := by
  refine Eq.trans (b := V m c main_v1 (ix2 (flat p (row j r)) d)) ?_ ?_
  · refine congrArg (V m c main_v1) (funext fun a => Fin.ext ?_)
    match a with
    | ⟨0, _⟩ => exact rows_idx p j (moves _).1 r d 0
    | ⟨1, _⟩ => exact rows_idx p j (moves _).1 r d 1
  · rw [V_rows]
    exact FfnRef.flat_at p (row j r) _ d

theorem block1 (d : Fin 1024) : iblk m c 1 t (ix2 0 d) = m ((c.tc : Thread nD τ).loc main_arg1) (ix1 d) := by
  refine Eq.trans (b := V m c main_v7 (ix2 0 d)) ?_ ?_
  · exact congrArg (V m c main_v7) (funext fun a => Fin.ext (origin (still t).1 a _ _))
  · rw [V_gain]
    exact gain _ d

theorem block2 (d q : Fin 1024) : iblk m c 2 t (ix2 d q) = m ((c.tc : Thread nD τ).loc main_arg2) (ix2 d (col 0 q)) := by
  refine Eq.trans (b := V m c main_v2 (ix2 d q)) ?_ ?_
  · exact congrArg (V m c main_v2) (funext fun a => Fin.ext (origin (still t).2.1 a _ _))
  · rw [V_first]
    exact part0 _ d q

theorem block3 (d q : Fin 1024) : iblk m c 3 t (ix2 q d) = m ((c.tc : Thread nD τ).loc main_arg2) (ix2 d (col 1 q)) := by
  refine Eq.trans (b := V m c main_v4 (ix2 q d)) ?_ ?_
  · exact congrArg (V m c main_v4) (funext fun a => Fin.ext (origin (still t).2.2.1 a _ _))
  · rw [V_second]
    exact part1 _ d q

theorem block4 (d q : Fin 1024) : iblk m c 4 t (ix2 q d) = m ((c.tc : Thread nD τ).loc main_arg2) (ix2 d (col 2 q)) := by
  refine Eq.trans (b := V m c main_v6 (ix2 q d)) ?_ ?_
  · exact congrArg (V m c main_v6) (funext fun a => Fin.ext (origin (still t).2.2.2 a _ _))
  · rw [V_third]
    exact part2 _ d q

/-! ## The result arrays -/

/-- The reference's projected columns of the kernel's arguments. -/
def want : FVec Ideal Reference5Ideal.S8x2048x3072 .f32 :=
  QkvRef.proj (m ((c.tc : Thread nD τ).loc main_arg0)) (m ((c.tc : Thread nD τ).loc main_arg1))
    (m ((c.tc : Thread nD τ).loc main_arg2))

theorem proj_eq (i : Fin 3) (r : Fin 512) (q : Fin 1024) :
    projAt (iblk m c 0 (point p j)) (iblk m c 1 (point p j)) r
        (fun d => m ((c.tc : Thread nD τ).loc main_arg2) (ix2 d (col i q)))
      = want m c (ix3 p (row j r) (col i q)) := by
  unfold want projAt
  rw [QkvRef.proj_at]
  simp only [block0, block1]

/-- The queries. -/
theorem first_eq : (dats m 0 c).arrAt 5 cfg0.N = QkvRef.first (want m c) := by
  funext i
  obtain ⟨p, j, r, q, rfl⟩ : ∃ (p : Fin 8) (j : Fin 4) (r : Fin 512) (q : Fin 1024), i = ix2 (flat p (row j r)) q := by
    obtain ⟨t, r, q, rfl⟩ := Tile.cover i
    have ht := t.isLt
    refine ⟨⟨t.val / 4, by omega⟩, ⟨t.val % 4, by omega⟩, r, q, congrArg (fun i => ix2 i q) (Fin.ext ?_)⟩
    show 512 * t.val + r.val = 2048 * (t.val / 4) + (512 * (t.val % 4) + r.val)
    omega
  have h := congrFun (Value.blocks5 m c (point p j) (flush0_5 _)) (ix2 r q)
  rw [Value.flushed5] at h
  refine Eq.trans (congrArg ((dats m 0 c).arrAt 5 cfg0.N) (funext fun a => Fin.ext ?_)) (h.trans ?_)
  · match a with
    | ⟨0, _⟩ => exact (rows_idx p j (moves _).2.1 r q 0).symm
    | ⟨1, _⟩ => exact (rows_idx p j (moves _).2.1 r q 1).symm
  · refine Eq.trans (first_at _ _ _ _ _ r q) ?_
    rw [QkvRef.first_at, ← proj_eq]
    simp only [block2]

/-- An index of the turned arrays is in some tile, -/
theorem turned_cover (i : S8x1024x2048.Idx) :
    ∃ (p : Fin 8) (j : Fin 4) (r : Fin 512) (q : Fin 1024), i = ix3 p q (row j r) := by
  have h := (i 2).isLt
  have h2 : (i 2).val < 2048 := h
  refine ⟨i 0, ⟨(i 2).val / 512, by omega⟩, ⟨(i 2).val % 512, by omega⟩, i 1, funext fun a => ?_⟩
  match a with
  | ⟨0, _⟩ => rfl
  | ⟨1, _⟩ => rfl
  | ⟨2, _⟩ => exact Fin.ext (by show (i 2).val = 512 * ((i 2).val / 512) + (i 2).val % 512; omega)

/-- at this place. -/
theorem turned_idx {i : Fin 3 → ℕ} (h : i = ![(point p j).val / 4, 0, (point p j).val % 4]) (r : Fin 512) (q : Fin 1024)
    (a : Fin 3) : i a * (![1, 1024, 512] : Fin 3 → ℕ) a + 1 * (![0, q.val, r.val] : Fin 3 → ℕ) a
      = (![p.val, q.val, (row j r).val] : Fin 3 → ℕ) a := by
  subst h
  match a with
  | ⟨0, _⟩ => show (4 * p.val + j.val) / 4 * 1 + 1 * 0 = p.val; omega
  | ⟨1, _⟩ => show 0 * 1024 + 1 * q.val = q.val; omega
  | ⟨2, _⟩ => show (4 * p.val + j.val) % 4 * 512 + 1 * r.val = 512 * j.val + r.val; omega

/-- The keys. -/
theorem second_eq : (dats m 0 c).arrAt 6 cfg0.N = QkvRef.second (want m c) := by
  funext i
  obtain ⟨p, j, r, q, rfl⟩ := turned_cover i
  have h := congrFun (Value.blocks6 m c (point p j) (flush0_6 _)) (ix3 0 q r)
  rw [Value.flushed6] at h
  refine Eq.trans (congrArg ((dats m 0 c).arrAt 6 cfg0.N) (funext fun a => Fin.ext ?_)) (h.trans ?_)
  · match a with
    | ⟨0, _⟩ => exact (turned_idx p j (moves _).2.2.1 r q 0).symm
    | ⟨1, _⟩ => exact (turned_idx p j (moves _).2.2.1 r q 1).symm
    | ⟨2, _⟩ => exact (turned_idx p j (moves _).2.2.1 r q 2).symm
  · refine Eq.trans (second_at _ _ _ _ _ r q) ?_
    rw [QkvRef.second_at, ← proj_eq]
    simp only [block3]

/-- The values. -/
theorem third_eq : (dats m 0 c).arrAt 7 cfg0.N = QkvRef.third (want m c) := by
  funext i
  obtain ⟨p, j, r, q, rfl⟩ := turned_cover i
  have h := congrFun (Value.blocks7 m c (point p j) (flush0_7 _)) (ix3 0 q r)
  rw [Value.flushed7] at h
  refine Eq.trans (congrArg ((dats m 0 c).arrAt 7 cfg0.N) (funext fun a => Fin.ext ?_)) (h.trans ?_)
  · match a with
    | ⟨0, _⟩ => exact (turned_idx p j (moves _).2.2.2 r q 0).symm
    | ⟨1, _⟩ => exact (turned_idx p j (moves _).2.2.2 r q 1).symm
    | ⟨2, _⟩ => exact (turned_idx p j (moves _).2.2.2 r q 2).symm
  · refine Eq.trans (third_at _ _ _ _ _ r q) ?_
    rw [QkvRef.third_at, ← proj_eq]
    simp only [block4]

end Cert.Proof.Qkv

end
-- ==== Proof.MixOut.lean ====
/-
  The projection back to the rows, of mixer outputs of 1024 entries: what a point writes, and the result array, which is the
  reference's.
-/
module

public import proofs.«01_k».proof.Proof.Gen.Kernel6Ideal.Value
public import proofs.«01_k».proof.Proof.Gen.Reference6Ideal.Run
public import proofs.«01_k».proof.Proof.FfnInputs
public import proofs.«01_k».proof.Proof.Tile

@[expose] public section

set_option maxRecDepth 16384

noncomputable section

namespace Cert.Proof.MixOut

open Cert.Kernel6Ideal Cert.Kernel6Ideal.Gen
open Idealize.ShloMosaic Idealize.ShloMosaic.TcCoe Idealize.SL.Sem
open Cert.Proof.FfnInputs (origin)

/-- One entry of the block a point writes. -/
theorem out_at (x0 : Vec Ideal S512x1024 .f32) (x1 : Vec Ideal S512x1024 .bf16) (x2 : Vec Ideal S1024x1024 .bf16)
    (r : Fin 512) (d : Fin 1024) : out0_3 x0 x1 x2 (ix2 r d) = x0 (ix2 r d) + ∑ q, x1 (ix2 r q) * x2 (ix2 q d) := by
  unfold out0_3
  rw [View.canon_unit_zero Tile.hz]
  simp only [View.ld_unit_zero (S := S512x1024) Tile.hz, View.ld_unit_zero (S := S512x1024) Tile.hz,
    View.ld_unit_zero (S := S1024x1024) Tile.hz]
  pointwise [k0_pay1]

variable (m : (ℓ : Loc nD τ sig) → Buf (Elt Ideal) ℓ) (c : Dev nD) (t : Fin 32)

/-- The point of a tile. -/
def point : Fin cfg0.N := ⟨t.val, by show _ < 32; omega⟩

theorem moves : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0]
    ∧ win0_2.index t = ![0, 0] ∧ win0_3.index t = ![t.val, 0])

theorem block0 (r : Fin 512) (d : Fin 1024) : iblk m c 0 (point t) (ix2 r d)
    = m ((c.tc : Thread nD τ).loc main_arg0) (ix2 (Tile.row t r) d) := by
  refine congrArg (V m c main_arg0) (funext fun a => Fin.ext ?_)
  match a with
  | ⟨0, _⟩ => exact Tile.idx (n := 512) (k := 1024) (moves (point t)).1 r.val d.val 0
  | ⟨1, _⟩ => exact Tile.idx (n := 512) (k := 1024) (moves (point t)).1 r.val d.val 1

theorem block1 (r : Fin 512) (q : Fin 1024) : iblk m c 1 (point t) (ix2 r q)
    = m ((c.tc : Thread nD τ).loc main_arg1) (ix2 (Tile.row t r) q) := by
  refine congrArg (V m c main_arg1) (funext fun a => Fin.ext ?_)
  match a with
  | ⟨0, _⟩ => exact Tile.idx (n := 512) (k := 1024) (moves (point t)).2.1 r.val q.val 0
  | ⟨1, _⟩ => exact Tile.idx (n := 512) (k := 1024) (moves (point t)).2.1 r.val q.val 1

theorem block2 (q : Fin 1024) (d : Fin 1024) : iblk m c 2 (point t) (ix2 q d)
    = m ((c.tc : Thread nD τ).loc main_arg2) (ix2 q d) :=
  congrArg (V m c main_v0) (funext fun a => Fin.ext (origin (moves (point t)).2.2.1 a _ _))

/-- The reference's result. -/
def want (x0 : FVec Ideal Reference6Ideal.S16384x1024 .f32) (x1 : FVec Ideal Reference6Ideal.S16384x1024 .bf16)
    (x2 : FVec Ideal Reference6Ideal.S1024x1024 .f32) : FVec Ideal Reference6Ideal.S16384x1024 .f32 :=
  addf x0 (Host.dotGeneral Reference6Ideal.dot_S16384x1024_S1024x1024_S16384x1024_1_0_0_1_n_n none x1 x2)

theorem want_at (x0 : FVec Ideal Reference6Ideal.S16384x1024 .f32) (x1 : FVec Ideal Reference6Ideal.S16384x1024 .bf16)
    (x2 : FVec Ideal Reference6Ideal.S1024x1024 .f32) (i : Fin 16384) (d : Fin 1024) :
    want x0 x1 x2 (ix2 i d) = x0 (ix2 i d) + ∑ q, x1 (ix2 i q) * x2 (ix2 q d) := by
  unfold want
  pointwise

/-- The result array. -/
theorem rows_eq : (dats m 0 c).arrAt 3 cfg0.N = want (m ((c.tc : Thread nD τ).loc main_arg0))
    (m ((c.tc : Thread nD τ).loc main_arg1)) (m ((c.tc : Thread nD τ).loc main_arg2)) := by
  funext i
  obtain ⟨t, r, d, rfl⟩ := Tile.cover i
  have h := congrFun (Value.blocks3 m c (point t) (flush0_3 _)) (ix2 r d)
  rw [Value.flushed3] at h
  refine Eq.trans (congrArg ((dats m 0 c).arrAt 3 cfg0.N) (funext fun a => Fin.ext ?_)) (h.trans ?_)
  · match a with
    | ⟨0, _⟩ => exact (Tile.idx (n := 512) (k := 1024) (moves (point t)).2.2.2 r.val d.val 0).symm
    | ⟨1, _⟩ => exact (Tile.idx (n := 512) (k := 1024) (moves (point t)).2.2.2 r.val d.val 1).symm
  · refine Eq.trans (out_at _ _ _ r d) ?_
    rw [want_at]
    simp only [block0, block1, block2]

end Cert.Proof.MixOut

end
-- ==== Proof.MixWide.lean ====
/-
  The projection back to the rows, of mixer outputs of 2048 entries: what a point writes, and the result array, which is the
  reference's.
-/
module

public import proofs.«01_k».proof.Proof.Gen.Kernel7Ideal.Value
public import proofs.«01_k».proof.Proof.Gen.Reference7Ideal.Run
public import proofs.«01_k».proof.Proof.FfnInputs
public import proofs.«01_k».proof.Proof.Tile

@[expose] public section

set_option maxRecDepth 16384

noncomputable section

namespace Cert.Proof.MixWide

open Cert.Kernel7Ideal Cert.Kernel7Ideal.Gen
open Idealize.ShloMosaic Idealize.ShloMosaic.TcCoe Idealize.SL.Sem
open Cert.Proof.FfnInputs (origin)

/-- One entry of the block a point writes. -/
theorem out_at (x0 : Vec Ideal S512x1024 .f32) (x1 : Vec Ideal S512x2048 .bf16) (x2 : Vec Ideal S2048x1024 .bf16)
    (r : Fin 512) (d : Fin 1024) : out0_3 x0 x1 x2 (ix2 r d) = x0 (ix2 r d) + ∑ q, x1 (ix2 r q) * x2 (ix2 q d) := by
  unfold out0_3
  rw [View.canon_unit_zero Tile.hz]
  simp only [View.ld_unit_zero (S := S512x1024) Tile.hz, View.ld_unit_zero (S := S512x2048) Tile.hz,
    View.ld_unit_zero (S := S2048x1024) Tile.hz]
  pointwise [k0_pay1]

variable (m : (ℓ : Loc nD τ sig) → Buf (Elt Ideal) ℓ) (c : Dev nD) (t : Fin 32)

/-- The point of a tile. -/
def point : Fin cfg0.N := ⟨t.val, by show _ < 32; omega⟩

theorem moves : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0]
    ∧ win0_2.index t = ![0, 0] ∧ win0_3.index t = ![t.val, 0])

theorem block0 (r : Fin 512) (d : Fin 1024) : iblk m c 0 (point t) (ix2 r d)
    = m ((c.tc : Thread nD τ).loc main_arg0) (ix2 (Tile.row t r) d) := by
  refine congrArg (V m c main_arg0) (funext fun a => Fin.ext ?_)
  match a with
  | ⟨0, _⟩ => exact Tile.idx (n := 512) (k := 1024) (moves (point t)).1 r.val d.val 0
  | ⟨1, _⟩ => exact Tile.idx (n := 512) (k := 1024) (moves (point t)).1 r.val d.val 1

theorem block1 (r : Fin 512) (q : Fin 2048) : iblk m c 1 (point t) (ix2 r q)
    = m ((c.tc : Thread nD τ).loc main_arg1) (ix2 (Tile.row t r) q) := by
  refine congrArg (V m c main_arg1) (funext fun a => Fin.ext ?_)
  match a with
  | ⟨0, _⟩ => exact Tile.idx (n := 512) (k := 2048) (moves (point t)).2.1 r.val q.val 0
  | ⟨1, _⟩ => exact Tile.idx (n := 512) (k := 2048) (moves (point t)).2.1 r.val q.val 1

theorem block2 (q : Fin 2048) (d : Fin 1024) : iblk m c 2 (point t) (ix2 q d)
    = m ((c.tc : Thread nD τ).loc main_arg2) (ix2 q d) :=
  congrArg (V m c main_v0) (funext fun a => Fin.ext (origin (moves (point t)).2.2.1 a _ _))

/-- The reference's result. -/
def want (x0 : FVec Ideal Reference7Ideal.S16384x1024 .f32) (x1 : FVec Ideal Reference7Ideal.S16384x2048 .bf16)
    (x2 : FVec Ideal Reference7Ideal.S2048x1024 .f32) : FVec Ideal Reference7Ideal.S16384x1024 .f32 :=
  addf x0 (Host.dotGeneral Reference7Ideal.dot_S16384x2048_S2048x1024_S16384x1024_1_0_0_1_n_n none x1 x2)

theorem want_at (x0 : FVec Ideal Reference7Ideal.S16384x1024 .f32) (x1 : FVec Ideal Reference7Ideal.S16384x2048 .bf16)
    (x2 : FVec Ideal Reference7Ideal.S2048x1024 .f32) (i : Fin 16384) (d : Fin 1024) :
    want x0 x1 x2 (ix2 i d) = x0 (ix2 i d) + ∑ q, x1 (ix2 i q) * x2 (ix2 q d) := by
  unfold want
  pointwise

/-- The result array. -/
theorem rows_eq : (dats m 0 c).arrAt 3 cfg0.N = want (m ((c.tc : Thread nD τ).loc main_arg0))
    (m ((c.tc : Thread nD τ).loc main_arg1)) (m ((c.tc : Thread nD τ).loc main_arg2)) := by
  funext i
  obtain ⟨t, r, d, rfl⟩ := Tile.cover i
  have h := congrFun (Value.blocks3 m c (point t) (flush0_3 _)) (ix2 r d)
  rw [Value.flushed3] at h
  refine Eq.trans (congrArg ((dats m 0 c).arrAt 3 cfg0.N) (funext fun a => Fin.ext ?_)) (h.trans ?_)
  · match a with
    | ⟨0, _⟩ => exact (Tile.idx (n := 512) (k := 1024) (moves (point t)).2.2.2 r.val d.val 0).symm
    | ⟨1, _⟩ => exact (Tile.idx (n := 512) (k := 1024) (moves (point t)).2.2.2 r.val d.val 1).symm
  · refine Eq.trans (out_at _ _ _ r d) ?_
    rw [want_at]
    simp only [block0, block1, block2]

end Cert.Proof.MixWide

end
-- ==== Proof.QkvStepRef.lean ====
/-
  The reference's queries, keys and values of the samples, at an index, as functions of a row.
-/
module

public import proofs.«01_k».proof.Proof.Gen.Reference8Ideal.Run
public import proofs.«01_k».proof.Proof.QkvRef

@[expose] public section

set_option maxRecDepth 16384

noncomputable section

namespace Cert.Proof.QkvStepRef

open Cert.Reference8Ideal Cert.Reference8Ideal.Gen Cert.Reference8Ideal.Value
open Idealize.ShloMosaic Idealize.ShloMosaic.TcCoe Idealize.SL.Sem
open Cert.Proof.FfnRow (up)
open Cert.Proof.QkvRef (col)

/-! ## The reference's values, one after the other -/

section Stages

variable {F : FTy → Type} [FloatOps F] (x0 : Vec F S128x1x1024 .f32) (x1 : Vec F S1024 .f32) (x2 : Vec F S1024x3072 .f32)

/-- The projected columns, -/
def proj : FVec F S128x1x3072 .f32 :=
  Host.dotGeneral dot_S128x1x1024_S1024x3072_S128x1x3072_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 x1))) x2

/-- the queries of them, -/
def first (y : FVec F S128x1x3072 .f32) : FVec F S128x1024 .bf16 :=
  truncf .bf16 (shapeCast _ (shapeCast S128x1x16x64 (extractStridedSlice S128x1x1x16x64 ![0, 0, 0, 0, 0] (shapeCast _ y
    shapeCasts_S128x1x3072_S128x1x3x16x64) slices_S128x1x3x16x64_S128x1x1x16x64_0_0_0_0_0)
      shapeCasts_S128x1x1x16x64_S128x1x16x64) shapeCasts_S128x1x16x64_S128x1024) bitsLt_bf16_f32

/-- the keys, -/
def second (y : FVec F S128x1x3072 .f32) : FVec F S1x1024x128 .f32 :=
  transpose S1x1024x128 [0, 2, 1] (shapeCast _ (shapeCast S128x1x16x64 (extractStridedSlice S128x1x1x16x64 ![0, 0, 1, 0, 0]
    (shapeCast _ y shapeCasts_S128x1x3072_S128x1x3x16x64) slices_S128x1x3x16x64_S128x1x1x16x64_0_0_1_0_0)
      shapeCasts_S128x1x1x16x64_S128x1x16x64) shapeCasts_S128x1x16x64_S1x128x1024) transposes_S1x128x1024_S1x1024x128_0_2_1

/-- and the values. -/
def third (y : FVec F S128x1x3072 .f32) : FVec F S1x1024x128 .f32 :=
  transpose S1x1024x128 [0, 2, 1] (shapeCast _ (shapeCast S128x1x16x64 (extractStridedSlice S128x1x1x16x64 ![0, 0, 2, 0, 0]
    (shapeCast _ y shapeCasts_S128x1x3072_S128x1x3x16x64) slices_S128x1x3x16x64_S128x1x1x16x64_0_0_2_0_0)
      shapeCasts_S128x1x1x16x64_S128x1x16x64) shapeCasts_S128x1x16x64_S1x128x1024) transposes_S1x128x1024_S1x1024x128_0_2_1

end Stages

section At

variable (x0 : Vec Ideal S128x1x1024 .f32) (x1 : Vec Ideal S1024 .f32) (x2 : Vec Ideal S1024x3072 .f32)
  (y : FVec Ideal S128x1x3072 .f32) (b : Fin 128)

theorem proj_at (q : Fin 3072) : proj x0 x1 x2 (ix3 b 0 q)
    = up (fun d => x0 (ix3 b 0 d)) (fun d => x1 (ix1 d)) (fun d => x2 (ix2 d q)) := by
  unfold proj
  pointwise
  rfl

theorem first_at (q : Fin 1024) : first y (ix2 b q) = y (ix3 b 0 (col 0 q)) := by
  have hq := q.isLt
  unfold first
  pointwise
  refine congrArg y (funext fun a => Fin.ext ?_)
  match a with
  | ⟨0, _⟩ => show _ = b.val; dsimp
  | ⟨1, _⟩ => show _ = 0; dsimp
  | ⟨2, _⟩ => show _ = 1024 * 0 + q.val; dsimp; omega

theorem second_at (q : Fin 1024) : second y (ix3 0 q b) = y (ix3 b 0 (col 1 q)) := by
  have hq := q.isLt
  unfold second
  pointwise
  refine congrArg y (funext fun a => Fin.ext ?_)
  match a with
  | ⟨0, _⟩ => show _ = b.val; dsimp
  | ⟨1, _⟩ => show _ = 0; dsimp
  | ⟨2, _⟩ => show _ = 1024 * 1 + q.val; dsimp; omega

theorem third_at (q : Fin 1024) : third y (ix3 0 q b) = y (ix3 b 0 (col 2 q)) := by
  have hq := q.isLt
  unfold third
  pointwise
  refine congrArg y (funext fun a => Fin.ext ?_)
  match a with
  | ⟨0, _⟩ => show _ = b.val; dsimp
  | ⟨1, _⟩ => show _ = 0; dsimp
  | ⟨2, _⟩ => show _ = 1024 * 2 + q.val; dsimp; omega

end At

end Cert.Proof.QkvStepRef

end
-- ==== Proof.QkvStep.lean ====
/-
  The attention's projections of the samples: what the one point writes, and the three result arrays, which are the reference's.
-/
module

public import proofs.«01_k».proof.Proof.Gen.Kernel8Ideal.Value
public import proofs.«01_k».proof.Proof.Qkv
public import proofs.«01_k».proof.Proof.QkvStepRef
public import proofs.«01_k».proof.Proof.Tile

@[expose] public section

set_option maxRecDepth 16384

noncomputable section

namespace Cert.Proof.QkvStep

open Cert.Kernel8Ideal Cert.Kernel8Ideal.Gen
open Idealize.ShloMosaic Idealize.ShloMosaic.TcCoe Idealize.SL.Sem
open Cert.Proof.FfnInputs (origin gain)
open Cert.Proof.FfnRow (up)
open Cert.Proof.QkvRef (col)
open Cert.Proof.Qkv (part0 part1 part2)

/-! ## What a point writes -/

section Body

variable (x0 : Vec Ideal S128x1024 .f32) (x1 : Vec Ideal S1x1024 .f32) (x2 x3 x4 : Vec Ideal S1024x1024 .bf16)
  (r : Fin 128) (q : Fin 1024)

/-- Row `r` projected on a column. -/
def projAt (w : Fin 1024 → EReal) : EReal := up (fun d => x0 (ix2 r d)) (fun d => x1 (ix2 0 d)) w

theorem first_at : out0_5 x0 x1 x2 x3 x4 (ix2 r q) = projAt x0 x1 r fun d => x2 (ix2 d q) := by
  unfold out0_5
  rw [View.canon_unit_zero Tile.hz]
  simp only [View.ld_unit_zero (S := S128x1024) Tile.hz, View.ld_unit_zero (S := S1x1024) Tile.hz,
    View.ld_unit_zero (S := S1024x1024) Tile.hz]
  pointwise [k0_pay3, k0_pay2]
  rfl

theorem second_at : out0_6 x0 x1 x2 x3 x4 (ix3 0 q r) = projAt x0 x1 r fun d => x3 (ix2 q d) := by
  unfold out0_6
  rw [View.canon_unit_zero Tile.hz3]
  simp only [View.ld_unit_zero (S := S128x1024) Tile.hz, View.ld_unit_zero (S := S1x1024) Tile.hz,
    View.ld_unit_zero (S := S1024x1024) Tile.hz]
  pointwise [k0_pay4, k0_pay2]
  exact Finset.sum_congr rfl fun d _ => mul_comm _ _

theorem third_at : out0_7 x0 x1 x2 x3 x4 (ix3 0 q r) = projAt x0 x1 r fun d => x4 (ix2 q d) := by
  unfold out0_7
  rw [View.canon_unit_zero Tile.hz3]
  simp only [View.ld_unit_zero (S := S128x1024) Tile.hz, View.ld_unit_zero (S := S1x1024) Tile.hz,
    View.ld_unit_zero (S := S1024x1024) Tile.hz]
  pointwise [k0_pay1, k0_pay5, k0_pay2]
  exact Finset.sum_congr rfl fun d _ => mul_comm _ _

end Body

/-! ## What a point reads -/

variable (m : (ℓ : Loc nD τ sig) → Buf (Elt Ideal) ℓ) (c : Dev nD)

theorem V_rows : V m c main_v1
    = shapeCast S128x1024 (m ((c.tc : Thread nD τ).loc main_arg0)) shapeCasts_S128x1x1024_S128x1024 := rfl
theorem V_gain : V m c main_v7 = shapeCast S1x1024 (m ((c.tc : Thread nD τ).loc main_arg1)) shapeCasts_S1024_S1x1024 := rfl
theorem V_first : V m c main_v2
    = extractStridedSlice S1024x1024 ![0, 0] (m ((c.tc : Thread nD τ).loc main_arg2)) slices_S1024x3072_S1024x1024_0_0 := rfl
theorem V_second : V m c main_v4 = transpose S1024x1024 [1, 0] (extractStridedSlice S1024x1024 ![0, 1024]
    (m ((c.tc : Thread nD τ).loc main_arg2)) slices_S1024x3072_S1024x1024_0_1024) transposes_S1024x1024_S1024x1024_1_0 := rfl
theorem V_third : V m c main_v6 = transpose S1024x1024 [1, 0] (extractStridedSlice S1024x1024 ![0, 2048]
    (m ((c.tc : Thread nD τ).loc main_arg2)) slices_S1024x3072_S1024x1024_0_2048) transposes_S1024x1024_S1024x1024_1_0 := rfl

theorem flat {α : Type} (x : S128x1x1024.Idx → α) (r : Fin 128) (d : Fin 1024) :
    shapeCast S128x1024 x shapeCasts_S128x1x1024_S128x1024 (ix2 r d) = x (ix3 r 0 d) := by
  pointwise

variable (t : Fin cfg0.N)

theorem still : ∀ t : Fin cfg0.N, win0_1.index t = ![0, 0] ∧ win0_2.index t = ![0, 0] ∧ win0_3.index t = ![0, 0]
    ∧ win0_4.index t = ![0, 0] ∧ win0_0.index t = ![0, 0] ∧ win0_5.index t = ![0, 0] ∧ win0_6.index t = ![0, 0, 0]
    ∧ win0_7.index t = ![0, 0, 0] :=
  (by decide +kernel : ∀ t : Fin grid0.N, win0_1.index t = ![0, 0] ∧ win0_2.index t = ![0, 0] ∧ win0_3.index t = ![0, 0]
    ∧ win0_4.index t = ![0, 0] ∧ win0_0.index t = ![0, 0] ∧ win0_5.index t = ![0, 0] ∧ win0_6.index t = ![0, 0, 0]
    ∧ win0_7.index t = ![0, 0, 0])

theorem block0 (r : Fin 128) (d : Fin 1024) : iblk m c 0 t (ix2 r d) = m ((c.tc : Thread nD τ).loc main_arg0) (ix3 r 0 d) := by
  refine Eq.trans (b := V m c main_v1 (ix2 r d)) ?_ ?_
  · exact congrArg (V m c main_v1) (funext fun a => Fin.ext (origin (still t).2.2.2.2.1 a _ _))
  · rw [V_rows]
    exact flat _ r d

theorem block1 (d : Fin 1024) : iblk m c 1 t (ix2 0 d) = m ((c.tc : Thread nD τ).loc main_arg1) (ix1 d) := by
  refine Eq.trans (b := V m c main_v7 (ix2 0 d)) ?_ ?_
  · exact congrArg (V m c main_v7) (funext fun a => Fin.ext (origin (still t).1 a _ _))
  · rw [V_gain]
    exact gain _ d

theorem block2 (d q : Fin 1024) : iblk m c 2 t (ix2 d q) = m ((c.tc : Thread nD τ).loc main_arg2) (ix2 d (col 0 q)) := by
  refine Eq.trans (b := V m c main_v2 (ix2 d q)) ?_ ?_
  · exact congrArg (V m c main_v2) (funext fun a => Fin.ext (origin (still t).2.1 a _ _))
  · rw [V_first]
    exact part0 _ d q

theorem block3 (d q : Fin 1024) : iblk m c 3 t (ix2 q d) = m ((c.tc : Thread nD τ).loc main_arg2) (ix2 d (col 1 q)) := by
  refine Eq.trans (b := V m c main_v4 (ix2 q d)) ?_ ?_
  · exact congrArg (V m c main_v4) (funext fun a => Fin.ext (origin (still t).2.2.1 a _ _))
  · rw [V_second]
    exact part1 _ d q

theorem block4 (d q : Fin 1024) : iblk m c 4 t (ix2 q d) = m ((c.tc : Thread nD τ).loc main_arg2) (ix2 d (col 2 q)) := by
  refine Eq.trans (b := V m c main_v6 (ix2 q d)) ?_ ?_
  · exact congrArg (V m c main_v6) (funext fun a => Fin.ext (origin (still t).2.2.2.1 a _ _))
  · rw [V_third]
    exact part2 _ d q

/-! ## The result arrays -/

/-- The one point. -/
def point : Fin cfg0.N := ⟨0, by show 0 < 1; omega⟩

/-- The reference's projected columns of the kernel's arguments. -/
def want : FVec Ideal Reference8Ideal.S128x1x3072 .f32 :=
  QkvStepRef.proj (m ((c.tc : Thread nD τ).loc main_arg0)) (m ((c.tc : Thread nD τ).loc main_arg1))
    (m ((c.tc : Thread nD τ).loc main_arg2))

theorem proj_eq (i : Fin 3) (r : Fin 128) (q : Fin 1024) : projAt (iblk m c 0 t) (iblk m c 1 t) r
        (fun d => m ((c.tc : Thread nD τ).loc main_arg2) (ix2 d (col i q)))
      = want m c (ix3 r 0 (col i q)) := by
  unfold want projAt
  rw [QkvStepRef.proj_at]
  simp only [block0, block1]

/-- The queries. -/
theorem first_eq : (dats m 0 c).arrAt 5 cfg0.N = QkvStepRef.first (want m c) := by
  funext i
  obtain ⟨r, q, rfl⟩ : ∃ (r : Fin 128) (q : Fin 1024), i = ix2 r q := ⟨i 0, i 1, funext fun a => match a with
    | ⟨0, _⟩ => rfl
    | ⟨1, _⟩ => rfl⟩
  have h := congrFun (Value.blocks5 m c point (flush0_5 _)) (ix2 r q)
  rw [Value.flushed5] at h
  refine Eq.trans (congrArg ((dats m 0 c).arrAt 5 cfg0.N) (funext fun a => Fin.ext ?_)) (h.trans ?_)
  · exact (origin (still point).2.2.2.2.2.1 a _ _).symm
  · refine Eq.trans (first_at _ _ _ _ _ r q) ?_
    rw [QkvStepRef.first_at, ← proj_eq m c point]
    simp only [block2]

/-- An index of the turned arrays is a row and a column, -/
theorem turned_cover (i : S1x1024x128.Idx) : ∃ (r : Fin 128) (q : Fin 1024), i = ix3 0 q r :=
  ⟨i 2, i 1, funext fun a => match a with
    | ⟨0, _⟩ => Subsingleton.elim (α := Fin 1) _ _
    | ⟨1, _⟩ => rfl
    | ⟨2, _⟩ => rfl⟩

/-- at this place. -/
theorem turned_idx {i : Fin 3 → ℕ} (h : i = ![0, 0, 0]) (r : Fin 128) (q : Fin 1024)
    (a : Fin 3) : i a * (![1, 1024, 128] : Fin 3 → ℕ) a + 1 * (![0, q.val, r.val] : Fin 3 → ℕ) a
      = (![0, q.val, r.val] : Fin 3 → ℕ) a := by
  subst h
  match a with
  | ⟨0, _⟩ => rfl
  | ⟨1, _⟩ => show 0 * 1024 + 1 * q.val = q.val; omega
  | ⟨2, _⟩ => show 0 * 128 + 1 * r.val = r.val; omega

/-- The keys. -/
theorem second_eq : (dats m 0 c).arrAt 6 cfg0.N = QkvStepRef.second (want m c) := by
  funext i
  obtain ⟨r, q, rfl⟩ := turned_cover i
  have h := congrFun (Value.blocks6 m c point (flush0_6 _)) (ix3 0 q r)
  rw [Value.flushed6] at h
  refine Eq.trans (congrArg ((dats m 0 c).arrAt 6 cfg0.N) (funext fun a => Fin.ext ?_)) (h.trans ?_)
  · match a with
    | ⟨0, _⟩ => exact (turned_idx (still point).2.2.2.2.2.2.1 r q 0).symm
    | ⟨1, _⟩ => exact (turned_idx (still point).2.2.2.2.2.2.1 r q 1).symm
    | ⟨2, _⟩ => exact (turned_idx (still point).2.2.2.2.2.2.1 r q 2).symm
  · refine Eq.trans (second_at _ _ _ _ _ r q) ?_
    rw [QkvStepRef.second_at, ← proj_eq m c point]
    simp only [block3]

/-- The values. -/
theorem third_eq : (dats m 0 c).arrAt 7 cfg0.N = QkvStepRef.third (want m c) := by
  funext i
  obtain ⟨r, q, rfl⟩ := turned_cover i
  have h := congrFun (Value.blocks7 m c point (flush0_7 _)) (ix3 0 q r)
  rw [Value.flushed7] at h
  refine Eq.trans (congrArg ((dats m 0 c).arrAt 7 cfg0.N) (funext fun a => Fin.ext ?_)) (h.trans ?_)
  · match a with
    | ⟨0, _⟩ => exact (turned_idx (still point).2.2.2.2.2.2.2 r q 0).symm
    | ⟨1, _⟩ => exact (turned_idx (still point).2.2.2.2.2.2.2 r q 1).symm
    | ⟨2, _⟩ => exact (turned_idx (still point).2.2.2.2.2.2.2 r q 2).symm
  · refine Eq.trans (third_at _ _ _ _ _ r q) ?_
    rw [QkvStepRef.third_at, ← proj_eq m c point]
    simp only [block4]

end Cert.Proof.QkvStep

end
-- ==== Proof.GateStepRef.lean ====
/-
  The reference of the gating's single step, at an index, as functions of a row.
-/
module

public import proofs.«01_k».proof.Proof.Gen.Reference9Ideal.Run
public import proofs.«01_k».proof.Proof.GateRow

@[expose] public section

set_option maxRecDepth 16384

noncomputable section

namespace Cert.Proof.GateStepRef

open Cert.Reference9Ideal Cert.Reference9Ideal.Gen Cert.Reference9Ideal.Value Cert.Proof.GateRow
open Idealize.ShloMosaic Idealize.ShloMosaic.TcCoe Idealize.SL.Sem

variable {F : FTy → Type} [FloatOps F]
variable (x0 : Vec F S128x1x1024 .f32) (x1 : Vec F S1024 .f32) (x2 : Vec F S1024x6144 .f32) (x3 : Vec F S6144 .f32)
  (x4 x5 : Vec F S3072 .f32) (x6 : Vec F S8x128x128 .f32) (x7 : Vec F S8x128 .f32) (x8 : Vec F S3072x1024 .f32)

/-! ## The reference's values, one after the other -/

/-- The projected columns, -/
def proj : FVec F S128x1x6144 .f32 :=
  addf (Host.dotGeneral dot_S128x1x1024_S1024x6144_S128x1x6144_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 x1))) x2)
    (broadcastInDim S128x1x6144 ![0, 1, 2] bcast_S1x1x6144_S128x1x6144_0_1_2 (broadcastInDim S1x1x6144 ![2] bcast_S6144_S1x1x6144_2 x3))

/-- through the activation, -/
def act (z : FVec F S128x1x6144 .f32) : FVec F S128x1x6144 .f32 :=
  mulf z (mulf (broadcastInDim S128x1x6144 ![] bcast_S_S128x1x6144 (constant S_ .f32 0x3F000000#32)) (addf (broadcastInDim S128x1x6144 ![] bcast_S_S128x1x6144 (constant S_ .f32 0x3F800000#32)) (Host.tanh (mulf (broadcastInDim S128x1x6144 ![] bcast_S_S128x1x6144 (constant S_ .f32 0x3F4C422A#32)) (addf z (mulf (broadcastInDim S128x1x6144 ![] bcast_S_S128x1x6144 (constant S_ .f32 0x3D372713#32)) (mulf (mulf z z) z)))))))

/-- their first half, -/
def first (h : FVec F S128x1x6144 .f32) : FVec F S128x1x3072 .f32 :=
  extractStridedSlice S128x1x3072 ![0, 0, 0] h slices_S128x1x6144_S128x1x3072_0_0_0

/-- their second, -/
def later (h : FVec F S128x1x6144 .f32) : FVec F S128x1x3072 .f32 :=
  extractStridedSlice S128x1x3072 ![0, 0, 3072] h slices_S128x1x6144_S128x1x3072_0_0_3072

/-- that with its mean taken off, -/
def centred (v : FVec F S128x1x3072 .f32) : FVec F S128x1x3072 .f32 :=
  subf v (broadcastInDim S128x1x3072 ![0, 1, 2] bcast_S128x1x1_S128x1x3072_0_1_2 (Host.divf (broadcastInDim S128x1x1 ![0, 1] bcast_S128x1_S128x1x1_0_1 (Host.reduceAdd v (constant S_ .f32 0x00000000#32) reducesTo_S128x1x3072_S128x1_d2 h_S_)) (broadcastInDim S128x1x1 ![] bcast_S_S128x1x1 (constant S_ .f32 0x45400000#32))))

/-- and normalized, -/
def normed (w : FVec F S128x1x3072 .f32) : FVec F S128x1x3072 .f32 :=
  addf (mulf (mulf w (broadcastInDim S128x1x3072 ![0, 1, 2] bcast_S128x1x1_S128x1x3072_0_1_2 (Host.rsqrt (addf (Host.divf (broadcastInDim S128x1x1 ![0, 1] bcast_S128x1_S128x1x1_0_1 (Host.reduceAdd (mulf w w) (constant S_ .f32 0x00000000#32) reducesTo_S128x1x3072_S128x1_d2 h_S_)) (broadcastInDim S128x1x1 ![] bcast_S_S128x1x1 (constant S_ .f32 0x45400000#32))) (broadcastInDim S128x1x1 ![] bcast_S_S128x1x1 (constant S_ .f32 0x358637BD#32)))))) (broadcastInDim S128x1x3072 ![0, 1, 2] bcast_S1x1x3072_S128x1x3072_0_1_2 (broadcastInDim S1x1x3072 ![2] bcast_S3072_S1x1x3072_2 x4))) (broadcastInDim S128x1x3072 ![0, 1, 2] bcast_S1x1x3072_S128x1x3072_0_1_2 (broadcastInDim S1x1x3072 ![2] bcast_S3072_S1x1x3072_2 x5))

/-- the row's own weight, -/
def own : FVec F S8x1x1 .f32 :=
  mulf (extractStridedSlice S8x1x1 ![0, 0, 0] x6 slices_S8x128x128_S8x1x1_0_0_0) (broadcastInDim S8x1x1 ![0, 1, 2] bcast_S1x1x1_S8x1x1_0_1_2 (broadcastInDim S1x1x1 ![1, 2] bcast_S1x1_S1x1x1_1_2 (select (cmpi .sge (addi (iotaInDim S1x1 32 0) (broadcastInDim S1x1 ![] bcast_S_S1x1 (constantI S_ 32 0#32))) (iotaInDim S1x1 32 1)) (broadcastInDim S1x1 ![] bcast_S_S1x1 (constant S_ .f32 0x3F800000#32)) (broadcastInDim S1x1 ![] bcast_S_S1x1 (constant S_ .f32 0x00000000#32)))))

/-- the weighted columns, by group, with their bias, -/
def gates (n : FVec F S128x1x3072 .f32) (w : FVec F S8x1x1 .f32) : FVec F S128x1x3072 .f32 :=
  shapeCast _ (addf (transpose S128x1x1x8x384 [1, 2, 4, 0, 3] (Host.dotGeneral dot_S128x1x1x8x384_S8x1x1_S8x128x1x384x1_2_2_014_1_3_0 none (shapeCast _ n shapeCasts_S128x1x3072_S128x1x1x8x384) w) transposes_S8x128x1x384x1_S128x1x1x8x384_1_2_4_0_3) (broadcastInDim S128x1x1x8x384 ![0, 1, 2, 3, 4] bcast_S1x1x1x8x1_S128x1x1x8x384_0_1_2_3_4 (broadcastInDim S1x1x1x8x1 ![2, 3, 4] bcast_S1x8x1_S1x1x1x8x1_2_3_4 (broadcastInDim S1x8x1 ![0, 1] bcast_S1x8_S1x8x1_0_1 (transpose S1x8 [1, 0] (extractStridedSlice S8x1 ![0, 0] x7 slices_S8x128_S8x1_0_0) transposes_S8x1_S1x8_1_0))))) shapeCasts_S128x1x1x8x384_S128x1x3072

/-- and the rows. -/
def rows (u s : FVec F S128x1x3072 .f32) : FVec F S128x1x1024 .f32 :=
  addf x0 (Host.dotGeneral dot_S128x1x3072_S3072x1024_S128x1x1024_2_0_01_1_n_n none (mulf u s) x8)

/-- The normalized columns, whole, -/
def cols : FVec F S128x1x3072 .f32 := normed x4 x5 (centred (later (act (proj x0 x1 x2 x3))))

/-- and the rows, whole. -/
def out : FVec F S128x1x1024 .f32 :=
  rows x0 x8 (first (act (proj x0 x1 x2 x3))) (gates x7 (cols x0 x1 x2 x3 x4 x5) (own x6))

theorem rows_res (m : (ℓ : Loc nD τ sig) → Buf (Elt F) ℓ) (c : Dev nD) : res_main_v75 m c
    = shapeCast S128x1024 (out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))) shapeCasts_S128x1x1024_S128x1024 := by
  unfold res_main_v75
  rfl

theorem cols_res (m : (ℓ : Loc nD τ sig) → Buf (Elt F) ℓ) (c : Dev nD) : res_main_v76 m c
    = shapeCast S128x3072 (cols (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) shapeCasts_S128x1x3072_S128x3072 := by
  unfold res_main_v76
  rfl

section At

variable (x0 : Vec Ideal S128x1x1024 .f32) (x1 : Vec Ideal S1024 .f32) (x2 : Vec Ideal S1024x6144 .f32) (x3 : Vec Ideal S6144 .f32)
  (x4 x5 : Vec Ideal S3072 .f32) (x6 : Vec Ideal S8x128x128 .f32) (x7 : Vec Ideal S8x128 .f32) (x8 : Vec Ideal S3072x1024 .f32)
  (b : Fin 128)

theorem proj_at (q : Fin 6144) : proj x0 x1 x2 x3 (ix3 b 0 q)
    = FfnRow.up (fun d => x0 (ix3 b 0 d)) (fun d => x1 (ix1 d)) (fun d => x2 (ix2 d q)) + x3 (ix1 q) := by
  unfold proj
  pointwise
  rfl

theorem act_at (z : FVec Ideal S128x1x6144 .f32) (q : Fin 6144) : act z (ix3 b 0 q) = gelu (z (ix3 b 0 q)) := by
  rw [← gelu_eq]
  unfold act
  pointwise
  rfl

theorem normed_at (v : FVec Ideal S128x1x3072 .f32) (q : Fin 3072) : normed x4 x5 (centred v) (ix3 b 0 q)
    = norm (fun q => v (ix3 b 0 q)) (fun q => x4 (ix1 q)) (fun q => x5 (ix1 q)) q := by
  unfold normed centred
  pointwise
  rfl

theorem own_at (g : Fin 8) : own x6 (ix3 g 0 0) = x6 (ix3 g 0 0) := by
  unfold own
  pointwise
  rfl

theorem gates_at (n : FVec Ideal S128x1x3072 .f32) (q : Fin 3072) : gates x7 n (own x6) (ix3 b 0 q)
    = n (ix3 b 0 q) * x6 (ix3 (groupOf q) 0 0) + x7 (ix2 (groupOf q) 0) := by
  have h := own_at x6 (groupOf q)
  generalize own x6 = w at h ⊢
  unfold gates
  pointwise
  rw [← h]
  have hq := q.isLt
  simp only [Fin.sum_univ_one]
  rfl

theorem rows_at (u v : FVec Ideal S128x1x3072 .f32) (d : Fin 1024) : rows x0 x8 u v (ix3 b 0 d)
    = x0 (ix3 b 0 d) + ∑ q, u (ix3 b 0 q) * v (ix3 b 0 q) * x8 (ix2 q d) := by
  unfold rows
  pointwise

theorem first_at (h : FVec Ideal S128x1x6144 .f32) (q : Fin 3072) : first h (ix3 b 0 q) = h (ix3 b 0 (fst q)) := by
  unfold first
  pointwise
  rfl

theorem later_at (h : FVec Ideal S128x1x6144 .f32) (q : Fin 3072) : later h (ix3 b 0 q) = h (ix3 b 0 (second q)) := by
  unfold later
  pointwise
  rfl

/-- Column `q`, projected and through the activation. -/
def hidAt (q : Fin 6144) : EReal :=
  hid (fun d => x0 (ix3 b 0 d)) (fun d => x1 (ix1 d)) (fun d => x2 (ix2 d q)) (x3 (ix1 q))

theorem cols_at (q : Fin 3072) : cols x0 x1 x2 x3 x4 x5 (ix3 b 0 q)
    = norm (fun q => hidAt x0 x1 x2 x3 b (second q)) (fun q => x4 (ix1 q)) (fun q => x5 (ix1 q)) q := by
  unfold cols hidAt hid
  simp only [normed_at, later_at, act_at, proj_at]

theorem out_at (d : Fin 1024) : out x0 x1 x2 x3 x4 x5 x6 x7 x8 (ix3 b 0 d)
    = x0 (ix3 b 0 d) + ∑ q, hidAt x0 x1 x2 x3 b (fst q)
        * (cols x0 x1 x2 x3 x4 x5 (ix3 b 0 q) * x6 (ix3 (groupOf q) 0 0) + x7 (ix2 (groupOf q) 0)) * x8 (ix2 q d) := by
  unfold out hidAt hid
  rw [rows_at]
  simp only [gates_at, first_at, act_at, proj_at]

end At

end Cert.Proof.GateStepRef

end
-- ==== Proof.GateStep.lean ====
/-
  The gating's single step: what its one point writes, and the two result arrays, which are the reference's.
-/
module

public import proofs.«01_k».proof.Proof.Gen.Kernel9Ideal.Value
public import proofs.«01_k».proof.Proof.GateInputs
public import proofs.«01_k».proof.Proof.GateStepRef
public import proofs.«01_k».proof.Proof.Tile

@[expose] public section

set_option maxRecDepth 16384

noncomputable section

namespace Cert.Proof.GateStep

open Cert.Kernel9Ideal Cert.Kernel9Ideal.Gen Cert.Proof.GateRow
open Idealize.ShloMosaic Idealize.ShloMosaic.TcCoe Idealize.SL.Sem
open Cert.Proof.FfnInputs (origin gain)

/-! ## What the point writes -/

section Body

variable {F : FTy → Type} [FloatOps F]
variable (x0 : Vec F S128x1024 .f32) (x1 : Vec F S1x1024 .f32) (x2 : Vec F S1024x6144 .bf16) (x3 : Vec F S1x6144 .f32)
  (x4 x5 x6 x7 : Vec F S1x3072 .f32) (x8 : Vec F S3072x1024 .bf16)

/-- The second half's columns, normalized, -/
def cols : FVec F S128x3072 .f32 :=
  k0_pay6 (k0_pay4 x0 x1 (View.ld x2 r0_2) (View.ld x3 r0_3)) (k0_pay5 x0 x1 (View.ld x2 r0_2) (View.ld x3 r0_3)) x4 x5

/-- the first half's, before the activation, -/
def first : FVec F S128x3072 .f32 := k0_pay7 (k0_pay3 x0 x1) (View.ld x2 r0_6) (View.ld x3 r0_7)

/-- and the rows. -/
def rows : FVec F S128x1024 .f32 := k0_pay1 (k0_pay2 x0) (cols x0 x1 x2 x3 x4 x5) (first x0 x1 x2 x3) x6 x7 x8

theorem rows_out : out0_9 x0 x1 x2 x3 x4 x5 x6 x7 x8 = rows x0 x1 x2 x3 x4 x5 x6 x7 x8 := by
  unfold out0_9 k0_pay8 k0_pay9
  rw [View.canon_unit_zero Tile.hz]
  simp only [View.ld_unit_zero (S := S128x1024) Tile.hz, View.ld_unit_zero (S := S1x1024) Tile.hz,
    View.ld_unit_zero (S := S1x3072) Tile.hz, View.ld_unit_zero (S := S3072x1024) Tile.hz]
  rfl

theorem cols_out : out0_10 x0 x1 x2 x3 x4 x5 x6 x7 x8 = cols x0 x1 x2 x3 x4 x5 := by
  unfold out0_10 k0_pay8 k0_pay9
  rw [View.canon_unit_zero Tile.hz]
  simp only [View.ld_unit_zero (S := S128x1024) Tile.hz, View.ld_unit_zero (S := S1x1024) Tile.hz,
    View.ld_unit_zero (S := S1x3072) Tile.hz]
  rfl

theorem secondW_at (d : Fin 1024) (q : Fin 3072) : View.ld x2 r0_2 (ix2 d q) = x2 (ix2 d (second q)) :=
  congrArg x2 (funext fun a => Fin.ext (match a with
    | ⟨0, _⟩ => (by show 0 + 1 * d.val = d.val; omega)
    | ⟨1, _⟩ => (by show 3072 + 1 * q.val = 3072 + q.val; omega)))

theorem secondB_at (q : Fin 3072) : View.ld x3 r0_3 (ix2 0 q) = x3 (ix2 0 (second q)) :=
  congrArg x3 (funext fun a => Fin.ext (match a with
    | ⟨0, _⟩ => rfl
    | ⟨1, _⟩ => (by show 3072 + 1 * q.val = 3072 + q.val; omega)))

theorem firstW_at (d : Fin 1024) (q : Fin 3072) : View.ld x2 r0_6 (ix2 d q) = x2 (ix2 d (fst q)) :=
  congrArg x2 (funext fun a => Fin.ext (match a with
    | ⟨0, _⟩ => (by show 0 + 1 * d.val = d.val; omega)
    | ⟨1, _⟩ => (by show 0 + 1 * q.val = q.val; omega)))

theorem firstB_at (q : Fin 3072) : View.ld x3 r0_7 (ix2 0 q) = x3 (ix2 0 (fst q)) :=
  congrArg x3 (funext fun a => Fin.ext (match a with
    | ⟨0, _⟩ => rfl
    | ⟨1, _⟩ => (by show 0 + 1 * q.val = q.val; omega)))

end Body

section At

variable (x0 : Vec Ideal S128x1024 .f32) (x1 : Vec Ideal S1x1024 .f32) (x2 : Vec Ideal S1024x6144 .bf16) (x3 : Vec Ideal S1x6144 .f32)
  (x4 x5 x6 x7 : Vec Ideal S1x3072 .f32) (x8 : Vec Ideal S3072x1024 .bf16) (r : Fin 128)

/-- Column `q` of row `r`, projected and through the activation. -/
def hidAt (q : Fin 6144) : EReal :=
  hid (fun d => x0 (ix2 r d)) (fun d => x1 (ix2 0 d)) (fun d => x2 (ix2 d q)) (x3 (ix2 0 q))

theorem act_at (q : Fin 3072) :
    k0_pay4 x0 x1 (View.ld x2 r0_2) (View.ld x3 r0_3) (ix2 r q) = hidAt x0 x1 x2 x3 r (second q) := by
  pointwise [k0_pay4, k0_pay3, k0_pay2]
  rfl

theorem mean_at : k0_pay5 x0 x1 (View.ld x2 r0_2) (View.ld x3 r0_3) (ix2 r 0) = mean fun q => hidAt x0 x1 x2 x3 r (second q) := by
  pointwise [k0_pay5]
  simp only [act_at]
  rfl

theorem cols_at (q : Fin 3072) : cols x0 x1 x2 x3 x4 x5 (ix2 r q)
    = norm (fun q => hidAt x0 x1 x2 x3 r (second q)) (fun q => x4 (ix2 0 q)) (fun q => x5 (ix2 0 q)) q := by
  have h := mean_at x0 x1 x2 x3 r
  have h' := act_at x0 x1 x2 x3 r
  unfold cols
  generalize k0_pay5 x0 x1 (View.ld x2 r0_2) (View.ld x3 r0_3) = y at h ⊢
  generalize k0_pay4 x0 x1 (View.ld x2 r0_2) (View.ld x3 r0_3) = z at h' ⊢
  pointwise [k0_pay6]
  simp only [h, h']
  rfl

theorem rows_at (d : Fin 1024) : rows x0 x1 x2 x3 x4 x5 x6 x7 x8 (ix2 r d)
    = x0 (ix2 r d) + ∑ q, hidAt x0 x1 x2 x3 r (fst q)
        * (cols x0 x1 x2 x3 x4 x5 (ix2 r q) * x6 (ix2 0 q) + x7 (ix2 0 q)) * x8 (ix2 q d) := by
  unfold rows
  generalize cols x0 x1 x2 x3 x4 x5 = y
  have hw := firstW_at x2
  have hb := firstB_at x3
  unfold first
  generalize View.ld x2 r0_6 = w at hw ⊢
  generalize View.ld x3 r0_7 = b at hb ⊢
  pointwise [k0_pay1, k0_pay2, k0_pay3, k0_pay7]
  simp only [hw, hb]
  rfl

end At

/-! ## What it reads -/

variable (m : (ℓ : Loc nD τ sig) → Buf (Elt Ideal) ℓ) (c : Dev nD) (t : Fin cfg0.N)

theorem V_rows : V m c main_v10
    = shapeCast S128x1024 (m ((c.tc : Thread nD τ).loc main_arg0)) shapeCasts_S128x1x1024_S128x1024 := rfl
theorem V_gain : V m c main_v13 = shapeCast S1x1024 (m ((c.tc : Thread nD τ).loc main_arg1)) shapeCasts_S1024_S1x1024 := rfl
theorem V_bias : V m c main_v14 = shapeCast S1x6144 (m ((c.tc : Thread nD τ).loc main_arg3)) shapeCasts_S6144_S1x6144 := rfl
theorem V_lnG : V m c main_v15 = shapeCast S1x3072 (m ((c.tc : Thread nD τ).loc main_arg4)) shapeCasts_S3072_S1x3072 := rfl
theorem V_lnB : V m c main_v16 = shapeCast S1x3072 (m ((c.tc : Thread nD τ).loc main_arg5)) shapeCasts_S3072_S1x3072 := rfl
theorem V_ownW : V m c main_v4 = shapeCast S1x3072 (shapeCast S3072 (broadcastInDim S8x384 ![0] bcast_S8_S8x384_0
    (shapeCast S8 (extractStridedSlice S8x1x1 ![0, 0, 0] (m ((c.tc : Thread nD τ).loc main_arg6)) slices_S8x128x128_S8x1x1_0_0_0)
      shapeCasts_S8x1x1_S8)) shapeCasts_S8x384_S3072) shapeCasts_S3072_S1x3072 := rfl
theorem V_ownB : V m c main_v9 = shapeCast S1x3072 (shapeCast S3072 (broadcastInDim S8x384 ![0] bcast_S8_S8x384_0
    (shapeCast S8 (extractStridedSlice S8x1 ![0, 0] (m ((c.tc : Thread nD τ).loc main_arg7)) slices_S8x128_S8x1_0_0)
      shapeCasts_S8x1_S8)) shapeCasts_S8x384_S3072) shapeCasts_S3072_S1x3072 := rfl

section Parts

variable {α : Type}

theorem flat (x : S128x1x1024.Idx → α) (r : Fin 128) (d : Fin 1024) :
    shapeCast S128x1024 x shapeCasts_S128x1x1024_S128x1024 (ix2 r d) = x (ix3 r 0 d) := by
  pointwise

theorem flatCols (x : Reference9Ideal.S128x1x3072.Idx → α) (r : Fin 128) (d : Fin 3072) :
    shapeCast S128x3072 x (Reference9Ideal.Gen.shapeCasts_S128x1x3072_S128x3072) (ix2 r d) = x (ix3 r 0 d) := by
  pointwise

theorem ownW (x : S8x128x128.Idx → α) (q : Fin 3072) : shapeCast S1x3072 (shapeCast S3072 (broadcastInDim S8x384 ![0]
    bcast_S8_S8x384_0 (shapeCast S8 (extractStridedSlice S8x1x1 ![0, 0, 0] x slices_S8x128x128_S8x1x1_0_0_0)
      shapeCasts_S8x1x1_S8)) shapeCasts_S8x384_S3072) shapeCasts_S3072_S1x3072 (ix2 0 q) = x (ix3 (groupOf q) 0 0) := by
  pointwise
  rfl

theorem ownB (x : S8x128.Idx → α) (q : Fin 3072) : shapeCast S1x3072 (shapeCast S3072 (broadcastInDim S8x384 ![0]
    bcast_S8_S8x384_0 (shapeCast S8 (extractStridedSlice S8x1 ![0, 0] x slices_S8x128_S8x1_0_0)
      shapeCasts_S8x1_S8)) shapeCasts_S8x384_S3072) shapeCasts_S3072_S1x3072 (ix2 0 q) = x (ix2 (groupOf q) 0) := by
  pointwise
  rfl

end Parts

theorem still : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0])

theorem block0 (r : Fin 128) (d : Fin 1024) : iblk m c 0 t (ix2 r d) = m ((c.tc : Thread nD τ).loc main_arg0) (ix3 r 0 d) := by
  refine Eq.trans (b := V m c main_v10 (ix2 r d)) ?_ ?_
  · exact congrArg (V m c main_v10) (funext fun a => Fin.ext (origin (still t).1 a _ _))
  · rw [V_rows]
    exact flat _ r d

theorem block1 (d : Fin 1024) : iblk m c 1 t (ix2 0 d) = m ((c.tc : Thread nD τ).loc main_arg1) (ix1 d) := by
  refine Eq.trans (b := V m c main_v13 (ix2 0 d)) ?_ ?_
  · exact congrArg (V m c main_v13) (funext fun a => Fin.ext (origin (still t).2.1 a _ _))
  · rw [V_gain]
    exact gain _ d

theorem block2 (d : Fin 1024) (q : Fin 6144) : iblk m c 2 t (ix2 d q) = m ((c.tc : Thread nD τ).loc main_arg2) (ix2 d q) :=
  congrArg (V m c main_v11) (funext fun a => Fin.ext (origin (still t).2.2.1 a _ _))

theorem block3 (q : Fin 6144) : iblk m c 3 t (ix2 0 q) = m ((c.tc : Thread nD τ).loc main_arg3) (ix1 q) := by
  refine Eq.trans (b := V m c main_v14 (ix2 0 q)) ?_ ?_
  · exact congrArg (V m c main_v14) (funext fun a => Fin.ext (origin (still t).2.2.2.1 a _ _))
  · rw [V_bias]
    exact GateInputs.wide _ q

theorem block4 (q : Fin 3072) : iblk m c 4 t (ix2 0 q) = m ((c.tc : Thread nD τ).loc main_arg4) (ix1 q) := by
  refine Eq.trans (b := V m c main_v15 (ix2 0 q)) ?_ ?_
  · exact congrArg (V m c main_v15) (funext fun a => Fin.ext (origin (still t).2.2.2.2.1 a _ _))
  · rw [V_lnG]
    exact GateInputs.half _ q

theorem block5 (q : Fin 3072) : iblk m c 5 t (ix2 0 q) = m ((c.tc : Thread nD τ).loc main_arg5) (ix1 q) := by
  refine Eq.trans (b := V m c main_v16 (ix2 0 q)) ?_ ?_
  · exact congrArg (V m c main_v16) (funext fun a => Fin.ext (origin (still t).2.2.2.2.2.1 a _ _))
  · rw [V_lnB]
    exact GateInputs.half _ q

theorem block6 (q : Fin 3072) : iblk m c 6 t (ix2 0 q) = m ((c.tc : Thread nD τ).loc main_arg6) (ix3 (groupOf q) 0 0) := by
  refine Eq.trans (b := V m c main_v4 (ix2 0 q)) ?_ ?_
  · exact congrArg (V m c main_v4) (funext fun a => Fin.ext (origin (still t).2.2.2.2.2.2.1 a _ _))
  · rw [V_ownW]
    exact ownW _ q

theorem block7 (q : Fin 3072) : iblk m c 7 t (ix2 0 q) = m ((c.tc : Thread nD τ).loc main_arg7) (ix2 (groupOf q) 0) := by
  refine Eq.trans (b := V m c main_v9 (ix2 0 q)) ?_ ?_
  · exact congrArg (V m c main_v9) (funext fun a => Fin.ext (origin (still t).2.2.2.2.2.2.2.1 a _ _))
  · rw [V_ownB]
    exact ownB _ q

theorem block8 (q : Fin 3072) (d : Fin 1024) : iblk m c 8 t (ix2 q d) = m ((c.tc : Thread nD τ).loc main_arg8) (ix2 q d) :=
  congrArg (V m c main_v12) (funext fun a => Fin.ext (origin (still t).2.2.2.2.2.2.2.2.1 a _ _))

/-! ## The result arrays -/

/-- The one point. -/
def point : Fin cfg0.N := ⟨0, by show 0 < 1; omega⟩

/-- The reference's normalized columns of the kernel's arguments, -/
def wantCols : FVec Ideal Reference9Ideal.S128x1x3072 .f32 :=
  GateStepRef.cols (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- and its rows. -/
def want : FVec Ideal Reference9Ideal.S128x1x1024 .f32 :=
  GateStepRef.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

theorem hid_eq (r : Fin 128) (q : Fin 6144) : hidAt (iblk m c 0 t) (iblk m c 1 t) (iblk m c 2 t) (iblk m c 3 t) r q
    = GateStepRef.hidAt (m ((c.tc : Thread nD τ).loc main_arg0)) (m ((c.tc : Thread nD τ).loc main_arg1))
        (m ((c.tc : Thread nD τ).loc main_arg2)) (m ((c.tc : Thread nD τ).loc main_arg3)) r q := by
  unfold hidAt GateStepRef.hidAt
  simp only [block0, block1, block2, block3]

theorem cols_block (r : Fin 128) (q : Fin 3072) :
    cols (iblk m c 0 t) (iblk m c 1 t) (iblk m c 2 t) (iblk m c 3 t) (iblk m c 4 t) (iblk m c 5 t) (ix2 r q)
      = wantCols m c (ix3 r 0 q) := by
  unfold wantCols
  rw [cols_at, GateStepRef.cols_at]
  simp only [hid_eq, block4, block5]

/-- The rows. -/
theorem rows_eq : (dats m 0 c).arrAt 9 cfg0.N = shapeCast S128x1024 (want m c) shapeCasts_S128x1x1024_S128x1024 := by
  funext i
  obtain ⟨r, d, rfl⟩ : ∃ (r : Fin 128) (d : Fin 1024), i = ix2 r d := ⟨i 0, i 1, funext fun a => match a with
    | ⟨0, _⟩ => rfl
    | ⟨1, _⟩ => rfl⟩
  have h := congrFun (Value.blocks9 m c point (flush0_9 _)) (ix2 r d)
  rw [Value.flushed9] at h
  refine Eq.trans (congrArg ((dats m 0 c).arrAt 9 cfg0.N) (funext fun a => Fin.ext ?_)) (h.trans ?_)
  · exact (origin (still point).2.2.2.2.2.2.2.2.2.1 a _ _).symm
  · refine Eq.trans (congrFun (rows_out _ _ _ _ _ _ _ _ _) (ix2 r d)) ?_
    rw [flat, rows_at]
    unfold want
    rw [GateStepRef.out_at]
    simp only [cols_block, hid_eq, block0, block6, block7, block8]
    rfl

/-- The normalized columns. -/
theorem cols_eq : (dats m 0 c).arrAt 10 cfg0.N
    = shapeCast S128x3072 (wantCols m c) Reference9Ideal.Gen.shapeCasts_S128x1x3072_S128x3072 := by
  funext i
  obtain ⟨r, q, rfl⟩ : ∃ (r : Fin 128) (q : Fin 3072), i = ix2 r q := ⟨i 0, i 1, funext fun a => match a with
    | ⟨0, _⟩ => rfl
    | ⟨1, _⟩ => rfl⟩
  have h := congrFun (Value.blocks10 m c point (flush0_10 _)) (ix2 r q)
  rw [Value.flushed10] at h
  refine Eq.trans (congrArg ((dats m 0 c).arrAt 10 cfg0.N) (funext fun a => Fin.ext ?_)) (h.trans ?_)
  · exact (origin (still point).2.2.2.2.2.2.2.2.2.2 a _ _).symm
  · refine Eq.trans (congrFun (cols_out _ _ _ _ _ _ _ _ _) (ix2 r q)) ?_
    rw [flatCols, cols_block]

end Cert.Proof.GateStep

end
-- ==== Proof.InBody.lean ====
/-
  What the mLSTM input kernel's body computes of the blocks that it loads: the normed rows' projections, their convolution with the
  rows before, and the four heads' products with the weights of q, k and v.
-/
module

public import proofs.«01_k».proof.Proof.Gen.Kernel10Ideal.Frame
public import proofs.«01_k».proof.Proof.FfnAt

@[expose] public section

set_option maxRecDepth 16384

noncomputable section

namespace Cert.Proof.InBody

open Cert.Kernel10Ideal Cert.Kernel10Ideal.Gen Cert.Proof.FfnRow
open Idealize.ShloMosaic Idealize.ShloMosaic.TcCoe Idealize.SL.Sem

section Words

variable {F : FTy → Type} [FloatOps F]
variable (x0 : Vec F S256x1024 .f32) (X : Vec F S8x2048 .f32) (x2 : Vec F S1x1024 .f32) (x3 : Vec F S1024x4096 .bf16)
  (x8 : Vec F S4x2048 .f32) (x9 : Vec F S1x2048 .f32)

/-- Half of the projection's weights: `u` is 0 for the rows that go on and 1 for the output gate. -/
def halfW (u : Fin 2) : Vec F S1024x2048 .bf16 :=
  View.ld x3 (Rect.unit (s := S1024x4096) ![0, 2048 * u.val] S1024x2048.size (fun a => by
    have hu := u.isLt
    fin_cases a <;> dsimp <;> omega))

/-- The rows that go on, projected. -/
def xm : FVec F S256x2048 .f32 := k0_pay4 x0 x2 (halfW x3 0)

/-- The same convolved with the eight rows `X` before, and passed through the activation. -/
def act : FVec F S256x2048 .bf16 :=
  k0_pay15 (xm x0 x2 x3) x8 (k0_pay9 (xm x0 x2 x3) X) (k0_pay10 (xm x0 x2 x3) X) (k0_pay11 (xm x0 x2 x3))
    (k0_pay12 (xm x0 x2 x3) X) x9

/-- Head `h`'s weights. -/
def headW (w : Vec F S4x512x512 .bf16) (h : Fin 4) : Vec F S1x512x512 .bf16 :=
  View.ld w (Rect.unit (s := S4x512x512) ![h.val, 0, 0] S1x512x512.size (fun a => by
    have hh := h.isLt
    fin_cases a <;> dsimp <;> omega))

/-- The product of a head's columns and its weights, -/
def prod (a : FVec F S256x2048 .bf16) (w : Vec F S4x512x512 .bf16) (h : Fin 4) : FVec F S256x512 .f32 :=
  match h with
  | ⟨0, b⟩ => k0_pay19 a (headW w ⟨0, b⟩)
  | ⟨1, b⟩ => k0_pay20 a (headW w ⟨1, b⟩)
  | ⟨2, b⟩ => k0_pay24 a (headW w ⟨2, b⟩)
  | ⟨3, b⟩ => k0_pay27 a (headW w ⟨3, b⟩)

/-- and the same scaled. -/
def scaled (a : FVec F S256x2048 .bf16) (w : Vec F S4x512x512 .bf16) (h : Fin 4) : FVec F S256x512 .f32 :=
  match h with
  | ⟨0, b⟩ => k0_pay18 a (headW w ⟨0, b⟩)
  | ⟨1, b⟩ => k0_pay21 a (headW w ⟨1, b⟩)
  | ⟨2, b⟩ => k0_pay25 a (headW w ⟨2, b⟩)
  | ⟨3, b⟩ => k0_pay1 a (headW w ⟨3, b⟩)

/-- Column `d` of head `h`. -/
def hd (h : Fin 4) (d : Fin 512) : Fin 2048 := ⟨512 * h.val + d.val, by omega⟩

/-- Column `q` of a half of the projection. -/
def wide (u : Fin 2) (q : Fin 2048) : Fin 4096 := ⟨2048 * u.val + q.val, by omega⟩

theorem halfW_at (u : Fin 2) (d : Fin 1024) (q : Fin 2048) : halfW x3 u (ix2 d q) = x3 (ix2 d (wide u q)) :=
  congrArg x3 (funext fun a => Fin.ext (match a with
    | ⟨0, _⟩ => (by show 0 + 1 * d.val = d.val; omega)
    | ⟨1, _⟩ => (by show 2048 * u.val + 1 * q.val = 2048 * u.val + q.val; omega)))

theorem headW_at (w : Vec F S4x512x512 .bf16) (h : Fin 4) (e d : Fin 512) : headW w h (ix3 0 e d) = w (ix3 h e d) :=
  congrArg w (funext fun a => Fin.ext (match a with
    | ⟨0, _⟩ => (by show h.val + 1 * 0 = h.val; omega)
    | ⟨1, _⟩ => (by show 0 + 1 * e.val = e.val; omega)
    | ⟨2, _⟩ => (by show 0 + 1 * d.val = d.val; omega)))

end Words

variable (x0 : Vec Ideal S256x1024 .f32) (X : Vec Ideal S8x2048 .f32) (x2 : Vec Ideal S1x1024 .f32)
  (x3 : Vec Ideal S1024x4096 .bf16) (x4 : Vec Ideal S1024x128 .bf16) (x5 : Vec Ideal S1x128 .f32)
  (x6 : Vec Ideal S8x1024 .bf16) (x7 : Vec Ideal S8x1 .f32) (x8 : Vec Ideal S4x2048 .f32) (x9 : Vec Ideal S1x2048 .f32)

theorem prod_at (a : FVec Ideal S256x2048 .bf16) (w : Vec Ideal S4x512x512 .bf16) (h : Fin 4) (r : Fin 256) (d : Fin 512) :
    prod a w h (ix2 r d) = ∑ e, a (ix2 r (hd h e)) * w (ix3 h e d) := by
  simp only [← headW_at]
  match h with
  | ⟨0, _⟩ | ⟨1, _⟩ | ⟨2, _⟩ | ⟨3, _⟩ =>
    dsimp only [prod]
    generalize headW w _ = y
    pointwise [k0_pay19, k0_pay20, k0_pay24, k0_pay27]
    first
    | rfl
    | (refine Finset.sum_congr rfl fun e _ => congrArg (fun t => a (ix2 r t) * _) (Fin.ext ?_)
       simp [hd])

/-- The scale of k. -/
abbrev sc : EReal := Ideal.ofBits .f32 0x3D3504F3#32

theorem scaled_at (a : FVec Ideal S256x2048 .bf16) (w : Vec Ideal S4x512x512 .bf16) (h : Fin 4) (r : Fin 256) (d : Fin 512) :
    scaled a w h (ix2 r d) = (∑ e, a (ix2 r (hd h e)) * w (ix3 h e d)) * sc := by
  rw [← prod_at]
  match h with
  | ⟨0, _⟩ | ⟨1, _⟩ | ⟨2, _⟩ | ⟨3, _⟩ =>
    dsimp only [prod, scaled]
    generalize headW w _ = y
    pointwise [k0_pay19, k0_pay20, k0_pay24, k0_pay27, k0_pay18, k0_pay21, k0_pay25, k0_pay1]

/-- Column `q` of row `r`, projected. -/
def xmAt (r : Fin 256) (q : Fin 2048) : EReal :=
  up (fun d => x0 (ix2 r d)) (fun d => x2 (ix2 0 d)) (fun d => x3 (ix2 d (wide 0 q)))

theorem xm_at (r : Fin 256) (q : Fin 2048) : xm x0 x2 x3 (ix2 r q) = xmAt x0 x2 x3 r q := by
  unfold xm xmAt up rms
  have hw := fun d => halfW_at x3 0 d q
  generalize halfW x3 0 = y at hw ⊢
  simp only [← hw]
  pointwise [k0_pay4, k0_pay3]

/-- The output gate's rows. -/
theorem gate_at (r : Fin 256) (q : Fin 2048) : k0_pay5 x0 x2 (halfW x3 1) (ix2 r q)
    = up (fun d => x0 (ix2 r d)) (fun d => x2 (ix2 0 d)) (fun d => x3 (ix2 d (wide 1 q))) := by
  unfold up rms
  have hw := fun d => halfW_at x3 1 d q
  generalize halfW x3 1 = y at hw ⊢
  simp only [← hw]
  pointwise [k0_pay5, k0_pay3]

/-- The gates' projections, as columns, -/
theorem lanes_at (r : Fin 256) (l : Fin 128) : k0_pay6 x0 x2 x4 x5 (ix2 r l)
    = up (fun d => x0 (ix2 r d)) (fun d => x2 (ix2 0 d)) (fun d => x4 (ix2 d l)) + x5 (ix2 0 l) := by
  unfold up rms
  pointwise [k0_pay6, k0_pay3]

/-- and as rows. -/
theorem turned_at (g : Fin 8) (r : Fin 256) : k0_pay7 (k0_pay3 x0 x2) x6 x7 (ix2 g r)
    = up (fun d => x0 (ix2 r d)) (fun d => x2 (ix2 0 d)) (fun d => x6 (ix2 g d)) + x7 (ix2 g 0) := by
  unfold up rms
  pointwise [k0_pay7, k0_pay3]
  simp only [mul_comm]

/-- The rows carried to the next tile. -/
theorem keep_at (r : Fin 8) (q : Fin 2048) :
    k0_pay13 (xm x0 x2 x3) (ix2 r q) = xmAt x0 x2 x3 ⟨248 + r.val, by omega⟩ q := by
  rw [← xm_at]
  pointwise [k0_pay13]

/-- The convolution's four taps and its bias. -/
def mix4 (b w0 w1 w2 w3 a0 a1 a2 a3 : EReal) : EReal := b + w0 * a0 + w1 * a1 + w2 * a2 + w3 * a3

/-- The activation. -/
def silu (x : EReal) : EReal := x * Ideal.div 1 (1 + Ideal.exp (-x))

/-- One convolved entry, through the activation. -/
def actAt (r : Fin 256) (q : Fin 2048) : EReal :=
  silu (mix4 (x9 (ix2 0 q)) (x8 (ix2 0 q)) (x8 (ix2 1 q)) (x8 (ix2 2 q)) (x8 (ix2 3 q))
    (back (fun s => xmAt x0 x2 x3 s q) (fun s => X (ix2 s q)) 3 (by omega) r)
    (back (fun s => xmAt x0 x2 x3 s q) (fun s => X (ix2 s q)) 2 (by omega) r)
    (back (fun s => xmAt x0 x2 x3 s q) (fun s => X (ix2 s q)) 1 (by omega) r)
    (xmAt x0 x2 x3 r q))

/-- A comparison of a small row number with a shift, as it selects. -/
theorem select_lt {α : Type} (n : ℕ) (hn : n = 1 ∨ n = 2 ∨ n = 3) (r : Fin 256) (hr : r.val < 8) (a b : α) :
    Scalar.select (IntOp.cmpi .slt (BitVec.ofNat 32 r.val) (BitVec.ofNat 32 n)) a b = if r.val < n then a else b := by
  obtain ⟨r, h⟩ := r
  dsimp only at hr ⊢
  rcases hn with rfl | rfl | rfl <;> interval_cases r <;> rfl

/-- The rows `n` back, spelled by a rotation of the block and one of the eight rows before it. -/
theorem shift_at (A : Fin 256 → EReal) (P : Fin 8 → EReal) (n : ℕ) (hn : n = 1 ∨ n = 2 ∨ n = 3) (r : Fin 256) :
    (if h : r.val < 8 then
      Scalar.select (IntOp.cmpi .slt (BitVec.ofNat 32 r.val) (BitVec.ofNat 32 n))
        (P ⟨(r.val + 8 - n) % 8, Nat.mod_lt _ (by omega)⟩) (A ⟨(r.val + 256 - n) % 256, Nat.mod_lt _ (by omega)⟩)
      else A ⟨(8 + (r.val - 8) + 256 - n) % 256, Nat.mod_lt _ (by omega)⟩) = back A P n (by omega) r := by
  have hr := r.isLt
  unfold back
  by_cases h8 : r.val < 8
  · rw [dif_pos h8, select_lt n hn r h8]
    by_cases h : r.val < n
    · rw [if_pos h, dif_pos h]
      exact congrArg P (Fin.ext (by show (r.val + 8 - n) % 8 = r.val + 8 - n; omega))
    · rw [if_neg h, dif_neg h]
      exact congrArg A (Fin.ext (by show (r.val + 256 - n) % 256 = r.val - n; omega))
  · rw [dif_neg h8, dif_neg (by omega)]
    exact congrArg A (Fin.ext (by show (8 + (r.val - 8) + 256 - n) % 256 = r.val - n; omega))

theorem act_at (r : Fin 256) (q : Fin 2048) : act x0 X x2 x3 x8 x9 (ix2 r q) = actAt x0 X x2 x3 x8 x9 r q := by
  unfold act actAt
  have hx := fun r => xm_at x0 x2 x3 r q
  generalize xm x0 x2 x3 = y at hx ⊢
  simp only [← hx]
  rw [← shift_at (fun s => y (ix2 s q)) (fun s => X (ix2 s q)) 3 (.inr (.inr rfl)) r,
    ← shift_at (fun s => y (ix2 s q)) (fun s => X (ix2 s q)) 2 (.inr (.inl rfl)) r,
    ← shift_at (fun s => y (ix2 s q)) (fun s => X (ix2 s q)) 1 (.inl rfl) r]
  pointwise [k0_pay15, k0_pay9, k0_pay10, k0_pay11, k0_pay12]
  unfold silu mix4
  rw [zero_sub]

end Cert.Proof.InBody

end
-- ==== Proof.InBlocks.lean ====
/-
  What a point of the mLSTM input kernel leaves: each head's columns of q, k and v, the output gate's rows, the gates, and the rows
  carried to the next tile.
-/
module

public import proofs.«01_k».proof.Proof.InBody
public import proofs.«01_k».proof.Proof.Tile

@[expose] public section

set_option maxRecDepth 16384

noncomputable section

namespace Cert.Proof.InBlocks

open Cert.Kernel10Ideal Cert.Kernel10Ideal.Gen Cert.Proof.InBody Cert.Proof.Tile
open Idealize.ShloMosaic Idealize.ShloMosaic.TcCoe Idealize.SL.Sem

variable {F : FTy → Type} [FloatOps F]

/-- A load of the carried rows after one store of them reads what was stored. -/
theorem whole {σ : RefSig} {v : View σ .tc .vmem S8x2048 .f32} {off off' size' : Fin 2 → ℕ} {inb inb'} (hoff : off = fun _ => 0)
    (w : S8x2048.Idx → Elt F .f32) :
    v.readCov [⟨Rect.unit off S8x2048.size inb, w⟩] (Rect.unit off' size' inb').toLoadRect = View.ld w (Rect.unit off' size' inb') := by
  rw [View.readCov_eq_canon']
  funext j
  rw [View.canon_unit_zero hoff]

variable (c : Dev nD) (i : grid0.Coords) (arg2 : Memref sig .tc .vmem S256x1024 .f32) (harg2 : arg2.IsWhole) (arg3 : Memref sig .tc .vmem S1x8x2048 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S8x1024 .bf16) (harg8 : arg8.IsWhole) (arg9 : Memref sig .tc .vmem S8x1 .f32) (harg9 : arg9.IsWhole) (arg10 : Memref sig .tc .vmem S4x2048 .f32) (harg10 : arg10.IsWhole) (arg11 : Memref sig .tc .vmem S1x2048 .f32) (harg11 : arg11.IsWhole) (arg12 : Memref sig .tc .vmem S4x512x512 .bf16) (harg12 : arg12.IsWhole) (arg13 : Memref sig .tc .vmem S4x512x512 .bf16) (harg13 : arg13.IsWhole) (arg14 : Memref sig .tc .vmem S4x512x512 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x128 .f32) (harg19 : arg19.IsWhole) (arg20 : Memref sig .tc .vmem S8x256 .f32) (harg20 : arg20.IsWhole) (arg21 : Memref sig .tc .vmem S1x8x2048 .f32) (harg21 : arg21.IsWhole) (arg22 : Memref sig .tc .vmem S8x2048 .f32) (harg22 : arg22.IsWhole)
  (x0 : Vec F S256x1024 .f32) (x1 : Vec F S1x8x2048 .f32) (x2 : Vec F S1x1024 .f32) (x3 : Vec F S1024x4096 .bf16) (x4 : Vec F S1024x128 .bf16) (x5 : Vec F S1x128 .f32) (x6 : Vec F S8x1024 .bf16) (x7 : Vec F S8x1 .f32) (x8 : Vec F S4x2048 .f32) (x9 : Vec F S1x2048 .f32) (x10 : Vec F S4x512x512 .bf16) (x11 : Vec F S4x512x512 .bf16) (x12 : Vec F S4x512x512 .bf16) (xs0 : Vec F S8x2048 .f32)

/-- Head `h`'s columns of q, k and v, at a batch row's first point. -/
theorem headsA (hc0 : cond0_0 i) (h : Fin 4) (r : Fin 256) (d : Fin 512) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r (hd h d))
        = prod (act x0 (k0_pay8 x1) x2 x3 x8 x9) x10 h (ix2 r d)
      ∧ out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r (hd h d))
        = scaled (act x0 (k0_pay8 x1) x2 x3 x8 x9) x11 h (ix2 r d)
      ∧ out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r (hd h d))
        = prod (k0_pay16 (xm x0 x2 x3)) x12 h (ix2 r d) := by
  unfold out0_A_13 out0_A_14 out0_A_15 kernelRun0_A
  dsimp only
  fin_cases h <;> refine ⟨?_, ?_, ?_⟩ <;>
  · repeat
      refine Eq.trans (View.read_writes_cons_miss_of_axis _ _ _ _ _ 1 _ _ rfl rfl rfl (?_ : _ ∨ _)) ?_
      · first
        | (refine Or.inl ?_; dsimp [hd] <;> omega)
        | (refine Or.inr ?_; dsimp [hd] <;> omega)
    refine Eq.trans (View.read_writes_cons_hit_of_coords _ _ _ _ _ (ix2 r d) _ ?_) ?_
    · intro a
      fin_cases a <;> dsimp [hd] <;> omega
    sl_unfold_words
    simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
    refine congrFun ?_ (ix2 r d)
    dsimp only [prod, scaled, act, xm, halfW, headW]
    unfold_payloads
    rfl

/-- The output gate's rows, the gates as columns and as rows, and the last rows as they are written out, at a batch row's first point. -/
theorem restA (hc0 : cond0_0 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = k0_pay5 x0 x2 (halfW x3 1)
      ∧ out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = k0_pay6 x0 x2 x4 x5
      ∧ out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = k0_pay7 (k0_pay3 x0 x2) x6 x7
      ∧ out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = k0_pay14 (xm x0 x2 x3) := by
  unfold out0_A_16 out0_A_17 out0_A_18 out0_A_19 kernelRun0_A
  dsimp only
  refine ⟨?_, ?_, ?_, ?_⟩ <;>
  · rw [View.read_writes_junk_eq_canon]
    first
    | rw [View.canon_unit_zero hz]
    | rw [View.canon_unit_zero hz3]
    sl_unfold_words
    simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
    try
      dsimp only [xm, halfW]
      unfold_payloads
      rfl

/-- The rows carried on from a batch row's first point. -/
theorem carryA (hc0 : cond0_0 i) (r : Fin 8) (q : Fin 2048) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 (ix2 r q) = k0_pay13 (xm x0 x2 x3) (ix2 r q) := by
  unfold sout0_A_0 kernelRun0_A
  dsimp only
  refine Eq.trans (View.read_writes_cons_hit_of_coords _ _ _ _ _ (ix2 r q) _ ?_) ?_
  · intro a
    fin_cases a <;> dsimp <;> omega
  sl_unfold_words
  simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
  refine congrFun ?_ (ix2 r q)
  dsimp only [xm, halfW]
  unfold_payloads
  rfl

/-- Head `h`'s columns of q, k and v, at any later point. -/
theorem headsB (hc0 : ¬cond0_0 i) (h : Fin 4) (r : Fin 256) (d : Fin 512) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r (hd h d))
        = prod (act x0 xs0 x2 x3 x8 x9) x10 h (ix2 r d)
      ∧ out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r (hd h d))
        = scaled (act x0 xs0 x2 x3 x8 x9) x11 h (ix2 r d)
      ∧ out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r (hd h d))
        = prod (k0_pay16 (xm x0 x2 x3)) x12 h (ix2 r d) := by
  unfold out0_B_13 out0_B_14 out0_B_15 kernelRun0_B
  dsimp only
  fin_cases h <;> refine ⟨?_, ?_, ?_⟩ <;>
  · repeat
      refine Eq.trans (View.read_writes_cons_miss_of_axis _ _ _ _ _ 1 _ _ rfl rfl rfl (?_ : _ ∨ _)) ?_
      · first
        | (refine Or.inl ?_; dsimp [hd] <;> omega)
        | (refine Or.inr ?_; dsimp [hd] <;> omega)
    refine Eq.trans (View.read_writes_cons_hit_of_coords _ _ _ _ _ (ix2 r d) _ ?_) ?_
    · intro a
      fin_cases a <;> dsimp [hd] <;> omega
    sl_unfold_words
    simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
    refine congrFun ?_ (ix2 r d)
    dsimp only [prod, scaled, act, xm, halfW, headW]
    unfold_payloads
    rfl

/-- The output gate's rows, the gates as columns and as rows, and the last rows as they are written out, at any later point. -/
theorem restB (hc0 : ¬cond0_0 i) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 = k0_pay5 x0 x2 (halfW x3 1)
      ∧ out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 = k0_pay6 x0 x2 x4 x5
      ∧ out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 = k0_pay7 (k0_pay3 x0 x2) x6 x7
      ∧ out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 = k0_pay14 (xm x0 x2 x3) := by
  unfold out0_B_16 out0_B_17 out0_B_18 out0_B_19 kernelRun0_B
  dsimp only
  refine ⟨?_, ?_, ?_, ?_⟩ <;>
  · rw [View.read_writes_junk_eq_canon]
    first
    | rw [View.canon_unit_zero hz]
    | rw [View.canon_unit_zero hz3]
    sl_unfold_words
    simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
    try
      dsimp only [xm, halfW]
      unfold_payloads
      rfl

/-- The rows carried on from any later point. -/
theorem carryB (hc0 : ¬cond0_0 i) (r : Fin 8) (q : Fin 2048) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 (ix2 r q) = k0_pay13 (xm x0 x2 x3) (ix2 r q) := by
  unfold sout0_B_0 kernelRun0_B
  dsimp only
  refine Eq.trans (View.read_writes_cons_hit_of_coords _ _ _ _ _ (ix2 r q) _ ?_) ?_
  · intro a
    fin_cases a <;> dsimp <;> omega
  sl_unfold_words
  simp only [whole hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S256x1024) hz, View.ld_unit_zero (S := S1x8x2048) hz3, View.ld_unit_zero (S := S1x1024) hz, View.ld_unit_zero (S := S1024x128) hz, View.ld_unit_zero (S := S1x128) hz, View.ld_unit_zero (S := S8x1024) hz, View.ld_unit_zero (S := S8x1) hz, View.ld_unit_zero (S := S4x2048) hz, View.ld_unit_zero (S := S1x2048) hz, View.ld_unit_zero (S := S8x2048) hz]
  refine congrFun ?_ (ix2 r q)
  dsimp only [xm, halfW]
  unfold_payloads
  rfl

end Cert.Proof.InBlocks

end
-- ==== Proof.InInputs.lean ====
/-
  The mLSTM input kernel's input blocks at an index: what each point reads of the arguments, through the flattening, padding,
  slicing and casting that come before the call. Point `t` is tile `t % 8` of batch row `t / 8`.
-/
module

public import proofs.«01_k».proof.Proof.InBody
public import proofs.«01_k».proof.Proof.FfnInputs

@[expose] public section

set_option maxRecDepth 16384

noncomputable section

namespace Cert.Proof.InInputs

open Cert.Kernel10Ideal Cert.Kernel10Ideal.Gen
open Cert.Proof.FfnInputs (origin rowOf flatOf flat1024 gain)
open Cert.Proof.InBody (wide)
open Idealize.ShloMosaic Idealize.ShloMosaic.TcCoe Idealize.SL.Sem

variable (m : (ℓ : Loc nD τ sig) → Buf (Elt Ideal) ℓ) (c : Dev nD)

/-! ## The windowed arrays, of the arguments -/

theorem V_v2 : V m c main_v2
    = shapeCast S16384x1024 (m ((c.tc : Thread nD τ).loc main_arg0)) shapeCasts_S8x2048x1024_S16384x1024 := rfl
theorem V_v3 : V m c main_v3 = pad S8x8x2048 ![0, 5, 0] ![0, 0, 0] ![0, 0, 0] (m ((c.tc : Thread nD τ).loc main_arg1))
    (sitofp (F := Ideal) .f32 (constantI S_ 32 0#32)) pads_S8x3x2048_S8x8x2048_000_500_000 h_S_ := rfl
theorem V_v4 : V m c main_v4 = extractStridedSlice S1024x4096 ![0, 0] (m ((c.tc : Thread nD τ).loc main_arg3))
    slices_S1024x4104_S1024x4096_0_0 := rfl
theorem V_v5 : V m c main_v5 = pad S1024x128 ![0, 0] ![0, 120] ![0, 0]
    (extractStridedSlice S1024x8 ![0, 4096] (m ((c.tc : Thread nD τ).loc main_arg3)) slices_S1024x4104_S1024x8_0_4096)
    (sitofp (F := Ideal) .bf16 (constantI S_ 32 0#32)) pads_S1024x8_S1024x128_000_01200 h_S_ := rfl
theorem V_v7 : V m c main_v7 = pad S1x128 ![0, 0] ![0, 120] ![0, 0]
    (shapeCast S1x8 (m ((c.tc : Thread nD τ).loc main_arg4)) shapeCasts_S8_S1x8)
    (sitofp (F := Ideal) .f32 (constantI S_ 32 0#32)) pads_S1x8_S1x128_000_01200 h_S_ := rfl
theorem V_v8 : V m c main_v8 = transpose S8x1024 [1, 0]
    (extractStridedSlice S1024x8 ![0, 4096] (m ((c.tc : Thread nD τ).loc main_arg3)) slices_S1024x4104_S1024x8_0_4096)
    transposes_S1024x8_S8x1024_1_0 := rfl
theorem V_v9 : V m c main_v9 = shapeCast S8x1 (m ((c.tc : Thread nD τ).loc main_arg4)) shapeCasts_S8_S8x1 := rfl
theorem V_v10 : V m c main_v10 = m ((c.tc : Thread nD τ).loc main_arg7) := rfl
theorem V_v11 : V m c main_v11 = m ((c.tc : Thread nD τ).loc main_arg8) := rfl
theorem V_v12 : V m c main_v12 = m ((c.tc : Thread nD τ).loc main_arg9) := rfl
theorem V_v13 : V m c main_v13 = shapeCast S1x1024 (m ((c.tc : Thread nD τ).loc main_arg2)) shapeCasts_S1024_S1x1024 := rfl
theorem V_v14 : V m c main_v14 = shapeCast S1x2048 (m ((c.tc : Thread nD τ).loc main_arg6)) shapeCasts_S2048_S1x2048 := rfl

/-! ## Where a point's block lies -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 8, 0, 0] :=
  (by decide +kernel : ∀ t : Fin grid0.N, win0_1.index t = ![t.val / 8, 0, 0])

/-- The weights' windows stand still, -/
theorem still : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0])

/-- also those of the heads. -/
theorem still3 : ∀ t : Fin cfg0.N, win0_10.index t = ![0, 0, 0] ∧ win0_11.index t = ![0, 0, 0] ∧ win0_12.index t = ![0, 0, 0] :=
  (by decide +kernel : ∀ t : Fin grid0.N, win0_10.index t = ![0, 0, 0] ∧ win0_11.index t = ![0, 0, 0]
    ∧ win0_12.index t = ![0, 0, 0])

/-- An index in a block at the origin of three axes is the array's. -/
theorem origin3 {i : Fin 3 → ℕ} (h : i = ![0, 0, 0]) (a : Fin 3) (n y : ℕ) : i a * n + 1 * y = y := by
  subst h
  fin_cases a <;> simp

variable (p j : Fin 8)

/-- The point of tile `j` of batch row `p`. -/
def point : Fin cfg0.N := ⟨8 * p.val + j.val, by show _ < 64; omega⟩

variable (t : Fin cfg0.N)

/-! ## The weights -/

theorem block2 (d : Fin 1024) : iblk m c 2 t (ix2 0 d) = m ((c.tc : Thread nD τ).loc main_arg2) (ix1 d) := by
  refine Eq.trans (b := V m c main_v13 (ix2 0 d)) ?_ ?_
  · exact congrArg (V m c main_v13) (funext fun a => Fin.ext (origin (still t).1 a _ _))
  · rw [V_v13]
    exact gain _ d

theorem block3 (d : Fin 1024) (u : Fin 2) (q : Fin 2048) : iblk m c 3 t (ix2 d (wide u q))
    = m ((c.tc : Thread nD τ).loc main_arg3) (ix2 d ⟨2048 * u.val + q.val, by omega⟩) := by
  refine Eq.trans (b := V m c main_v4 (ix2 d (wide u q))) ?_ ?_
  · exact congrArg (V m c main_v4) (funext fun a => Fin.ext (origin (still t).2.1 a _ _))
  · rw [V_v4]
    pointwise
    rfl

/-- A cast zero, as a filling. -/
theorem fill (f : FTy) : FloatOps.sitofp (F := Ideal) f (0#32 : BitVec 32) = 0 := by
  show (((0#32 : BitVec 32).toInt : ℝ) : EReal) = 0
  simp

/-- Eight values, filled up with zeros. -/
def orZero (l : Fin 128) (f : Fin 8 → EReal) : EReal := if h : l.val < 8 then f ⟨l.val, h⟩ else 0

theorem block4 (d : Fin 1024) (l : Fin 128) : iblk m c 4 t (ix2 d l)
    = orZero l fun g => m ((c.tc : Thread nD τ).loc main_arg3) (ix2 d ⟨4096 + g.val, by omega⟩) := by
  refine Eq.trans (b := V m c main_v5 (ix2 d l)) ?_ ?_
  · exact congrArg (V m c main_v5) (funext fun a => Fin.ext (origin (still t).2.2.1 a _ _))
  · rw [V_v5]
    pointwise
    rw [fill]
    rfl

theorem block5 (l : Fin 128) : iblk m c 5 t (ix2 0 l)
    = orZero l fun g => m ((c.tc : Thread nD τ).loc main_arg4) (ix1 g) := by
  refine Eq.trans (b := V m c main_v7 (ix2 0 l)) ?_ ?_
  · exact congrArg (V m c main_v7) (funext fun a => Fin.ext (origin (still t).2.2.2.1 a _ _))
  · rw [V_v7]
    pointwise
    rw [fill]
    rfl

theorem block6 (g : Fin 8) (d : Fin 1024) : iblk m c 6 t (ix2 g d)
    = m ((c.tc : Thread nD τ).loc main_arg3) (ix2 d ⟨4096 + g.val, by omega⟩) := by
  refine Eq.trans (b := V m c main_v8 (ix2 g d)) ?_ ?_
  · exact congrArg (V m c main_v8) (funext fun a => Fin.ext (origin (still t).2.2.2.2.1 a _ _))
  · rw [V_v8]
    pointwise

theorem block7 (g : Fin 8) : iblk m c 7 t (ix2 g 0) = m ((c.tc : Thread nD τ).loc main_arg4) (ix1 g) := by
  refine Eq.trans (b := V m c main_v9 (ix2 g 0)) ?_ ?_
  · exact congrArg (V m c main_v9) (funext fun a => Fin.ext (origin (still t).2.2.2.2.2.1 a _ _))
  · rw [V_v9]
    pointwise

theorem block8 (s : Fin 4) (q : Fin 2048) : iblk m c 8 t (ix2 s q) = m ((c.tc : Thread nD τ).loc main_arg5) (ix2 s q) :=
  congrArg (V m c main_arg5) (funext fun a => Fin.ext (origin (still t).2.2.2.2.2.2.1 a _ _))

theorem block9 (q : Fin 2048) : iblk m c 9 t (ix2 0 q) = m ((c.tc : Thread nD τ).loc main_arg6) (ix1 q) := by
  refine Eq.trans (b := V m c main_v14 (ix2 0 q)) ?_ ?_
  · exact congrArg (V m c main_v14) (funext fun a => Fin.ext (origin (still t).2.2.2.2.2.2.2 a _ _))
  · rw [V_v14]
    pointwise

theorem block10 (h : Fin 4) (e d : Fin 512) : iblk m c 10 t (ix3 h e d) = m ((c.tc : Thread nD τ).loc main_arg7) (ix3 h e d) :=
  congrArg (V m c main_v10) (funext fun a => Fin.ext (origin3 (still3 t).1 a _ _))

theorem block11 (h : Fin 4) (e d : Fin 512) : iblk m c 11 t (ix3 h e d) = m ((c.tc : Thread nD τ).loc main_arg8) (ix3 h e d) :=
  congrArg (V m c main_v11) (funext fun a => Fin.ext (origin3 (still3 t).2.1 a _ _))

theorem block12 (h : Fin 4) (e d : Fin 512) : iblk m c 12 t (ix3 h e d) = m ((c.tc : Thread nD τ).loc main_arg9) (ix3 h e d) :=
  congrArg (V m c main_v12) (funext fun a => Fin.ext (origin3 (still3 t).2.2 a _ _))

/-! ## The rows -/

/-- The residual rows' block. -/
theorem block0 (r : Fin 256) (d : Fin 1024) : iblk m c 0 (point p j) (ix2 r d)
    = m ((c.tc : Thread nD τ).loc main_arg0) (ix3 p (rowOf j r) d) := by
  refine Eq.trans (b := V m c main_v2 (ix2 (flatOf p j r) d)) ?_ ?_
  · refine congrArg (V m c main_v2) (funext fun a => Fin.ext ?_)
    match a with
    | ⟨0, _⟩ =>
      show win0_0.index (point p j) 0 * 256 + 1 * r.val = 256 * (8 * p.val + j.val) + r.val
      rw [idx0]
      show (8 * p.val + j.val) * 256 + 1 * _ = _
      omega
    | ⟨1, _⟩ =>
      show win0_0.index (point p j) 1 * 1024 + 1 * d.val = d.val
      rw [idx0]
      show 0 * 1024 + 1 * _ = _
      omega
  · rw [V_v2]
    exact flat1024 p j _ r d

/-- Five rows put before three, at the three. -/
theorem padded {α : Type} (x : S8x3x2048.Idx → α) (z : S_.Idx → α) (i : Fin 3) (q : Fin 2048) :
    pad S8x8x2048 ![0, 5, 0] ![0, 0, 0] ![0, 0, 0] x z pads_S8x3x2048_S8x8x2048_000_500_000 h_S_
      (ix3 p ⟨5 + i.val, by omega⟩ q) = x (ix3 p i q) := by
  have hi := i.isLt
  pointwise

/-- The given buffer, whose three rows come last of the block's eight. -/
theorem block1 (i : Fin 3) (q : Fin 2048) : k0_pay8 (iblk m c 1 (point p j)) (ix2 ⟨5 + i.val, by omega⟩ q)
    = m ((c.tc : Thread nD τ).loc main_arg1) (ix3 p i q) := by
  have hp := p.isLt
  have hj := j.isLt
  have hi := i.isLt
  refine Eq.trans (b := iblk m c 1 (point p j) (ix3 0 ⟨5 + i.val, by omega⟩ q)) ?_ ?_
  · generalize iblk m c 1 (point p j) = x
    pointwise [k0_pay8]
  refine Eq.trans (b := V m c main_v3 (ix3 p ⟨5 + i.val, by omega⟩ q)) ?_ ?_
  · refine congrArg (V m c main_v3) (funext fun a => Fin.ext ?_)
    match a with
    | ⟨0, _⟩ =>
      show win0_1.index (point p j) 0 * 1 + 1 * 0 = p.val
      rw [idx1]
      show ((8 * p.val + j.val) / 8) * 1 + 1 * _ = _
      omega
    | ⟨1, _⟩ =>
      show win0_1.index (point p j) 1 * 8 + 1 * (5 + i.val) = 5 + i.val
      rw [idx1]
      show 0 * 8 + 1 * _ = _
      omega
    | ⟨2, _⟩ =>
      show win0_1.index (point p j) 2 * 2048 + 1 * q.val = q.val
      rw [idx1]
      show 0 * 2048 + 1 * _ = _
      omega
  · rw [V_v3]
    exact padded p _ _ i q

end Cert.Proof.InInputs

end
-- ==== Proof.InRef.lean ====
/-
  The mLSTM input reference's values at an index, as functions of a row: its stages are named here, each of the one before it.
-/
module

public import proofs.«01_k».proof.Proof.Gen.Reference10Ideal.Run
public import proofs.«01_k».proof.Proof.InBody
public import proofs.«01_k».proof.Proof.FfnRef

@[expose] public section

set_option maxRecDepth 16384

noncomputable section

namespace Cert.Proof.InRef

open Cert.Reference10Ideal Cert.Reference10Ideal.Gen Cert.Proof.FfnRow
open Cert.Proof.InBody (hd mix4 silu sc)
open Cert.Proof.FfnRef (flat)
open Idealize.ShloMosaic Idealize.ShloMosaic.TcCoe Idealize.SL.Sem

section Stages

variable {F : FTy → Type} [FloatOps F] (x0 : Vec F S8x2048x1024 .f32) (x1 : Vec F S8x3x2048 .f32) (x2 : Vec F S1024 .f32)
  (x3 : Vec F S1024x4104 .f32) (x4 : Vec F S8 .f32) (x5 : Vec F S4x2048 .f32) (x6 : Vec F S2048 .f32)

/-- The projected columns, -/
def base : FVec F S8x2048x4104 .f32 :=
  Host.dotGeneral dot_S8x2048x1024_S1024x4104_S8x2048x4104_2_0_01_1_n_n none (mulf (mulf x0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x0 x0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x2))) x3

/-- those that go on, -/
def xm (y : FVec F S8x2048x4104 .f32) : FVec F S8x2048x2048 .f32 :=
  extractStridedSlice S8x2048x2048 ![0, 0, 0] y slices_S8x2048x4104_S8x2048x2048_0_0_0

/-- the same with the buffer's rows put before, -/
def ext (y : FVec F S8x2048x4104 .f32) : FVec F S8x2051x2048 .f32 :=
  concatenate S8x2051x2048 1 [⟨S8x3x2048, x1⟩, ⟨S8x2048x2048, (xm y)⟩] concatenates_S8x3x2048_S8x2048x2048_S8x2051x2048_d1

/-- convolved, -/
def conv (z : FVec F S8x2051x2048 .f32) : FVec F S8x2048x2048 .f32 :=
  addf (addf (addf (addf (broadcastInDim S8x2048x2048 ![0, 1, 2] bcast_S1x1x2048_S8x2048x2048_0_1_2 (broadcastInDim S1x1x2048 ![2] bcast_S2048_S1x1x2048_2 x6)) (mulf (broadcastInDim S8x2048x2048 ![0, 1, 2] bcast_S1x1x2048_S8x2048x2048_0_1_2 (broadcastInDim S1x1x2048 ![2] bcast_S2048_S1x1x2048_2 (shapeCast _ (extractStridedSlice S1x2048 ![0, 0] x5 slices_S4x2048_S1x2048_0_0) shapeCasts_S1x2048_S2048))) (extractStridedSlice S8x2048x2048 ![0, 0, 0] z slices_S8x2051x2048_S8x2048x2048_0_0_0))) (mulf (broadcastInDim S8x2048x2048 ![0, 1, 2] bcast_S1x1x2048_S8x2048x2048_0_1_2 (broadcastInDim S1x1x2048 ![2] bcast_S2048_S1x1x2048_2 (shapeCast _ (extractStridedSlice S1x2048 ![1, 0] x5 slices_S4x2048_S1x2048_1_0) shapeCasts_S1x2048_S2048))) (extractStridedSlice S8x2048x2048 ![0, 1, 0] z slices_S8x2051x2048_S8x2048x2048_0_1_0))) (mulf (broadcastInDim S8x2048x2048 ![0, 1, 2] bcast_S1x1x2048_S8x2048x2048_0_1_2 (broadcastInDim S1x1x2048 ![2] bcast_S2048_S1x1x2048_2 (shapeCast _ (extractStridedSlice S1x2048 ![2, 0] x5 slices_S4x2048_S1x2048_2_0) shapeCasts_S1x2048_S2048))) (extractStridedSlice S8x2048x2048 ![0, 2, 0] z slices_S8x2051x2048_S8x2048x2048_0_2_0))) (mulf (broadcastInDim S8x2048x2048 ![0, 1, 2] bcast_S1x1x2048_S8x2048x2048_0_1_2 (broadcastInDim S1x1x2048 ![2] bcast_S2048_S1x1x2048_2 (shapeCast _ (extractStridedSlice S1x2048 ![3, 0] x5 slices_S4x2048_S1x2048_3_0) shapeCasts_S1x2048_S2048))) (extractStridedSlice S8x2048x2048 ![0, 3, 0] z slices_S8x2051x2048_S8x2048x2048_0_3_0))

/-- and through the activation. -/
def act (v : FVec F S8x2048x2048 .f32) : FVec F S8x2048x2048 .f32 :=
  mulf v (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf v))))

/-- The heads' products with their weights, -/
def heads (a : FVec F S8x2048x2048 .f32) (w : Vec F S4x512x512 .f32) : FVec F S8x2048x4x512 .f32 :=
  transpose S8x2048x4x512 [2, 3, 0, 1] (Host.dotGeneral dot_S4x512x512_S8x2048x4x512_S4x512x8x2048_1_3_2_01_0_2 none w (shapeCast _ a shapeCasts_S8x2048x2048_S8x2048x4x512)) transposes_S4x512x8x2048_S8x2048x4x512_2_3_0_1

/-- by rows, -/
def prods (a : FVec F S8x2048x2048 .f32) (w : Vec F S4x512x512 .f32) : FVec F S16384x2048 .f32 :=
  shapeCast _ (heads a w) shapeCasts_S8x2048x4x512_S16384x2048

/-- and the same scaled. -/
def scaledProds (a : FVec F S8x2048x2048 .f32) (w : Vec F S4x512x512 .f32) : FVec F S16384x2048 .f32 :=
  shapeCast _ (mulf (heads a w) (broadcastInDim S8x2048x4x512 ![] bcast_S_S8x2048x4x512 (constant S_ .f32 0x3D3504F3#32))) shapeCasts_S8x2048x4x512_S16384x2048

/-- The output gate's rows. -/
def gate (y : FVec F S8x2048x4104 .f32) : FVec F S16384x2048 .f32 :=
  shapeCast _ (extractStridedSlice S8x2048x2048 ![0, 0, 2048] y slices_S8x2048x4104_S8x2048x2048_0_0_2048) shapeCasts_S8x2048x2048_S16384x2048

/-- The eight gates, -/
def gates (y : FVec F S8x2048x4104 .f32) : FVec F S16384x8 .f32 :=
  shapeCast _ (addf (extractStridedSlice S8x2048x8 ![0, 0, 4096] y slices_S8x2048x4104_S8x2048x8_0_0_4096) (broadcastInDim S8x2048x8 ![0, 1, 2] bcast_S1x1x8_S8x2048x8_0_1_2 (broadcastInDim S1x1x8 ![2] bcast_S8_S1x1x8_2 x4))) shapeCasts_S8x2048x8_S16384x8

/-- as columns filled up with zeros, -/
def lanes (g : FVec F S16384x8 .f32) : FVec F S16384x128 .f32 :=
  pad S16384x128 ![0, 0] ![0, 120] ![0, 0] g (sitofp .f32 (constantI S_ 32 0#32)) pads_S16384x8_S16384x128_000_01200 h_S_

/-- and as rows. -/
def turned (g : FVec F S16384x8 .f32) : FVec F S8x16384 .f32 :=
  transpose S8x16384 [1, 0] g transposes_S16384x8_S8x16384_1_0

/-- Each batch row's last eight projected rows. -/
def tails (y : FVec F S8x2048x4104 .f32) : FVec F S8x8x2048 .f32 :=
  extractStridedSlice S8x8x2048 ![0, 2040, 0] (xm y) slices_S8x2048x2048_S8x8x2048_0_2040_0

end Stages

variable (x0 : Vec Ideal S8x2048x1024 .f32) (x1 : Vec Ideal S8x3x2048 .f32) (x2 : Vec Ideal S1024 .f32)
  (x3 : Vec Ideal S1024x4104 .f32) (x4 : Vec Ideal S8 .f32) (x5 : Vec Ideal S4x2048 .f32) (x6 : Vec Ideal S2048 .f32)
  (y : FVec Ideal S8x2048x4104 .f32) (b : Fin 8) (s : Fin 2048)

theorem base_at (q : Fin 4104) : base x0 x2 x3 (ix3 b s q)
    = up (fun d => x0 (ix3 b s d)) (fun d => x2 (ix1 d)) (fun d => x3 (ix2 d q)) := by
  unfold up rms
  pointwise [base]

theorem xm_at (q : Fin 2048) : xm y (ix3 b s q) = y (ix3 b s ⟨q.val, by omega⟩) := by
  pointwise [xm]

/-- Column `q` of those that go on, `n` rows back, from the buffer's three rows at the start. -/
def back (n : ℕ) (hn : n ≤ 3) (q : Fin 2048) : EReal :=
  if h : s.val < n then x1 (ix3 b ⟨s.val + 3 - n, by omega⟩ q) else y (ix3 b ⟨s.val - n, by omega⟩ ⟨q.val, by omega⟩)

/-- The rows with the buffer's before, read `n` rows back. -/
theorem ext_at (n : ℕ) (hn : n ≤ 3) (q : Fin 2048) :
    ext x1 y (ix3 b ⟨3 - n + s.val, by omega⟩ q) = back x1 y b s n hn q := by
  have hs := s.isLt
  pointwise [ext, xm]
  unfold back
  by_cases h : s.val < n
  · rw [dif_pos h, dif_pos (by omega)]
    exact congrArg (fun t => x1 (ix3 b t q)) (Fin.ext (by show 3 - n + s.val = s.val + 3 - n; omega))
  · rw [dif_neg h, dif_neg (by omega)]
    exact congrArg (fun t => y (ix3 b t ⟨q.val, by omega⟩)) (Fin.ext (by show 3 - n + s.val - 3 = s.val - n; omega))

theorem conv_at (z : FVec Ideal S8x2051x2048 .f32) (q : Fin 2048) : conv x5 x6 z (ix3 b s q)
    = mix4 (x6 (ix1 q)) (x5 (ix2 0 q)) (x5 (ix2 1 q)) (x5 (ix2 2 q)) (x5 (ix2 3 q))
        (z (ix3 b ⟨3 - 3 + s.val, by omega⟩ q)) (z (ix3 b ⟨3 - 2 + s.val, by omega⟩ q))
        (z (ix3 b ⟨3 - 1 + s.val, by omega⟩ q)) (z (ix3 b ⟨3 - 0 + s.val, by omega⟩ q)) := by
  unfold mix4
  pointwise [conv]

theorem act_at (v : FVec Ideal S8x2048x2048 .f32) (q : Fin 2048) : act v (ix3 b s q) = silu (v (ix3 b s q)) := by
  unfold silu
  pointwise [act]

theorem heads_at (a : FVec Ideal S8x2048x2048 .f32) (w : Vec Ideal S4x512x512 .f32) (h : Fin 4) (d : Fin 512) :
    heads a w (ix4 b s h d) = ∑ e, a (ix3 b s (hd h e)) * w (ix3 h e d) := by
  pointwise [heads]
  refine Finset.sum_congr rfl fun e _ => ?_
  rw [mul_comm]
  exact congrArg (fun t => a (ix3 b s t) * _) (Fin.ext (by show h.val * 512 + e.val = 512 * h.val + e.val; omega))

theorem prods_at (a : FVec Ideal S8x2048x2048 .f32) (w : Vec Ideal S4x512x512 .f32) (h : Fin 4) (d : Fin 512) :
    prods a w (ix2 (flat b s) (hd h d)) = ∑ e, a (ix3 b s (hd h e)) * w (ix3 h e d) := by
  rw [← heads_at]
  unfold prods
  generalize heads a w = z
  have hb := b.isLt
  have hs := s.isLt
  have hh := h.isLt
  have hd' := d.isLt
  pointwise
  refine congrArg z (funext fun t => Fin.ext ?_)
  match t with
  | ⟨0, _⟩ => dsimp [flat, hd]; omega
  | ⟨1, _⟩ => dsimp [flat, hd]; omega
  | ⟨2, _⟩ => dsimp [flat, hd]; omega
  | ⟨3, _⟩ => dsimp [flat, hd]; omega

theorem scaledProds_at (a : FVec Ideal S8x2048x2048 .f32) (w : Vec Ideal S4x512x512 .f32) (h : Fin 4) (d : Fin 512) :
    scaledProds a w (ix2 (flat b s) (hd h d)) = (∑ e, a (ix3 b s (hd h e)) * w (ix3 h e d)) * sc := by
  rw [← prods_at]
  unfold scaledProds prods
  generalize heads a w = z
  pointwise

theorem gate_at (q : Fin 2048) : gate y (ix2 (flat b s) q) = y (ix3 b s ⟨2048 + q.val, by omega⟩) := by
  have hb := b.isLt
  have hs := s.isLt
  have e0 : (2048 * b.val + s.val) / 2048 = b.val := by omega
  have e1 : (2048 * b.val + s.val) % 2048 = s.val := by omega
  pointwise [gate]
  simp only [flat, e0, e1]

theorem gates_at (g : Fin 8) : gates x4 y (ix2 (flat b s) g) = y (ix3 b s ⟨4096 + g.val, by omega⟩) + x4 (ix1 g) := by
  have hb := b.isLt
  have hs := s.isLt
  have e0 : (2048 * b.val + s.val) / 2048 = b.val := by omega
  have e1 : (2048 * b.val + s.val) % 2048 = s.val := by omega
  pointwise [gates]
  simp only [flat, e0, e1]

theorem lanes_at (g : FVec Ideal S16384x8 .f32) (r : Fin 16384) (l : Fin 128) :
    lanes g (ix2 r l) = if h : l.val < 8 then g (ix2 r ⟨l.val, h⟩) else 0 := by
  have z : FloatOps.sitofp (F := Ideal) .f32 (0#32 : BitVec 32) = 0 := by
    show (((0#32 : BitVec 32).toInt : ℝ) : EReal) = 0
    simp
  pointwise [lanes]
  rw [z]

theorem turned_at (g : FVec Ideal S16384x8 .f32) (r : Fin 16384) (l : Fin 8) : turned g (ix2 l r) = g (ix2 r l) := by
  pointwise [turned]

theorem tails_at (r : Fin 8) (q : Fin 2048) : tails y (ix3 b r q) = y (ix3 b ⟨2040 + r.val, by omega⟩ ⟨q.val, by omega⟩) := by
  pointwise [tails, xm]

/-- The run's first result is those stages',  -/
theorem q_res (m : (ℓ : Loc nD τ sig) → Buf (Elt Ideal) ℓ) (c : Dev nD) : Value.res_main_v63 m c
    = prods (act (conv (m ((c.tc : Thread nD τ).loc main_arg5)) (m ((c.tc : Thread nD τ).loc main_arg6))
        (ext (m ((c.tc : Thread nD τ).loc main_arg1))
          (base (m ((c.tc : Thread nD τ).loc main_arg0)) (m ((c.tc : Thread nD τ).loc main_arg2)) (m ((c.tc : Thread nD τ).loc main_arg3))))))
      (m ((c.tc : Thread nD τ).loc main_arg7)) := by
  unfold Value.res_main_v63 prods heads act conv ext xm base
  rfl

/-- and its second. -/
theorem k_res (m : (ℓ : Loc nD τ sig) → Buf (Elt Ideal) ℓ) (c : Dev nD) : Value.res_main_v64 m c
    = scaledProds (act (conv (m ((c.tc : Thread nD τ).loc main_arg5)) (m ((c.tc : Thread nD τ).loc main_arg6))
        (ext (m ((c.tc : Thread nD τ).loc main_arg1))
          (base (m ((c.tc : Thread nD τ).loc main_arg0)) (m ((c.tc : Thread nD τ).loc main_arg2)) (m ((c.tc : Thread nD τ).loc main_arg3))))))
      (m ((c.tc : Thread nD τ).loc main_arg8)) := by
  unfold Value.res_main_v64 scaledProds heads act conv ext xm base
  rfl

end Cert.Proof.InRef

end
-- ==== Proof.InResult.lean ====
/-
  The mLSTM input kernel's seven result arrays are its reference's.
-/
module

public import proofs.«01_k».proof.Proof.InBlocks
public import proofs.«01_k».proof.Proof.InInputs
public import proofs.«01_k».proof.Proof.InRef
public import proofs.«01_k».proof.Proof.Gen.Kernel10Ideal.Value

@[expose] public section

set_option maxRecDepth 16384

noncomputable section

namespace Cert.Proof.InResult

open Cert.Kernel10Ideal Cert.Kernel10Ideal.Gen
open Cert.Kernel10Ideal.Value (stAt0 junk0 G13 G14 G15 G16 G17 G18 G19)
open Cert.Proof.FfnRow Cert.Proof.InBody Cert.Proof.InInputs
open Cert.Proof.FfnInputs (rowOf)
open Cert.Proof.FfnRef (flat)
open Idealize.ShloMosaic Idealize.ShloMosaic.TcCoe Idealize.SL.Sem

variable (m : (ℓ : Loc nD τ sig) → Buf (Elt Ideal) ℓ) (c : Dev nD)

/-! ## The reference's stages, of the kernel's arguments -/

/-- The projected columns, -/
abbrev cols : FVec Ideal Reference10Ideal.S8x2048x4104 .f32 :=
  InRef.base (m ((c.tc : Thread nD τ).loc main_arg0)) (m ((c.tc : Thread nD τ).loc main_arg2)) (m ((c.tc : Thread nD τ).loc main_arg3))

/-- convolved and through the activation, -/
abbrev acts : FVec Ideal Reference10Ideal.S8x2048x2048 .f32 :=
  InRef.act (InRef.conv (m ((c.tc : Thread nD τ).loc main_arg5)) (m ((c.tc : Thread nD τ).loc main_arg6))
    (InRef.ext (m ((c.tc : Thread nD τ).loc main_arg1)) (cols m c)))

/-- and the gates. -/
abbrev gates : FVec Ideal Reference10Ideal.S16384x8 .f32 :=
  InRef.gates (m ((c.tc : Thread nD τ).loc main_arg4)) (cols m c)

variable (p j : Fin 8)

/-! ## A point's values, of the reference's -/

/-- The projected columns of either half. -/
theorem half_eq (u : Fin 2) (r : Fin 256) (q : Fin 2048) :
    up (fun d => iblk m c 0 (point p j) (ix2 r d)) (fun d => iblk m c 2 (point p j) (ix2 0 d))
      (fun d => iblk m c 3 (point p j) (ix2 d (wide u q)))
      = cols m c (ix3 p (rowOf j r) ⟨2048 * u.val + q.val, by omega⟩) := by
  unfold cols
  rw [InRef.base_at]
  simp only [block0, block2, block3]

/-- Those that go on. -/
theorem xm_eq (r : Fin 256) (q : Fin 2048) :
    xmAt (iblk m c 0 (point p j)) (iblk m c 2 (point p j)) (iblk m c 3 (point p j)) r q
      = cols m c (ix3 p (rowOf j r) ⟨q.val, by omega⟩) := by
  unfold xmAt
  rw [half_eq]
  exact congrArg (fun t => cols m c (ix3 p (rowOf j r) t)) (Fin.ext (by show 2048 * 0 + q.val = q.val; omega))

/-- The projected columns of the three rows before a tile. -/
def before (i : Fin 3) (q : Fin 2048) : EReal :=
  if h : j.val = 0 then m ((c.tc : Thread nD τ).loc main_arg1) (ix3 p i q)
  else cols m c (ix3 p ⟨256 * j.val - 3 + i.val, by omega⟩ ⟨q.val, by omega⟩)

/-- A tile's rows up to three back. -/
theorem back_eq (X : Vec Ideal S8x2048 .f32) (q : Fin 2048)
    (hX : ∀ i : Fin 3, X (ix2 ⟨5 + i.val, by omega⟩ q) = before m c p j i q) (n : ℕ) (hn : n ≤ 3) (r : Fin 256) :
    back (fun s => xmAt (iblk m c 0 (point p j)) (iblk m c 2 (point p j)) (iblk m c 3 (point p j)) s q)
      (fun s => X (ix2 s q)) n (by omega) r
      = InRef.back (m ((c.tc : Thread nD τ).loc main_arg1)) (cols m c) p (rowOf j r) n hn q := by
  have hj := j.isLt
  have hr := r.isLt
  unfold FfnRow.back
  have hs : (rowOf j r).val = 256 * j.val + r.val := rfl
  by_cases h : r.val < n
  · rw [dif_pos h]
    have e : (⟨r.val + 8 - n, by omega⟩ : Fin 8) = ⟨5 + (⟨r.val + 3 - n, by omega⟩ : Fin 3).val, by dsimp only; omega⟩ :=
      Fin.ext (by show r.val + 8 - n = 5 + (r.val + 3 - n); omega)
    rw [e]
    refine Eq.trans (hX ⟨r.val + 3 - n, by omega⟩) ?_
    unfold before InRef.back
    by_cases h0 : j.val = 0
    · rw [dif_pos h0, dif_pos (by omega)]
      exact congrArg (fun t => m ((c.tc : Thread nD τ).loc main_arg1) (ix3 p t q)) (Fin.ext (by
        show r.val + 3 - n = (rowOf j r).val + 3 - n; omega))
    · rw [dif_neg h0, dif_neg (by omega)]
      exact congrArg (fun t => cols m c (ix3 p t ⟨q.val, by omega⟩)) (Fin.ext (by
        show 256 * j.val - 3 + (r.val + 3 - n) = (rowOf j r).val - n; omega))
  · rw [dif_neg h]
    refine Eq.trans (xm_eq m c p j ⟨r.val - n, by omega⟩ q) ?_
    unfold InRef.back
    rw [dif_neg (by omega)]
    exact congrArg (fun t => cols m c (ix3 p t ⟨q.val, by omega⟩)) (Fin.ext (by
      show 256 * j.val + (r.val - n) = (rowOf j r).val - n; omega))

/-- The convolved columns, through the activation. -/
theorem act_eq (X : Vec Ideal S8x2048 .f32)
    (hX : ∀ (i : Fin 3) (q : Fin 2048), X (ix2 ⟨5 + i.val, by omega⟩ q) = before m c p j i q) (r : Fin 256) (q : Fin 2048) :
    act (iblk m c 0 (point p j)) X (iblk m c 2 (point p j)) (iblk m c 3 (point p j)) (iblk m c 8 (point p j))
      (iblk m c 9 (point p j)) (ix2 r q) = acts m c (ix3 p (rowOf j r) q) := by
  rw [act_at]
  unfold actAt acts
  rw [back_eq m c p j X q (fun i => hX i q) 3 (by omega) r, back_eq m c p j X q (fun i => hX i q) 2 (by omega) r,
    back_eq m c p j X q (fun i => hX i q) 1 (by omega) r, InRef.act_at, InRef.conv_at, InRef.ext_at _ _ _ _ 3 (by omega),
    InRef.ext_at _ _ _ _ 2 (by omega), InRef.ext_at _ _ _ _ 1 (by omega), InRef.ext_at _ _ _ _ 0 (by omega), xm_eq,
    block8, block8, block8, block8, block9]
  rfl

/-! ## What each point leaves -/

/-- What the point of tile `j` of batch row `p` leaves. -/
abbrev held := outsAt0 m c (point p j).val (point p j).isLt

/-- The carried rows are the tile's last eight, projected. -/
theorem carried (r : Fin 8) (q : Fin 2048) : (held m c p j).2.2.2.2.2.2.2 (ix2 r q)
    = cols m c (ix3 p (rowOf j ⟨248 + r.val, by omega⟩) ⟨q.val, by omega⟩) := by
  rw [← xm_eq, ← keep_at]
  unfold held
  by_cases h : (point p j).val % 8 = 0
  · rw [outsAt0_A m c (point p j) h]
    dsimp only
    exact InBlocks.carryA (r := r) (q := q) ..
  · rw [outsAt0_B m c (point p j) h]
    dsimp only
    exact InBlocks.carryB (r := r) (q := q) ..

/-- The heads' columns of q, k and v, of some rows that precede the tile. -/
theorem heads_held : ∃ X : Vec Ideal S8x2048 .f32,
    (∀ (i : Fin 3) (q : Fin 2048), X (ix2 ⟨5 + i.val, by omega⟩ q) = before m c p j i q)
    ∧ ∀ (h : Fin 4) (r : Fin 256) (d : Fin 512),
      (held m c p j).1 (ix2 r (hd h d))
        = prod (act (iblk m c 0 (point p j)) X (iblk m c 2 (point p j)) (iblk m c 3 (point p j)) (iblk m c 8 (point p j))
            (iblk m c 9 (point p j))) (iblk m c 10 (point p j)) h (ix2 r d)
      ∧ (held m c p j).2.1 (ix2 r (hd h d))
        = scaled (act (iblk m c 0 (point p j)) X (iblk m c 2 (point p j)) (iblk m c 3 (point p j)) (iblk m c 8 (point p j))
            (iblk m c 9 (point p j))) (iblk m c 11 (point p j)) h (ix2 r d)
      ∧ (held m c p j).2.2.1 (ix2 r (hd h d))
        = prod (k0_pay16 (xm (iblk m c 0 (point p j)) (iblk m c 2 (point p j)) (iblk m c 3 (point p j))))
            (iblk m c 12 (point p j)) h (ix2 r d) := by
  have hp := p.isLt
  have hj := j.isLt
  have hv : (point p j).val = 8 * p.val + j.val := rfl
  unfold held
  by_cases h : (point p j).val % 8 = 0
  · rw [outsAt0_A m c (point p j) h]
    dsimp only
    refine ⟨k0_pay8 (iblk m c 1 (point p j)), fun i q => ?_, fun h r d => InBlocks.headsA (h := h) (r := r) (d := d) ..⟩
    rw [block1]
    unfold before
    rw [dif_pos (by omega)]
  · rw [outsAt0_B m c (point p j) h]
    dsimp only
    refine ⟨_, fun i q => ?_, fun h r d => InBlocks.headsB (h := h) (r := r) (d := d) ..⟩
    have hj1 : j.val - 1 < 8 := by omega
    have hi := i.isLt
    have e := carried m c p ⟨j.val - 1, hj1⟩ ⟨5 + i.val, by omega⟩ q
    unfold held at e
    have hn : (point p ⟨j.val - 1, hj1⟩).val = (point p j).val - 1 := by
      show 8 * p.val + (j.val - 1) = 8 * p.val + j.val - 1
      omega
    simp only [hn] at e
    refine e.trans ?_
    unfold before
    rw [dif_neg (by omega)]
    exact congrArg (fun t => cols m c (ix3 p t ⟨q.val, by omega⟩)) (Fin.ext (by
      show 256 * (j.val - 1) + (248 + (5 + i.val)) = 256 * j.val - 3 + i.val
      omega))

/-- The columns of q, -/
theorem q_held (h : Fin 4) (r : Fin 256) (d : Fin 512) : (held m c p j).1 (ix2 r (hd h d))
    = InRef.prods (acts m c) (m ((c.tc : Thread nD τ).loc main_arg7)) (ix2 (flat p (rowOf j r)) (hd h d)) := by
  obtain ⟨X, hX, H⟩ := heads_held m c p j
  rw [(H h r d).1, prod_at, InRef.prods_at]
  simp only [act_eq m c p j X hX, block10]

/-- of k, -/
theorem k_held (h : Fin 4) (r : Fin 256) (d : Fin 512) : (held m c p j).2.1 (ix2 r (hd h d))
    = InRef.scaledProds (acts m c) (m ((c.tc : Thread nD τ).loc main_arg8)) (ix2 (flat p (rowOf j r)) (hd h d)) := by
  obtain ⟨X, hX, H⟩ := heads_held m c p j
  rw [(H h r d).2.1, scaled_at, InRef.scaledProds_at]
  simp only [act_eq m c p j X hX, block11]

/-- and of v. -/
theorem v_held (h : Fin 4) (r : Fin 256) (d : Fin 512) : (held m c p j).2.2.1 (ix2 r (hd h d))
    = InRef.prods (InRef.xm (cols m c)) (m ((c.tc : Thread nD τ).loc main_arg9)) (ix2 (flat p (rowOf j r)) (hd h d)) := by
  obtain ⟨X, hX, H⟩ := heads_held m c p j
  rw [(H h r d).2.2, prod_at, InRef.prods_at]
  refine Finset.sum_congr rfl fun e _ => ?_
  rw [block12, InRef.xm_at, ← xm_eq, ← xm_at]
  rfl

/-- The output gate's rows, the gates, and the last rows. -/
theorem rest_held : (held m c p j).2.2.2.1 = k0_pay5 (iblk m c 0 (point p j)) (iblk m c 2 (point p j)) (halfW (iblk m c 3 (point p j)) 1)
    ∧ (held m c p j).2.2.2.2.1 = k0_pay6 (iblk m c 0 (point p j)) (iblk m c 2 (point p j)) (iblk m c 4 (point p j)) (iblk m c 5 (point p j))
    ∧ (held m c p j).2.2.2.2.2.1 = k0_pay7 (k0_pay3 (iblk m c 0 (point p j)) (iblk m c 2 (point p j))) (iblk m c 6 (point p j)) (iblk m c 7 (point p j))
    ∧ (held m c p j).2.2.2.2.2.2.1 = k0_pay14 (xm (iblk m c 0 (point p j)) (iblk m c 2 (point p j)) (iblk m c 3 (point p j))) := by
  unfold held
  by_cases h : (point p j).val % 8 = 0
  · rw [outsAt0_A m c (point p j) h]
    dsimp only
    exact InBlocks.restA ..
  · rw [outsAt0_B m c (point p j) h]
    dsimp only
    exact InBlocks.restB ..

theorem gate_held (r : Fin 256) (q : Fin 2048) :
    (held m c p j).2.2.2.1 (ix2 r q) = InRef.gate (cols m c) (ix2 (flat p (rowOf j r)) q) := by
  rw [(rest_held m c p j).1, gate_at, half_eq, InRef.gate_at]
  rfl

/-- A filled projection: the eight gates, then zeros. -/
theorem filled (x g : Fin 1024 → EReal) (w : Fin 8 → Fin 1024 → EReal) (b : Fin 8 → EReal) (l : Fin 128) :
    up x g (fun d => orZero l fun e => w e d) + orZero l b = if h : l.val < 8 then up x g (w ⟨l.val, h⟩) + b ⟨l.val, h⟩ else 0 := by
  unfold orZero up
  by_cases h : l.val < 8
  · simp only [dif_pos h]
  · simp only [dif_neg h, mul_zero, Finset.sum_const_zero, add_zero]

theorem lanes_held (r : Fin 256) (l : Fin 128) :
    (held m c p j).2.2.2.2.1 (ix2 r l) = InRef.lanes (gates m c) (ix2 (flat p (rowOf j r)) l) := by
  rw [(rest_held m c p j).2.1, lanes_at, InRef.lanes_at]
  simp only [block0, block2, block4, block5, InRef.gates_at, InRef.base_at]
  exact filled _ _ (fun g d => m ((c.tc : Thread nD τ).loc main_arg3) (ix2 d ⟨4096 + g.val, by omega⟩)) _ l

theorem turned_held (g : Fin 8) (r : Fin 256) :
    (held m c p j).2.2.2.2.2.1 (ix2 g r) = InRef.turned (gates m c) (ix2 g (flat p (rowOf j r))) := by
  rw [(rest_held m c p j).2.2.1, turned_at, InRef.turned_at]
  unfold gates
  rw [InRef.gates_at]
  unfold cols
  rw [InRef.base_at]
  simp only [block0, block2, block6, block7]

/-- A batch row's last point writes out its last rows. -/
theorem tails_held (r : Fin 8) (q : Fin 2048) :
    (held m c p 7).2.2.2.2.2.2.1 (ix3 0 r q) = InRef.tails (cols m c) (ix3 p r q) := by
  rw [(rest_held m c p 7).2.2.2, InRef.tails_at]
  refine Eq.trans (b := k0_pay13 (xm (iblk m c 0 (point p 7)) (iblk m c 2 (point p 7)) (iblk m c 3 (point p 7))) (ix2 r q)) ?_ ?_
  · generalize xm (iblk m c 0 (point p 7)) (iblk m c 2 (point p 7)) (iblk m c 3 (point p 7)) = z
    pointwise [k0_pay14, k0_pay13]
  · rw [keep_at, xm_eq]
    exact congrArg (fun t => cols m c (ix3 p t ⟨q.val, by omega⟩)) (Fin.ext (by
      show 256 * 7 + (248 + r.val) = 2040 + r.val
      omega))

/-! ## The result arrays -/

/-- The fold up to a point is what the point leaves. -/
theorem fold_at {n : ℕ} (hn : 0 + n < cfg0.N) (h : n = 8 * p.val + j.val) :
    Pipeline.accAt (fun n h => stAt0 m c n h junk0) (stAt0 m c) 0 n hn = held m c p j := by
  subst h
  exact (Value.outsAt0_sweep m c _ (point p j).isLt).symm

/-- Every row is a row of some tile. -/
theorem row_cover (i : Fin 16384) : ∃ (p j : Fin 8) (r : Fin 256), i = flat p (rowOf j r) :=
  ⟨⟨i.val / 2048, by omega⟩, ⟨i.val / 256 % 8, by omega⟩, ⟨i.val % 256, by omega⟩, Fin.ext (by
    show i.val = 2048 * (i.val / 2048) + (256 * (i.val / 256 % 8) + i.val % 256); omega)⟩

/-- Every column is a head's. -/
theorem col_cover (q : Fin 2048) : ∃ (h : Fin 4) (d : Fin 512), q = hd h d :=
  ⟨⟨q.val / 512, by omega⟩, ⟨q.val % 512, by omega⟩, Fin.ext (by show q.val = 512 * (q.val / 512) + q.val % 512; omega)⟩

/-- An index of the rows. -/
theorem cover {n : ℕ} (i : (⟨2, ![16384, n]⟩ : Shape).Idx) :
    ∃ (p j : Fin 8) (r : Fin 256) (q : Fin n), i = ix2 (flat p (rowOf j r)) q := by
  obtain ⟨p, j, r, e⟩ := row_cover (i 0)
  exact ⟨p, j, r, i 1, funext fun a => match a with
    | ⟨0, _⟩ => e
    | ⟨1, _⟩ => rfl⟩

/-- The point that writes a row of 2048 entries, -/
theorem pt_at (r : Fin 256) (q : Fin 2048) : Value.pt13Of (ix2 (flat p (rowOf j r)) q) = 8 * p.val + j.val := by
  have hp := p.isLt
  have hj := j.isLt
  have hr := r.isLt
  have hq := q.isLt
  show 1 * ((2048 * p.val + (256 * j.val + r.val)) / 256 - 0) + 1 * (q.val / 2048 - 0) = _
  omega

/-- and where in its block. -/
theorem loc_at (r : Fin 256) (q : Fin 2048) : Value.loc13Of (ix2 (flat p (rowOf j r)) q) = ix2 r q := by
  funext a
  refine Fin.ext ?_
  match a with
  | ⟨0, _⟩ => show (2048 * p.val + (256 * j.val + r.val)) % 256 = r.val; omega
  | ⟨1, _⟩ => show q.val % 2048 = q.val; omega

theorem q_eq : G13 m c = InRef.prods (acts m c) (m ((c.tc : Thread nD τ).loc main_arg7)) := by
  funext i
  obtain ⟨p, j, r, q, rfl⟩ := cover i
  obtain ⟨h, d, rfl⟩ := col_cover q
  unfold G13
  rw [dif_pos (show Value.pt13Of _ < cfg0.N by rw [pt_at]; exact (point p j).isLt),
    fold_at m c p j _ (pt_at p j r _), loc_at, q_held]

theorem k_eq : G14 m c = InRef.scaledProds (acts m c) (m ((c.tc : Thread nD τ).loc main_arg8)) := by
  funext i
  obtain ⟨p, j, r, q, rfl⟩ := cover i
  obtain ⟨h, d, rfl⟩ := col_cover q
  unfold G14
  rw [dif_pos (show Value.pt14Of _ < cfg0.N by rw [show Value.pt14Of _ = _ from pt_at p j r _]; exact (point p j).isLt),
    fold_at m c p j _ (pt_at p j r _), show Value.loc14Of _ = _ from loc_at p j r _, k_held]

theorem v_eq : G15 m c = InRef.prods (InRef.xm (cols m c)) (m ((c.tc : Thread nD τ).loc main_arg9)) := by
  funext i
  obtain ⟨p, j, r, q, rfl⟩ := cover i
  obtain ⟨h, d, rfl⟩ := col_cover q
  unfold G15
  rw [dif_pos (show Value.pt15Of _ < cfg0.N by rw [show Value.pt15Of _ = _ from pt_at p j r _]; exact (point p j).isLt),
    fold_at m c p j _ (pt_at p j r _), show Value.loc15Of _ = _ from loc_at p j r _, v_held]

theorem gate_eq : G16 m c = InRef.gate (cols m c) := by
  funext i
  obtain ⟨p, j, r, q, rfl⟩ := cover i
  unfold G16
  rw [dif_pos (show Value.pt16Of _ < cfg0.N by rw [show Value.pt16Of _ = _ from pt_at p j r _]; exact (point p j).isLt),
    fold_at m c p j _ (pt_at p j r _), show Value.loc16Of _ = _ from loc_at p j r _, gate_held]

theorem pt17_at (r : Fin 256) (q : Fin 128) : Value.pt17Of (ix2 (flat p (rowOf j r)) q) = 8 * p.val + j.val := by
  have hp := p.isLt
  have hj := j.isLt
  have hr := r.isLt
  have hq := q.isLt
  show 1 * ((2048 * p.val + (256 * j.val + r.val)) / 256 - 0) + 1 * (q.val / 128 - 0) = _
  omega

theorem loc17_at (r : Fin 256) (q : Fin 128) : Value.loc17Of (ix2 (flat p (rowOf j r)) q) = ix2 r q := by
  funext a
  refine Fin.ext ?_
  match a with
  | ⟨0, _⟩ => show (2048 * p.val + (256 * j.val + r.val)) % 256 = r.val; omega
  | ⟨1, _⟩ => show q.val % 128 = q.val; omega

theorem lanes_eq : G17 m c = InRef.lanes (gates m c) := by
  funext i
  obtain ⟨p, j, r, q, rfl⟩ := cover i
  unfold G17
  rw [dif_pos (show Value.pt17Of _ < cfg0.N by rw [pt17_at]; exact (point p j).isLt),
    fold_at m c p j _ (pt17_at p j r _), loc17_at, lanes_held]

theorem pt18_at (g : Fin 8) (r : Fin 256) : Value.pt18Of (ix2 g (flat p (rowOf j r))) = 8 * p.val + j.val := by
  have hp := p.isLt
  have hj := j.isLt
  have hr := r.isLt
  have hg := g.isLt
  show 64 * (g.val / 8 - 0) + 1 * ((2048 * p.val + (256 * j.val + r.val)) / 256 - 0) = _
  omega

theorem loc18_at (g : Fin 8) (r : Fin 256) : Value.loc18Of (ix2 g (flat p (rowOf j r))) = ix2 g r := by
  funext a
  refine Fin.ext ?_
  match a with
  | ⟨0, _⟩ => show g.val % 8 = g.val; omega
  | ⟨1, _⟩ => show (2048 * p.val + (256 * j.val + r.val)) % 256 = r.val; omega

theorem turned_eq : G18 m c = InRef.turned (gates m c) := by
  funext i
  obtain ⟨p, j, r, e⟩ := row_cover (i 1)
  obtain ⟨g, rfl⟩ : ∃ g : Fin 8, i = ix2 g (flat p (rowOf j r)) := ⟨i 0, funext fun a => match a with
    | ⟨0, _⟩ => rfl
    | ⟨1, _⟩ => e⟩
  unfold G18
  rw [dif_pos (show Value.pt18Of _ < cfg0.N by rw [pt18_at]; exact (point p j).isLt),
    fold_at m c p j _ (pt18_at p j g r), loc18_at, turned_held]

theorem pt19_at (r : Fin 8) (q : Fin 2048) : Value.pt19Of (ix3 p r q) = 8 * p.val + (7 : Fin 8).val := by
  have hp := p.isLt
  have hr := r.isLt
  have hq := q.isLt
  show 8 * (1 * (p.val / 1 - 0) + 1 * (r.val / 8 - 0) + 1 * (q.val / 2048 - 0)) + 7 = 8 * p.val + 7
  omega

theorem loc19_at (r : Fin 8) (q : Fin 2048) : Value.loc19Of (ix3 p r q) = ix3 0 r q := by
  have hp := p.isLt
  have hr := r.isLt
  have hq := q.isLt
  funext a
  refine Fin.ext ?_
  match a with
  | ⟨0, _⟩ => show p.val % 1 = 0; omega
  | ⟨1, _⟩ => show r.val % 8 = r.val; omega
  | ⟨2, _⟩ => show q.val % 2048 = q.val; omega

theorem tails_eq : G19 m c = InRef.tails (cols m c) := by
  funext i
  obtain ⟨p, r, q, rfl⟩ : ∃ (p r : Fin 8) (q : Fin 2048), i = ix3 p r q :=
    ⟨i 0, i 1, i 2, funext fun a => match a with | ⟨0, _⟩ => rfl | ⟨1, _⟩ => rfl | ⟨2, _⟩ => rfl⟩
  unfold G19
  rw [dif_pos (show Value.pt19Of _ < cfg0.N by rw [pt19_at]; exact (point p 7).isLt),
    fold_at m c p 7 _ (pt19_at p r q), loc19_at, tails_held]

end Cert.Proof.InResult

end
-- ==== Proof.MixStep.lean ====
/-
  The projection back to the rows for the samples, of mixer outputs of 1024 entries: one point, which writes the whole result
  array.
-/
module

public import proofs.«01_k».proof.Proof.Gen.Kernel11Ideal.Value
public import proofs.«01_k».proof.Proof.Gen.Reference11Ideal.Run
public import proofs.«01_k».proof.Proof.FfnInputs
public import proofs.«01_k».proof.Proof.Tile

@[expose] public section

set_option maxRecDepth 16384

noncomputable section

namespace Cert.Proof.MixStep

open Cert.Kernel11Ideal Cert.Kernel11Ideal.Gen
open Idealize.ShloMosaic Idealize.ShloMosaic.TcCoe Idealize.SL.Sem
open Cert.Proof.FfnInputs (origin)

/-- The reference's result. -/
def want (x0 : FVec Ideal Reference11Ideal.S128x1024 .f32) (x1 : FVec Ideal Reference11Ideal.S128x1024 .f32)
    (x2 : FVec Ideal Reference11Ideal.S1024x1024 .f32) : FVec Ideal Reference11Ideal.S128x1024 .f32 :=
  addf x0 (Host.dotGeneral Reference11Ideal.dot_S128x1024_S1024x1024_S128x1024_1_0_0_1_n_n none x1 x2)

/-- The block the point writes is the reference's of the blocks it reads. -/
theorem out_at (x0 : Vec Ideal S128x1024 .f32) (x1 : Vec Ideal S128x1024 .f32) (x2 : Vec Ideal S1024x1024 .bf16)
    (r : Fin 128) (d : Fin 1024) : out0_3 x0 x1 x2 (ix2 r d) = want x0 x1 x2 (ix2 r d) := by
  trans x0 (ix2 r d) + ∑ q, x1 (ix2 r q) * x2 (ix2 q d)
  · unfold out0_3
    rw [View.canon_unit_zero Tile.hz]
    simp only [View.ld_unit_zero (S := S128x1024) Tile.hz, View.ld_unit_zero (S := S128x1024) Tile.hz,
      View.ld_unit_zero (S := S1024x1024) Tile.hz]
    pointwise [k0_pay1]
  · unfold want
    pointwise

variable (m : (ℓ : Loc nD τ sig) → Buf (Elt Ideal) ℓ) (c : Dev nD) (t : Fin cfg0.N)

theorem still : ∀ t : Fin cfg0.N, win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0]
    ∧ win0_2.index t = ![0, 0] ∧ win0_3.index t = ![0, 0])

theorem block0 : iblk m c 0 t = m ((c.tc : Thread nD τ).loc main_arg0) :=
  funext fun i => congrArg (V m c main_arg0) (funext fun a => Fin.ext (origin (still t).1 a _ _))

theorem block1 : iblk m c 1 t = m ((c.tc : Thread nD τ).loc main_arg1) :=
  funext fun i => congrArg (V m c main_arg1) (funext fun a => Fin.ext (origin (still t).2.1 a _ _))

theorem block2 : iblk m c 2 t = m ((c.tc : Thread nD τ).loc main_arg2) :=
  funext fun i => congrArg (V m c main_v0) (funext fun a => Fin.ext (origin (still t).2.2.1 a _ _))

/-- The result array. -/
theorem rows_eq : (dats m 0 c).arrAt 3 cfg0.N = want (m ((c.tc : Thread nD τ).loc main_arg0))
    (m ((c.tc : Thread nD τ).loc main_arg1)) (m ((c.tc : Thread nD τ).loc main_arg2)) := by
  funext i
  obtain ⟨r, d, rfl⟩ : ∃ (r : Fin 128) (d : Fin 1024), i = ix2 r d :=
    ⟨i 0, i 1, funext fun a => match a with | ⟨0, _⟩ => rfl | ⟨1, _⟩ => rfl⟩
  have t : Fin cfg0.N := ⟨0, by decide⟩
  have h := congrFun (Value.blocks3 m c t (flush0_3 _)) (ix2 r d)
  rw [Value.flushed3] at h
  refine Eq.trans (congrArg ((dats m 0 c).arrAt 3 cfg0.N)
    (funext fun a => Fin.ext (origin (still t).2.2.2 a _ _).symm)) (h.trans ?_)
  refine Eq.trans (out_at _ _ _ r d) ?_
  rw [block0, block1, block2]

end Cert.Proof.MixStep

end
-- ==== Proof.MixWideStep.lean ====
/-
  The projection back to the rows for the samples, of mixer outputs of 2048 entries: one point, which writes the whole result
  array.
-/
module

public import proofs.«01_k».proof.Proof.Gen.Kernel12Ideal.Value
public import proofs.«01_k».proof.Proof.Gen.Reference12Ideal.Run
public import proofs.«01_k».proof.Proof.FfnInputs
public import proofs.«01_k».proof.Proof.Tile

@[expose] public section

set_option maxRecDepth 16384

noncomputable section

namespace Cert.Proof.MixWideStep

open Cert.Kernel12Ideal Cert.Kernel12Ideal.Gen
open Idealize.ShloMosaic Idealize.ShloMosaic.TcCoe Idealize.SL.Sem
open Cert.Proof.FfnInputs (origin)

/-- The reference's result. -/
def want (x0 : FVec Ideal Reference12Ideal.S128x1024 .f32) (x1 : FVec Ideal Reference12Ideal.S128x2048 .f32)
    (x2 : FVec Ideal Reference12Ideal.S2048x1024 .f32) : FVec Ideal Reference12Ideal.S128x1024 .f32 :=
  addf x0 (Host.dotGeneral Reference12Ideal.dot_S128x2048_S2048x1024_S128x1024_1_0_0_1_n_n none x1 x2)

/-- The block the point writes is the reference's of the blocks it reads. -/
theorem out_at (x0 : Vec Ideal S128x1024 .f32) (x1 : Vec Ideal S128x2048 .f32) (x2 : Vec Ideal S2048x1024 .bf16)
    (r : Fin 128) (d : Fin 1024) : out0_3 x0 x1 x2 (ix2 r d) = want x0 x1 x2 (ix2 r d) := by
  trans x0 (ix2 r d) + ∑ q, x1 (ix2 r q) * x2 (ix2 q d)
  · unfold out0_3
    rw [View.canon_unit_zero Tile.hz]
    simp only [View.ld_unit_zero (S := S128x1024) Tile.hz, View.ld_unit_zero (S := S128x2048) Tile.hz,
      View.ld_unit_zero (S := S2048x1024) Tile.hz]
    pointwise [k0_pay1]
  · unfold want
    pointwise

variable (m : (ℓ : Loc nD τ sig) → Buf (Elt Ideal) ℓ) (c : Dev nD) (t : Fin cfg0.N)

theorem still : ∀ t : Fin cfg0.N, win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0]
    ∧ win0_2.index t = ![0, 0] ∧ win0_3.index t = ![0, 0])

theorem block0 : iblk m c 0 t = m ((c.tc : Thread nD τ).loc main_arg0) :=
  funext fun i => congrArg (V m c main_arg0) (funext fun a => Fin.ext (origin (still t).1 a _ _))

theorem block1 : iblk m c 1 t = m ((c.tc : Thread nD τ).loc main_arg1) :=
  funext fun i => congrArg (V m c main_arg1) (funext fun a => Fin.ext (origin (still t).2.1 a _ _))

theorem block2 : iblk m c 2 t = m ((c.tc : Thread nD τ).loc main_arg2) :=
  funext fun i => congrArg (V m c main_v0) (funext fun a => Fin.ext (origin (still t).2.2.1 a _ _))

/-- The result array. -/
theorem rows_eq : (dats m 0 c).arrAt 3 cfg0.N = want (m ((c.tc : Thread nD τ).loc main_arg0))
    (m ((c.tc : Thread nD τ).loc main_arg1)) (m ((c.tc : Thread nD τ).loc main_arg2)) := by
  funext i
  obtain ⟨r, d, rfl⟩ : ∃ (r : Fin 128) (d : Fin 1024), i = ix2 r d :=
    ⟨i 0, i 1, funext fun a => match a with | ⟨0, _⟩ => rfl | ⟨1, _⟩ => rfl⟩
  have t : Fin cfg0.N := ⟨0, by decide⟩
  have h := congrFun (Value.blocks3 m c t (flush0_3 _)) (ix2 r d)
  rw [Value.flushed3] at h
  refine Eq.trans (congrArg ((dats m 0 c).arrAt 3 cfg0.N)
    (funext fun a => Fin.ext (origin (still t).2.2.2 a _ _).symm)) (h.trans ?_)
  refine Eq.trans (out_at _ _ _ r d) ?_
  rw [block0, block1, block2]

end Cert.Proof.MixWideStep

end
-- ==== Proof.FfnStepBody.lean ====
/-
  What the feed-forward step's one point computes of the arrays that it loads, and its values at an index.
-/
module

public import proofs.«01_k».proof.Proof.Gen.Kernel13Ideal.Frame
public import proofs.«01_k».proof.Proof.FfnAt
public import proofs.«01_k».proof.Proof.Tile
public import Idealize.ShloMosaic.Lib.Pipeline.ValueKit.Tiles

@[expose] public section

set_option maxRecDepth 16384

noncomputable section

namespace Cert.Proof.FfnStepBody

open Cert.Kernel13Ideal Cert.Kernel13Ideal.Gen Cert.Proof.FfnRow
open Idealize.ShloMosaic Idealize.ShloMosaic.TcCoe Idealize.SL.Sem
open Cert.Proof.FfnBody (first col upW taps bias downW)
open Cert.Proof.FfnAt (upW_at taps_at bias_at downW_at col_half)

/-- A turn's columns of one of the buffer's two rows lie within the array. -/
theorem fits_old (s u : Fin 2) (k : Fin 11) : ∀ a, (![0, 5632 * s.val + first u k] : Fin 2 → Nat) a + (![128, 256] : Fin 2 → Nat) a
    ≤ (![128, 11264] : Fin 2 → Nat) a := by
  intro a
  have hs := s.isLt
  have hu := u.isLt
  have hk := k.isLt
  fin_cases a <;> dsimp [first] <;> omega

section Body

variable {F : FTy → Type} [FloatOps F]
variable (x0 : Vec F S128x1024 .f32) (x1 : Vec F S128x256 .f32) (x2 : Vec F S128x11264 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)
  (u : Fin 2) (k : Fin 11)

/-- Where a turn's columns of the buffer's row `s` lie. -/
def place (s : Fin 2) : Rect S128x11264 := Rect.unit ![0, 5632 * s.val + first u k] S128x256.size (fits_old s u k)

/-- The buffer's row `s`, the columns of a turn. -/
def old (s : Fin 2) : Vec F S128x256 .f32 := View.ld x2 (place u k s)

/-- The projected row. -/
def proj : FVec F S128x256 .f32 := k0_pay10 (k0_pay3 x0 x3) (upW x4 u k)

/-- Its convolution with the buffer's two. -/
def conv : FVec F S128x256 .f32 :=
  k0_pay12 (k0_pay3 x0 x3) (upW x4 u k) (taps x5 u k) (old x2 u k 0) (old x2 u k 1) (bias x6 u k)

/-- One plus the exponential of the negated columns. -/
def below (y : FVec F S128x256 .f32) : FVec F S128x256 .f32 :=
  addf (broadcast S128x256 (Scalar.ofBits .f32 0x3F800000#32)) (exp (subf (broadcast S128x256 (Scalar.ofBits .f32 0x00000000#32)) y))

/-- One turn. -/
def turn (acc : FVec F S128x1024 .f32) : FVec F S128x1024 .f32 :=
  k0_pay14 acc (conv x0 x2 x3 x4 x5 x6 0 k) (conv x0 x2 x3 x4 x5 x6 1 k) (below (conv x0 x2 x3 x4 x5 x6 0 k))
    (Scalar.ofBits .f32 0x3F800000#32) (downW x7 k)

/-- The sum after the first ten turns. -/
def ten : FVec F S128x1024 .f32 :=
  turn x0 x2 x3 x4 x5 x6 x7 9 (turn x0 x2 x3 x4 x5 x6 x7 8 (turn x0 x2 x3 x4 x5 x6 x7 7 (turn x0 x2 x3 x4 x5 x6 x7 6
    (turn x0 x2 x3 x4 x5 x6 x7 5 (turn x0 x2 x3 x4 x5 x6 x7 4 (turn x0 x2 x3 x4 x5 x6 x7 3 (turn x0 x2 x3 x4 x5 x6 x7 2
      (turn x0 x2 x3 x4 x5 x6 x7 1 (turn x0 x2 x3 x4 x5 x6 x7 0 k0_pay4)))))))))

/-- The rows with the feed-forward part added. -/
def mid : FVec F S128x1024 .f32 := addf (k0_pay2 x0) (turn x0 x2 x3 x4 x5 x6 x7 10 (ten x0 x2 x3 x4 x5 x6 x7))

/-- A row's entries scaled to unit root mean square. -/
def scaled (y : FVec F S128x1024 .f32) : FVec F S128x1024 .f32 :=
  mulf y (broadcastTo S128x1024 (rsqrt (addf (divf (shapeCast S128x1 (multiReduction .add [1] S128 (mulf y y) 0x00000000#32
    reduces_S128x1024_S128 (.inl rfl) rfl) shapeCasts_S128_S128x1) (broadcast S128x1 (Scalar.ofBits .f32 0x44800000#32)))
    (broadcast S128x1 (Scalar.ofBits .f32 0x358637BD#32)))) broadcasts_S128x1_S128x1024)

/-- The gate's projection. -/
def gate (y : FVec F S128x1024 .f32) : FVec F S128x1024 .f32 :=
  matmul dot_S128x1024_S1024x1024_S128x1024_1_0_0_1_n_n none (truncf .bf16 (mulf (scaled y) (k0_pay91 x8)) bitsLt_bf16_f32)
    (shapeCast S1024x1024 x9 shapeCasts_S1024x1024_S1024x1024) (constant S128x1024 .f32 0x00000000#32)

/-- The rows with the gated projection added. -/
def added (y : FVec F S128x1024 .f32) : FVec F S128x1024 .f32 :=
  addf y (mulf (divf (broadcast S128x1024 (Scalar.ofBits .f32 0x3F800000#32)) (addf (broadcast S128x1024 (Scalar.ofBits .f32 0x3F800000#32))
    (exp (subf (broadcast S128x1024 (Scalar.ofBits .f32 0x00000000#32)) (gate x8 x9 y)))))
    (matmul dot_S128x256_S256x1024_S128x1024_1_0_0_1_n_n none (truncf .bf16 (shapeCast S128x256 x1 shapeCasts_S128x256_S128x256) bitsLt_bf16_f32)
      (shapeCast S256x1024 x10 shapeCasts_S256x1024_S256x1024) (constant S128x1024 .f32 0x00000000#32)))

/-- The rows without the last norm, -/
def plain : FVec F S128x1024 .f32 := added x1 x8 x9 x10 (mid x0 x2 x3 x4 x5 x6 x7)

/-- and with it. -/
def rows : FVec F S128x1024 .f32 := k0_pay1 (scaled (plain x0 x1 x2 x3 x4 x5 x6 x7 x8 x9 x10)) (k0_pay91 x11)

/-- The pieces of the new buffer that a turn writes: in each half, the row before and the new row. -/
def four (L : List (View.Piece (Elt F) S128x11264 .f32)) : List (View.Piece (Elt F) S128x11264 .f32) :=
  ⟨place 1 k 1, proj x0 x3 x4 1 k⟩ :: ⟨place 1 k 0, shapeCast S128x256 (old x2 1 k 1) shapeCasts_S128x256_S128x256⟩
    :: ⟨place 0 k 1, proj x0 x3 x4 0 k⟩ :: ⟨place 0 k 0, shapeCast S128x256 (old x2 0 k 1) shapeCasts_S128x256_S128x256⟩ :: L

/-- All of them, the last written first. -/
def pieces : List (View.Piece (Elt F) S128x11264 .f32) :=
  four x0 x2 x3 x4 10 (four x0 x2 x3 x4 9 (four x0 x2 x3 x4 8 (four x0 x2 x3 x4 7 (four x0 x2 x3 x4 6 (four x0 x2 x3 x4 5
    (four x0 x2 x3 x4 4 (four x0 x2 x3 x4 3 (four x0 x2 x3 x4 2 (four x0 x2 x3 x4 1 (four x0 x2 x3 x4 0 []))))))))))

end Body

/-! ## At an index -/

variable (x0 : Vec Ideal S128x1024 .f32) (x1 : Vec Ideal S128x256 .f32) (x2 : Vec Ideal S128x11264 .f32) (x3 : Vec Ideal S1x1024 .f32)
  (x4 : Vec Ideal S1024x5632 .bf16) (x5 : Vec Ideal S3x5632 .f32) (x6 : Vec Ideal S1x5632 .f32) (x7 : Vec Ideal S2816x1024 .bf16)
  (x8 : Vec Ideal S1x1024 .f32) (x9 : Vec Ideal S1024x1024 .bf16) (x10 : Vec Ideal S256x1024 .bf16) (x11 : Vec Ideal S1x1024 .f32)
  (u : Fin 2) (k : Fin 11) (r : Fin 128)

/-- Column `q` of the buffer's row `s`. -/
def at2 (s : Fin 2) (q : Fin 5632) : Fin 11264 := ⟨5632 * s.val + q.val, by omega⟩

theorem old_at (s : Fin 2) (j : Fin 256) : old x2 u k s (ix2 r j) = x2 (ix2 r (at2 s (col u k j))) :=
  congrArg x2 (funext fun a => Fin.ext (match a with
    | ⟨0, _⟩ => (by show 0 + 1 * r.val = r.val; omega)
    | ⟨1, _⟩ => (by show 5632 * s.val + first u k + 1 * j.val = 5632 * s.val + (first u k + j.val); omega)))

/-- Column `q` of row `r`, projected. -/
def upAt (q : Fin 5632) : EReal := up (fun d => x0 (ix2 r d)) (fun d => x3 (ix2 0 d)) (fun d => x4 (ix2 d q))

/-- The same, convolved with the buffer's rows. -/
def hid (q : Fin 5632) : EReal :=
  mix (x6 (ix2 0 q)) (x5 (ix2 0 q)) (x5 (ix2 1 q)) (x5 (ix2 2 q)) (x2 (ix2 r (at2 0 q))) (x2 (ix2 r (at2 1 q))) (upAt x0 x3 x4 r q)

theorem proj_at (j : Fin 256) : proj x0 x3 x4 u k (ix2 r j) = upAt x0 x3 x4 r (col u k j) := by
  unfold proj
  pointwise [k0_pay10, k0_pay3, k0_pay2]
  unfold upAt up rms
  simp only [upW_at]

theorem conv_at (j : Fin 256) : conv x0 x2 x3 x4 x5 x6 u k (ix2 r j) = hid x0 x2 x3 x4 x5 x6 r (col u k j) := by
  refine Eq.trans (b := bias x6 u k (ix2 0 j) + taps x5 u k (ix2 0 j) * old x2 u k 0 (ix2 r j)
    + taps x5 u k (ix2 1 j) * old x2 u k 1 (ix2 r j) + taps x5 u k (ix2 2 j) * proj x0 x3 x4 u k (ix2 r j)) ?_ ?_
  · unfold conv proj
    generalize k0_pay3 x0 x3 = y
    pointwise [k0_pay12, k0_pay11, k0_pay10]
  · rw [bias_at, taps_at, taps_at, taps_at, old_at, old_at, proj_at]
    rfl

/-- One entry's part of the down projection. -/
def term (d : Fin 1024) (j : Fin 2816) : EReal :=
  gated (hid x0 x2 x3 x4 x5 x6 r (half 0 j)) (hid x0 x2 x3 x4 x5 x6 r (half 1 j)) * x7 (ix2 j d)

theorem turn_at (acc : FVec Ideal S128x1024 .f32) (d : Fin 1024) :
    turn x0 x2 x3 x4 x5 x6 x7 k acc (ix2 r d) = acc (ix2 r d) + ∑ x, term x0 x2 x3 x4 x5 x6 x7 r d (run k x) := by
  unfold turn
  pointwise [k0_pay14, below]
  unfold term gated
  simp only [conv_at, downW_at, zero_sub, col_half]

theorem mid_at (d : Fin 1024) : mid x0 x2 x3 x4 x5 x6 x7 (ix2 r d)
    = ffn (fun d => x0 (ix2 r d)) (hid x0 x2 x3 x4 x5 x6 r) (fun j d => x7 (ix2 j d)) d := by
  have e : mid x0 x2 x3 x4 x5 x6 x7 (ix2 r d)
      = x0 (ix2 r d) + turn x0 x2 x3 x4 x5 x6 x7 10 (ten x0 x2 x3 x4 x5 x6 x7) (ix2 r d) := by
    unfold mid
    generalize turn x0 x2 x3 x4 x5 x6 x7 10 (ten x0 x2 x3 x4 x5 x6 x7) = y
    pointwise [k0_pay2]
  rw [e]
  unfold ten
  simp only [turn_at]
  unfold ffn
  refine congrArg (x0 (ix2 r d) + ·) ?_
  have z : k0_pay4 (F := Ideal) (ix2 r d) = 0 := by pointwise [k0_pay4]
  rw [z]
  exact sum_runs (term x0 x2 x3 x4 x5 x6 x7 r d) (fun k => ∑ x, term x0 x2 x3 x4 x5 x6 x7 r d (run k x)) (fun k => rfl)

theorem added_at (y : FVec Ideal S128x1024 .f32) (d : Fin 1024) : added x1 x8 x9 x10 y (ix2 r d)
    = ple (fun d => y (ix2 r d)) (fun d => x1 (ix2 r d)) (fun d => x8 (ix2 0 d)) (fun e d => x9 (ix2 e d)) (fun e d => x10 (ix2 e d)) d := by
  pointwise [added, gate, scaled, k0_pay91]
  rw [zero_sub]
  rfl

/-- One entry of the rows without the last norm, -/
theorem plain_at (d : Fin 1024) : plain x0 x1 x2 x3 x4 x5 x6 x7 x8 x9 x10 (ix2 r d)
    = ple (ffn (fun d => x0 (ix2 r d)) (hid x0 x2 x3 x4 x5 x6 r) (fun j d => x7 (ix2 j d))) (fun d => x1 (ix2 r d))
        (fun d => x8 (ix2 0 d)) (fun e d => x9 (ix2 e d)) (fun e d => x10 (ix2 e d)) d := by
  unfold plain
  rw [added_at]
  simp only [mid_at]

/-- and with it. -/
theorem rows_at (d : Fin 1024) : rows x0 x1 x2 x3 x4 x5 x6 x7 x8 x9 x10 x11 (ix2 r d)
    = rms (ple (ffn (fun d => x0 (ix2 r d)) (hid x0 x2 x3 x4 x5 x6 r) (fun j d => x7 (ix2 j d))) (fun d => x1 (ix2 r d))
        (fun d => x8 (ix2 0 d)) (fun e d => x9 (ix2 e d)) (fun e d => x10 (ix2 e d))) (fun d => x11 (ix2 0 d)) d := by
  have h := plain_at x0 x1 x2 x3 x4 x5 x6 x7 x8 x9 x10 r
  unfold rows
  generalize plain x0 x1 x2 x3 x4 x5 x6 x7 x8 x9 x10 = y at h ⊢
  pointwise [k0_pay1, scaled, k0_pay91]
  simp only [h]
  rfl

/-! ## The new buffer -/

/-- Entry `q` of a row of the new buffer: the second of the buffer's rows, then the projected row. -/
def kept (q : Fin 11264) : EReal :=
  if h : q.val < 5632 then x2 (ix2 r (at2 1 ⟨q.val, h⟩)) else upAt x0 x3 x4 r ⟨q.val - 5632, by omega⟩

/-- A column of the new buffer in a turn's part of it. -/
theorem place_at (s : Fin 2) (y : S128x11264.Idx) (x : (place u k s).shape.Idx) (hx : (place u k s).emb x = y) :
    ∃ (r : Fin 128) (j : Fin 256), x = ix2 r j ∧ y = ix2 r (at2 s (col u k j)) := by
  refine ⟨x 0, x 1, funext fun a => match a with
    | ⟨0, _⟩ => rfl
    | ⟨1, _⟩ => rfl, ?_⟩
  rw [← hx]
  exact funext fun a => Fin.ext (match a with
    | ⟨0, _⟩ => (by show 0 + 1 * (x 0).val = (x 0).val; omega)
    | ⟨1, _⟩ => (by show 5632 * s.val + first u k + 1 * (x 1).val = 5632 * s.val + (first u k + (x 1).val); omega))

theorem new_at (y : S128x11264.Idx) : View.RectAt (Val := Elt Ideal) (e := .f32) y (place u k 1) (proj x0 x3 x4 u k) (kept x0 x2 x3 x4 (y 0) (y 1)) := by
  intro x hx
  obtain ⟨r, j, rfl, rfl⟩ := place_at u k 1 y x hx
  rw [proj_at]
  refine Eq.trans ?_ (dif_neg (c := (at2 1 (col u k j)).val < 5632) (by show ¬ 5632 * 1 + (col u k j).val < 5632; omega)).symm
  exact congrArg (upAt x0 x3 x4 r) (Fin.ext (by show (col u k j).val = 5632 * 1 + (col u k j).val - 5632; omega))

theorem before_at (y : S128x11264.Idx) : View.RectAt (Val := Elt Ideal) (e := .f32) y (place u k 0)
    (shapeCast S128x256 (old x2 u k 1) shapeCasts_S128x256_S128x256) (kept x0 x2 x3 x4 (y 0) (y 1)) := by
  intro x hx
  obtain ⟨r, j, rfl, rfl⟩ := place_at u k 0 y x hx
  have e : shapeCast S128x256 (old x2 u k 1) shapeCasts_S128x256_S128x256 (ix2 r j) = old x2 u k 1 (ix2 r j) := by
    generalize old x2 u k 1 = z
    pointwise
  refine e.trans ?_
  rw [old_at]
  refine Eq.trans ?_ (dif_pos (c := (at2 0 (col u k j)).val < 5632) (by show 5632 * 0 + (col u k j).val < 5632; omega)).symm
  exact congrArg (fun q => x2 (ix2 r (at2 1 q))) (Fin.ext (by show (col u k j).val = 5632 * 0 + (col u k j).val; omega))

theorem four_at (y : S128x11264.Idx) (L : List (View.Piece (Elt Ideal) S128x11264 .f32))
    (h : View.AllAt L y (kept x0 x2 x3 x4 (y 0) (y 1))) : View.AllAt (four x0 x2 x3 x4 k L) y (kept x0 x2 x3 x4 (y 0) (y 1)) :=
  View.allAt_cons _ _ _ (new_at x0 x2 x3 x4 1 k y) (View.allAt_cons _ _ _ (before_at x0 x2 x3 x4 1 k y)
    (View.allAt_cons _ _ _ (new_at x0 x2 x3 x4 0 k y) (View.allAt_cons _ _ _ (before_at x0 x2 x3 x4 0 k y) h)))

/-- One entry of the new buffer. -/
theorem pieces_at (q : Fin 11264) : View.canon (pieces x0 x2 x3 x4) (ix2 r q) = kept x0 x2 x3 x4 r q := by
  refine View.canon_eq_of_allAt _ _ _ (View.cover_of_tiled (s := S128x11264) (pieces x0 x2 x3 x4) (![128, 256] : Fin 2 → Nat) rfl _) ?_
  unfold pieces
  iterate 11 refine four_at x0 x2 x3 x4 _ (ix2 r q) _ ?_
  exact View.allAt_nil _ _

end Cert.Proof.FfnStepBody

end
-- ==== Proof.FfnStepOut.lean ====
/-
  The feed-forward step's results, of its one point's values.
-/
module

public import proofs.«01_k».proof.Proof.FfnStepBody

@[expose] public section

set_option maxRecDepth 16384

noncomputable section

namespace Cert.Proof.FfnStepOut

open Cert.Kernel13Ideal Cert.Kernel13Ideal.Gen Cert.Proof.FfnStepBody
open Idealize.ShloMosaic Idealize.ShloMosaic.TcCoe Idealize.SL.Sem
open Cert.Proof.FfnBody (first col upW taps bias downW)

variable {F : FTy → Type} [FloatOps F]
variable (x0 : Vec F S128x1024 .f32) (x1 : Vec F S128x256 .f32) (x2 : Vec F S128x11264 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)

set_option maxHeartbeats 1000000 in
theorem pieces_out : out0_13 x0 x1 x2 x3 x4 x5 x6 x7 x8 x9 x10 x11 = View.canon (pieces x0 x2 x3 x4) := by
  unfold_out out0_13
  simp only [View.ld_unit_zero (S := S128x1024) Tile.hz, View.ld_unit_zero (S := S1x1024) Tile.hz]
  dsimp only [pieces, four, proj, old, place, upW]
  unfold_payloads
  rfl

set_option maxHeartbeats 1000000 in
theorem rows_out : out0_12 x0 x1 x2 x3 x4 x5 x6 x7 x8 x9 x10 x11 = rows x0 x1 x2 x3 x4 x5 x6 x7 x8 x9 x10 x11 := by
  unfold_out out0_12
  rw [View.canon_unit_zero Tile.hz]
  simp only [View.ld_unit_zero (S := S128x1024) Tile.hz, View.ld_unit_zero (S := S1x1024) Tile.hz,
    View.ld_unit_zero (S := S128x256) Tile.hz, View.ld_unit_zero (S := S1024x1024) Tile.hz, View.ld_unit_zero (S := S256x1024) Tile.hz]
  dsimp only [rows, plain, added, gate, scaled, mid, ten, turn, below, conv, proj, old, place, upW, taps, bias, downW]
  unfold_payloads
  rfl

end Cert.Proof.FfnStepOut

end
-- ==== Proof.FfnStepRef.lean ====
/-
  The feed-forward reference for one token a row: its stages as functions of the arguments, and their values at an index.
-/
module

public import proofs.«01_k».proof.Proof.Gen.Reference13Ideal.Run
public import proofs.«01_k».proof.Proof.FfnRow

@[expose] public section

set_option maxRecDepth 16384

noncomputable section

namespace Cert.Proof.FfnStepRef

open Cert.Reference13Ideal Cert.Reference13Ideal.Gen Cert.Proof.FfnRow
open Idealize.ShloMosaic Idealize.ShloMosaic.TcCoe Idealize.SL.Sem

/-! ## The stages -/

section Stages

variable {F : FTy → Type} [FloatOps F]
variable (a0 : FVec F S128x1x1024 .f32) (a1 : FVec F S128x1x256 .f32) (a2 : FVec F S128x2x5632 .f32) (a3 : FVec F S1024 .f32)
  (a4 : FVec F S1024x5632 .f32) (a5 : FVec F S3x5632 .f32) (a6 : FVec F S5632 .f32) (a7 : FVec F S2816x1024 .f32)
  (a8 : FVec F S1024 .f32) (a9 : FVec F S1024x1024 .f32) (a10 : FVec F S256x1024 .f32) (a11 : FVec F S1024 .f32)

/-- The buffer's two rows and the projected row, -/
def xpad : FVec F S128x3x5632 .f32 :=
  concatenate S128x3x5632 1 [⟨S128x2x5632, a2⟩, ⟨S128x1x5632, (Host.dotGeneral dot_S128x1x1024_S1024x5632_S128x1x5632_2_0_01_1_n_n none (mulf (mulf a0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf a0 a0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 a3))) a4)⟩] concatenates_S128x2x5632_S128x1x5632_S128x3x5632_d1

/-- their convolution, -/
def conv : FVec F S128x1x5632 .f32 :=
  addf (addf (addf (broadcastInDim S128x1x5632 ![0, 1, 2] bcast_S1x1x5632_S128x1x5632_0_1_2 (broadcastInDim S1x1x5632 ![2] bcast_S5632_S1x1x5632_2 a6)) (mulf (broadcastInDim S128x1x5632 ![0, 1, 2] bcast_S1x1x5632_S128x1x5632_0_1_2 (broadcastInDim S1x1x5632 ![2] bcast_S5632_S1x1x5632_2 (shapeCast _ (extractStridedSlice S1x5632 ![0, 0] a5 slices_S3x5632_S1x5632_0_0) shapeCasts_S1x5632_S5632))) (extractStridedSlice S128x1x5632 ![0, 0, 0] (xpad a0 a2 a3 a4) slices_S128x3x5632_S128x1x5632_0_0_0))) (mulf (broadcastInDim S128x1x5632 ![0, 1, 2] bcast_S1x1x5632_S128x1x5632_0_1_2 (broadcastInDim S1x1x5632 ![2] bcast_S5632_S1x1x5632_2 (shapeCast _ (extractStridedSlice S1x5632 ![1, 0] a5 slices_S3x5632_S1x5632_1_0) shapeCasts_S1x5632_S5632))) (extractStridedSlice S128x1x5632 ![0, 1, 0] (xpad a0 a2 a3 a4) slices_S128x3x5632_S128x1x5632_0_1_0))) (mulf (broadcastInDim S128x1x5632 ![0, 1, 2] bcast_S1x1x5632_S128x1x5632_0_1_2 (broadcastInDim S1x1x5632 ![2] bcast_S5632_S1x1x5632_2 (shapeCast _ (extractStridedSlice S1x5632 ![2, 0] a5 slices_S3x5632_S1x5632_2_0) shapeCasts_S1x5632_S5632))) (extractStridedSlice S128x1x5632 ![0, 2, 0] (xpad a0 a2 a3 a4) slices_S128x3x5632_S128x1x5632_0_2_0))

/-- the half of it that gates, -/
def gateHalf : FVec F S128x1x2816 .f32 :=
  extractStridedSlice S128x1x2816 ![0, 0, 0] (conv a0 a2 a3 a4 a5 a6) slices_S128x1x5632_S128x1x2816_0_0_0

/-- the rows with the feed-forward part added, -/
def mid : FVec F S128x1x1024 .f32 :=
  addf a0 (Host.dotGeneral dot_S128x1x2816_S2816x1024_S128x1x1024_2_0_01_1_n_n none (mulf (mulf (gateHalf a0 a2 a3 a4 a5 a6) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (gateHalf a0 a2 a3 a4 a5 a6)))))) (extractStridedSlice S128x1x2816 ![0, 0, 2816] (conv a0 a2 a3 a4 a5 a6) slices_S128x1x5632_S128x1x2816_0_0_2816)) a7)

/-- and those with the gated projection added. -/
def added : FVec F S128x1x1024 .f32 :=
  addf (mid a0 a2 a3 a4 a5 a6 a7) (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (Host.dotGeneral dot_S128x1x1024_S1024x1024_S128x1x1024_2_0_01_1_n_n none (mulf (mulf (mid a0 a2 a3 a4 a5 a6 a7) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (mid a0 a2 a3 a4 a5 a6 a7) (mid a0 a2 a3 a4 a5 a6 a7)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 a8))) a9))))) (Host.dotGeneral dot_S128x1x256_S256x1024_S128x1x1024_2_0_01_1_n_n none a1 a10))

/-- The rows without the last norm, flattened, -/
def plain : FVec F S128x1024 .f32 :=
  shapeCast S128x1024 (added a0 a1 a2 a3 a4 a5 a6 a7 a8 a9 a10) shapeCasts_S128x1x1024_S128x1024

/-- with it, -/
def out : FVec F S128x1024 .f32 :=
  shapeCast S128x1024 (mulf (mulf (added a0 a1 a2 a3 a4 a5 a6 a7 a8 a9 a10) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (added a0 a1 a2 a3 a4 a5 a6 a7 a8 a9 a10) (added a0 a1 a2 a3 a4 a5 a6 a7 a8 a9 a10)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 a11))) shapeCasts_S128x1x1024_S128x1024

/-- and the new buffer. -/
def kept : FVec F S128x11264 .f32 :=
  shapeCast S128x11264 (extractStridedSlice S128x2x5632 ![0, 1, 0] (xpad a0 a2 a3 a4) slices_S128x3x5632_S128x2x5632_0_1_0) shapeCasts_S128x2x5632_S128x11264

end Stages

/-! ## At an index -/

variable (a0 : FVec Ideal S128x1x1024 .f32) (a1 : FVec Ideal S128x1x256 .f32) (a2 : FVec Ideal S128x2x5632 .f32) (a3 : FVec Ideal S1024 .f32)
  (a4 : FVec Ideal S1024x5632 .f32) (a5 : FVec Ideal S3x5632 .f32) (a6 : FVec Ideal S5632 .f32) (a7 : FVec Ideal S2816x1024 .f32)
  (a8 : FVec Ideal S1024 .f32) (a9 : FVec Ideal S1024x1024 .f32) (a10 : FVec Ideal S256x1024 .f32) (a11 : FVec Ideal S1024 .f32)
  (r : Fin 128)

/-- Column `q` of row `r`, projected. -/
def upAt (q : Fin 5632) : EReal := up (fun d => a0 (ix3 r 0 d)) (fun d => a3 (ix1 d)) (fun d => a4 (ix2 d q))

theorem xpad_new (q : Fin 5632) : xpad a0 a2 a3 a4 (ix3 r 2 q) = upAt a0 a3 a4 r q := by
  pointwise [xpad]
  rfl

theorem xpad_old (s : Fin 2) (q : Fin 5632) : xpad a0 a2 a3 a4 (ix3 r ⟨s.val, by omega⟩ q) = a2 (ix3 r s q) := by
  pointwise [xpad]

/-- The same, convolved with the buffer's rows. -/
def hid (q : Fin 5632) : EReal :=
  mix (a6 (ix1 q)) (a5 (ix2 0 q)) (a5 (ix2 1 q)) (a5 (ix2 2 q)) (a2 (ix3 r 0 q)) (a2 (ix3 r 1 q)) (upAt a0 a3 a4 r q)

theorem conv_at (q : Fin 5632) : conv a0 a2 a3 a4 a5 a6 (ix3 r 0 q) = hid a0 a2 a3 a4 a5 a6 r q := by
  have h2 := xpad_new a0 a2 a3 a4 r q
  have h0 := xpad_old a0 a2 a3 a4 r 0 q
  have h1 := xpad_old a0 a2 a3 a4 r 1 q
  unfold conv
  generalize xpad a0 a2 a3 a4 = y at h0 h1 h2 ⊢
  pointwise
  unfold hid mix
  rw [← h0, ← h1, ← h2]
  rfl

theorem mid_at (d : Fin 1024) : mid a0 a2 a3 a4 a5 a6 a7 (ix3 r 0 d)
    = ffn (fun d => a0 (ix3 r 0 d)) (hid a0 a2 a3 a4 a5 a6 r) (fun j d => a7 (ix2 j d)) d := by
  have h := conv_at a0 a2 a3 a4 a5 a6 r
  unfold mid gateHalf
  generalize conv a0 a2 a3 a4 a5 a6 = y at h ⊢
  pointwise
  unfold ffn gated
  simp only [← h]
  refine congrArg₂ (fun x y : EReal => x + y) rfl (Finset.sum_congr rfl fun j _ => ?_)
  have e : half 0 j = ⟨j.val, by omega⟩ := Fin.ext (by show 2816 * 0 + j.val = j.val; omega)
  rw [e]
  rfl

theorem added_at (d : Fin 1024) : added a0 a1 a2 a3 a4 a5 a6 a7 a8 a9 a10 (ix3 r 0 d)
    = ple (ffn (fun d => a0 (ix3 r 0 d)) (hid a0 a2 a3 a4 a5 a6 r) (fun j d => a7 (ix2 j d))) (fun d => a1 (ix3 r 0 d))
        (fun d => a8 (ix1 d)) (fun e d => a9 (ix2 e d)) (fun e d => a10 (ix2 e d)) d := by
  rw [show ffn (fun d => a0 (ix3 r 0 d)) (hid a0 a2 a3 a4 a5 a6 r) (fun j d => a7 (ix2 j d))
    = fun d => mid a0 a2 a3 a4 a5 a6 a7 (ix3 r 0 d) from funext fun d => (mid_at a0 a2 a3 a4 a5 a6 a7 r d).symm]
  unfold added
  generalize mid a0 a2 a3 a4 a5 a6 a7 = y
  pointwise
  rfl

theorem plain_at (d : Fin 1024) : plain a0 a1 a2 a3 a4 a5 a6 a7 a8 a9 a10 (ix2 r d)
    = ple (ffn (fun d => a0 (ix3 r 0 d)) (hid a0 a2 a3 a4 a5 a6 r) (fun j d => a7 (ix2 j d))) (fun d => a1 (ix3 r 0 d))
        (fun d => a8 (ix1 d)) (fun e d => a9 (ix2 e d)) (fun e d => a10 (ix2 e d)) d := by
  rw [← added_at]
  unfold plain
  generalize added a0 a1 a2 a3 a4 a5 a6 a7 a8 a9 a10 = y
  pointwise

theorem out_at (d : Fin 1024) : out a0 a1 a2 a3 a4 a5 a6 a7 a8 a9 a10 a11 (ix2 r d)
    = rms (ple (ffn (fun d => a0 (ix3 r 0 d)) (hid a0 a2 a3 a4 a5 a6 r) (fun j d => a7 (ix2 j d))) (fun d => a1 (ix3 r 0 d))
        (fun d => a8 (ix1 d)) (fun e d => a9 (ix2 e d)) (fun e d => a10 (ix2 e d))) (fun d => a11 (ix1 d)) d := by
  rw [show ple (ffn (fun d => a0 (ix3 r 0 d)) (hid a0 a2 a3 a4 a5 a6 r) (fun j d => a7 (ix2 j d))) (fun d => a1 (ix3 r 0 d))
        (fun d => a8 (ix1 d)) (fun e d => a9 (ix2 e d)) (fun e d => a10 (ix2 e d))
    = fun d => added a0 a1 a2 a3 a4 a5 a6 a7 a8 a9 a10 (ix3 r 0 d) from funext fun d => (added_at a0 a1 a2 a3 a4 a5 a6 a7 a8 a9 a10 r d).symm]
  unfold out
  generalize added a0 a1 a2 a3 a4 a5 a6 a7 a8 a9 a10 = y
  pointwise
  rfl

/-- A flattened pair of rows, read at one of them. -/
theorem two_at {α : Type} (y : S128x3x5632.Idx → α) (s : Fin 2) (q : Fin 5632) (i : Fin 11264) (hi : i.val = 5632 * s.val + q.val) :
    shapeCast S128x11264 (extractStridedSlice S128x2x5632 ![0, 1, 0] y slices_S128x3x5632_S128x2x5632_0_1_0)
      shapeCasts_S128x2x5632_S128x11264 (ix2 r i) = y (ix3 r ⟨1 + s.val, by omega⟩ q) := by
  have hs := s.isLt
  have hq := q.isLt
  have e0 : i.val / 5632 = s.val := by omega
  have e1 : i.val % 5632 = q.val := by omega
  pointwise
  simp only [e0, e1]

/-- The new buffer begins with the second of the old one's rows, -/
theorem kept_old (q : Fin 5632) (i : Fin 11264) (hi : i.val = q.val) : kept a0 a2 a3 a4 (ix2 r i) = a2 (ix3 r 1 q) := by
  refine Eq.trans ?_ (xpad_old a0 a2 a3 a4 r 1 q)
  exact two_at r (xpad a0 a2 a3 a4) 0 q i (by rw [hi]; show q.val = 5632 * 0 + q.val; omega)

/-- and ends with the projected row. -/
theorem kept_new (q : Fin 5632) (i : Fin 11264) (hi : i.val = 5632 + q.val) : kept a0 a2 a3 a4 (ix2 r i) = upAt a0 a3 a4 r q := by
  refine Eq.trans ?_ (xpad_new a0 a2 a3 a4 r q)
  exact two_at r (xpad a0 a2 a3 a4) 1 q i (by rw [hi]; show 5632 + q.val = 5632 * 1 + q.val; omega)

end Cert.Proof.FfnStepRef

end
-- ==== Proof.FfnStep.lean ====
/-
  The feed-forward step's result arrays, which are the reference's.
-/
module

public import proofs.«01_k».proof.Proof.Gen.Kernel13Ideal.Value
public import proofs.«01_k».proof.Proof.FfnInputs
public import proofs.«01_k».proof.Proof.FfnStepOut
public import proofs.«01_k».proof.Proof.FfnStepRef

@[expose] public section

set_option maxRecDepth 16384

noncomputable section

namespace Cert.Proof.FfnStep

open Cert.Kernel13Ideal Cert.Kernel13Ideal.Gen Cert.Proof.FfnRow
open Idealize.ShloMosaic Idealize.ShloMosaic.TcCoe Idealize.SL.Sem
open Cert.Proof.FfnInputs (origin gain biasRow)
open Cert.Proof.FfnStepBody (at2 kept)

/-! ## The reshaped arrays at an index -/

section Reshaped

variable {α : Type}

theorem flatRow (x : S128x1x1024.Idx → α) (r : Fin 128) (d : Fin 1024) :
    shapeCast S128x1024 x shapeCasts_S128x1x1024_S128x1024 (ix2 r d) = x (ix3 r 0 d) := by
  pointwise

theorem flatSide (x : S128x1x256.Idx → α) (r : Fin 128) (d : Fin 256) :
    shapeCast S128x256 x shapeCasts_S128x1x256_S128x256 (ix2 r d) = x (ix3 r 0 d) := by
  pointwise

theorem flatOld (x : S128x2x5632.Idx → α) (r : Fin 128) (s : Fin 2) (q : Fin 5632) :
    shapeCast S128x11264 x shapeCasts_S128x2x5632_S128x11264 (ix2 r (at2 s q)) = x (ix3 r s q) := by
  have hs := s.isLt
  have hq := q.isLt
  have e0 : (5632 * s.val + q.val) / 5632 = s.val := by omega
  have e1 : (5632 * s.val + q.val) % 5632 = q.val := by omega
  pointwise
  simp only [at2, e0, e1]

end Reshaped

variable (m : (ℓ : Loc nD τ sig) → Buf (Elt Ideal) ℓ) (c : Dev nD) (t : Fin cfg0.N)

/-! ## What the point reads -/

theorem V_rows : V m c main_v0
    = shapeCast S128x1024 (m ((c.tc : Thread nD τ).loc main_arg0)) shapeCasts_S128x1x1024_S128x1024 := rfl
theorem V_side : V m c main_v1
    = shapeCast S128x256 (m ((c.tc : Thread nD τ).loc main_arg1)) shapeCasts_S128x1x256_S128x256 := rfl
theorem V_old : V m c main_v2
    = shapeCast S128x11264 (m ((c.tc : Thread nD τ).loc main_arg2)) shapeCasts_S128x2x5632_S128x11264 := rfl
theorem V_gain : V m c main_v7 = shapeCast S1x1024 (m ((c.tc : Thread nD τ).loc main_arg3)) shapeCasts_S1024_S1x1024 := rfl
theorem V_bias : V m c main_v8 = shapeCast S1x5632 (m ((c.tc : Thread nD τ).loc main_arg6)) shapeCasts_S5632_S1x5632 := rfl
theorem V_sideGain : V m c main_v9 = shapeCast S1x1024 (m ((c.tc : Thread nD τ).loc main_arg8)) shapeCasts_S1024_S1x1024 := rfl
theorem V_lastGain : V m c main_v10 = shapeCast S1x1024 (m ((c.tc : Thread nD τ).loc main_arg11)) shapeCasts_S1024_S1x1024 := rfl

theorem still : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0])

theorem block0 (r : Fin 128) (d : Fin 1024) : iblk m c 0 t (ix2 r d) = m ((c.tc : Thread nD τ).loc main_arg0) (ix3 r 0 d) := by
  refine Eq.trans (b := V m c main_v0 (ix2 r d)) ?_ ?_
  · exact congrArg (V m c main_v0) (funext fun a => Fin.ext (origin (still t).1 a _ _))
  · rw [V_rows]
    exact flatRow _ r d

theorem block1 (r : Fin 128) (d : Fin 256) : iblk m c 1 t (ix2 r d) = m ((c.tc : Thread nD τ).loc main_arg1) (ix3 r 0 d) := by
  refine Eq.trans (b := V m c main_v1 (ix2 r d)) ?_ ?_
  · exact congrArg (V m c main_v1) (funext fun a => Fin.ext (origin (still t).2.1 a _ _))
  · rw [V_side]
    exact flatSide _ r d

theorem block2 (r : Fin 128) (s : Fin 2) (q : Fin 5632) :
    iblk m c 2 t (ix2 r (at2 s q)) = m ((c.tc : Thread nD τ).loc main_arg2) (ix3 r s q) := by
  refine Eq.trans (b := V m c main_v2 (ix2 r (at2 s q))) ?_ ?_
  · exact congrArg (V m c main_v2) (funext fun a => Fin.ext (origin (still t).2.2.1 a _ _))
  · rw [V_old]
    exact flatOld _ r s q

theorem block3 (d : Fin 1024) : iblk m c 3 t (ix2 0 d) = m ((c.tc : Thread nD τ).loc main_arg3) (ix1 d) := by
  refine Eq.trans (b := V m c main_v7 (ix2 0 d)) ?_ ?_
  · exact congrArg (V m c main_v7) (funext fun a => Fin.ext (origin (still t).2.2.2.1 a _ _))
  · rw [V_gain]
    exact gain _ d

theorem block4 (e : Fin 1024) (d : Fin 5632) : iblk m c 4 t (ix2 e d) = m ((c.tc : Thread nD τ).loc main_arg4) (ix2 e d) :=
  congrArg (V m c main_v3) (funext fun a => Fin.ext (origin (still t).2.2.2.2.1 a _ _))

theorem block5 (e : Fin 3) (d : Fin 5632) : iblk m c 5 t (ix2 e d) = m ((c.tc : Thread nD τ).loc main_arg5) (ix2 e d) :=
  congrArg (V m c main_arg5) (funext fun a => Fin.ext (origin (still t).2.2.2.2.2.1 a _ _))

theorem block6 (d : Fin 5632) : iblk m c 6 t (ix2 0 d) = m ((c.tc : Thread nD τ).loc main_arg6) (ix1 d) := by
  refine Eq.trans (b := V m c main_v8 (ix2 0 d)) ?_ ?_
  · exact congrArg (V m c main_v8) (funext fun a => Fin.ext (origin (still t).2.2.2.2.2.2.1 a _ _))
  · rw [V_bias]
    exact biasRow _ d

theorem block7 (e : Fin 2816) (d : Fin 1024) : iblk m c 7 t (ix2 e d) = m ((c.tc : Thread nD τ).loc main_arg7) (ix2 e d) :=
  congrArg (V m c main_v4) (funext fun a => Fin.ext (origin (still t).2.2.2.2.2.2.2.1 a _ _))

theorem block8 (d : Fin 1024) : iblk m c 8 t (ix2 0 d) = m ((c.tc : Thread nD τ).loc main_arg8) (ix1 d) := by
  refine Eq.trans (b := V m c main_v9 (ix2 0 d)) ?_ ?_
  · exact congrArg (V m c main_v9) (funext fun a => Fin.ext (origin (still t).2.2.2.2.2.2.2.2.1 a _ _))
  · rw [V_sideGain]
    exact gain _ d

theorem block9 (e : Fin 1024) (d : Fin 1024) : iblk m c 9 t (ix2 e d) = m ((c.tc : Thread nD τ).loc main_arg9) (ix2 e d) :=
  congrArg (V m c main_v5) (funext fun a => Fin.ext (origin (still t).2.2.2.2.2.2.2.2.2.1 a _ _))

theorem block10 (e : Fin 256) (d : Fin 1024) : iblk m c 10 t (ix2 e d) = m ((c.tc : Thread nD τ).loc main_arg10) (ix2 e d) :=
  congrArg (V m c main_v6) (funext fun a => Fin.ext (origin (still t).2.2.2.2.2.2.2.2.2.2.1 a _ _))

theorem block11 (d : Fin 1024) : iblk m c 11 t (ix2 0 d) = m ((c.tc : Thread nD τ).loc main_arg11) (ix1 d) := by
  refine Eq.trans (b := V m c main_v10 (ix2 0 d)) ?_ ?_
  · exact congrArg (V m c main_v10) (funext fun a => Fin.ext (origin (still t).2.2.2.2.2.2.2.2.2.2.2.1 a _ _))
  · rw [V_lastGain]
    exact gain _ d

/-! ## The result arrays -/

theorem up_eq (r : Fin 128) (q : Fin 5632) : FfnStepBody.upAt (iblk m c 0 t) (iblk m c 3 t) (iblk m c 4 t) r q
    = FfnStepRef.upAt (m ((c.tc : Thread nD τ).loc main_arg0)) (m ((c.tc : Thread nD τ).loc main_arg3)) (m ((c.tc : Thread nD τ).loc main_arg4)) r q := by
  unfold FfnStepBody.upAt FfnStepRef.upAt
  simp only [block0, block3, block4]

theorem hid_eq (r : Fin 128) : FfnStepBody.hid (iblk m c 0 t) (iblk m c 2 t) (iblk m c 3 t) (iblk m c 4 t) (iblk m c 5 t) (iblk m c 6 t) r
    = FfnStepRef.hid (m ((c.tc : Thread nD τ).loc main_arg0)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) r := by
  funext q
  unfold FfnStepBody.hid FfnStepRef.hid
  rw [up_eq]
  simp only [block2, block5, block6]

/-- The one point. -/
def point : Fin cfg0.N := ⟨0, by show 0 < 1; omega⟩

/-- The rows. -/
theorem rows_eq : (dats m 0 c).arrAt 12 cfg0.N = FfnStepRef.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨r, d, rfl⟩ : ∃ (r : Fin 128) (d : Fin 1024), i = ix2 r d := ⟨i 0, i 1, funext fun a => match a with
    | ⟨0, _⟩ => rfl
    | ⟨1, _⟩ => rfl⟩
  have h := congrFun (Value.blocks12 m c point (flush0_12 _)) (ix2 r d)
  rw [Value.flushed12] at h
  refine Eq.trans (congrArg ((dats m 0 c).arrAt 12 cfg0.N) (funext fun a => Fin.ext ?_)) (h.trans ?_)
  · exact (origin (still point).2.2.2.2.2.2.2.2.2.2.2.2.1 a _ _).symm
  · refine Eq.trans (congrFun (FfnStepOut.rows_out _ _ _ _ _ _ _ _ _ _ _ _) (ix2 r d)) ?_
    refine (FfnStepBody.rows_at _ _ _ _ _ _ _ _ _ _ _ _ r d).trans ?_
    rw [FfnStepRef.out_at]
    simp only [hid_eq, block0, block1, block7, block8, block9, block10, block11]

/-- The new buffer. -/
theorem kept_eq : (dats m 0 c).arrAt 13 cfg0.N = FfnStepRef.kept (F := Ideal) (m ((c.tc : Thread nD τ).loc main_arg0)) (m ((c.tc : Thread nD τ).loc main_arg2)) (m ((c.tc : Thread nD τ).loc main_arg3)) (m ((c.tc : Thread nD τ).loc main_arg4)) := by
  funext i
  obtain ⟨r, q, rfl⟩ : ∃ (r : Fin 128) (q : Fin 11264), i = ix2 r q := ⟨i 0, i 1, funext fun a => match a with
    | ⟨0, _⟩ => rfl
    | ⟨1, _⟩ => rfl⟩
  have h := congrFun (Value.blocks13 m c point (flush0_13 _)) (ix2 r q)
  rw [Value.flushed13] at h
  refine Eq.trans (congrArg ((dats m 0 c).arrAt 13 cfg0.N) (funext fun a => Fin.ext ?_)) (h.trans ?_)
  · exact (origin (still point).2.2.2.2.2.2.2.2.2.2.2.2.2 a _ _).symm
  · refine Eq.trans (congrFun (FfnStepOut.pieces_out _ _ _ _ _ _ _ _ _ _ _ _) (ix2 r q)) ?_
    refine (FfnStepBody.pieces_at _ _ _ _ r q).trans ?_
    unfold kept
    by_cases hq : q.val < 5632
    · rw [dif_pos hq, block2]
      exact (FfnStepRef.kept_old _ _ _ _ r ⟨q.val, hq⟩ q rfl).symm
    · rw [dif_neg hq, up_eq]
      exact (FfnStepRef.kept_new _ _ _ _ r ⟨q.val - 5632, by omega⟩ q (by show q.val = 5632 + (q.val - 5632); omega)).symm

/-! ## The reference's results -/

section Reference

open Cert.Reference13Ideal Cert.Reference13Ideal.Gen Cert.Reference13Ideal.Value

variable (V : Valuation Reference13Ideal.τ Reference13Ideal.sig (Elt Ideal))

theorem xpad_res : res_main_v14 V = FfnStepRef.xpad (F := Ideal) (V (Proc.tc.devRef Reference13Ideal.main_arg0)) (V (Proc.tc.devRef Reference13Ideal.main_arg2)) (V (Proc.tc.devRef Reference13Ideal.main_arg3)) (V (Proc.tc.devRef Reference13Ideal.main_arg4)) := rfl

theorem added_res : res_main_v66 V = FfnStepRef.added (F := Ideal) (V (Proc.tc.devRef Reference13Ideal.main_arg0)) (V (Proc.tc.devRef Reference13Ideal.main_arg1)) (V (Proc.tc.devRef Reference13Ideal.main_arg2)) (V (Proc.tc.devRef Reference13Ideal.main_arg3)) (V (Proc.tc.devRef Reference13Ideal.main_arg4)) (V (Proc.tc.devRef Reference13Ideal.main_arg5)) (V (Proc.tc.devRef Reference13Ideal.main_arg6)) (V (Proc.tc.devRef Reference13Ideal.main_arg7)) (V (Proc.tc.devRef Reference13Ideal.main_arg8)) (V (Proc.tc.devRef Reference13Ideal.main_arg9)) (V (Proc.tc.devRef Reference13Ideal.main_arg10)) := by
  unfold res_main_v66 res_main_v43 res_main_v38 res_main_v37 res_main_v14 FfnStepRef.added FfnStepRef.mid FfnStepRef.gateHalf FfnStepRef.conv FfnStepRef.xpad
  rfl

end Reference

end Cert.Proof.FfnStep

end
-- ==== Proof.FfnStepPlain.lean ====
/-
  The feed-forward step without the last norm: its result arrays, which are the reference's.
-/
module

public import proofs.«01_k».proof.Proof.Gen.Kernel14Ideal.Value
public import proofs.«01_k».proof.Proof.Gen.Reference14Ideal.Run
public import proofs.«01_k».proof.Proof.FfnStep

@[expose] public section

set_option maxRecDepth 16384

noncomputable section

namespace Cert.Proof.FfnStepPlain

open Cert.Kernel14Ideal Cert.Kernel14Ideal.Gen Cert.Proof.FfnRow
open Idealize.ShloMosaic Idealize.ShloMosaic.TcCoe Idealize.SL.Sem
open Cert.Proof.FfnInputs (origin gain biasRow)
open Cert.Proof.FfnStepBody (at2 kept)

/-! ## What the point computes -/

section Out

open Cert.Proof.FfnStepBody
open Cert.Proof.FfnBody (first col upW taps bias downW)

variable {F : FTy → Type} [FloatOps F]
variable (x0 : Vec F S128x1024 .f32) (x1 : Vec F S128x256 .f32) (x2 : Vec F S128x11264 .f32) (x3 : Vec F S1x1024 .f32)
  (x4 : Vec F S1024x5632 .bf16) (x5 : Vec F S3x5632 .f32) (x6 : Vec F S1x5632 .f32) (x7 : Vec F S2816x1024 .bf16)
  (x8 : Vec F S1x1024 .f32) (x9 : Vec F S1024x1024 .bf16) (x10 : Vec F S256x1024 .bf16) (x11 : Vec F S1x1024 .f32)

set_option maxHeartbeats 1000000 in
theorem pieces_out : out0_13 x0 x1 x2 x3 x4 x5 x6 x7 x8 x9 x10 x11 = View.canon (pieces x0 x2 x3 x4) := by
  unfold_out out0_13
  simp only [View.ld_unit_zero (S := S128x1024) Tile.hz, View.ld_unit_zero (S := S1x1024) Tile.hz]
  dsimp only [pieces, four, proj, old, place, upW]
  unfold_payloads
  rfl

set_option maxHeartbeats 1000000 in
theorem rows_out : out0_12 x0 x1 x2 x3 x4 x5 x6 x7 x8 x9 x10 x11 = plain x0 x1 x2 x3 x4 x5 x6 x7 x8 x9 x10 := by
  unfold_out out0_12
  rw [View.canon_unit_zero Tile.hz]
  simp only [View.ld_unit_zero (S := S128x1024) Tile.hz, View.ld_unit_zero (S := S1x1024) Tile.hz,
    View.ld_unit_zero (S := S128x256) Tile.hz, View.ld_unit_zero (S := S1024x1024) Tile.hz, View.ld_unit_zero (S := S256x1024) Tile.hz]
  dsimp only [plain, added, gate, scaled, mid, ten, turn, below, conv, proj, old, place, upW, taps, bias, downW]
  unfold_payloads
  rfl

end Out

variable (m : (ℓ : Loc nD τ sig) → Buf (Elt Ideal) ℓ) (c : Dev nD) (t : Fin cfg0.N)

/-! ## What the point reads -/

theorem V_rows : V m c main_v0
    = shapeCast S128x1024 (m ((c.tc : Thread nD τ).loc main_arg0)) shapeCasts_S128x1x1024_S128x1024 := rfl
theorem V_side : V m c main_v1
    = shapeCast S128x256 (m ((c.tc : Thread nD τ).loc main_arg1)) shapeCasts_S128x1x256_S128x256 := rfl
theorem V_old : V m c main_v2
    = shapeCast S128x11264 (m ((c.tc : Thread nD τ).loc main_arg2)) shapeCasts_S128x2x5632_S128x11264 := rfl
theorem V_gain : V m c main_v7 = shapeCast S1x1024 (m ((c.tc : Thread nD τ).loc main_arg3)) shapeCasts_S1024_S1x1024 := rfl
theorem V_bias : V m c main_v8 = shapeCast S1x5632 (m ((c.tc : Thread nD τ).loc main_arg6)) shapeCasts_S5632_S1x5632 := rfl
theorem V_sideGain : V m c main_v9 = shapeCast S1x1024 (m ((c.tc : Thread nD τ).loc main_arg8)) shapeCasts_S1024_S1x1024 := rfl

theorem still : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0])

theorem block0 (r : Fin 128) (d : Fin 1024) : iblk m c 0 t (ix2 r d) = m ((c.tc : Thread nD τ).loc main_arg0) (ix3 r 0 d) := by
  refine Eq.trans (b := V m c main_v0 (ix2 r d)) ?_ ?_
  · exact congrArg (V m c main_v0) (funext fun a => Fin.ext (origin (still t).1 a _ _))
  · rw [V_rows]
    exact FfnStep.flatRow _ r d

theorem block1 (r : Fin 128) (d : Fin 256) : iblk m c 1 t (ix2 r d) = m ((c.tc : Thread nD τ).loc main_arg1) (ix3 r 0 d) := by
  refine Eq.trans (b := V m c main_v1 (ix2 r d)) ?_ ?_
  · exact congrArg (V m c main_v1) (funext fun a => Fin.ext (origin (still t).2.1 a _ _))
  · rw [V_side]
    exact FfnStep.flatSide _ r d

theorem block2 (r : Fin 128) (s : Fin 2) (q : Fin 5632) :
    iblk m c 2 t (ix2 r (at2 s q)) = m ((c.tc : Thread nD τ).loc main_arg2) (ix3 r s q) := by
  refine Eq.trans (b := V m c main_v2 (ix2 r (at2 s q))) ?_ ?_
  · exact congrArg (V m c main_v2) (funext fun a => Fin.ext (origin (still t).2.2.1 a _ _))
  · rw [V_old]
    exact FfnStep.flatOld _ r s q

theorem block3 (d : Fin 1024) : iblk m c 3 t (ix2 0 d) = m ((c.tc : Thread nD τ).loc main_arg3) (ix1 d) := by
  refine Eq.trans (b := V m c main_v7 (ix2 0 d)) ?_ ?_
  · exact congrArg (V m c main_v7) (funext fun a => Fin.ext (origin (still t).2.2.2.1 a _ _))
  · rw [V_gain]
    exact gain _ d

theorem block4 (e : Fin 1024) (d : Fin 5632) : iblk m c 4 t (ix2 e d) = m ((c.tc : Thread nD τ).loc main_arg4) (ix2 e d) :=
  congrArg (V m c main_v3) (funext fun a => Fin.ext (origin (still t).2.2.2.2.1 a _ _))

theorem block5 (e : Fin 3) (d : Fin 5632) : iblk m c 5 t (ix2 e d) = m ((c.tc : Thread nD τ).loc main_arg5) (ix2 e d) :=
  congrArg (V m c main_arg5) (funext fun a => Fin.ext (origin (still t).2.2.2.2.2.1 a _ _))

theorem block6 (d : Fin 5632) : iblk m c 6 t (ix2 0 d) = m ((c.tc : Thread nD τ).loc main_arg6) (ix1 d) := by
  refine Eq.trans (b := V m c main_v8 (ix2 0 d)) ?_ ?_
  · exact congrArg (V m c main_v8) (funext fun a => Fin.ext (origin (still t).2.2.2.2.2.2.1 a _ _))
  · rw [V_bias]
    exact biasRow _ d

theorem block7 (e : Fin 2816) (d : Fin 1024) : iblk m c 7 t (ix2 e d) = m ((c.tc : Thread nD τ).loc main_arg7) (ix2 e d) :=
  congrArg (V m c main_v4) (funext fun a => Fin.ext (origin (still t).2.2.2.2.2.2.2.1 a _ _))

theorem block8 (d : Fin 1024) : iblk m c 8 t (ix2 0 d) = m ((c.tc : Thread nD τ).loc main_arg8) (ix1 d) := by
  refine Eq.trans (b := V m c main_v9 (ix2 0 d)) ?_ ?_
  · exact congrArg (V m c main_v9) (funext fun a => Fin.ext (origin (still t).2.2.2.2.2.2.2.2.1 a _ _))
  · rw [V_sideGain]
    exact gain _ d

theorem block9 (e : Fin 1024) (d : Fin 1024) : iblk m c 9 t (ix2 e d) = m ((c.tc : Thread nD τ).loc main_arg9) (ix2 e d) :=
  congrArg (V m c main_v5) (funext fun a => Fin.ext (origin (still t).2.2.2.2.2.2.2.2.2.1 a _ _))

theorem block10 (e : Fin 256) (d : Fin 1024) : iblk m c 10 t (ix2 e d) = m ((c.tc : Thread nD τ).loc main_arg10) (ix2 e d) :=
  congrArg (V m c main_v6) (funext fun a => Fin.ext (origin (still t).2.2.2.2.2.2.2.2.2.2.1 a _ _))

/-! ## The result arrays -/

theorem up_eq (r : Fin 128) (q : Fin 5632) : FfnStepBody.upAt (iblk m c 0 t) (iblk m c 3 t) (iblk m c 4 t) r q
    = FfnStepRef.upAt (m ((c.tc : Thread nD τ).loc main_arg0)) (m ((c.tc : Thread nD τ).loc main_arg3)) (m ((c.tc : Thread nD τ).loc main_arg4)) r q := by
  unfold FfnStepBody.upAt FfnStepRef.upAt
  simp only [block0, block3, block4]

theorem hid_eq (r : Fin 128) : FfnStepBody.hid (iblk m c 0 t) (iblk m c 2 t) (iblk m c 3 t) (iblk m c 4 t) (iblk m c 5 t) (iblk m c 6 t) r
    = FfnStepRef.hid (m ((c.tc : Thread nD τ).loc main_arg0)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) r := by
  funext q
  unfold FfnStepBody.hid FfnStepRef.hid
  rw [up_eq]
  simp only [block2, block5, block6]

/-- The one point. -/
def point : Fin cfg0.N := ⟨0, by show 0 < 1; omega⟩

/-- The rows. -/
theorem rows_eq : (dats m 0 c).arrAt 12 cfg0.N = FfnStepRef.plain (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨r, d, rfl⟩ : ∃ (r : Fin 128) (d : Fin 1024), i = ix2 r d := ⟨i 0, i 1, funext fun a => match a with
    | ⟨0, _⟩ => rfl
    | ⟨1, _⟩ => rfl⟩
  have h := congrFun (Value.blocks12 m c point (flush0_12 _)) (ix2 r d)
  rw [Value.flushed12] at h
  refine Eq.trans (congrArg ((dats m 0 c).arrAt 12 cfg0.N) (funext fun a => Fin.ext ?_)) (h.trans ?_)
  · exact (origin (still point).2.2.2.2.2.2.2.2.2.2.2.2.1 a _ _).symm
  · refine Eq.trans (congrFun (rows_out _ _ _ _ _ _ _ _ _ _ _ _) (ix2 r d)) ?_
    refine (FfnStepBody.plain_at _ _ _ _ _ _ _ _ _ _ _ r d).trans ?_
    rw [FfnStepRef.plain_at]
    simp only [hid_eq, block0, block1, block7, block8, block9, block10]

/-- The new buffer. -/
theorem kept_eq : (dats m 0 c).arrAt 13 cfg0.N = FfnStepRef.kept (F := Ideal) (m ((c.tc : Thread nD τ).loc main_arg0)) (m ((c.tc : Thread nD τ).loc main_arg2)) (m ((c.tc : Thread nD τ).loc main_arg3)) (m ((c.tc : Thread nD τ).loc main_arg4)) := by
  funext i
  obtain ⟨r, q, rfl⟩ : ∃ (r : Fin 128) (q : Fin 11264), i = ix2 r q := ⟨i 0, i 1, funext fun a => match a with
    | ⟨0, _⟩ => rfl
    | ⟨1, _⟩ => rfl⟩
  have h := congrFun (Value.blocks13 m c point (flush0_13 _)) (ix2 r q)
  rw [Value.flushed13] at h
  refine Eq.trans (congrArg ((dats m 0 c).arrAt 13 cfg0.N) (funext fun a => Fin.ext ?_)) (h.trans ?_)
  · exact (origin (still point).2.2.2.2.2.2.2.2.2.2.2.2.2 a _ _).symm
  · refine Eq.trans (congrFun (pieces_out _ _ _ _ _ _ _ _ _ _ _ _) (ix2 r q)) ?_
    refine (FfnStepBody.pieces_at _ _ _ _ r q).trans ?_
    unfold kept
    by_cases hq : q.val < 5632
    · rw [dif_pos hq, block2]
      exact (FfnStepRef.kept_old _ _ _ _ r ⟨q.val, hq⟩ q rfl).symm
    · rw [dif_neg hq, up_eq]
      exact (FfnStepRef.kept_new _ _ _ _ r ⟨q.val - 5632, by omega⟩ q (by show q.val = 5632 + (q.val - 5632); omega)).symm

/-! ## The reference's results -/

theorem plain_res (m : (ℓ : Loc Reference14Ideal.nD Reference14Ideal.τ Reference14Ideal.sig) → Buf (Elt Ideal) ℓ) (c : Dev Reference14Ideal.nD) :
    Reference14Ideal.Value.res_main_v67 m c = FfnStepRef.plain (F := Ideal) (m ((c.tc : Thread Reference14Ideal.nD Reference14Ideal.τ).loc Reference14Ideal.main_arg0)) (m ((c.tc : Thread Reference14Ideal.nD Reference14Ideal.τ).loc Reference14Ideal.main_arg1)) (m ((c.tc : Thread Reference14Ideal.nD Reference14Ideal.τ).loc Reference14Ideal.main_arg2)) (m ((c.tc : Thread Reference14Ideal.nD Reference14Ideal.τ).loc Reference14Ideal.main_arg3)) (m ((c.tc : Thread Reference14Ideal.nD Reference14Ideal.τ).loc Reference14Ideal.main_arg4)) (m ((c.tc : Thread Reference14Ideal.nD Reference14Ideal.τ).loc Reference14Ideal.main_arg5)) (m ((c.tc : Thread Reference14Ideal.nD Reference14Ideal.τ).loc Reference14Ideal.main_arg6)) (m ((c.tc : Thread Reference14Ideal.nD Reference14Ideal.τ).loc Reference14Ideal.main_arg7)) (m ((c.tc : Thread Reference14Ideal.nD Reference14Ideal.τ).loc Reference14Ideal.main_arg8)) (m ((c.tc : Thread Reference14Ideal.nD Reference14Ideal.τ).loc Reference14Ideal.main_arg9)) (m ((c.tc : Thread Reference14Ideal.nD Reference14Ideal.τ).loc Reference14Ideal.main_arg10)) := by
  unfold Reference14Ideal.Value.res_main_v67 FfnStepRef.plain FfnStepRef.added FfnStepRef.mid FfnStepRef.gateHalf FfnStepRef.conv FfnStepRef.xpad
  rfl

end Cert.Proof.FfnStepPlain

end
-- ==== Proof.lean ====
/-
  The certificate: the kernel's two frames are the generated ones, the reference's is read off its run, and the results agree
  because each result array of a kernel is its reference's (`Proof/Result.lean` and those of the other calls).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import proofs.«01_k».proof.Proof.FfnResult
public import proofs.«01_k».proof.Proof.FfnPlain
public import proofs.«01_k».proof.Proof.FfnPlainRef
public import proofs.«01_k».proof.Proof.GateResult
public import proofs.«01_k».proof.Proof.Qkv
public import proofs.«01_k».proof.Proof.MixOut
public import proofs.«01_k».proof.Proof.MixWide
public import proofs.«01_k».proof.Proof.QkvStep
public import proofs.«01_k».proof.Proof.GateStep
public import proofs.«01_k».proof.Proof.InResult
public import proofs.«01_k».proof.Proof.MixStep
public import proofs.«01_k».proof.Proof.MixWideStep
public import proofs.«01_k».proof.Proof.FfnStep
public import proofs.«01_k».proof.Proof.FfnStepPlain
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were, and never touches a semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (RefRun.run_states (F := Ideal) m ρ)

/-- From memories that agree on the arguments the two programs end with equal results. -/
theorem algebraic : Cert.algebraic_KernelIdeal_ReferenceIdeal := by
  intro m ρ m' ρ' _ hagree
  have A : ∀ c, Sweep.Agree m m' c := fun c =>
    ⟨(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2⟩
  refine ⟨fun c => Cert.KernelIdeal.Value.G10 m c, fun c => Cert.KernelIdeal.Value.G11 m c,
    fun c => Cert.KernelIdeal.Value.G12 m c, fun c => Cert.KernelIdeal.Value.G13 m c, Cert.KernelIdeal.Value.run m ρ, ?_⟩
  refine (θ_run Cert.ReferenceIdeal.defs _ _).mono (fun r h c => ?_) (RefRun.run_states (F := Ideal) m' ρ')
  obtain ⟨⟨h0, h1, h2, h3⟩, hargs⟩ := h c
  exact ⟨h0.trans (Result.rows_eq (A c)).symm, h1.trans (Result.mat_eq (A c)).symm, h2.trans (Result.norm_eq (A c)).symm,
    h3.trans (Result.stab_eq (A c)).symm, hargs⟩

/-- The second reference runs likewise. -/
theorem frame_ri2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- From memories that agree on the arguments the second pair of programs ends with equal results. -/
theorem algebraic2 : Cert.algebraic_Kernel2Ideal_Reference2Ideal := by
  intro m ρ m' ρ' _ hagree
  have A : ∀ c, FfnResult.Agree m (StableHlo.launchContents m' c) c := fun c => by
    obtain ⟨h0, h1, h2, h3, h4, h5, h6, h7, h8, h9, h10, h11⟩ := hagree c
    exact ⟨h0, h1, h2, h3, h4, h5, h6, h7, h8, h9, h10, h11⟩
  refine ⟨fun c => Cert.Kernel2Ideal.Value.G12 m c, fun c => Cert.Kernel2Ideal.Value.G13 m c,
    Cert.Kernel2Ideal.Value.run m ρ, ?_⟩
  refine (θ_run Cert.Reference2Ideal.defs _ _).mono (fun r h c => ?_) (Cert.Reference2Ideal.Value.run (F := Ideal) m' ρ')
  obtain ⟨h0, h1, hargs⟩ := h c
  exact ⟨h0.trans (FfnResult.rows_eq (A c)).symm, h1.trans (FfnResult.tails_eq (A c)).symm, hargs⟩

/-- The third reference runs likewise. -/
theorem frame_ri3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- From memories that agree on the arguments the third pair of programs ends with equal results. -/
theorem algebraic3 : Cert.algebraic_Kernel3Ideal_Reference3Ideal := by
  intro m ρ m' ρ' _ hagree
  refine ⟨fun c => Cert.Kernel3Ideal.Value.G12 m c, fun c => Cert.Kernel3Ideal.Value.G13 m c,
    Cert.Kernel3Ideal.Value.run m ρ, ?_⟩
  refine (θ_run Cert.Reference3Ideal.defs _ _).mono (fun r h c => ?_) (Cert.Reference3Ideal.Value.run (F := Ideal) m' ρ')
  obtain ⟨V, A⟩ := FfnPlainRef.exists_agree m c
  obtain ⟨g0, g1, g2, g3, g4, g5, g6, g7, g8, g9, g10, g11⟩ := hagree c
  have S : FfnPlainRef.Same m' V c := ⟨g0.trans A.a0.symm, g1.trans A.a1.symm, g2.trans A.a2.symm, g3.trans A.a3.symm,
    g4.trans A.a4.symm, g5.trans A.a5.symm, g6.trans A.a6.symm, g7.trans A.a7.symm, g8.trans A.a8.symm, g9.trans A.a9.symm,
    g10.trans A.a10.symm⟩
  obtain ⟨h0, h1, hargs⟩ := h c
  refine ⟨h0.trans ((FfnPlainRef.rows S).trans (FfnPlain.rows_eq A).symm), h1.trans (Eq.trans ?_ (FfnPlain.tails_eq A).symm), hargs⟩
  rw [S.a0, S.a3, S.a4]
  rfl

theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- From memories that agree on the arguments the fourth pair of programs ends with equal results. -/
theorem algebraic4 : Cert.algebraic_Kernel4Ideal_Reference4Ideal := by
  intro m ρ m' ρ' _ hagree
  refine ⟨fun c => (Cert.Kernel4Ideal.Gen.dats m 0 c).arrAt 9 Cert.Kernel4Ideal.cfg0.N,
    Cert.Kernel4Ideal.Value.run_blocks m ρ, ?_⟩
  refine (θ_run Cert.Reference4Ideal.defs _ _).mono (fun r h c => ?_) (Cert.Reference4Ideal.Value.run (F := Ideal) m' ρ')
  obtain ⟨g0, g1, g2, g3, g4, g5, g6, g7, g8⟩ := hagree c
  obtain ⟨h0, hargs⟩ := h c
  refine ⟨h0.trans ((GateRef.res_eq m' c).trans (Eq.trans ?_ (GateResult.rows_eq m c).symm)), hargs⟩
  rw [g0, g1, g2, g3, g4, g5, g6, g7, g8]
  rfl

theorem frame_ri5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- From memories that agree on the arguments the fifth pair of programs ends with equal results. -/
theorem algebraic5 : Cert.algebraic_Kernel5Ideal_Reference5Ideal := by
  intro m ρ m' ρ' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N,
    Cert.Kernel5Ideal.Value.run_blocks m ρ, ?_⟩
  refine (θ_run Cert.Reference5Ideal.defs _ _).mono (fun r h c => ?_) (Cert.Reference5Ideal.Value.run (F := Ideal) m' ρ')
  obtain ⟨g0, g1, g2⟩ := hagree c
  obtain ⟨h0, h1, h2, hargs⟩ := h c
  refine ⟨h0.trans (Eq.trans ?_ (Qkv.first_eq m c).symm), h1.trans (Eq.trans ?_ (Qkv.second_eq m c).symm), h2.trans (Eq.trans ?_ (Qkv.third_eq m c).symm), hargs⟩ <;>
    (rw [g0, g1, g2]; rfl)

theorem frame_ri6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- From memories that agree on the arguments the sixth pair of programs ends with equal results. -/
theorem algebraic6 : Cert.algebraic_Kernel6Ideal_Reference6Ideal := by
  intro m ρ m' ρ' _ hagree
  refine ⟨fun c => (Cert.Kernel6Ideal.Gen.dats m 0 c).arrAt 3 Cert.Kernel6Ideal.cfg0.N,
    Cert.Kernel6Ideal.Value.run_blocks m ρ, ?_⟩
  refine (θ_run Cert.Reference6Ideal.defs _ _).mono (fun r h c => ?_) (Cert.Reference6Ideal.Value.run (F := Ideal) m' ρ')
  obtain ⟨g0, g1, g2⟩ := hagree c
  obtain ⟨h0, hargs⟩ := h c
  refine ⟨h0.trans (Eq.trans ?_ (MixOut.rows_eq m c).symm), hargs⟩
  rw [g0, g1, g2]
  rfl

theorem frame_ri7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- From memories that agree on the arguments the seventh pair of programs ends with equal results. -/
theorem algebraic7 : Cert.algebraic_Kernel7Ideal_Reference7Ideal := by
  intro m ρ m' ρ' _ hagree
  refine ⟨fun c => (Cert.Kernel7Ideal.Gen.dats m 0 c).arrAt 3 Cert.Kernel7Ideal.cfg0.N,
    Cert.Kernel7Ideal.Value.run_blocks m ρ, ?_⟩
  refine (θ_run Cert.Reference7Ideal.defs _ _).mono (fun r h c => ?_) (Cert.Reference7Ideal.Value.run (F := Ideal) m' ρ')
  obtain ⟨g0, g1, g2⟩ := hagree c
  obtain ⟨h0, hargs⟩ := h c
  refine ⟨h0.trans (Eq.trans ?_ (MixWide.rows_eq m c).symm), hargs⟩
  rw [g0, g1, g2]
  rfl

theorem frame_ri8 : Cert.quiescent_Reference8Ideal := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

/-- From memories that agree on the arguments the eighth pair of programs ends with equal results. -/
theorem algebraic8 : Cert.algebraic_Kernel8Ideal_Reference8Ideal := by
  intro m ρ m' ρ' _ hagree
  refine ⟨fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    Cert.Kernel8Ideal.Value.run_blocks m ρ, ?_⟩
  refine (θ_run Cert.Reference8Ideal.defs _ _).mono (fun r h c => ?_) (Cert.Reference8Ideal.Value.run (F := Ideal) m' ρ')
  obtain ⟨g0, g1, g2⟩ := hagree c
  obtain ⟨h0, h1, h2, hargs⟩ := h c
  refine ⟨h0.trans (Eq.trans ?_ (QkvStep.first_eq m c).symm), h1.trans (Eq.trans ?_ (QkvStep.second_eq m c).symm), h2.trans (Eq.trans ?_ (QkvStep.third_eq m c).symm), hargs⟩ <;>
    (rw [g0, g1, g2]; rfl)

theorem frame_ri9 : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- From memories that agree on the arguments the ninth pair of programs ends with equal results. -/
theorem algebraic9 : Cert.algebraic_Kernel9Ideal_Reference9Ideal := by
  intro m ρ m' ρ' _ hagree
  refine ⟨fun c => (Cert.Kernel9Ideal.Gen.dats m 0 c).arrAt 9 Cert.Kernel9Ideal.cfg0.N,
    fun c => (Cert.Kernel9Ideal.Gen.dats m 0 c).arrAt 10 Cert.Kernel9Ideal.cfg0.N,
    Cert.Kernel9Ideal.Value.run_blocks m ρ, ?_⟩
  refine (θ_run Cert.Reference9Ideal.defs _ _).mono (fun r h c => ?_) (Cert.Reference9Ideal.Value.run (F := Ideal) m' ρ')
  obtain ⟨g0, g1, g2, g3, g4, g5, g6, g7, g8⟩ := hagree c
  obtain ⟨h0, h1, hargs⟩ := h c
  refine ⟨h0.trans ((GateStepRef.rows_res m' c).trans (Eq.trans ?_ (GateStep.rows_eq m c).symm)),
    h1.trans ((GateStepRef.cols_res m' c).trans (Eq.trans ?_ (GateStep.cols_eq m c).symm)), hargs⟩
  · rw [g0, g1, g2, g3, g4, g5, g6, g7, g8]
    rfl
  · rw [g0, g1, g2, g3, g4, g5]
    rfl

theorem frame_ri10 : Cert.quiescent_Reference10Ideal := fun m ρ _ =>
  (θ_run Cert.Reference10Ideal.defs _ _).mono
    (fun r h => ⟨fun c => (h c).2.2.2.2.2.2.2, Idealize.ShloMosaic.sem_eq_zero_of_no_sems (by decide) r.2⟩)
    (Cert.Reference10Ideal.Value.run (F := Ideal) m ρ)

/-- From memories that agree on the arguments the tenth pair of programs ends with equal results. -/
theorem algebraic10 : Cert.algebraic_Kernel10Ideal_Reference10Ideal := by
  intro m ρ m' ρ' _ hagree
  refine ⟨fun c => Cert.Kernel10Ideal.Value.G13 m c,
    fun c => Cert.Kernel10Ideal.Value.G14 m c,
    fun c => Cert.Kernel10Ideal.Value.G15 m c,
    fun c => Cert.Kernel10Ideal.Value.G16 m c,
    fun c => Cert.Kernel10Ideal.Value.G17 m c,
    fun c => Cert.Kernel10Ideal.Value.G18 m c,
    fun c => Cert.Kernel10Ideal.Value.G19 m c,
    Cert.Kernel10Ideal.Value.run m ρ, ?_⟩
  refine (θ_run Cert.Reference10Ideal.defs _ _).mono (fun r h c => ?_) (Cert.Reference10Ideal.Value.run (F := Ideal) m' ρ')
  obtain ⟨g0, g1, g2, g3, g4, g5, g6, g7, g8, g9⟩ := hagree c
  obtain ⟨h0, h1, h2, h3, h4, h5, h6, hargs⟩ := h c
  refine ⟨h0.trans ((InRef.q_res m' c).trans (Eq.trans ?_ (InResult.q_eq m c).symm)),
    h1.trans ((InRef.k_res m' c).trans (Eq.trans ?_ (InResult.k_eq m c).symm)),
    h2.trans (Eq.trans ?_ (InResult.v_eq m c).symm),
    h3.trans (Eq.trans ?_ (InResult.gate_eq m c).symm),
    h4.trans (Eq.trans ?_ (InResult.lanes_eq m c).symm),
    h5.trans (Eq.trans ?_ (InResult.turned_eq m c).symm),
    h6.trans (Eq.trans ?_ (InResult.tails_eq m c).symm),
    hargs⟩ <;>
    simp only [g0, g1, g2, g3, g4, g5, g6, g7, g8, g9] <;> rfl

theorem frame_ri11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- From memories that agree on the arguments the eleventh pair of programs ends with equal results. -/
theorem algebraic11 : Cert.algebraic_Kernel11Ideal_Reference11Ideal := by
  intro m ρ m' ρ' _ hagree
  refine ⟨fun c => (Cert.Kernel11Ideal.Gen.dats m 0 c).arrAt 3 Cert.Kernel11Ideal.cfg0.N,
    Cert.Kernel11Ideal.Value.run_blocks m ρ, ?_⟩
  refine (θ_run Cert.Reference11Ideal.defs _ _).mono (fun r h c => ?_) (Cert.Reference11Ideal.Value.run (F := Ideal) m' ρ')
  obtain ⟨g0, g1, g2⟩ := hagree c
  obtain ⟨h0, hargs⟩ := h c
  refine ⟨h0.trans (Eq.trans ?_ (MixStep.rows_eq m c).symm), hargs⟩
  rw [g0, g1, g2]
  rfl

theorem frame_ri12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- From memories that agree on the arguments the twelfth pair of programs ends with equal results. -/
theorem algebraic12 : Cert.algebraic_Kernel12Ideal_Reference12Ideal := by
  intro m ρ m' ρ' _ hagree
  refine ⟨fun c => (Cert.Kernel12Ideal.Gen.dats m 0 c).arrAt 3 Cert.Kernel12Ideal.cfg0.N,
    Cert.Kernel12Ideal.Value.run_blocks m ρ, ?_⟩
  refine (θ_run Cert.Reference12Ideal.defs _ _).mono (fun r h c => ?_) (Cert.Reference12Ideal.Value.run (F := Ideal) m' ρ')
  obtain ⟨g0, g1, g2⟩ := hagree c
  obtain ⟨h0, hargs⟩ := h c
  refine ⟨h0.trans (Eq.trans ?_ (MixWideStep.rows_eq m c).symm), hargs⟩
  rw [g0, g1, g2]
  rfl

theorem frame_ri13 : Cert.quiescent_Reference13Ideal := fun m ρ _ =>
  (θ_run Cert.Reference13Ideal.defs _ _).mono
    (fun r h => ⟨fun c => (h c).2.2, Idealize.ShloMosaic.sem_eq_zero_of_no_sems (by decide) r.2⟩)
    (Cert.Reference13Ideal.Value.run (F := Ideal) m ρ)

/-- From memories that agree on the arguments the thirteenth pair of programs ends with equal results. -/
theorem algebraic13 : Cert.algebraic_Kernel13Ideal_Reference13Ideal := by
  intro m ρ m' ρ' _ hagree
  refine ⟨fun c => (Cert.Kernel13Ideal.Gen.dats m 0 c).arrAt 12 Cert.Kernel13Ideal.cfg0.N,
    fun c => (Cert.Kernel13Ideal.Gen.dats m 0 c).arrAt 13 Cert.Kernel13Ideal.cfg0.N,
    Cert.Kernel13Ideal.Value.run_blocks m ρ, ?_⟩
  refine (θ_run Cert.Reference13Ideal.defs _ _).mono (fun r h c => ?_) (Cert.Reference13Ideal.Value.run (F := Ideal) m' ρ')
  obtain ⟨g0, g1, g2, g3, g4, g5, g6, g7, g8, g9, g10, g11⟩ := hagree c
  obtain ⟨h0, h1, hargs⟩ := h c
  refine ⟨h0.trans (Eq.trans ?_ (FfnStep.rows_eq m c).symm), h1.trans (Eq.trans ?_ (FfnStep.kept_eq m c).symm), hargs⟩
  · rw [FfnStep.added_res, ← g0, ← g1, ← g2, ← g3, ← g4, ← g5, ← g6, ← g7, ← g8, ← g9, ← g10, ← g11]
    rfl
  · rw [FfnStep.xpad_res, ← g0, ← g2, ← g3, ← g4]
    rfl

theorem frame_ri14 : Cert.quiescent_Reference14Ideal := fun m ρ _ =>
  (θ_run Cert.Reference14Ideal.defs _ _).mono
    (fun r h => ⟨fun c => (h c).2.2, Idealize.ShloMosaic.sem_eq_zero_of_no_sems (by decide) r.2⟩)
    (Cert.Reference14Ideal.Value.run (F := Ideal) m ρ)

/-- From memories that agree on the arguments the fourteenth pair of programs ends with equal results. -/
theorem algebraic14 : Cert.algebraic_Kernel14Ideal_Reference14Ideal := by
  intro m ρ m' ρ' _ hagree
  refine ⟨fun c => (Cert.Kernel14Ideal.Gen.dats m 0 c).arrAt 12 Cert.Kernel14Ideal.cfg0.N,
    fun c => (Cert.Kernel14Ideal.Gen.dats m 0 c).arrAt 13 Cert.Kernel14Ideal.cfg0.N,
    Cert.Kernel14Ideal.Value.run_blocks m ρ, ?_⟩
  refine (θ_run Cert.Reference14Ideal.defs _ _).mono (fun r h c => ?_) (Cert.Reference14Ideal.Value.run (F := Ideal) m' ρ')
  obtain ⟨g0, g1, g2, g3, g4, g5, g6, g7, g8, g9, g10, g11⟩ := hagree c
  obtain ⟨h0, h1, hargs⟩ := h c
  refine ⟨h0.trans ((FfnStepPlain.plain_res m' c).trans (Eq.trans ?_ (FfnStepPlain.rows_eq m c).symm)),
    h1.trans (Eq.trans ?_ (FfnStepPlain.kept_eq m c).symm), hargs⟩
  · rw [← g0, ← g1, ← g2, ← g3, ← g4, ← g5, ← g6, ← g7, ← g8, ← g9, ← g10]
  · rw [← g0, ← g2, ← g3, ← g4]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  fun m ρ _ => Cert.Kernel.Gen.frame m ρ, fun m ρ _ => Cert.KernelIdeal.Gen.frame m ρ, frame_ri,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, frame_ri10,
  fun m ρ _ => Cert.Kernel11.Gen.frame m ρ, fun m ρ _ => Cert.Kernel11Ideal.Gen.frame m ρ, frame_ri11,
  fun m ρ _ => Cert.Kernel12.Gen.frame m ρ, fun m ρ _ => Cert.Kernel12Ideal.Gen.frame m ρ, frame_ri12,
  fun m ρ _ => Cert.Kernel13.Gen.frame m ρ, fun m ρ _ => Cert.Kernel13Ideal.Gen.frame m ρ, frame_ri13,
  fun m ρ _ => Cert.Kernel14.Gen.frame m ρ, fun m ρ _ => Cert.Kernel14Ideal.Gen.frame m ρ, frame_ri14,
  trivial, algebraic, trivial, algebraic2, trivial, algebraic3, trivial, algebraic4,
  trivial, algebraic5, trivial, algebraic6, trivial, algebraic7, trivial, algebraic8, trivial, algebraic9,
  trivial, algebraic10, trivial, algebraic11, trivial, algebraic12, trivial, algebraic13, trivial, algebraic14⟩

end Cert.Proof

end
